-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v35) = v2 c
          ∧ r.2.mem ((c.tc : Thread Cert.Reference6Ideal.nD Cert.Reference6Ideal.τ).loc Cert.Reference6Ideal.main_v36) = v3 c
          ∧ r.2.mem ((c.tc : Thread Cert.Reference6Ideal.nD Cert.Reference6Ideal.τ).loc Cert.Reference6Ideal.main_v37) = v4 c
          ∧ r.2.mem ((c.tc : Thread Cert.Reference6Ideal.nD Cert.Reference6Ideal.τ).loc Cert.Reference6Ideal.main_v38) = v5 c
          ∧ r.2.mem ((c.tc : Thread Cert.Reference6Ideal.nD Cert.Reference6Ideal.τ).loc Cert.Reference6Ideal.main_v39) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v20) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v22_0)) (v1 : (c : Dev Cert.Kernel9Ideal.nD) → Buf (Elt Ideal) ((c.tc : Thread Cert.Kernel9Ideal.nD Cert.Kernel9Ideal.τ).loc Cert.Kernel9Ideal.main_v22_1)) (v2 : (c : Dev Cert.Kernel9Ideal.nD) → Buf (Elt Ideal) ((c.tc : Thread Cert.Kernel9Ideal.nD Cert.Kernel9Ideal.τ).loc Cert.Kernel9Ideal.main_v22_2)) (v3 : (c : Dev Cert.Kernel9Ideal.nD) → Buf (Elt Ideal) ((c.tc : Thread Cert.Kernel9Ideal.nD Cert.Kernel9Ideal.τ).loc Cert.Kernel9Ideal.main_v22_3)) (v4 : (c : Dev Cert.Kernel9Ideal.nD) → Buf (Elt Ideal) ((c.tc : Thread Cert.Kernel9Ideal.nD Cert.Kernel9Ideal.τ).loc Cert.Kernel9Ideal.main_v22_4)) (v5 : (c : Dev Cert.Kernel9Ideal.nD) → Buf (Elt Ideal) ((c.tc : Thread Cert.Kernel9Ideal.nD Cert.Kernel9Ideal.τ).loc Cert.Kernel9Ideal.main_v22_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v22_0) = v0 c
          ∧ r.2.mem ((c.tc : Thread Cert.Kernel9Ideal.nD Cert.Kernel9Ideal.τ).loc Cert.Kernel9Ideal.main_v22_1) = v1 c
          ∧ r.2.mem ((c.tc : Thread Cert.Kernel9Ideal.nD Cert.Kernel9Ideal.τ).loc Cert.Kernel9Ideal.main_v22_2) = v2 c
          ∧ r.2.mem ((c.tc : Thread Cert.Kernel9Ideal.nD Cert.Kernel9Ideal.τ).loc Cert.Kernel9Ideal.main_v22_3) = v3 c
          ∧ r.2.mem ((c.tc : Thread Cert.Kernel9Ideal.nD Cert.Kernel9Ideal.τ).loc Cert.Kernel9Ideal.main_v22_4) = v4 c
          ∧ r.2.mem ((c.tc : Thread Cert.Kernel9Ideal.nD Cert.Kernel9Ideal.τ).loc Cert.Kernel9Ideal.main_v22_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v70) = v0 c
          ∧ r.2.mem ((c.tc : Thread Cert.Reference9Ideal.nD Cert.Reference9Ideal.τ).loc Cert.Reference9Ideal.main_v71) = v1 c
          ∧ r.2.mem ((c.tc : Thread Cert.Reference9Ideal.nD Cert.Reference9Ideal.τ).loc Cert.Reference9Ideal.main_v72) = v2 c
          ∧ r.2.mem ((c.tc : Thread Cert.Reference9Ideal.nD Cert.Reference9Ideal.τ).loc Cert.Reference9Ideal.main_v73) = v3 c
          ∧ r.2.mem ((c.tc : Thread Cert.Reference9Ideal.nD Cert.Reference9Ideal.τ).loc Cert.Reference9Ideal.main_v62) = v4 c
          ∧ r.2.mem ((c.tc : Thread Cert.Reference9Ideal.nD Cert.Reference9Ideal.τ).loc Cert.Reference9Ideal.main_v44) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v57) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_v38) = v1 c
          ∧ r.2.mem ((c.tc : Thread Cert.Reference11Ideal.nD Cert.Reference11Ideal.τ).loc Cert.Reference11Ideal.main_v39) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v11) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v29) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "cube" .f32 0x3D372713#32 ((8943 / 200000 : ℝ) : EReal)
  ∧ IdealRules.named_const.Statement Cert.Kernel14Ideal.κ "cube3" .f32 0x3E095D4F#32 ((26829 / 200000 : ℝ) : EReal)

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v66) = v0 c
          ∧ r.2.mem ((c.tc : Thread Cert.Reference14Ideal.nD Cert.Reference14Ideal.τ).loc Cert.Reference14Ideal.main_v67) = v1 c
          ∧ r.2.mem ((c.tc : Thread Cert.Reference14Ideal.nD Cert.Reference14Ideal.τ).loc Cert.Reference14Ideal.main_v43) = v2 c
          ∧ r.2.mem ((c.tc : Thread Cert.Reference14Ideal.nD Cert.Reference14Ideal.τ).loc Cert.Reference14Ideal.main_v53) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v26) = v0 c
          ∧ r.2.mem ((c.tc : Thread Cert.Reference29Ideal.nD Cert.Reference29Ideal.τ).loc Cert.Reference29Ideal.main_v31) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v83) = v0 c
          ∧ r.2.mem ((c.tc : Thread Cert.Reference30Ideal.nD Cert.Reference30Ideal.τ).loc Cert.Reference30Ideal.main_v80) = v1 c
          ∧ r.2.mem ((c.tc : Thread Cert.Reference30Ideal.nD Cert.Reference30Ideal.τ).loc Cert.Reference30Ideal.main_v38) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite8 : Cert.Pre_finite8.Facts) (hPre_finite9 : Cert.Pre_finite9.Facts) (hPre_finite10 : Cert.Pre_finite10.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S8192x1280 : Shape := ⟨2, ![8192, 1280]⟩
abbrev S_ : Shape := ⟨0, ![]⟩

class Facts : Prop where
  bcast_S_S8192x1280 : S_.BroadcastsInDim S8192x1280 (![] : Fin 0 → Fin S8192x1280.rank)

variable [Facts]

def fn {F : FTy → Type} [FloatOps F] (main_arg0 : FVec F S8192x1280 .f32) (main_arg1 : FVec F S8192x1280 .f32) : IVec S8192x1280 1 × IVec S8192x1280 1 :=
  let main_v0 : FVec F S8192x1280 .f32 := subf main_arg0 main_arg0
  let main_cst : FVec F S_ .f32 := constant S_ .f32 0x00000000#32
  let main_v1 : FVec F S8192x1280 .f32 := broadcastInDim S8192x1280 ![] bcast_S_S8192x1280 main_cst
  let main_v2 : IVec S8192x1280 1 := cmpf .oeq main_v0 main_v1
  let main_v3 : FVec F S8192x1280 .f32 := subf main_arg1 main_arg1
  let main_cst_0 : FVec F S_ .f32 := constant S_ .f32 0x00000000#32
  let main_v4 : FVec F S8192x1280 .f32 := broadcastInDim S8192x1280 ![] bcast_S_S8192x1280 main_cst_0
  let main_v5 : IVec S8192x1280 1 := cmpf .oeq main_v3 main_v4
  (main_v2, main_v5)
-- ==== Pre_finite10.lean ====
abbrev S8192x1024 : Shape := ⟨2, ![8192, 1024]⟩
abbrev S1x1024 : Shape := ⟨2, ![1, 1024]⟩
abbrev S8192x512 : Shape := ⟨2, ![8192, 512]⟩
abbrev S8192x1280 : Shape := ⟨2, ![8192, 1280]⟩
abbrev S4x2048x1408 : Shape := ⟨3, ![4, 2048, 1408]⟩
abbrev S4x1024x1408 : Shape := ⟨3, ![4, 1024, 1408]⟩
abbrev S_ : Shape := ⟨0, ![]⟩

class Facts : Prop where
  slices_S4x2048x1408_S4x1024x1408_0_0_0 : S4x2048x1408.Slices ![0, 0, 0] S4x1024x1408
  bitsLt_bf16_f32 : FTy.bits .bf16 < FTy.bits .f32
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8192x512 : S_.BroadcastsInDim S8192x512 (![] : Fin 0 → Fin S8192x512.rank)
  bcast_S_S8192x1280 : S_.BroadcastsInDim S8192x1280 (![] : Fin 0 → Fin S8192x1280.rank)
  bcast_S_S4x1024x1408 : S_.BroadcastsInDim S4x1024x1408 (![] : Fin 0 → Fin S4x1024x1408.rank)

variable [Facts]

def fn_part1 {F : FTy → Type} [FloatOps F] (main_v3 : FVec F S8192x1280 .f32) (main_v4 : FVec F S8192x1280 .f32) (main_v5 : FVec F S8192x1024 .f32) (main_v6 : FVec F S8192x1024 .f32) (main_v7 : FVec F S4x1024x1408 .f32) (main_v10 : IVec S8192x1024 1) (main_v13 : IVec S1x1024 1) (main_v16 : IVec S8192x512 1) (main_v19 : IVec S8192x512 1) : IVec S8192x1024 1 × IVec S1x1024 1 × IVec S8192x512 1 × IVec S8192x512 1 × IVec S8192x1280 1 × IVec S8192x1280 1 × IVec S8192x1024 1 × IVec S8192x1024 1 × IVec S4x1024x1408 1 :=
  let main_v20 : FVec F S8192x1280 .f32 := subf main_v3 main_v3
  let main_cst_3 : FVec F S_ .f32 := constant S_ .f32 0x00000000#32
  let main_v21 : FVec F S8192x1280 .f32 := broadcastInDim S8192x1280 ![] bcast_S_S8192x1280 main_cst_3
  let main_v22 : IVec S8192x1280 1 := cmpf .oeq main_v20 main_v21
  let main_v23 : FVec F S8192x1280 .f32 := subf main_v4 main_v4
  let main_cst_4 : FVec F S_ .f32 := constant S_ .f32 0x00000000#32
  let main_v24 : FVec F S8192x1280 .f32 := broadcastInDim S8192x1280 ![] bcast_S_S8192x1280 main_cst_4
  let main_v25 : IVec S8192x1280 1 := cmpf .oeq main_v23 main_v24
  let main_v26 : FVec F S8192x1024 .f32 := subf main_v5 main_v5
  let main_cst_5 : FVec F S_ .f32 := constant S_ .f32 0x00000000#32
  let main_v27 : FVec F S8192x1024 .f32 := broadcastInDim S8192x1024 ![] bcast_S_S8192x1024 main_cst_5
  let main_v28 : IVec S8192x1024 1 := cmpf .oeq main_v26 main_v27
  let main_v29 : FVec F S8192x1024 .f32 := subf main_v6 main_v6
  let main_cst_6 : FVec F S_ .f32 := constant S_ .f32 0x00000000#32
  let main_v30 : FVec F S8192x1024 .f32 := broadcastInDim S8192x1024 ![] bcast_S_S8192x1024 main_cst_6
  let main_v31 : IVec S8192x1024 1 := cmpf .oeq main_v29 main_v30
  let main_v32 : FVec F S4x1024x1408 .f32 := subf main_v7 main_v7
  let main_cst_7 : FVec F S_ .f32 := constant S_ .f32 0x00000000#32
  let main_v33 : FVec F S4x1024x1408 .f32 := broadcastInDim S4x1024x1408 ![] bcast_S_S4x1024x1408 main_cst_7
  let main_v34 : IVec S4x1024x1408 1 := cmpf .oeq main_v32 main_v33
  (main_v10, main_v13, main_v16, main_v19, main_v22, main_v25, main_v28, main_v31, main_v34)

def fn {F : FTy → Type} [FloatOps F] (main_arg0 : FVec F S8192x1024 .f32) (main_arg1 : FVec F S8192x1024 .f32) (main_arg2 : FVec F S1x1024 .f32) (main_arg3 : FVec F S8192x512 .bf16) (main_arg4 : FVec F S8192x512 .bf16) (main_arg5 : FVec F S8192x1280 .bf16) (main_arg6 : FVec F S8192x1280 .bf16) (main_arg7 : FVec F S8192x1024 .bf16) (main_arg8 : FVec F S8192x1024 .bf16) (main_arg9 : FVec F S4x2048x1408 .bf16) : IVec S8192x1024 1 × IVec S1x1024 1 × IVec S8192x512 1 × IVec S8192x512 1 × IVec S8192x1280 1 × IVec S8192x1280 1 × IVec S8192x1024 1 × IVec S8192x1024 1 × IVec S4x1024x1408 1 :=
  let main_v0 : FVec F S4x1024x1408 .bf16 := (extractStridedSlice S4x1024x1408 ![0, 0, 0] · slices_S4x2048x1408_S4x1024x1408_0_0_0) main_arg9
  let main_v1 : FVec F S8192x512 .f32 := (extf .f32 · bitsLt_bf16_f32) main_arg3
  let main_v2 : FVec F S8192x512 .f32 := (extf .f32 · bitsLt_bf16_f32) main_arg4
  let main_v3 : FVec F S8192x1280 .f32 := (extf .f32 · bitsLt_bf16_f32) main_arg5
  let main_v4 : FVec F S8192x1280 .f32 := (extf .f32 · bitsLt_bf16_f32) main_arg6
  let main_v5 : FVec F S8192x1024 .f32 := (extf .f32 · bitsLt_bf16_f32) main_arg7
  let main_v6 : FVec F S8192x1024 .f32 := (extf .f32 · bitsLt_bf16_f32) main_arg8
  let main_v7 : FVec F S4x1024x1408 .f32 := (extf .f32 · bitsLt_bf16_f32) main_v0
  let main_v8 : FVec F S8192x1024 .f32 := subf main_arg0 main_arg0
  let main_cst : FVec F S_ .f32 := constant S_ .f32 0x00000000#32
  let main_v9 : FVec F S8192x1024 .f32 := broadcastInDim S8192x1024 ![] bcast_S_S8192x1024 main_cst
  let main_v10 : IVec S8192x1024 1 := cmpf .oeq main_v8 main_v9
  let main_v11 : FVec F S1x1024 .f32 := subf main_arg2 main_arg2
  let main_cst_0 : FVec F S_ .f32 := constant S_ .f32 0x00000000#32
  let main_v12 : FVec F S1x1024 .f32 := broadcastInDim S1x1024 ![] bcast_S_S1x1024 main_cst_0
  let main_v13 : IVec S1x1024 1 := cmpf .oeq main_v11 main_v12
  let main_v14 : FVec F S8192x512 .f32 := subf main_v1 main_v1
  let main_cst_1 : FVec F S_ .f32 := constant S_ .f32 0x00000000#32
  let main_v15 : FVec F S8192x512 .f32 := broadcastInDim S8192x512 ![] bcast_S_S8192x512 main_cst_1
  let main_v16 : IVec S8192x512 1 := cmpf .oeq main_v14 main_v15
  let main_v17 : FVec F S8192x512 .f32 := subf main_v2 main_v2
  let main_cst_2 : FVec F S_ .f32 := constant S_ .f32 0x00000000#32
  let main_v18 : FVec F S8192x512 .f32 := broadcastInDim S8192x512 ![] bcast_S_S8192x512 main_cst_2
  let main_v19 : IVec S8192x512 1 := cmpf .oeq main_v17 main_v18
  fn_part1 (F := F) main_v3 main_v4 main_v5 main_v6 main_v7 main_v10 main_v13 main_v16 main_v19
-- ==== Pre_finite14.lean ====
abbrev S8192x1024 : Shape := ⟨2, ![8192, 1024]⟩
abbrev S8192x512 : Shape := ⟨2, ![8192, 512]⟩
abbrev S512x1024 : Shape := ⟨2, ![512, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8192x1024 : S_.BroadcastsInDim S8192x1024 (![] : Fin 0 → Fin S8192x1024.rank)
  bcast_S_S512x1024 : S_.BroadcastsInDim S512x1024 (![] : Fin 0 → Fin S512x1024.rank)

variable [Facts]

def fn {F : FTy → Type} [FloatOps F] (main_arg0 : FVec F S8192x1024 .bf16) (main_arg1 : FVec F S8192x512 .f32) (main_arg2 : FVec F S8192x512 .bf16) (main_arg3 : FVec F S512x1024 .bf16) (main_arg4 : FVec F S512x1024 .bf16) : IVec S8192x512 1 × IVec S8192x1024 1 × IVec S8192x512 1 × IVec S512x1024 1 × IVec S512x1024 1 :=
  let main_v0 : FVec F S8192x1024 .f32 := (extf .f32 · bitsLt_bf16_f32) main_arg0
  let main_v1 : FVec F S8192x512 .f32 := (extf .f32 · bitsLt_bf16_f32) main_arg2
  let main_v2 : FVec F S512x1024 .f32 := (extf .f32 · bitsLt_bf16_f32) main_arg3
  let main_v3 : FVec F S512x1024 .f32 := (extf .f32 · bitsLt_bf16_f32) main_arg4
  let main_v4 : FVec F S8192x512 .f32 := subf main_arg1 main_arg1
  let main_cst : FVec F S_ .f32 := constant S_ .f32 0x00000000#32
  let main_v5 : FVec F S8192x512 .f32 := broadcastInDim S8192x512 ![] bcast_S_S8192x512 main_cst
  let main_v6 : IVec S8192x512 1 := cmpf .oeq main_v4 main_v5
  let main_v7 : FVec F S8192x1024 .f32 := subf main_v0 main_v0
  let main_cst_0 : FVec F S_ .f32 := constant S_ .f32 0x00000000#32
  let main_v8 : FVec F S8192x1024 .f32 := broadcastInDim S8192x1024 ![] bcast_S_S8192x1024 main_cst_0
  let main_v9 : IVec S8192x1024 1 := cmpf .oeq main_v7 main_v8
  let main_v10 : FVec F S8192x512 .f32 := subf main_v1 main_v1
  let main_cst_1 : FVec F S_ .f32 := constant S_ .f32 0x00000000#32
  let main_v11 : FVec F S8192x512 .f32 := broadcastInDim S8192x512 ![] bcast_S_S8192x512 main_cst_1
  let main_v12 : IVec S8192x512 1 := cmpf .oeq main_v10 main_v11
  let main_v13 : FVec F S512x1024 .f32 := subf main_v2 main_v2
  let main_cst_2 : FVec F S_ .f32 := constant S_ .f32 0x00000000#32
  let main_v14 : FVec F S512x1024 .f32 := broadcastInDim S512x1024 ![] bcast_S_S512x1024 main_cst_2
  let main_v15 : IVec S512x1024 1 := cmpf .oeq main_v13 main_v14
  let main_v16 : FVec F S512x1024 .f32 := subf main_v3 main_v3
  let main_cst_3 : FVec F S_ .f32 := constant S_ .f32 0x00000000#32
  let main_v17 : FVec F S512x1024 .f32 := broadcastInDim S512x1024 ![] bcast_S_S512x1024 main_cst_3
  let main_v18 : IVec S512x1024 1 := cmpf .oeq main_v16 main_v17
  (main_v6, main_v9, main_v12, main_v15, main_v18)
-- ==== Pre_finite8.lean ====
abbrev S8192x1024 : Shape := ⟨2, ![8192, 1024]⟩
abbrev S8192x1280 : Shape := ⟨2, ![8192, 1280]⟩
abbrev S1280x1024 : Shape := ⟨2, ![1280, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x1280 : S_.BroadcastsInDim S8192x1280 (![] : Fin 0 → Fin S8192x1280.rank)
  bcast_S_S1280x1024 : S_.BroadcastsInDim S1280x1024 (![] : Fin 0 → Fin S1280x1024.rank)

variable [Facts]

def fn {F : FTy → Type} [FloatOps F] (main_arg0 : FVec F S8192x1024 .bf16) (main_arg1 : FVec F S8192x1280 .f32) (main_arg2 : FVec F S8192x1280 .bf16) (main_arg3 : FVec F S1280x1024 .bf16) : IVec S8192x1024 1 × IVec S8192x1280 1 × IVec S1280x1024 1 :=
  let main_v0 : FVec F S8192x1024 .f32 := (extf .f32 · bitsLt_bf16_f32) main_arg0
  let main_v1 : FVec F S1280x1024 .f32 := (extf .f32 · bitsLt_bf16_f32) main_arg3
  let main_v2 : FVec F S8192x1024 .f32 := subf main_v0 main_v0
  let main_cst : FVec F S_ .f32 := constant S_ .f32 0x00000000#32
  let main_v3 : FVec F S8192x1024 .f32 := broadcastInDim S8192x1024 ![] bcast_S_S8192x1024 main_cst
  let main_v4 : IVec S8192x1024 1 := cmpf .oeq main_v2 main_v3
  let main_v5 : FVec F S8192x1280 .f32 := subf main_arg1 main_arg1
  let main_cst_0 : FVec F S_ .f32 := constant S_ .f32 0x00000000#32
  let main_v6 : FVec F S8192x1280 .f32 := broadcastInDim S8192x1280 ![] bcast_S_S8192x1280 main_cst_0
  let main_v7 : IVec S8192x1280 1 := cmpf .oeq main_v5 main_v6
  let main_v8 : FVec F S1280x1024 .f32 := subf main_v1 main_v1
  let main_cst_1 : FVec F S_ .f32 := constant S_ .f32 0x00000000#32
  let main_v9 : FVec F S1280x1024 .f32 := broadcastInDim S1280x1024 ![] bcast_S_S1280x1024 main_cst_1
  let main_v10 : IVec S1280x1024 1 := cmpf .oeq main_v8 main_v9
  (main_v4, main_v7, main_v10)
-- ==== Pre_finite9.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .bf16) (main_arg2 : FVec F S8192x1024 .bf16) (main_arg3 : FVec F S8192x1024 .bf16) (main_arg4 : FVec F S8192x1024 .bf16) (main_arg5 : FVec F S1024x1024 .bf16) (main_arg6 : FVec F S1x1024 .f32) : IVec S8192x1024 1 × IVec S1x1024 1 × IVec S8192x1024 1 × IVec S8192x1024 1 × IVec S1024x1024 1 :=
  let main_v0 : FVec F S8192x1024 .f32 := (extf .f32 · bitsLt_bf16_f32) main_arg1
  let main_v1 : FVec F S8192x1024 .f32 := (extf .f32 · bitsLt_bf16_f32) main_arg2
  let main_v2 : FVec F S1024x1024 .f32 := (extf .f32 · bitsLt_bf16_f32) main_arg5
  let main_v3 : FVec F S8192x1024 .f32 := subf main_arg0 main_arg0
  let main_cst : FVec F S_ .f32 := constant S_ .f32 0x00000000#32
  let main_v4 : FVec F S8192x1024 .f32 := broadcastInDim S8192x1024 ![] bcast_S_S8192x1024 main_cst
  let main_v5 : IVec S8192x1024 1 := cmpf .oeq main_v3 main_v4
  let main_v6 : FVec F S1x1024 .f32 := subf main_arg6 main_arg6
  let main_cst_0 : FVec F S_ .f32 := constant S_ .f32 0x00000000#32
  let main_v7 : FVec F S1x1024 .f32 := broadcastInDim S1x1024 ![] bcast_S_S1x1024 main_cst_0
  let main_v8 : IVec S1x1024 1 := cmpf .oeq main_v6 main_v7
  let main_v9 : FVec F S8192x1024 .f32 := subf main_v0 main_v0
  let main_cst_1 : FVec F S_ .f32 := constant S_ .f32 0x00000000#32
  let main_v10 : FVec F S8192x1024 .f32 := broadcastInDim S8192x1024 ![] bcast_S_S8192x1024 main_cst_1
  let main_v11 : IVec S8192x1024 1 := cmpf .oeq main_v9 main_v10
  let main_v12 : FVec F S8192x1024 .f32 := subf main_v1 main_v1
  let main_cst_2 : FVec F S_ .f32 := constant S_ .f32 0x00000000#32
  let main_v13 : FVec F S8192x1024 .f32 := broadcastInDim S8192x1024 ![] bcast_S_S8192x1024 main_cst_2
  let main_v14 : IVec S8192x1024 1 := cmpf .oeq main_v12 main_v13
  let main_v15 : FVec F S1024x1024 .f32 := subf main_v2 main_v2
  let main_cst_3 : FVec F S_ .f32 := constant S_ .f32 0x00000000#32
  let main_v16 : FVec F S1024x1024 .f32 := broadcastInDim S1024x1024 ![] bcast_S_S1024x1024 main_cst_3
  let main_v17 : IVec S1024x1024 1 := cmpf .oeq main_v15 main_v16
  (main_v5, main_v8, main_v11, main_v14, main_v17)
-- ==== Kernel.lean ====
abbrev S8192x1280 : Shape := ⟨2, ![8192, 1280]⟩
abbrev S1024x1280 : Shape := ⟨2, ![1024, 1280]⟩
abbrev S8x1280 : Shape := ⟨2, ![8, 1280]⟩
abbrev S8x128 : Shape := ⟨2, ![8, 128]⟩
abbrev S1x128 : Shape := ⟨2, ![1, 128]⟩

abbrev nBuf : Space → Nat
  | .hbm => 3
  | .vmem => 8
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S8192x1280, .f32⟩
  | .local _ .vmem, ⟨0, _⟩ => ⟨S1024x1280, .f32⟩
  | .local _ .vmem, ⟨1, _⟩ => ⟨S1024x1280, .f32⟩
  | .local _ .vmem, ⟨2, _⟩ => ⟨S1024x1280, .f32⟩
  | .local _ .vmem, ⟨3, _⟩ => ⟨S1024x1280, .f32⟩
  | .local _ .vmem, ⟨4, _⟩ => ⟨S1024x1280, .f32⟩
  | .local _ .vmem, ⟨5, _⟩ => ⟨S1024x1280, .f32⟩
  | .local _ .vmem, ⟨6, _⟩ => ⟨S8x1280, .f32⟩
  | .local _ .vmem, ⟨7, _⟩ => ⟨S8x1280, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_16 : BitVec 32 := 0#32
  let c128_i32 : BitVec 32 := 128#32
  let v14 : BitVec 32 := Scalar.addi c0_i32_16 c128_i32
  let c1_i32 : BitVec 32 := 1#32
  ⟨c0_i32_16, v14, c1_i32⟩
def k0_mult1 (k0_t1 : Fin k0_t1_loop.trips) : BitVec 32 :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  v89
def k0_off1 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v91 : Index := Scalar.indexCast v90
  let c0_77 : Index := 0#32
  ![v91.toNat, 0]
def k0_off2 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v139 : Index := Scalar.indexCast v90
  let c128_88 : Index := 128#32
  ![v139.toNat, 128]
def k0_off3 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v187 : Index := Scalar.indexCast v90
  let c256_105 : Index := 256#32
  ![v187.toNat, 256]
def k0_off4 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v235 : Index := Scalar.indexCast v90
  let c384_122 : Index := 384#32
  ![v235.toNat, 384]
def k0_off5 (k0_t1 : Fin k0_t1_loop.trips) : Fin 2 → Nat :=
  let c127_i32 : BitVec 32 := 127#32
  let c0_i32_16 : BitVec 32 := 0#32
  let c1_i32 : BitVec 32 := 1#32
  let arg6 : BitVec 32 := Scf.iv c0_i32_16 c1_i32 k0_t1
  let v88 : BitVec 32 := Scalar.subi c127_i32 arg6
  let c8_i32 : BitVec 32 := 8#32
  let v89 : BitVec 32 := Scalar.muli v88 c8_i32
  let v90 : BitVec 32 := v89
  let v283 : Index := Scalar.indexCast v90
  let c512_139 : Index := 512#32
  ![v283.toNat, 512]
@[reducible] def k0_t2_loop : Scf.Loop 32 :=
  let c0_i32_53 : BitVec 32 := 0#32
  let c128_i32_54 : BitVec 32 := 128#32
  let v56 : BitVec 32 := Scalar.addi c0_i32_53 c128_i32_54
  let c1_i32_55 : BitVec 32 := 1#32
  ⟨c0_i32_53, v56, c1_i32_55⟩
def k0_mult2 (k0_t2 : Fin k0_t2_loop.trips) : BitVec 32 :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  v89
def k0_off6 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v91 : Index := Scalar.indexCast v90
  let c640_77 : Index := 640#32
  ![v91.toNat, 640]
def k0_off7 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v139 : Index := Scalar.indexCast v90
  let c768_88 : Index := 768#32
  ![v139.toNat, 768]
def k0_off8 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v187 : Index := Scalar.indexCast v90
  let c896_105 : Index := 896#32
  ![v187.toNat, 896]
def k0_off9 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v235 : Index := Scalar.indexCast v90
  let c1024_122 : Index := 1024#32
  ![v235.toNat, 1024]
def k0_off10 (k0_t2 : Fin k0_t2_loop.trips) : Fin 2 → Nat :=
  let c127_i32 : BitVec 32 := 127#32
  let c0_i32_53 : BitVec 32 := 0#32
  let c1_i32_55 : BitVec 32 := 1#32
  let arg6 : BitVec 32 := Scf.iv c0_i32_53 c1_i32_55 k0_t2
  let v88 : BitVec 32 := Scalar.subi c127_i32 arg6
  let c8_i32 : BitVec 32 := 8#32
  let v89 : BitVec 32 := Scalar.muli v88 c8_i32
  let v90 : BitVec 32 := v89
  let v283 : Index := Scalar.indexCast v90
  let c1152_139 : Index := 1152#32
  ![v283.toNat, 1152]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x1280 : Shape := ⟨2, ![8192, 1280]⟩
abbrev S_ : Shape := ⟨0, ![]⟩
abbrev S1280 : Shape := ⟨1, ![1280]⟩
abbrev S1x1280 : Shape := ⟨2, ![1, 1280]⟩

abbrev nBuf : Space → Nat
  | .hbm => 33
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x1280, .f32⟩
  | .hbm, ⟨2, _⟩ => ⟨S_, .f32⟩
  | .hbm, ⟨3, _⟩ => ⟨S1280, .f32⟩
  | .hbm, ⟨4, _⟩ => ⟨S_, .f32⟩
  | .hbm, ⟨5, _⟩ => ⟨S1280, .f32⟩
  | .hbm, ⟨6, _⟩ => ⟨S_, .f32⟩
  | .hbm, ⟨7, _⟩ => ⟨S8192x1280, .f32⟩
  | .hbm, ⟨8, _⟩ => ⟨S_, .i32⟩
  | .hbm, ⟨9, _⟩ => ⟨S8192x1280, .f32⟩
  | .hbm, ⟨10, _⟩ => ⟨S8192x1280, .f32⟩
  | .hbm, ⟨11, _⟩ => ⟨S_, .i32⟩
  | .hbm, ⟨12, _⟩ => ⟨S1280, .f32⟩
  | .hbm, ⟨13, _⟩ => ⟨S8192x1280, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1280, .f32⟩
  | .hbm, ⟨22, _⟩ => ⟨S1280, .f32⟩
  | .hbm, ⟨23, _⟩ => ⟨S_, .i32⟩
  | .hbm, ⟨24, _⟩ => ⟨S1x1280, .f32⟩
  | .hbm, ⟨25, _⟩ => ⟨S1280, .f32⟩
  | .hbm, ⟨26, _⟩ => ⟨S1280, .f32⟩
  | .hbm, ⟨27, _⟩ => ⟨S1280, .f32⟩
  | .hbm, ⟨28, _⟩ => ⟨S1x1280, .f32⟩
  | .hbm, ⟨29, _⟩ => ⟨S_, .i32⟩
  | .hbm, ⟨30, _⟩ => ⟨S8192x1280, .f32⟩
  | .hbm, ⟨31, _⟩ => ⟨S_, .i32⟩
  | .hbm, ⟨32, _⟩ => ⟨S_, .i32⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_c : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_while0c_c_6 : Ref sig .tc := ⟨.hbm, 14, rfl⟩
abbrev main_while0c_v4 : Ref sig .tc := ⟨.hbm, 15, rfl⟩
abbrev main_while0b_c_6 : Ref sig .tc := ⟨.hbm, 16, rfl⟩
abbrev main_while0b_v4 : Ref sig .tc := ⟨.hbm, 17, rfl⟩
abbrev main_while0b_c_7 : Ref sig .tc := ⟨.hbm, 18, rfl⟩
abbrev main_while0b_v5 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_v6 : Ref sig .tc := ⟨.hbm, 22, rfl⟩
abbrev main_while0b_call1_c : Ref sig .tc := ⟨.hbm, 23, rfl⟩
abbrev main_while0b_call1_v0 : Ref sig .tc := ⟨.hbm, 24, rfl⟩
abbrev main_while0b_v7 : Ref sig .tc := ⟨.hbm, 25, rfl⟩
abbrev main_while0b_v8 : Ref sig .tc := ⟨.hbm, 26, rfl⟩
abbrev main_while0b_v9 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_v10 : Ref sig .tc := ⟨.hbm, 30, rfl⟩
abbrev main_while0b_c_8 : Ref sig .tc := ⟨.hbm, 31, rfl⟩
abbrev main_while0b_v11 : Ref sig .tc := ⟨.hbm, 32, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8192x1024 : Shape := ⟨2, ![8192, 1024]⟩
abbrev S8192x512 : Shape := ⟨2, ![8192, 512]⟩
abbrev S8192x1280 : Shape := ⟨2, ![8192, 1280]⟩
abbrev S1024x1408 : Shape := ⟨2, ![1024, 1408]⟩
abbrev S1024x1024 : Shape := ⟨2, ![1024, 1024]⟩
abbrev S1024x512 : Shape := ⟨2, ![1024, 512]⟩
abbrev S1024x1280 : Shape := ⟨2, ![1024, 1280]⟩
abbrev S1024x2304 : Shape := ⟨2, ![1024, 2304]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x1280, .bf16⟩
  | .hbm, ⟨4, _⟩ => ⟨S1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1280, .bf16⟩
  | .local _ .vmem, ⟨7, _⟩ => ⟨S1024x1280, .bf16⟩
  | .local _ .vmem, ⟨8, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S8192x1024 : Shape := ⟨2, ![8192, 1024]⟩
abbrev S8192x512 : Shape := ⟨2, ![8192, 512]⟩
abbrev S8192x1280 : Shape := ⟨2, ![8192, 1280]⟩
abbrev S8192x2304 : Shape := ⟨2, ![8192, 2304]⟩
abbrev S8192x1408 : Shape := ⟨2, ![8192, 1408]⟩
abbrev S1408x1024 : Shape := ⟨2, ![1408, 1024]⟩
abbrev S1024x1408 : Shape := ⟨2, ![1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x1280, .bf16⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x1280, .f32⟩
  | .hbm, ⟨8, _⟩ => ⟨S8192x2304, .f32⟩
  | .hbm, ⟨9, _⟩ => ⟨S8192x1408, .f32⟩
  | .hbm, ⟨10, _⟩ => ⟨S1408x1024, .f32⟩
  | .hbm, ⟨11, _⟩ => ⟨S1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S8192x1024 : Shape := ⟨2, ![8192, 1024]⟩
abbrev S8192x1280 : Shape := ⟨2, ![8192, 1280]⟩
abbrev S1024x1408 : Shape := ⟨2, ![1024, 1408]⟩
abbrev S1024x1024 : Shape := ⟨2, ![1024, 1024]⟩
abbrev S1024x1280 : Shape := ⟨2, ![1024, 1280]⟩
abbrev S1024x2560 : Shape := ⟨2, ![1024, 2560]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S8192x1280, .bf16⟩
  | .hbm, ⟨3, _⟩ => ⟨S1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S8192x1024 : Shape := ⟨2, ![8192, 1024]⟩
abbrev S8192x1280 : Shape := ⟨2, ![8192, 1280]⟩
abbrev S8192x2560 : Shape := ⟨2, ![8192, 2560]⟩
abbrev S8192x1408 : Shape := ⟨2, ![8192, 1408]⟩
abbrev S1408x1024 : Shape := ⟨2, ![1408, 1024]⟩
abbrev S1024x1408 : Shape := ⟨2, ![1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S8192x1280, .bf16⟩
  | .hbm, ⟨3, _⟩ => ⟨S8192x1024, .f32⟩
  | .hbm, ⟨4, _⟩ => ⟨S8192x1280, .f32⟩
  | .hbm, ⟨5, _⟩ => ⟨S8192x1280, .f32⟩
  | .hbm, ⟨6, _⟩ => ⟨S8192x2560, .f32⟩
  | .hbm, ⟨7, _⟩ => ⟨S8192x1408, .f32⟩
  | .hbm, ⟨8, _⟩ => ⟨S1408x1024, .f32⟩
  | .hbm, ⟨9, _⟩ => ⟨S1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S8192x1280 : Shape := ⟨2, ![8192, 1280]⟩
abbrev S1024x1408 : Shape := ⟨2, ![1024, 1408]⟩
abbrev S1024x1024 : Shape := ⟨2, ![1024, 1024]⟩
abbrev S1024x1280 : Shape := ⟨2, ![1024, 1280]⟩
abbrev S1024x2304 : Shape := ⟨2, ![1024, 2304]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S8192x1024, .bf16⟩
  | .hbm, ⟨3, _⟩ => ⟨S1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference4Ideal.lean ====
abbrev S8192x1024 : Shape := ⟨2, ![8192, 1024]⟩
abbrev S8192x1280 : Shape := ⟨2, ![8192, 1280]⟩
abbrev S8192x2304 : Shape := ⟨2, ![8192, 2304]⟩
abbrev S8192x1408 : Shape := ⟨2, ![8192, 1408]⟩
abbrev S1408x1024 : Shape := ⟨2, ![1408, 1024]⟩
abbrev S1024x1408 : Shape := ⟨2, ![1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .bf16⟩
  | .hbm, ⟨2, _⟩ => ⟨S8192x1024, .bf16⟩
  | .hbm, ⟨3, _⟩ => ⟨S8192x1024, .f32⟩
  | .hbm, ⟨4, _⟩ => ⟨S8192x1280, .f32⟩
  | .hbm, ⟨5, _⟩ => ⟨S8192x1024, .f32⟩
  | .hbm, ⟨6, _⟩ => ⟨S8192x2304, .f32⟩
  | .hbm, ⟨7, _⟩ => ⟨S8192x1408, .f32⟩
  | .hbm, ⟨8, _⟩ => ⟨S1408x1024, .f32⟩
  | .hbm, ⟨9, _⟩ => ⟨S1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024x1408 : Shape := ⟨2, ![1024, 1408]⟩
abbrev S1024x1024 : Shape := ⟨2, ![1024, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S8192x1024 : Shape := ⟨2, ![8192, 1024]⟩
abbrev S8192x2048 : Shape := ⟨2, ![8192, 2048]⟩
abbrev S8192x1408 : Shape := ⟨2, ![8192, 1408]⟩
abbrev S1408x1024 : Shape := ⟨2, ![1408, 1024]⟩
abbrev S1024x1408 : Shape := ⟨2, ![1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x1408, .f32⟩
  | .hbm, ⟨8, _⟩ => ⟨S1408x1024, .f32⟩
  | .hbm, ⟨9, _⟩ => ⟨S1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S4x2048x1408 : Shape := ⟨3, ![4, 2048, 1408]⟩
abbrev S8192x512 : Shape := ⟨2, ![8192, 512]⟩
abbrev S8192x1280 : Shape := ⟨2, ![8192, 1280]⟩
abbrev S256x1024 : Shape := ⟨2, ![256, 1024]⟩
abbrev S1x1024x1408 : Shape := ⟨3, ![1, 1024, 1408]⟩
abbrev S256x512 : Shape := ⟨2, ![256, 512]⟩
abbrev S256x1280 : Shape := ⟨2, ![256, 1280]⟩
abbrev S1024x1408 : Shape := ⟨2, ![1024, 1408]⟩
abbrev S256 : Shape := ⟨1, ![256]⟩
abbrev S256x1 : Shape := ⟨2, ![256, 1]⟩
abbrev S256x1408 : Shape := ⟨2, ![256, 1408]⟩
abbrev S256x5632 : Shape := ⟨2, ![256, 5632]⟩

abbrev nBuf : Space → Nat
  | .hbm => 10
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x2048x1408, .bf16⟩
  | .hbm, ⟨3, _⟩ => ⟨S8192x512, .bf16⟩
  | .hbm, ⟨4, _⟩ => ⟨S8192x512, .bf16⟩
  | .hbm, ⟨5, _⟩ => ⟨S8192x1280, .bf16⟩
  | .hbm, ⟨6, _⟩ => ⟨S8192x1280, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x1280, .bf16⟩
  | .local _ .vmem, ⟨12, _⟩ => ⟨S256x1280, .bf16⟩
  | .local _ .vmem, ⟨13, _⟩ => ⟨S256x1280, .bf16⟩
  | .local _ .vmem, ⟨14, _⟩ => ⟨S256x1280, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S8192x1024 : Shape := ⟨2, ![8192, 1024]⟩
abbrev S1x1024 : Shape := ⟨2, ![1, 1024]⟩
abbrev S4x2048x1408 : Shape := ⟨3, ![4, 2048, 1408]⟩
abbrev S_ : Shape := ⟨0, ![]⟩
abbrev S8192 : Shape := ⟨1, ![8192]⟩
abbrev S8192x1 : Shape := ⟨2, ![8192, 1]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩
abbrev S8192x512 : Shape := ⟨2, ![8192, 512]⟩
abbrev S8192x1280 : Shape := ⟨2, ![8192, 1280]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x2048x1408, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x1024x1408, .bf16⟩
  | .hbm, ⟨19, _⟩ => ⟨S1x1024x1408, .bf16⟩
  | .hbm, ⟨20, _⟩ => ⟨S1024x1408, .bf16⟩
  | .hbm, ⟨21, _⟩ => ⟨S1x1024x1408, .bf16⟩
  | .hbm, ⟨22, _⟩ => ⟨S1024x1408, .bf16⟩
  | .hbm, ⟨23, _⟩ => ⟨S1x1024x1408, .bf16⟩
  | .hbm, ⟨24, _⟩ => ⟨S1024x1408, .bf16⟩
  | .hbm, ⟨25, _⟩ => ⟨S1x1024x1408, .bf16⟩
  | .hbm, ⟨26, _⟩ => ⟨S1024x1408, .bf16⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S1024x1408, .f32⟩
  | .hbm, ⟨31, _⟩ => ⟨S1024x5632, .f32⟩
  | .hbm, ⟨32, _⟩ => ⟨S8192x5632, .f32⟩
  | .hbm, ⟨33, _⟩ => ⟨S8192x512, .f32⟩
  | .hbm, ⟨34, _⟩ => ⟨S8192x512, .f32⟩
  | .hbm, ⟨35, _⟩ => ⟨S8192x1280, .f32⟩
  | .hbm, ⟨36, _⟩ => ⟨S8192x1280, .f32⟩
  | .hbm, ⟨37, _⟩ => ⟨S8192x1024, .f32⟩
  | .hbm, ⟨38, _⟩ => ⟨S8192x1024, .f32⟩
  | .hbm, ⟨39, _⟩ => ⟨S8192x512, .bf16⟩
  | .hbm, ⟨40, _⟩ => ⟨S8192x512, .bf16⟩
  | .hbm, ⟨41, _⟩ => ⟨S8192x1280, .bf16⟩
  | .hbm, ⟨42, _⟩ => ⟨S8192x1280, .bf16⟩
  | .hbm, ⟨43, _⟩ => ⟨S8192x1024, .bf16⟩
  | .hbm, ⟨44, _⟩ => ⟨S8192x1024, .bf16⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Kernel7.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S256x1024, .bf16⟩
  | .hbm, ⟨4, _⟩ => ⟨S1024x1024, .bf16⟩
  | .hbm, ⟨5, _⟩ => ⟨S8192x1024, .f32⟩
  | .hbm, ⟨6, _⟩ => ⟨S256x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S256x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩
abbrev S1024x256 : Shape := ⟨2, ![1024, 256]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S256x1024, .bf16⟩
  | .hbm, ⟨4, _⟩ => ⟨S1024x1024, .bf16⟩
  | .hbm, ⟨5, _⟩ => ⟨S256x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x1024, .f32⟩
  | .hbm, ⟨28, _⟩ => ⟨S1024x1024, .f32⟩
  | .hbm, ⟨29, _⟩ => ⟨S8192x1024, .f32⟩
  | .hbm, ⟨30, _⟩ => ⟨S8192x1024, .f32⟩
  | .hbm, ⟨31, _⟩ => ⟨S1024x256, .f32⟩
  | .hbm, ⟨32, _⟩ => ⟨S256x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel8.lean ====
abbrev S8192x1024 : Shape := ⟨2, ![8192, 1024]⟩
abbrev S8192x1280 : Shape := ⟨2, ![8192, 1280]⟩
abbrev S1280x1024 : Shape := ⟨2, ![1280, 1024]⟩
abbrev S512x1024 : Shape := ⟨2, ![512, 1024]⟩
abbrev S512x1280 : Shape := ⟨2, ![512, 1280]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .f32⟩
  | .hbm, ⟨2, _⟩ => ⟨S8192x1280, .bf16⟩
  | .hbm, ⟨3, _⟩ => ⟨S1280x1024, .bf16⟩
  | .hbm, ⟨4, _⟩ => ⟨S8192x1280, .f32⟩
  | .hbm, ⟨5, _⟩ => ⟨S8192x1280, .bf16⟩
  | .hbm, ⟨6, _⟩ => ⟨S1280x1024, .f32⟩
  | .local _ .vmem, ⟨0, _⟩ => ⟨S512x1024, .bf16⟩
  | .local _ .vmem, ⟨1, _⟩ => ⟨S512x1024, .bf16⟩
  | .local _ .vmem, ⟨2, _⟩ => ⟨S512x1280, .f32⟩
  | .local _ .vmem, ⟨3, _⟩ => ⟨S512x1280, .f32⟩
  | .local _ .vmem, ⟨4, _⟩ => ⟨S512x1280, .bf16⟩
  | .local _ .vmem, ⟨5, _⟩ => ⟨S512x1280, .bf16⟩
  | .local _ .vmem, ⟨6, _⟩ => ⟨S1280x1024, .bf16⟩
  | .local _ .vmem, ⟨7, _⟩ => ⟨S512x1280, .f32⟩
  | .local _ .vmem, ⟨8, _⟩ => ⟨S512x1280, .f32⟩
  | .local _ .vmem, ⟨9, _⟩ => ⟨S512x1280, .bf16⟩
  | .local _ .vmem, ⟨10, _⟩ => ⟨S512x1280, .bf16⟩
  | .local _ .vmem, ⟨11, _⟩ => ⟨S1280x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x1024 : Shape := ⟨2, ![8192, 1024]⟩
abbrev S8192x1280 : Shape := ⟨2, ![8192, 1280]⟩
abbrev S1280x1024 : Shape := ⟨2, ![1280, 1024]⟩
abbrev S_ : Shape := ⟨0, ![]⟩
abbrev S1024x1280 : Shape := ⟨2, ![1024, 1280]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1280, .f32⟩
  | .hbm, ⟨2, _⟩ => ⟨S8192x1280, .bf16⟩
  | .hbm, ⟨3, _⟩ => ⟨S1280x1024, .bf16⟩
  | .hbm, ⟨4, _⟩ => ⟨S8192x1024, .f32⟩
  | .hbm, ⟨5, _⟩ => ⟨S8192x1280, .f32⟩
  | .hbm, ⟨6, _⟩ => ⟨S1280x1024, .f32⟩
  | .hbm, ⟨7, _⟩ => ⟨S8192x1280, .f32⟩
  | .hbm, ⟨8, _⟩ => ⟨S8192x1280, .f32⟩
  | .hbm, ⟨9, _⟩ => ⟨S_, .f32⟩
  | .hbm, ⟨10, _⟩ => ⟨S8192x1280, .f32⟩
  | .hbm, ⟨11, _⟩ => ⟨S8192x1280, .f32⟩
  | .hbm, ⟨12, _⟩ => ⟨S_, .f32⟩
  | .hbm, ⟨13, _⟩ => ⟨S8192x1280, .f32⟩
  | .hbm, ⟨14, _⟩ => ⟨S8192x1280, .f32⟩
  | .hbm, ⟨15, _⟩ => ⟨S_, .f32⟩
  | .hbm, ⟨16, _⟩ => ⟨S8192x1280, .f32⟩
  | .hbm, ⟨17, _⟩ => ⟨S8192x1280, .f32⟩
  | .hbm, ⟨18, _⟩ => ⟨S8192x1280, .f32⟩
  | .hbm, ⟨19, _⟩ => ⟨S8192x1280, .f32⟩
  | .hbm, ⟨20, _⟩ => ⟨S8192x1280, .f32⟩
  | .hbm, ⟨21, _⟩ => ⟨S8192x1024, .f32⟩
  | .hbm, ⟨22, _⟩ => ⟨S1024x1280, .f32⟩
  | .hbm, ⟨23, _⟩ => ⟨S1280x1024, .f32⟩
  | .hbm, ⟨24, _⟩ => ⟨S8192x1280, .f32⟩
  | .hbm, ⟨25, _⟩ => ⟨S8192x1280, .f32⟩
  | .hbm, ⟨26, _⟩ => ⟨S8192x1280, .f32⟩
  | .hbm, ⟨27, _⟩ => ⟨S8192x1280, .f32⟩
  | .hbm, ⟨28, _⟩ => ⟨S8192x1280, .f32⟩
  | .hbm, ⟨29, _⟩ => ⟨S8192x1280, .f32⟩
  | .hbm, ⟨30, _⟩ => ⟨S8192x1280, .f32⟩
  | .hbm, ⟨31, _⟩ => ⟨S8192x1280, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 39
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x1024, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S1024x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_v22_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference9Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S1024x1024, .f32⟩
  | .hbm, ⟨83, _⟩ => ⟨S1024x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | .hbm, ⟨92, _⟩ => ⟨S8192x1024, .bf16⟩
  | .hbm, ⟨93, _⟩ => ⟨S8192x1024, .bf16⟩
  | .hbm, ⟨94, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S8192x512 : Shape := ⟨2, ![8192, 512]⟩
abbrev S8192x1280 : Shape := ⟨2, ![8192, 1280]⟩
abbrev S4x2048x1408 : Shape := ⟨3, ![4, 2048, 1408]⟩
abbrev S256x1024 : Shape := ⟨2, ![256, 1024]⟩
abbrev S256x512 : Shape := ⟨2, ![256, 512]⟩
abbrev S256x1280 : Shape := ⟨2, ![256, 1280]⟩
abbrev S1x1024x1408 : Shape := ⟨3, ![1, 1024, 1408]⟩
abbrev S1024x1408 : Shape := ⟨2, ![1024, 1408]⟩
abbrev S256x5632 : Shape := ⟨2, ![256, 5632]⟩
abbrev S256x1408 : Shape := ⟨2, ![256, 1408]⟩
abbrev S256 : Shape := ⟨1, ![256]⟩
abbrev S256x1 : Shape := ⟨2, ![256, 1]⟩
abbrev S1024 : Shape := ⟨1, ![1024]⟩

abbrev nBuf : Space → Nat
  | .hbm => 12
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x512, .bf16⟩
  | .hbm, ⟨4, _⟩ => ⟨S8192x512, .bf16⟩
  | .hbm, ⟨5, _⟩ => ⟨S8192x1280, .bf16⟩
  | .hbm, ⟨6, _⟩ => ⟨S8192x1280, .bf16⟩
  | .hbm, ⟨7, _⟩ => ⟨S8192x1024, .bf16⟩
  | .hbm, ⟨8, _⟩ => ⟨S8192x1024, .bf16⟩
  | .hbm, ⟨9, _⟩ => ⟨S4x2048x1408, .bf16⟩
  | .hbm, ⟨10, _⟩ => ⟨S8192x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x1280, .bf16⟩
  | .local _ .vmem, ⟨10, _⟩ => ⟨S256x1280, .bf16⟩
  | .local _ .vmem, ⟨11, _⟩ => ⟨S256x1280, .bf16⟩
  | .local _ .vmem, ⟨12, _⟩ => ⟨S256x1280, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024x1408, .bf16⟩
  | .local _ .vmem, ⟨18, _⟩ => ⟨S1x1024x1408, .bf16⟩
  | .local _ .vmem, ⟨19, _⟩ => ⟨S1x1024x1408, .bf16⟩
  | .local _ .vmem, ⟨20, _⟩ => ⟨S1x1024x1408, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024x1408 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1408 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1408 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1408 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference10Ideal.lean ====
abbrev S8192x1024 : Shape := ⟨2, ![8192, 1024]⟩
abbrev S1x1024 : Shape := ⟨2, ![1, 1024]⟩
abbrev S8192x512 : Shape := ⟨2, ![8192, 512]⟩
abbrev S8192x1280 : Shape := ⟨2, ![8192, 1280]⟩
abbrev S4x2048x1408 : Shape := ⟨3, ![4, 2048, 1408]⟩
abbrev S8192x5632 : Shape := ⟨2, ![8192, 5632]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x512, .bf16⟩
  | .hbm, ⟨4, _⟩ => ⟨S8192x512, .bf16⟩
  | .hbm, ⟨5, _⟩ => ⟨S8192x1280, .bf16⟩
  | .hbm, ⟨6, _⟩ => ⟨S8192x1280, .bf16⟩
  | .hbm, ⟨7, _⟩ => ⟨S8192x1024, .bf16⟩
  | .hbm, ⟨8, _⟩ => ⟨S8192x1024, .bf16⟩
  | .hbm, ⟨9, _⟩ => ⟨S4x2048x1408, .bf16⟩
  | .hbm, ⟨10, _⟩ => ⟨S8192x512, .f32⟩
  | .hbm, ⟨11, _⟩ => ⟨S8192x512, .f32⟩
  | .hbm, ⟨12, _⟩ => ⟨S8192x1280, .f32⟩
  | .hbm, ⟨13, _⟩ => ⟨S8192x1280, .f32⟩
  | .hbm, ⟨14, _⟩ => ⟨S8192x1024, .f32⟩
  | .hbm, ⟨15, _⟩ => ⟨S8192x1024, .f32⟩
  | .hbm, ⟨16, _⟩ => ⟨S8192x5632, .f32⟩
  | .hbm, ⟨17, _⟩ => ⟨S4x1024x1408, .bf16⟩
  | .hbm, ⟨18, _⟩ => ⟨S1x1024x1408, .bf16⟩
  | .hbm, ⟨19, _⟩ => ⟨S1024x1408, .bf16⟩
  | .hbm, ⟨20, _⟩ => ⟨S1x1024x1408, .bf16⟩
  | .hbm, ⟨21, _⟩ => ⟨S1024x1408, .bf16⟩
  | .hbm, ⟨22, _⟩ => ⟨S1x1024x1408, .bf16⟩
  | .hbm, ⟨23, _⟩ => ⟨S1024x1408, .bf16⟩
  | .hbm, ⟨24, _⟩ => ⟨S1x1024x1408, .bf16⟩
  | .hbm, ⟨25, _⟩ => ⟨S1024x1408, .bf16⟩
  | .hbm, ⟨26, _⟩ => ⟨S1024x1408, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S1024x5632, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x5632, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel11.lean ====
abbrev S8192x1280 : Shape := ⟨2, ![8192, 1280]⟩
abbrev S8192x1024 : Shape := ⟨2, ![8192, 1024]⟩
abbrev S1280x1024 : Shape := ⟨2, ![1280, 1024]⟩
abbrev S1024x1024 : Shape := ⟨2, ![1024, 1024]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 21
  | .smem => 0
  | _ => 0

abbrev bufTy : (tb : Table) → Fin (tcTables nBuf tb) → BufTy
  | .hbm, ⟨0, _⟩ => ⟨S8192x1280, .f32⟩
  | .hbm, ⟨1, _⟩ => ⟨S8192x1280, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S1280x1024, .bf16⟩
  | .hbm, ⟨7, _⟩ => ⟨S1024x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S8192x1024, .bf16⟩
  | .local _ .vmem, ⟨0, _⟩ => ⟨S512x1280, .f32⟩
  | .local _ .vmem, ⟨1, _⟩ => ⟨S512x1280, .f32⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1280x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference11Ideal.lean ====
abbrev S8192x1280 : Shape := ⟨2, ![8192, 1280]⟩
abbrev S8192x1024 : Shape := ⟨2, ![8192, 1024]⟩
abbrev S1280x1024 : Shape := ⟨2, ![1280, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 64
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x1280, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S1280x1024, .bf16⟩
  | .hbm, ⟨7, _⟩ => ⟨S1024x1024, .bf16⟩
  | .hbm, ⟨8, _⟩ => ⟨S1x1024, .f32⟩
  | .hbm, ⟨9, _⟩ => ⟨S8192x1280, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1280x1024, .f32⟩
  | .hbm, ⟨14, _⟩ => ⟨S1024x1024, .f32⟩
  | .hbm, ⟨15, _⟩ => ⟨S8192x1280, .f32⟩
  | .hbm, ⟨16, _⟩ => ⟨S8192x1280, .f32⟩
  | .hbm, ⟨17, _⟩ => ⟨S_, .f32⟩
  | .hbm, ⟨18, _⟩ => ⟨S8192x1280, .f32⟩
  | .hbm, ⟨19, _⟩ => ⟨S8192x1280, .f32⟩
  | .hbm, ⟨20, _⟩ => ⟨S_, .f32⟩
  | .hbm, ⟨21, _⟩ => ⟨S8192x1280, .f32⟩
  | .hbm, ⟨22, _⟩ => ⟨S8192x1280, .f32⟩
  | .hbm, ⟨23, _⟩ => ⟨S8192x1280, .f32⟩
  | .hbm, ⟨24, _⟩ => ⟨S8192x1280, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S8192x1024, .bf16⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel12.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S512x1024 : Shape := ⟨2, ![512, 1024]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .bf16⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .bf16⟩
  | .hbm, ⟨3, _⟩ => ⟨S1024x1024, .bf16⟩
  | .hbm, ⟨4, _⟩ => ⟨S256x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel13.lean ====
abbrev S8192x512 : Shape := ⟨2, ![8192, 512]⟩
abbrev S512x1024 : Shape := ⟨2, ![512, 1024]⟩
abbrev S8192x1024 : Shape := ⟨2, ![8192, 1024]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x512 : Shape := ⟨2, ![8192, 512]⟩
abbrev S512x1024 : Shape := ⟨2, ![512, 1024]⟩
abbrev S_ : Shape := ⟨0, ![]⟩
abbrev S8192x1024 : Shape := ⟨2, ![8192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x512, .f32⟩
  | .hbm, ⟨5, _⟩ => ⟨S512x1024, .f32⟩
  | .hbm, ⟨6, _⟩ => ⟨S512x1024, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x1024, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x1024, .f32⟩
  | .hbm, ⟨47, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel14.lean ====
abbrev S8192x1024 : Shape := ⟨2, ![8192, 1024]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .bf16⟩
  | .hbm, ⟨3, _⟩ => ⟨S512x1024, .bf16⟩
  | .hbm, ⟨4, _⟩ => ⟨S512x1024, .bf16⟩
  | .hbm, ⟨5, _⟩ => ⟨S8192x512, .f32⟩
  | .hbm, ⟨6, _⟩ => ⟨S8192x512, .bf16⟩
  | .hbm, ⟨7, _⟩ => ⟨S512x1024, .f32⟩
  | .hbm, ⟨8, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel14Ideal.lean ====
variable {F : FTy → Type} [FloatOps F] [Named F]
def κ : String → Option EReal := fun
  | "cube" => some ((8943 / 200000 : ℝ) : EReal)
  | "cube3" => some ((26829 / 200000 : ℝ) : EReal)
  | _ => none
-- ==== Reference14Ideal.lean ====
abbrev S8192x1024 : Shape := ⟨2, ![8192, 1024]⟩
abbrev S8192x512 : Shape := ⟨2, ![8192, 512]⟩
abbrev S512x1024 : Shape := ⟨2, ![512, 1024]⟩
abbrev S_ : Shape := ⟨0, ![]⟩
abbrev S1024x512 : Shape := ⟨2, ![1024, 512]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x512, .bf16⟩
  | .hbm, ⟨3, _⟩ => ⟨S512x1024, .bf16⟩
  | .hbm, ⟨4, _⟩ => ⟨S512x1024, .bf16⟩
  | .hbm, ⟨5, _⟩ => ⟨S8192x1024, .f32⟩
  | .hbm, ⟨6, _⟩ => ⟨S8192x512, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x1024, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x1024, .f32⟩
  | .hbm, ⟨70, _⟩ => ⟨S1024x512, .f32⟩
  | .hbm, ⟨71, _⟩ => ⟨S512x1024, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x1024, .f32⟩
  | .hbm, ⟨83, _⟩ => ⟨S1024x512, .f32⟩
  | .hbm, ⟨84, _⟩ => ⟨S512x1024, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S_, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v39_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v39_1 : Ref sig .tc := ⟨.hbm, 66, rfl⟩
abbrev main_v39_0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== Kernel15.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S2x320x1024 : Shape := ⟨3, ![2, 320, 1024]⟩
abbrev S640x1024 : Shape := ⟨2, ![640, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x320x1024, .f32⟩
  | .hbm, ⟨1, _⟩ => ⟨S2x320x1024, .f32⟩
  | .hbm, ⟨2, _⟩ => ⟨S2x320x1024, .f32⟩
  | .hbm, ⟨3, _⟩ => ⟨S2x320x1024, .f32⟩
  | .hbm, ⟨4, _⟩ => ⟨S640x1024, .f32⟩
  | .hbm, ⟨5, _⟩ => ⟨S640x1024, .f32⟩
  | .hbm, ⟨6, _⟩ => ⟨S640x1024, .f32⟩
  | .hbm, ⟨7, _⟩ => ⟨S640x1024, .f32⟩
  | .hbm, ⟨8, _⟩ => ⟨S640x1024, .f32⟩
  | .hbm, ⟨9, _⟩ => ⟨S640x1024, .f32⟩
  | .hbm, ⟨10, _⟩ => ⟨S640x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2x320x1024 : Shape := ⟨3, ![2, 320, 1024]⟩
abbrev S_ : Shape := ⟨0, ![]⟩
abbrev S640x1024 : Shape := ⟨2, ![640, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x320x1024, .f32⟩
  | .hbm, ⟨1, _⟩ => ⟨S2x320x1024, .f32⟩
  | .hbm, ⟨2, _⟩ => ⟨S2x320x1024, .f32⟩
  | .hbm, ⟨3, _⟩ => ⟨S2x320x1024, .f32⟩
  | .hbm, ⟨4, _⟩ => ⟨S_, .f32⟩
  | .hbm, ⟨5, _⟩ => ⟨S2x320x1024, .f32⟩
  | .hbm, ⟨6, _⟩ => ⟨S2x320x1024, .f32⟩
  | .hbm, ⟨7, _⟩ => ⟨S_, .f32⟩
  | .hbm, ⟨8, _⟩ => ⟨S2x320x1024, .f32⟩
  | .hbm, ⟨9, _⟩ => ⟨S2x320x1024, .f32⟩
  | .hbm, ⟨10, _⟩ => ⟨S2x320x1024, .f32⟩
  | .hbm, ⟨11, _⟩ => ⟨S_, .f32⟩
  | .hbm, ⟨12, _⟩ => ⟨S2x320x1024, .f32⟩
  | .hbm, ⟨13, _⟩ => ⟨S2x320x1024, .f32⟩
  | .hbm, ⟨14, _⟩ => ⟨S2x320x1024, .f32⟩
  | .hbm, ⟨15, _⟩ => ⟨S_, .f32⟩
  | .hbm, ⟨16, _⟩ => ⟨S2x320x1024, .f32⟩
  | .hbm, ⟨17, _⟩ => ⟨S2x320x1024, .f32⟩
  | .hbm, ⟨18, _⟩ => ⟨S2x320x1024, .f32⟩
  | .hbm, ⟨19, _⟩ => ⟨S_, .f32⟩
  | .hbm, ⟨20, _⟩ => ⟨S2x320x1024, .f32⟩
  | .hbm, ⟨21, _⟩ => ⟨S2x320x1024, .f32⟩
  | .hbm, ⟨22, _⟩ => ⟨S_, .f32⟩
  | .hbm, ⟨23, _⟩ => ⟨S2x320x1024, .f32⟩
  | .hbm, ⟨24, _⟩ => ⟨S2x320x1024, .f32⟩
  | .hbm, ⟨25, _⟩ => ⟨S2x320x1024, .f32⟩
  | .hbm, ⟨26, _⟩ => ⟨S_, .f32⟩
  | .hbm, ⟨27, _⟩ => ⟨S2x320x1024, .f32⟩
  | .hbm, ⟨28, _⟩ => ⟨S2x320x1024, .f32⟩
  | .hbm, ⟨29, _⟩ => ⟨S2x320x1024, .f32⟩
  | .hbm, ⟨30, _⟩ => ⟨S_, .f32⟩
  | .hbm, ⟨31, _⟩ => ⟨S2x320x1024, .f32⟩
  | .hbm, ⟨32, _⟩ => ⟨S2x320x1024, .f32⟩
  | .hbm, ⟨33, _⟩ => ⟨S2x320x1024, .f32⟩
  | .hbm, ⟨34, _⟩ => ⟨S_, .f32⟩
  | .hbm, ⟨35, _⟩ => ⟨S2x320x1024, .f32⟩
  | .hbm, ⟨36, _⟩ => ⟨S2x320x1024, .f32⟩
  | .hbm, ⟨37, _⟩ => ⟨S640x1024, .f32⟩
  | .hbm, ⟨38, _⟩ => ⟨S640x1024, .f32⟩
  | .hbm, ⟨39, _⟩ => ⟨S640x1024, .f32⟩
  | _, _ => ⟨S2x320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2x512x256 : Shape := ⟨3, ![2, 512, 256]⟩
abbrev S1024x256 : Shape := ⟨2, ![1024, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S2x512x256 : Shape := ⟨3, ![2, 512, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S2x256x256 : Shape := ⟨3, ![2, 256, 256]⟩
abbrev S512x256 : Shape := ⟨2, ![512, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2x256x256 : Shape := ⟨3, ![2, 256, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S2x4x320 : Shape := ⟨3, ![2, 4, 320]⟩
abbrev S8x320 : Shape := ⟨2, ![8, 320]⟩

abbrev nBuf : Space → Nat
  | .hbm => 11
  | .vmem => 7
  | .smem => 0
  | _ => 0

abbrev bufTy : (tb : Table) → Fin (tcTables nBuf tb) → BufTy
  | .hbm, ⟨0, _⟩ => ⟨S2x4x320, .f32⟩
  | .hbm, ⟨1, _⟩ => ⟨S2x4x320, .f32⟩
  | .hbm, ⟨2, _⟩ => ⟨S2x4x320, .f32⟩
  | .hbm, ⟨3, _⟩ => ⟨S2x4x320, .f32⟩
  | .hbm, ⟨4, _⟩ => ⟨S8x320, .f32⟩
  | .hbm, ⟨5, _⟩ => ⟨S8x320, .f32⟩
  | .hbm, ⟨6, _⟩ => ⟨S8x320, .f32⟩
  | .hbm, ⟨7, _⟩ => ⟨S8x320, .f32⟩
  | .hbm, ⟨8, _⟩ => ⟨S8x320, .f32⟩
  | .hbm, ⟨9, _⟩ => ⟨S8x320, .f32⟩
  | .hbm, ⟨10, _⟩ => ⟨S8x320, .f32⟩
  | .local _ .vmem, ⟨0, _⟩ => ⟨S8x320, .f32⟩
  | .local _ .vmem, ⟨1, _⟩ => ⟨S8x320, .f32⟩
  | .local _ .vmem, ⟨2, _⟩ => ⟨S8x320, .f32⟩
  | .local _ .vmem, ⟨3, _⟩ => ⟨S8x320, .f32⟩
  | .local _ .vmem, ⟨4, _⟩ => ⟨S8x320, .f32⟩
  | .local _ .vmem, ⟨5, _⟩ => ⟨S8x320, .f32⟩
  | .local _ .vmem, ⟨6, _⟩ => ⟨S8x320, .f32⟩
  | _, _ => ⟨S2x4x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S2x4x320 : Shape := ⟨3, ![2, 4, 320]⟩
abbrev S_ : Shape := ⟨0, ![]⟩
abbrev S8x320 : Shape := ⟨2, ![8, 320]⟩

abbrev nBuf : Space → Nat
  | .hbm => 40
  | .vmem => 0
  | .smem => 0
  | _ => 0

abbrev bufTy : (tb : Table) → Fin (tcTables nBuf tb) → BufTy
  | .hbm, ⟨0, _⟩ => ⟨S2x4x320, .f32⟩
  | .hbm, ⟨1, _⟩ => ⟨S2x4x320, .f32⟩
  | .hbm, ⟨2, _⟩ => ⟨S2x4x320, .f32⟩
  | .hbm, ⟨3, _⟩ => ⟨S2x4x320, .f32⟩
  | .hbm, ⟨4, _⟩ => ⟨S_, .f32⟩
  | .hbm, ⟨5, _⟩ => ⟨S2x4x320, .f32⟩
  | .hbm, ⟨6, _⟩ => ⟨S2x4x320, .f32⟩
  | .hbm, ⟨7, _⟩ => ⟨S_, .f32⟩
  | .hbm, ⟨8, _⟩ => ⟨S2x4x320, .f32⟩
  | .hbm, ⟨9, _⟩ => ⟨S2x4x320, .f32⟩
  | .hbm, ⟨10, _⟩ => ⟨S2x4x320, .f32⟩
  | .hbm, ⟨11, _⟩ => ⟨S_, .f32⟩
  | .hbm, ⟨12, _⟩ => ⟨S2x4x320, .f32⟩
  | .hbm, ⟨13, _⟩ => ⟨S2x4x320, .f32⟩
  | .hbm, ⟨14, _⟩ => ⟨S2x4x320, .f32⟩
  | .hbm, ⟨15, _⟩ => ⟨S_, .f32⟩
  | .hbm, ⟨16, _⟩ => ⟨S2x4x320, .f32⟩
  | .hbm, ⟨17, _⟩ => ⟨S2x4x320, .f32⟩
  | .hbm, ⟨18, _⟩ => ⟨S2x4x320, .f32⟩
  | .hbm, ⟨19, _⟩ => ⟨S_, .f32⟩
  | .hbm, ⟨20, _⟩ => ⟨S2x4x320, .f32⟩
  | .hbm, ⟨21, _⟩ => ⟨S2x4x320, .f32⟩
  | .hbm, ⟨22, _⟩ => ⟨S_, .f32⟩
  | .hbm, ⟨23, _⟩ => ⟨S2x4x320, .f32⟩
  | .hbm, ⟨24, _⟩ => ⟨S2x4x320, .f32⟩
  | .hbm, ⟨25, _⟩ => ⟨S2x4x320, .f32⟩
  | .hbm, ⟨26, _⟩ => ⟨S_, .f32⟩
  | .hbm, ⟨27, _⟩ => ⟨S2x4x320, .f32⟩
  | .hbm, ⟨28, _⟩ => ⟨S2x4x320, .f32⟩
  | .hbm, ⟨29, _⟩ => ⟨S2x4x320, .f32⟩
  | .hbm, ⟨30, _⟩ => ⟨S_, .f32⟩
  | .hbm, ⟨31, _⟩ => ⟨S2x4x320, .f32⟩
  | .hbm, ⟨32, _⟩ => ⟨S2x4x320, .f32⟩
  | .hbm, ⟨33, _⟩ => ⟨S2x4x320, .f32⟩
  | .hbm, ⟨34, _⟩ => ⟨S_, .f32⟩
  | .hbm, ⟨35, _⟩ => ⟨S2x4x320, .f32⟩
  | .hbm, ⟨36, _⟩ => ⟨S2x4x320, .f32⟩
  | .hbm, ⟨37, _⟩ => ⟨S8x320, .f32⟩
  | .hbm, ⟨38, _⟩ => ⟨S8x320, .f32⟩
  | .hbm, ⟨39, _⟩ => ⟨S8x320, .f32⟩
  | _, _ => ⟨S2x4x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x32x64 : Shape := ⟨3, ![2, 32, 64]⟩
abbrev S64x64 : Shape := ⟨2, ![64, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32x64, .f32⟩
  | .hbm, ⟨3, _⟩ => ⟨S2x32x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S2x32x64 : Shape := ⟨3, ![2, 32, 64]⟩
abbrev S_ : Shape := ⟨0, ![]⟩
abbrev S64x64 : Shape := ⟨2, ![64, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32x64, .f32⟩
  | .hbm, ⟨3, _⟩ => ⟨S2x32x64, .f32⟩
  | .hbm, ⟨4, _⟩ => ⟨S_, .f32⟩
  | .hbm, ⟨5, _⟩ => ⟨S2x32x64, .f32⟩
  | .hbm, ⟨6, _⟩ => ⟨S2x32x64, .f32⟩
  | .hbm, ⟨7, _⟩ => ⟨S_, .f32⟩
  | .hbm, ⟨8, _⟩ => ⟨S2x32x64, .f32⟩
  | .hbm, ⟨9, _⟩ => ⟨S2x32x64, .f32⟩
  | .hbm, ⟨10, _⟩ => ⟨S2x32x64, .f32⟩
  | .hbm, ⟨11, _⟩ => ⟨S_, .f32⟩
  | .hbm, ⟨12, _⟩ => ⟨S2x32x64, .f32⟩
  | .hbm, ⟨13, _⟩ => ⟨S2x32x64, .f32⟩
  | .hbm, ⟨14, _⟩ => ⟨S2x32x64, .f32⟩
  | .hbm, ⟨15, _⟩ => ⟨S_, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S_, .f32⟩
  | .hbm, ⟨20, _⟩ => ⟨S2x32x64, .f32⟩
  | .hbm, ⟨21, _⟩ => ⟨S2x32x64, .f32⟩
  | .hbm, ⟨22, _⟩ => ⟨S_, .f32⟩
  | .hbm, ⟨23, _⟩ => ⟨S2x32x64, .f32⟩
  | .hbm, ⟨24, _⟩ => ⟨S2x32x64, .f32⟩
  | .hbm, ⟨25, _⟩ => ⟨S2x32x64, .f32⟩
  | .hbm, ⟨26, _⟩ => ⟨S_, .f32⟩
  | .hbm, ⟨27, _⟩ => ⟨S2x32x64, .f32⟩
  | .hbm, ⟨28, _⟩ => ⟨S2x32x64, .f32⟩
  | .hbm, ⟨29, _⟩ => ⟨S2x32x64, .f32⟩
  | .hbm, ⟨30, _⟩ => ⟨S_, .f32⟩
  | .hbm, ⟨31, _⟩ => ⟨S2x32x64, .f32⟩
  | .hbm, ⟨32, _⟩ => ⟨S2x32x64, .f32⟩
  | .hbm, ⟨33, _⟩ => ⟨S2x32x64, .f32⟩
  | .hbm, ⟨34, _⟩ => ⟨S_, .f32⟩
  | .hbm, ⟨35, _⟩ => ⟨S2x32x64, .f32⟩
  | .hbm, ⟨36, _⟩ => ⟨S2x32x64, .f32⟩
  | .hbm, ⟨37, _⟩ => ⟨S64x64, .f32⟩
  | .hbm, ⟨38, _⟩ => ⟨S64x64, .f32⟩
  | .hbm, ⟨39, _⟩ => ⟨S64x64, .f32⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S2x32x64x16 : Shape := ⟨4, ![2, 32, 64, 16]⟩
abbrev S4096x16 : Shape := ⟨2, ![4096, 16]⟩
abbrev S256x16 : Shape := ⟨2, ![256, 16]⟩

abbrev nBuf : Space → Nat
  | .hbm => 11
  | .vmem => 14
  | .smem => 0
  | _ => 0

abbrev bufTy : (tb : Table) → Fin (tcTables nBuf tb) → BufTy
  | .hbm, ⟨0, _⟩ => ⟨S2x32x64x16, .f32⟩
  | .hbm, ⟨1, _⟩ => ⟨S2x32x64x16, .f32⟩
  | .hbm, ⟨2, _⟩ => ⟨S2x32x64x16, .f32⟩
  | .hbm, ⟨3, _⟩ => ⟨S2x32x64x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x16, .f32⟩
  | .local _ .vmem, ⟨5, _⟩ => ⟨S256x16, .f32⟩
  | .local _ .vmem, ⟨6, _⟩ => ⟨S256x16, .f32⟩
  | .local _ .vmem, ⟨7, _⟩ => ⟨S256x16, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S256x16, .f32⟩
  | .local _ .vmem, ⟨13, _⟩ => ⟨S256x16, .f32⟩
  | _, _ => ⟨S2x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2x32x64x16 : Shape := ⟨4, ![2, 32, 64, 16]⟩
abbrev S_ : Shape := ⟨0, ![]⟩
abbrev S4096x16 : Shape := ⟨2, ![4096, 16]⟩

abbrev nBuf : Space → Nat
  | .hbm => 40
  | .vmem => 0
  | .smem => 0
  | _ => 0

abbrev bufTy : (tb : Table) → Fin (tcTables nBuf tb) → BufTy
  | .hbm, ⟨0, _⟩ => ⟨S2x32x64x16, .f32⟩
  | .hbm, ⟨1, _⟩ => ⟨S2x32x64x16, .f32⟩
  | .hbm, ⟨2, _⟩ => ⟨S2x32x64x16, .f32⟩
  | .hbm, ⟨3, _⟩ => ⟨S2x32x64x16, .f32⟩
  | .hbm, ⟨4, _⟩ => ⟨S_, .f32⟩
  | .hbm, ⟨5, _⟩ => ⟨S2x32x64x16, .f32⟩
  | .hbm, ⟨6, _⟩ => ⟨S2x32x64x16, .f32⟩
  | .hbm, ⟨7, _⟩ => ⟨S_, .f32⟩
  | .hbm, ⟨8, _⟩ => ⟨S2x32x64x16, .f32⟩
  | .hbm, ⟨9, _⟩ => ⟨S2x32x64x16, .f32⟩
  | .hbm, ⟨10, _⟩ => ⟨S2x32x64x16, .f32⟩
  | .hbm, ⟨11, _⟩ => ⟨S_, .f32⟩
  | .hbm, ⟨12, _⟩ => ⟨S2x32x64x16, .f32⟩
  | .hbm, ⟨13, _⟩ => ⟨S2x32x64x16, .f32⟩
  | .hbm, ⟨14, _⟩ => ⟨S2x32x64x16, .f32⟩
  | .hbm, ⟨15, _⟩ => ⟨S_, .f32⟩
  | .hbm, ⟨16, _⟩ => ⟨S2x32x64x16, .f32⟩
  | .hbm, ⟨17, _⟩ => ⟨S2x32x64x16, .f32⟩
  | .hbm, ⟨18, _⟩ => ⟨S2x32x64x16, .f32⟩
  | .hbm, ⟨19, _⟩ => ⟨S_, .f32⟩
  | .hbm, ⟨20, _⟩ => ⟨S2x32x64x16, .f32⟩
  | .hbm, ⟨21, _⟩ => ⟨S2x32x64x16, .f32⟩
  | .hbm, ⟨22, _⟩ => ⟨S_, .f32⟩
  | .hbm, ⟨23, _⟩ => ⟨S2x32x64x16, .f32⟩
  | .hbm, ⟨24, _⟩ => ⟨S2x32x64x16, .f32⟩
  | .hbm, ⟨25, _⟩ => ⟨S2x32x64x16, .f32⟩
  | .hbm, ⟨26, _⟩ => ⟨S_, .f32⟩
  | .hbm, ⟨27, _⟩ => ⟨S2x32x64x16, .f32⟩
  | .hbm, ⟨28, _⟩ => ⟨S2x32x64x16, .f32⟩
  | .hbm, ⟨29, _⟩ => ⟨S2x32x64x16, .f32⟩
  | .hbm, ⟨30, _⟩ => ⟨S_, .f32⟩
  | .hbm, ⟨31, _⟩ => ⟨S2x32x64x16, .f32⟩
  | .hbm, ⟨32, _⟩ => ⟨S2x32x64x16, .f32⟩
  | .hbm, ⟨33, _⟩ => ⟨S2x32x64x16, .f32⟩
  | .hbm, ⟨34, _⟩ => ⟨S_, .f32⟩
  | .hbm, ⟨35, _⟩ => ⟨S2x32x64x16, .f32⟩
  | .hbm, ⟨36, _⟩ => ⟨S2x32x64x16, .f32⟩
  | .hbm, ⟨37, _⟩ => ⟨S4096x16, .f32⟩
  | .hbm, ⟨38, _⟩ => ⟨S4096x16, .f32⟩
  | .hbm, ⟨39, _⟩ => ⟨S4096x16, .f32⟩
  | _, _ => ⟨S2x32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S2x32x16x64 : Shape := ⟨4, ![2, 32, 16, 64]⟩
abbrev S1024x64 : Shape := ⟨2, ![1024, 64]⟩
abbrev S256x64 : Shape := ⟨2, ![256, 64]⟩

abbrev nBuf : Space → Nat
  | .hbm => 11
  | .vmem => 14
  | .smem => 0
  | _ => 0

abbrev bufTy : (tb : Table) → Fin (tcTables nBuf tb) → BufTy
  | .hbm, ⟨0, _⟩ => ⟨S2x32x16x64, .f32⟩
  | .hbm, ⟨1, _⟩ => ⟨S2x32x16x64, .f32⟩
  | .hbm, ⟨2, _⟩ => ⟨S2x32x16x64, .f32⟩
  | .hbm, ⟨3, _⟩ => ⟨S2x32x16x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | _, _ => ⟨S2x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S2x32x16x64 : Shape := ⟨4, ![2, 32, 16, 64]⟩
abbrev S_ : Shape := ⟨0, ![]⟩
abbrev S1024x64 : Shape := ⟨2, ![1024, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x32x16x64, .f32⟩
  | .hbm, ⟨1, _⟩ => ⟨S2x32x16x64, .f32⟩
  | .hbm, ⟨2, _⟩ => ⟨S2x32x16x64, .f32⟩
  | .hbm, ⟨3, _⟩ => ⟨S2x32x16x64, .f32⟩
  | .hbm, ⟨4, _⟩ => ⟨S_, .f32⟩
  | .hbm, ⟨5, _⟩ => ⟨S2x32x16x64, .f32⟩
  | .hbm, ⟨6, _⟩ => ⟨S2x32x16x64, .f32⟩
  | .hbm, ⟨7, _⟩ => ⟨S_, .f32⟩
  | .hbm, ⟨8, _⟩ => ⟨S2x32x16x64, .f32⟩
  | .hbm, ⟨9, _⟩ => ⟨S2x32x16x64, .f32⟩
  | .hbm, ⟨10, _⟩ => ⟨S2x32x16x64, .f32⟩
  | .hbm, ⟨11, _⟩ => ⟨S_, .f32⟩
  | .hbm, ⟨12, _⟩ => ⟨S2x32x16x64, .f32⟩
  | .hbm, ⟨13, _⟩ => ⟨S2x32x16x64, .f32⟩
  | .hbm, ⟨14, _⟩ => ⟨S2x32x16x64, .f32⟩
  | .hbm, ⟨15, _⟩ => ⟨S_, .f32⟩
  | .hbm, ⟨16, _⟩ => ⟨S2x32x16x64, .f32⟩
  | .hbm, ⟨17, _⟩ => ⟨S2x32x16x64, .f32⟩
  | .hbm, ⟨18, _⟩ => ⟨S2x32x16x64, .f32⟩
  | .hbm, ⟨19, _⟩ => ⟨S_, .f32⟩
  | .hbm, ⟨20, _⟩ => ⟨S2x32x16x64, .f32⟩
  | .hbm, ⟨21, _⟩ => ⟨S2x32x16x64, .f32⟩
  | .hbm, ⟨22, _⟩ => ⟨S_, .f32⟩
  | .hbm, ⟨23, _⟩ => ⟨S2x32x16x64, .f32⟩
  | .hbm, ⟨24, _⟩ => ⟨S2x32x16x64, .f32⟩
  | .hbm, ⟨25, _⟩ => ⟨S2x32x16x64, .f32⟩
  | .hbm, ⟨26, _⟩ => ⟨S_, .f32⟩
  | .hbm, ⟨27, _⟩ => ⟨S2x32x16x64, .f32⟩
  | .hbm, ⟨28, _⟩ => ⟨S2x32x16x64, .f32⟩
  | .hbm, ⟨29, _⟩ => ⟨S2x32x16x64, .f32⟩
  | .hbm, ⟨30, _⟩ => ⟨S_, .f32⟩
  | .hbm, ⟨31, _⟩ => ⟨S2x32x16x64, .f32⟩
  | .hbm, ⟨32, _⟩ => ⟨S2x32x16x64, .f32⟩
  | .hbm, ⟨33, _⟩ => ⟨S2x32x16x64, .f32⟩
  | .hbm, ⟨34, _⟩ => ⟨S_, .f32⟩
  | .hbm, ⟨35, _⟩ => ⟨S2x32x16x64, .f32⟩
  | .hbm, ⟨36, _⟩ => ⟨S2x32x16x64, .f32⟩
  | .hbm, ⟨37, _⟩ => ⟨S1024x64, .f32⟩
  | .hbm, ⟨38, _⟩ => ⟨S1024x64, .f32⟩
  | .hbm, ⟨39, _⟩ => ⟨S1024x64, .f32⟩
  | _, _ => ⟨S2x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S2x32 : Shape := ⟨2, ![2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S2x32 : Shape := ⟨2, ![2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S_, .f32⟩
  | .hbm, ⟨5, _⟩ => ⟨S2x32, .f32⟩
  | .hbm, ⟨6, _⟩ => ⟨S2x32, .f32⟩
  | .hbm, ⟨7, _⟩ => ⟨S_, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S_, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S_, .f32⟩
  | .hbm, ⟨16, _⟩ => ⟨S2x32, .f32⟩
  | .hbm, ⟨17, _⟩ => ⟨S2x32, .f32⟩
  | .hbm, ⟨18, _⟩ => ⟨S2x32, .f32⟩
  | .hbm, ⟨19, _⟩ => ⟨S_, .f32⟩
  | .hbm, ⟨20, _⟩ => ⟨S2x32, .f32⟩
  | .hbm, ⟨21, _⟩ => ⟨S2x32, .f32⟩
  | .hbm, ⟨22, _⟩ => ⟨S_, .f32⟩
  | .hbm, ⟨23, _⟩ => ⟨S2x32, .f32⟩
  | .hbm, ⟨24, _⟩ => ⟨S2x32, .f32⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S_, .f32⟩
  | .hbm, ⟨31, _⟩ => ⟨S2x32, .f32⟩
  | .hbm, ⟨32, _⟩ => ⟨S2x32, .f32⟩
  | .hbm, ⟨33, _⟩ => ⟨S2x32, .f32⟩
  | .hbm, ⟨34, _⟩ => ⟨S_, .f32⟩
  | .hbm, ⟨35, _⟩ => ⟨S2x32, .f32⟩
  | .hbm, ⟨36, _⟩ => ⟨S2x32, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2x10x128x128 : Shape := ⟨4, ![2, 10, 128, 128]⟩
abbrev S2560x128 : Shape := ⟨2, ![2560, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x10x128x128, .f32⟩
  | .hbm, ⟨1, _⟩ => ⟨S2x10x128x128, .f32⟩
  | .hbm, ⟨2, _⟩ => ⟨S2x10x128x128, .f32⟩
  | .hbm, ⟨3, _⟩ => ⟨S2x10x128x128, .f32⟩
  | .hbm, ⟨4, _⟩ => ⟨S2560x128, .f32⟩
  | .hbm, ⟨5, _⟩ => ⟨S2560x128, .f32⟩
  | .hbm, ⟨6, _⟩ => ⟨S2560x128, .f32⟩
  | .hbm, ⟨7, _⟩ => ⟨S2560x128, .f32⟩
  | .hbm, ⟨8, _⟩ => ⟨S2560x128, .f32⟩
  | .hbm, ⟨9, _⟩ => ⟨S2560x128, .f32⟩
  | .hbm, ⟨10, _⟩ => ⟨S2560x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x10x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S2x10x128x128 : Shape := ⟨4, ![2, 10, 128, 128]⟩
abbrev S_ : Shape := ⟨0, ![]⟩
abbrev S2560x128 : Shape := ⟨2, ![2560, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x10x128x128, .f32⟩
  | .hbm, ⟨1, _⟩ => ⟨S2x10x128x128, .f32⟩
  | .hbm, ⟨2, _⟩ => ⟨S2x10x128x128, .f32⟩
  | .hbm, ⟨3, _⟩ => ⟨S2x10x128x128, .f32⟩
  | .hbm, ⟨4, _⟩ => ⟨S_, .f32⟩
  | .hbm, ⟨5, _⟩ => ⟨S2x10x128x128, .f32⟩
  | .hbm, ⟨6, _⟩ => ⟨S2x10x128x128, .f32⟩
  | .hbm, ⟨7, _⟩ => ⟨S_, .f32⟩
  | .hbm, ⟨8, _⟩ => ⟨S2x10x128x128, .f32⟩
  | .hbm, ⟨9, _⟩ => ⟨S2x10x128x128, .f32⟩
  | .hbm, ⟨10, _⟩ => ⟨S2x10x128x128, .f32⟩
  | .hbm, ⟨11, _⟩ => ⟨S_, .f32⟩
  | .hbm, ⟨12, _⟩ => ⟨S2x10x128x128, .f32⟩
  | .hbm, ⟨13, _⟩ => ⟨S2x10x128x128, .f32⟩
  | .hbm, ⟨14, _⟩ => ⟨S2x10x128x128, .f32⟩
  | .hbm, ⟨15, _⟩ => ⟨S_, .f32⟩
  | .hbm, ⟨16, _⟩ => ⟨S2x10x128x128, .f32⟩
  | .hbm, ⟨17, _⟩ => ⟨S2x10x128x128, .f32⟩
  | .hbm, ⟨18, _⟩ => ⟨S2x10x128x128, .f32⟩
  | .hbm, ⟨19, _⟩ => ⟨S_, .f32⟩
  | .hbm, ⟨20, _⟩ => ⟨S2x10x128x128, .f32⟩
  | .hbm, ⟨21, _⟩ => ⟨S2x10x128x128, .f32⟩
  | .hbm, ⟨22, _⟩ => ⟨S_, .f32⟩
  | .hbm, ⟨23, _⟩ => ⟨S2x10x128x128, .f32⟩
  | .hbm, ⟨24, _⟩ => ⟨S2x10x128x128, .f32⟩
  | .hbm, ⟨25, _⟩ => ⟨S2x10x128x128, .f32⟩
  | .hbm, ⟨26, _⟩ => ⟨S_, .f32⟩
  | .hbm, ⟨27, _⟩ => ⟨S2x10x128x128, .f32⟩
  | .hbm, ⟨28, _⟩ => ⟨S2x10x128x128, .f32⟩
  | .hbm, ⟨29, _⟩ => ⟨S2x10x128x128, .f32⟩
  | .hbm, ⟨30, _⟩ => ⟨S_, .f32⟩
  | .hbm, ⟨31, _⟩ => ⟨S2x10x128x128, .f32⟩
  | .hbm, ⟨32, _⟩ => ⟨S2x10x128x128, .f32⟩
  | .hbm, ⟨33, _⟩ => ⟨S2x10x128x128, .f32⟩
  | .hbm, ⟨34, _⟩ => ⟨S_, .f32⟩
  | .hbm, ⟨35, _⟩ => ⟨S2x10x128x128, .f32⟩
  | .hbm, ⟨36, _⟩ => ⟨S2x10x128x128, .f32⟩
  | .hbm, ⟨37, _⟩ => ⟨S2560x128, .f32⟩
  | .hbm, ⟨38, _⟩ => ⟨S2560x128, .f32⟩
  | .hbm, ⟨39, _⟩ => ⟨S2560x128, .f32⟩
  | _, _ => ⟨S2x10x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S2x1280 : Shape := ⟨2, ![2, 1280]⟩

abbrev nBuf : Space → Nat
  | .hbm => 7
  | .vmem => 7
  | .smem => 0
  | _ => 0

abbrev bufTy : (tb : Table) → Fin (tcTables nBuf tb) → BufTy
  | .hbm, ⟨0, _⟩ => ⟨S2x1280, .f32⟩
  | .hbm, ⟨1, _⟩ => ⟨S2x1280, .f32⟩
  | .hbm, ⟨2, _⟩ => ⟨S2x1280, .f32⟩
  | .hbm, ⟨3, _⟩ => ⟨S2x1280, .f32⟩
  | .hbm, ⟨4, _⟩ => ⟨S2x1280, .f32⟩
  | .hbm, ⟨5, _⟩ => ⟨S2x1280, .f32⟩
  | .hbm, ⟨6, _⟩ => ⟨S2x1280, .f32⟩
  | .local _ .vmem, ⟨0, _⟩ => ⟨S2x1280, .f32⟩
  | .local _ .vmem, ⟨1, _⟩ => ⟨S2x1280, .f32⟩
  | .local _ .vmem, ⟨2, _⟩ => ⟨S2x1280, .f32⟩
  | .local _ .vmem, ⟨3, _⟩ => ⟨S2x1280, .f32⟩
  | .local _ .vmem, ⟨4, _⟩ => ⟨S2x1280, .f32⟩
  | .local _ .vmem, ⟨5, _⟩ => ⟨S2x1280, .f32⟩
  | .local _ .vmem, ⟨6, _⟩ => ⟨S2x1280, .f32⟩
  | _, _ => ⟨S2x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S2x1280 : Shape := ⟨2, ![2, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1280, .f32⟩
  | .hbm, ⟨1, _⟩ => ⟨S2x1280, .f32⟩
  | .hbm, ⟨2, _⟩ => ⟨S2x1280, .f32⟩
  | .hbm, ⟨3, _⟩ => ⟨S2x1280, .f32⟩
  | .hbm, ⟨4, _⟩ => ⟨S_, .f32⟩
  | .hbm, ⟨5, _⟩ => ⟨S2x1280, .f32⟩
  | .hbm, ⟨6, _⟩ => ⟨S2x1280, .f32⟩
  | .hbm, ⟨7, _⟩ => ⟨S_, .f32⟩
  | .hbm, ⟨8, _⟩ => ⟨S2x1280, .f32⟩
  | .hbm, ⟨9, _⟩ => ⟨S2x1280, .f32⟩
  | .hbm, ⟨10, _⟩ => ⟨S2x1280, .f32⟩
  | .hbm, ⟨11, _⟩ => ⟨S_, .f32⟩
  | .hbm, ⟨12, _⟩ => ⟨S2x1280, .f32⟩
  | .hbm, ⟨13, _⟩ => ⟨S2x1280, .f32⟩
  | .hbm, ⟨14, _⟩ => ⟨S2x1280, .f32⟩
  | .hbm, ⟨15, _⟩ => ⟨S_, .f32⟩
  | .hbm, ⟨16, _⟩ => ⟨S2x1280, .f32⟩
  | .hbm, ⟨17, _⟩ => ⟨S2x1280, .f32⟩
  | .hbm, ⟨18, _⟩ => ⟨S2x1280, .f32⟩
  | .hbm, ⟨19, _⟩ => ⟨S_, .f32⟩
  | .hbm, ⟨20, _⟩ => ⟨S2x1280, .f32⟩
  | .hbm, ⟨21, _⟩ => ⟨S2x1280, .f32⟩
  | .hbm, ⟨22, _⟩ => ⟨S_, .f32⟩
  | .hbm, ⟨23, _⟩ => ⟨S2x1280, .f32⟩
  | .hbm, ⟨24, _⟩ => ⟨S2x1280, .f32⟩
  | .hbm, ⟨25, _⟩ => ⟨S2x1280, .f32⟩
  | .hbm, ⟨26, _⟩ => ⟨S_, .f32⟩
  | .hbm, ⟨27, _⟩ => ⟨S2x1280, .f32⟩
  | .hbm, ⟨28, _⟩ => ⟨S2x1280, .f32⟩
  | .hbm, ⟨29, _⟩ => ⟨S2x1280, .f32⟩
  | .hbm, ⟨30, _⟩ => ⟨S_, .f32⟩
  | .hbm, ⟨31, _⟩ => ⟨S2x1280, .f32⟩
  | .hbm, ⟨32, _⟩ => ⟨S2x1280, .f32⟩
  | .hbm, ⟨33, _⟩ => ⟨S2x1280, .f32⟩
  | .hbm, ⟨34, _⟩ => ⟨S_, .f32⟩
  | .hbm, ⟨35, _⟩ => ⟨S2x1280, .f32⟩
  | .hbm, ⟨36, _⟩ => ⟨S2x1280, .f32⟩
  | _, _ => ⟨S2x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S1x1 : Shape := ⟨2, ![1, 1]⟩
abbrev S512x1024 : Shape := ⟨2, ![512, 1024]⟩
abbrev S512x256 : Shape := ⟨2, ![512, 256]⟩
abbrev S1024 : Shape := ⟨1, ![1024]⟩
abbrev S1x1024 : Shape := ⟨2, ![1, 1024]⟩
abbrev S1 : Shape := ⟨1, ![1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .bf16⟩
  | .hbm, ⟨3, _⟩ => ⟨S1024x1024, .bf16⟩
  | .hbm, ⟨4, _⟩ => ⟨S8192x1024, .f32⟩
  | .hbm, ⟨5, _⟩ => ⟨S8192x1024, .f32⟩
  | .hbm, ⟨6, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference29Ideal.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .bf16⟩
  | .hbm, ⟨3, _⟩ => ⟨S1024x1024, .bf16⟩
  | .hbm, ⟨4, _⟩ => ⟨S8192x1024, .f32⟩
  | .hbm, ⟨5, _⟩ => ⟨S256x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel30.lean ====
abbrev S8192x1280 : Shape := ⟨2, ![8192, 1280]⟩
abbrev S4x1280 : Shape := ⟨2, ![4, 1280]⟩
abbrev S1x1280 : Shape := ⟨2, ![1, 1280]⟩
abbrev S512x1280 : Shape := ⟨2, ![512, 1280]⟩
abbrev S16x1280 : Shape := ⟨2, ![16, 1280]⟩
abbrev S8x1280 : Shape := ⟨2, ![8, 1280]⟩
abbrev S1280 : Shape := ⟨1, ![1280]⟩
abbrev S504x1280 : Shape := ⟨2, ![504, 1280]⟩

abbrev nBuf : Space → Nat
  | .hbm => 6
  | .vmem => 13
  | .smem => 0
  | _ => 0

abbrev bufTy : (tb : Table) → Fin (tcTables nBuf tb) → BufTy
  | .hbm, ⟨0, _⟩ => ⟨S8192x1280, .bf16⟩
  | .hbm, ⟨1, _⟩ => ⟨S8192x1280, .bf16⟩
  | .hbm, ⟨2, _⟩ => ⟨S4x1280, .f32⟩
  | .hbm, ⟨3, _⟩ => ⟨S8192x1280, .bf16⟩
  | .hbm, ⟨4, _⟩ => ⟨S4x1280, .f32⟩
  | .hbm, ⟨5, _⟩ => ⟨S1x1280, .f32⟩
  | .local _ .vmem, ⟨0, _⟩ => ⟨S512x1280, .bf16⟩
  | .local _ .vmem, ⟨1, _⟩ => ⟨S512x1280, .bf16⟩
  | .local _ .vmem, ⟨2, _⟩ => ⟨S16x1280, .bf16⟩
  | .local _ .vmem, ⟨3, _⟩ => ⟨S16x1280, .bf16⟩
  | .local _ .vmem, ⟨4, _⟩ => ⟨S512x1280, .bf16⟩
  | .local _ .vmem, ⟨5, _⟩ => ⟨S512x1280, .bf16⟩
  | .local _ .vmem, ⟨6, _⟩ => ⟨S16x1280, .bf16⟩
  | .local _ .vmem, ⟨7, _⟩ => ⟨S16x1280, .bf16⟩
  | .local _ .vmem, ⟨8, _⟩ => ⟨S4x1280, .f32⟩
  | .local _ .vmem, ⟨9, _⟩ => ⟨S512x1280, .bf16⟩
  | .local _ .vmem, ⟨10, _⟩ => ⟨S512x1280, .bf16⟩
  | .local _ .vmem, ⟨11, _⟩ => ⟨S4x1280, .f32⟩
  | .local _ .vmem, ⟨12, _⟩ => ⟨S1x1280, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference30Ideal.lean ====
abbrev S8192x1280 : Shape := ⟨2, ![8192, 1280]⟩
abbrev S4x1280 : Shape := ⟨2, ![4, 1280]⟩
abbrev S_ : Shape := ⟨0, ![]⟩
abbrev S1x1280 : Shape := ⟨2, ![1, 1280]⟩
abbrev S3x1280 : Shape := ⟨2, ![3, 1280]⟩
abbrev S8195x1280 : Shape := ⟨2, ![8195, 1280]⟩
abbrev S1280 : Shape := ⟨1, ![1280]⟩

abbrev nBuf : Space → Nat
  | .hbm => 108
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1280, .bf16⟩
  | .hbm, ⟨2, _⟩ => ⟨S4x1280, .f32⟩
  | .hbm, ⟨3, _⟩ => ⟨S8192x1280, .f32⟩
  | .hbm, ⟨4, _⟩ => ⟨S_, .f32⟩
  | .hbm, ⟨5, _⟩ => ⟨S1x1280, .f32⟩
  | .hbm, ⟨6, _⟩ => ⟨S_, .f32⟩
  | .hbm, ⟨7, _⟩ => ⟨S3x1280, .f32⟩
  | .hbm, ⟨8, _⟩ => ⟨S8195x1280, .f32⟩
  | .hbm, ⟨9, _⟩ => ⟨S_, .f32⟩
  | .hbm, ⟨10, _⟩ => ⟨S3x1280, .f32⟩
  | .hbm, ⟨11, _⟩ => ⟨S1x1280, .f32⟩
  | .hbm, ⟨12, _⟩ => ⟨S1280, .f32⟩
  | .hbm, ⟨13, _⟩ => ⟨S8192x1280, .f32⟩
  | .hbm, ⟨14, _⟩ => ⟨S1x1280, .f32⟩
  | .hbm, ⟨15, _⟩ => ⟨S8192x1280, .f32⟩
  | .hbm, ⟨16, _⟩ => ⟨S8192x1280, .f32⟩
  | .hbm, ⟨17, _⟩ => ⟨S_, .f32⟩
  | .hbm, ⟨18, _⟩ => ⟨S8192x1280, .f32⟩
  | .hbm, ⟨19, _⟩ => ⟨S8192x1280, .f32⟩
  | .hbm, ⟨20, _⟩ => ⟨S1x1280, .f32⟩
  | .hbm, ⟨21, _⟩ => ⟨S1280, .f32⟩
  | .hbm, ⟨22, _⟩ => ⟨S8192x1280, .f32⟩
  | .hbm, ⟨23, _⟩ => ⟨S1x1280, .f32⟩
  | .hbm, ⟨24, _⟩ => ⟨S8192x1280, .f32⟩
  | .hbm, ⟨25, _⟩ => ⟨S8192x1280, .f32⟩
  | .hbm, ⟨26, _⟩ => ⟨S8192x1280, .f32⟩
  | .hbm, ⟨27, _⟩ => ⟨S1x1280, .f32⟩
  | .hbm, ⟨28, _⟩ => ⟨S1280, .f32⟩
  | .hbm, ⟨29, _⟩ => ⟨S8192x1280, .f32⟩
  | .hbm, ⟨30, _⟩ => ⟨S1x1280, .f32⟩
  | .hbm, ⟨31, _⟩ => ⟨S8192x1280, .f32⟩
  | .hbm, ⟨32, _⟩ => ⟨S8192x1280, .f32⟩
  | .hbm, ⟨33, _⟩ => ⟨S8192x1280, .f32⟩
  | .hbm, ⟨34, _⟩ => ⟨S1x1280, .f32⟩
  | .hbm, ⟨35, _⟩ => ⟨S1280, .f32⟩
  | .hbm, ⟨36, _⟩ => ⟨S8192x1280, .f32⟩
  | .hbm, ⟨37, _⟩ => ⟨S1x1280, .f32⟩
  | .hbm, ⟨38, _⟩ => ⟨S8192x1280, .f32⟩
  | .hbm, ⟨39, _⟩ => ⟨S8192x1280, .f32⟩
  | .hbm, ⟨40, _⟩ => ⟨S8192x1280, .f32⟩
  | .hbm, ⟨41, _⟩ => ⟨S8192x1280, .f32⟩
  | .hbm, ⟨42, _⟩ => ⟨S8192x1280, .f32⟩
  | .hbm, ⟨43, _⟩ => ⟨S8192x1280, .f32⟩
  | .hbm, ⟨44, _⟩ => ⟨S_, .f32⟩
  | .hbm, ⟨45, _⟩ => ⟨S1280, .f32⟩
  | .hbm, ⟨46, _⟩ => ⟨S1x1280, .f32⟩
  | .hbm, ⟨47, _⟩ => ⟨S8192x1280, .f32⟩
  | .hbm, ⟨48, _⟩ => ⟨S8192x1280, .f32⟩
  | .hbm, ⟨49, _⟩ => ⟨S8192x1280, .f32⟩
  | .hbm, ⟨50, _⟩ => ⟨S_, .f32⟩
  | .hbm, ⟨51, _⟩ => ⟨S1280, .f32⟩
  | .hbm, ⟨52, _⟩ => ⟨S1x1280, .f32⟩
  | .hbm, ⟨53, _⟩ => ⟨S_, .f32⟩
  | .hbm, ⟨54, _⟩ => ⟨S1280, .f32⟩
  | .hbm, ⟨55, _⟩ => ⟨S_, .f32⟩
  | .hbm, ⟨56, _⟩ => ⟨S8195x1280, .f32⟩
  | .hbm, ⟨57, _⟩ => ⟨S1x1280, .f32⟩
  | .hbm, ⟨58, _⟩ => ⟨S_, .f32⟩
  | .hbm, ⟨59, _⟩ => ⟨S4x1280, .f32⟩
  | .hbm, ⟨60, _⟩ => ⟨S8192x1280, .f32⟩
  | .hbm, ⟨61, _⟩ => ⟨S8192x1280, .f32⟩
  | .hbm, ⟨62, _⟩ => ⟨S8192x1280, .f32⟩
  | .hbm, ⟨63, _⟩ => ⟨S_, .f32⟩
  | .hbm, ⟨64, _⟩ => ⟨S1280, .f32⟩
  | .hbm, ⟨65, _⟩ => ⟨S1x1280, .f32⟩
  | .hbm, ⟨66, _⟩ => ⟨S_, .f32⟩
  | .hbm, ⟨67, _⟩ => ⟨S1280, .f32⟩
  | .hbm, ⟨68, _⟩ => ⟨S_, .f32⟩
  | .hbm, ⟨69, _⟩ => ⟨S8195x1280, .f32⟩
  | .hbm, ⟨70, _⟩ => ⟨S8195x1280, .f32⟩
  | .hbm, ⟨71, _⟩ => ⟨S1x1280, .f32⟩
  | .hbm, ⟨72, _⟩ => ⟨S_, .f32⟩
  | .hbm, ⟨73, _⟩ => ⟨S4x1280, .f32⟩
  | .hbm, ⟨74, _⟩ => ⟨S4x1280, .f32⟩
  | .hbm, ⟨75, _⟩ => ⟨S8192x1280, .f32⟩
  | .hbm, ⟨76, _⟩ => ⟨S8192x1280, .f32⟩
  | .hbm, ⟨77, _⟩ => ⟨S8192x1280, .f32⟩
  | .hbm, ⟨78, _⟩ => ⟨S_, .f32⟩
  | .hbm, ⟨79, _⟩ => ⟨S1280, .f32⟩
  | .hbm, ⟨80, _⟩ => ⟨S1x1280, .f32⟩
  | .hbm, ⟨81, _⟩ => ⟨S_, .f32⟩
  | .hbm, ⟨82, _⟩ => ⟨S1280, .f32⟩
  | .hbm, ⟨83, _⟩ => ⟨S_, .f32⟩
  | .hbm, ⟨84, _⟩ => ⟨S8195x1280, .f32⟩
  | .hbm, ⟨85, _⟩ => ⟨S8195x1280, .f32⟩
  | .hbm, ⟨86, _⟩ => ⟨S1x1280, .f32⟩
  | .hbm, ⟨87, _⟩ => ⟨S_, .f32⟩
  | .hbm, ⟨88, _⟩ => ⟨S4x1280, .f32⟩
  | .hbm, ⟨89, _⟩ => ⟨S4x1280, .f32⟩
  | .hbm, ⟨90, _⟩ => ⟨S8192x1280, .f32⟩
  | .hbm, ⟨91, _⟩ => ⟨S8192x1280, .f32⟩
  | .hbm, ⟨92, _⟩ => ⟨S8192x1280, .f32⟩
  | .hbm, ⟨93, _⟩ => ⟨S_, .f32⟩
  | .hbm, ⟨94, _⟩ => ⟨S1280, .f32⟩
  | .hbm, ⟨95, _⟩ => ⟨S1x1280, .f32⟩
  | .hbm, ⟨96, _⟩ => ⟨S_, .f32⟩
  | .hbm, ⟨97, _⟩ => ⟨S1280, .f32⟩
  | .hbm, ⟨98, _⟩ => ⟨S_, .f32⟩
  | .hbm, ⟨99, _⟩ => ⟨S8195x1280, .f32⟩
  | .hbm, ⟨100, _⟩ => ⟨S8195x1280, .f32⟩
  | .hbm, ⟨101, _⟩ => ⟨S1x1280, .f32⟩
  | .hbm, ⟨102, _⟩ => ⟨S_, .f32⟩
  | .hbm, ⟨103, _⟩ => ⟨S4x1280, .f32⟩
  | .hbm, ⟨104, _⟩ => ⟨S4x1280, .f32⟩
  | .hbm, ⟨105, _⟩ => ⟨S3x1280, .f32⟩
  | .hbm, ⟨106, _⟩ => ⟨S8192x1280, .f32⟩
  | .hbm, ⟨107, _⟩ => ⟨S8192x1280, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_cst_18 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_19 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Proof.LruSpec.lean ====
/-
  What one block of eight rows of the reverse scan computes, for any float values: the kernel's own operations on one
  group of 128 lanes, and from them the contents the body leaves in the output block and in the two carried scratches.
-/
module

public import proofs.«01_k».proof.Proof.Gen.KernelIdeal.Loops
public import Idealize.ShloMosaic.Lib.Pipeline.Value

@[expose] public section

set_option maxRecDepth 16384

noncomputable section

namespace Cert.KernelIdeal.Lru

open Idealize.ShloMosaic Idealize.ShloMosaic.TcCoe
open Cert.KernelIdeal Cert.KernelIdeal.Gen

variable {F : FTy → Type} [FloatOps F]

/-- An index of a matrix, its coordinates taken modulo the extents. -/
def at2 {n0 n1 : ℕ} (h0 : 0 < n0) (h1 : 0 < n1) (r l : ℕ) : (⟨2, ![n0, n1]⟩ : Shape).Idx :=
  fun a => match a with
    | ⟨0, _⟩ => ⟨r % n0, Nat.mod_lt _ h0⟩
    | ⟨1, _⟩ => ⟨l % n1, Nat.mod_lt _ h1⟩

/-- The row numbers of a block, as the kernel has them. -/
abbrev rows8 : IVec S8x128 32 := iota .tc S8x128 32 [0] (by decide)

/-- Rows `8 (127 - k)` to `8 (127 - k) + 7`, lanes `128 q` to `128 q + 127`, of a tile. -/
def rowBlk (x : Vec F S1024x1280 .f32) (k q : ℕ) : Vec F S8x128 .f32 :=
  fun j => x (at2 (by decide) (by decide) (1016 - 8 * k + (j 0).val) (128 * q + (j 1).val))

/-- Lanes `128 q` to `128 q + 127` of a carried scratch. -/
def laneBlk (x : Vec F S8x1280 .f32) (q : ℕ) : Vec F S8x128 .f32 :=
  fun j => x (at2 (by decide) (by decide) (j 0).val (128 * q + (j 1).val))

/-- The gradients of a block of eight rows: the kernel's three doubling steps over the block's decays `aw` (moved up by
    one row, the last row's from `ca`) and cotangents `xw`, then the carried gradient `cg`. -/
def blk (aw xw cg ca : Vec F S8x128 .f32) : Vec F S8x128 .f32 :=
  k0_pay13 cg (k0_pay11 rows8 ca aw xw) (k0_pay12 rows8 ca aw)

/-- The first row of the block's gradients in every row, -/
def blkG (aw xw cg ca : Vec F S8x128 .f32) : Vec F S8x128 .f32 :=
  k0_pay14 cg (k0_pay11 rows8 ca aw xw) (k0_pay12 rows8 ca aw)

/-- and of its decays. -/
def blkA (aw : Vec F S8x128 .f32) : Vec F S8x128 .f32 := k0_pay15 aw

/-- What a lane group carries before block `k` (counted from the last), from `c` before the first. -/
def carry (x1 x2 : Vec F S1024x1280 .f32) (q : ℕ) (c : Vec F S8x128 .f32 × Vec F S8x128 .f32) :
    ℕ → Vec F S8x128 .f32 × Vec F S8x128 .f32
  | 0 => c
  | k + 1 => (blkG (rowBlk x2 k q) (rowBlk x1 k q) (carry x1 x2 q c k).1 (carry x1 x2 q c k).2, blkA (rowBlk x2 k q))

/-- The output block: entry `(r, l)` is from block `127 - r / 8` of lane group `l / 128`. -/
def gOut (x1 x2 : Vec F S1024x1280 .f32) (c : ℕ → Vec F S8x128 .f32 × Vec F S8x128 .f32) : Vec F S1024x1280 .f32 :=
  fun y =>
    let k := 127 - (y 0).val / 8
    let q := (y 1).val / 128
    blk (rowBlk x2 k q) (rowBlk x1 k q) (carry x1 x2 q (c q) k).1 (carry x1 x2 q (c q) k).2
      (at2 (by decide) (by decide) (y 0).val (y 1).val)

/-- What the two scratches end with: each lane group's carried values after its last block. -/
def cgOut (x1 x2 : Vec F S1024x1280 .f32) (c : ℕ → Vec F S8x128 .f32 × Vec F S8x128 .f32) : Vec F S8x1280 .f32 :=
  fun y => (carry x1 x2 ((y 1).val / 128) (c ((y 1).val / 128)) 128).1 (at2 (by decide) (by decide) (y 0).val (y 1).val)
def caOut (x1 x2 : Vec F S1024x1280 .f32) (c : ℕ → Vec F S8x128 .f32 × Vec F S8x128 .f32) : Vec F S8x1280 .f32 :=
  fun y => (carry x1 x2 ((y 1).val / 128) (c ((y 1).val / 128)) 128).2 (at2 (by decide) (by decide) (y 0).val (y 1).val)

/-- The carried pairs a point starts with, of the scratches' contents. -/
def pairs (s0 s1 : Vec F S8x1280 .f32) (q : ℕ) : Vec F S8x128 .f32 × Vec F S8x128 .f32 := (laneBlk s0 q, laneBlk s1 q)

/-- A load of a block's rows in a lane group. -/
theorem readAt_row (v : View sig .tc .vmem S1024x1280 .f32) (X : BufTy.Contents (Elt F) v.ty) (off : Fin 2 → ℕ)
    (inb : ∀ a, off a + S8x128.size a ≤ S1024x1280.size a) (k q : ℕ) (hk : k < 128) (hq : q < 10)
    (h : off = ![1016 - 8 * k, 128 * q]) :
    v.readAt (Elt F) (Rect.unit (s := S1024x1280) off S8x128.size inb).toLoadRect X = rowBlk (v.read (Elt F) X) k q := by
  subst h
  funext j
  rw [View.readAt_apply]
  unfold rowBlk
  congr 1
  funext a
  apply Fin.ext
  have h0 : (j 0).val < 8 := (j 0).isLt
  have h1 : (j 1).val < 128 := (j 1).isLt
  match a with
  | ⟨0, _⟩ =>
    show 1016 - 8 * k + 1 * (j 0).val = (1016 - 8 * k + (j 0).val) % 1024
    rw [Nat.mod_eq_of_lt (by omega)]; omega
  | ⟨1, _⟩ =>
    show 128 * q + 1 * (j 1).val = (128 * q + (j 1).val) % 1280
    rw [Nat.mod_eq_of_lt (by omega)]; omega

/-- A block's gradients are the output block's entries at its rows and lanes. -/
theorem blk_eq_gOut (x1 x2 : Vec F S1024x1280 .f32) (c : ℕ → Vec F S8x128 .f32 × Vec F S8x128 .f32) (off : Fin 2 → ℕ)
    (inb : ∀ a, off a + S8x128.size a ≤ S1024x1280.size a) (k q : ℕ) (hk : k < 128) (hq : q < 10)
    (h : off = ![1016 - 8 * k, 128 * q]) (x : (Rect.unit (s := S1024x1280) off S8x128.size inb).shape.Idx) :
    blk (rowBlk x2 k q) (rowBlk x1 k q) (carry x1 x2 q (c q) k).1 (carry x1 x2 q (c q) k).2 x
      = gOut x1 x2 c ((Rect.unit (s := S1024x1280) off S8x128.size inb).emb x) := by
  subst h
  have h0 : (x 0).val < 8 := (x 0).isLt
  have h1 : (x 1).val < 128 := (x 1).isLt
  have e0 : ((Rect.unit (s := S1024x1280) ![1016 - 8 * k, 128 * q] S8x128.size inb).emb x 0).val = 1016 - 8 * k + (x 0).val := by
    show 1016 - 8 * k + 1 * (x 0).val = _; omega
  have e1 : ((Rect.unit (s := S1024x1280) ![1016 - 8 * k, 128 * q] S8x128.size inb).emb x 1).val = 128 * q + (x 1).val := by
    show 128 * q + 1 * (x 1).val = _; omega
  unfold gOut
  dsimp only
  rw [e0, e1, show 127 - (1016 - 8 * k + (x 0).val) / 8 = k by omega, show (128 * q + (x 1).val) / 128 = q by omega]
  congr 1
  funext a
  apply Fin.ext
  match a with
  | ⟨0, _⟩ => show (x 0).val = (1016 - 8 * k + (x 0).val) % 8; omega
  | ⟨1, _⟩ => show (x 1).val = (128 * q + (x 1).val) % 128; omega

end Cert.KernelIdeal.Lru

end
-- ==== Proof.LruMath.lean ====
/-
  One block of eight rows at the ideal values, on finite data: the three doubling steps and the carried pair are the
  recurrence run row by row.
-/
module

public import proofs.«01_k».proof.Proof.LruSpec
public import Idealize.ShloMosaic.Lib.Pointwise

@[expose] public section

set_option maxRecDepth 16384

noncomputable section

namespace Cert.KernelIdeal.Lru

open Idealize.ShloMosaic Idealize.ShloMosaic.TcCoe
open Cert.KernelIdeal Cert.KernelIdeal.Gen

/-- What the reverse recurrence carries into step `n` (steps count from the last row): `a` times the gradient before. -/
def carried (a x : ℕ → ℝ) : ℕ → ℝ
  | 0 => 0
  | n + 1 => a n * (carried a x n + x n)

/-- The gradient at step `n`. -/
def grad (a x : ℕ → ℝ) (n : ℕ) : ℝ := carried a x n + x n

/-- Index `(r, l)` of a block. -/
abbrev bi (r l : ℕ) : S8x128.Idx := at2 (by decide) (by decide) r l

/-- Lane `l` of `v` holds the real numbers `f`, row by row. -/
def Rows (l : ℕ) (v : Vec Ideal S8x128 .f32) (f : ℕ → ℝ) : Prop := ∀ r, r < 8 → v (bi r l) = ((f r : ℝ) : EReal)

theorem Rows.rot {l : ℕ} {v : Vec Ideal S8x128 .f32} {f : ℕ → ℝ} (h : Rows l v f) (n : BitVec 32) (hn : n.toNat < 8)
    (hr : S8x128.Rotates 0 none) : Rows l (dynamicRotate 0 n none v hr) (fun r => f ((r + 8 - n.toNat) % 8)) := by
  intro r hr8
  rw [Pointwise.dynamicRotate_apply, ← h ((r + 8 - n.toNat) % 8) (Nat.mod_lt _ (by decide))]
  congr 1
  funext a
  apply Fin.ext
  match a with
  | ⟨0, _⟩ =>
    show (r % 8 + 8 - (n.toNat + 0) % 8) % 8 = (r + 8 - n.toNat) % 8 % 8
    have := Nat.mod_eq_of_lt hr8
    have := Nat.mod_eq_of_lt hn
    omega
  | ⟨1, _⟩ => rfl

theorem Rows.mul {l : ℕ} {v w : FVec Ideal S8x128 .f32} {f g : ℕ → ℝ} (h : Rows l v f) (k : Rows l w g) :
    Rows l (mulf v w) (fun r => f r * g r) := by
  intro r hr
  show v (bi r l) * w (bi r l) = _
  rw [h r hr, k r hr, EReal.coe_mul]

theorem Rows.add {l : ℕ} {v w : FVec Ideal S8x128 .f32} {f g : ℕ → ℝ} (h : Rows l v f) (k : Rows l w g) :
    Rows l (addf v w) (fun r => f r + g r) := by
  intro r hr
  show v (bi r l) + w (bi r l) = _
  rw [h r hr, k r hr, EReal.coe_add]

theorem Rows.zero (l : ℕ) : Rows l (broadcast S8x128 (Scalar.ofBits .f32 0x00000000#32 : Ideal .f32)) (fun _ => 0) := by
  intro r hr
  pointwise
  rfl

theorem Rows.sel {l : ℕ} {v w : Vec Ideal S8x128 .f32} {f g : ℕ → ℝ} (h : Rows l v f) (k : Rows l w g)
    (m : IVec S8x128 1) (c : ℕ → Bool) (hm : ∀ r, r < 8 → m (bi r l) = BitVec.ofBool (c r)) :
    Rows l (select m v w) (fun r => if c r then f r else g r) := by
  intro r hr
  show Scalar.select (m (bi r l)) (v (bi r l)) (w (bi r l)) = _
  rw [h r hr, k r hr, hm r hr]
  cases h' : c r <;> simp [Scalar.select, h']

theorem mask_le (l : ℕ) (n : BitVec 32) (k : ℕ) (hk : n = BitVec.ofNat 32 k) (h8 : k < 8) (r : ℕ) (hr : r < 8) :
    (cmpi .sle rows8 (broadcast S8x128 n) : IVec S8x128 1) (bi r l) = BitVec.ofBool (decide (r ≤ k)) := by
  subst hk
  pointwise
  show IntOp.cmpi .sle (BitVec.ofNat 32 (r % 8)) (BitVec.ofNat 32 k) = _
  interval_cases r <;> interval_cases k <;> rfl

theorem mask_last (l : ℕ) (r : ℕ) (hr : r < 8) :
    (cmpi .eq rows8 (broadcast S8x128 7#32) : IVec S8x128 1) (bi r l) = BitVec.ofBool (decide (r = 7)) := by
  pointwise
  show IntOp.cmpi .eq (BitVec.ofNat 32 (r % 8)) 7#32 = _
  interval_cases r <;> rfl

/-- A block's gradients, on finite data whose carried pair multiplies to what the recurrence carries. -/
theorem blk_real (a x : ℕ → ℝ) (n : ℕ) (l : ℕ) (aw xw cg ca : Vec Ideal S8x128 .f32) (A G : ℝ)
    (hA : Rows l aw fun r => a (n + 7 - r)) (hX : Rows l xw fun r => x (n + 7 - r))
    (hg : Rows l cg fun _ => G) (ha : Rows l ca fun _ => A)
    (hS : A * G = carried a x n) : Rows l (blk aw xw cg ca) fun r => grad a x (n + 7 - r) := by
  have h5 : Rows l (k0_pay5 rows8 ca aw) _ := ha.sel (hA.rot 7#32 (by decide) _) _ _ (mask_last l)
  have h7 : Rows l (k0_pay7 rows8 ca aw) _ := (h5.mul (h5.rot 7#32 (by decide) _)).sel h5 _ _ (mask_le l 6#32 6 rfl (by decide))
  have h9 : Rows l (k0_pay9 rows8 ca aw) _ := (h7.mul (h7.rot 6#32 (by decide) _)).sel h7 _ _ (mask_le l 5#32 5 rfl (by decide))
  have h12 : Rows l (k0_pay12 rows8 ca aw) _ := (h9.mul (h9.rot 4#32 (by decide) _)).sel h9 _ _ (mask_le l 3#32 3 rfl (by decide))
  have x1 := hX.add ((h5.mul (hX.rot 7#32 (by decide) rotates_S8x128_d0)).sel (Rows.zero l) _ _ (mask_le l 6#32 6 rfl (by decide)))
  have x2 := x1.add ((h7.mul (x1.rot 6#32 (by decide) rotates_S8x128_d0)).sel (Rows.zero l) _ _ (mask_le l 5#32 5 rfl (by decide)))
  have x3 : Rows l (k0_pay11 rows8 ca aw xw) _ :=
    x2.add ((h9.mul (x2.rot 4#32 (by decide) rotates_S8x128_d0)).sel (Rows.zero l) _ _ (mask_le l 3#32 3 rfl (by decide)))
  have h := x3.add (h12.mul hg)
  intro r hr
  refine (h r hr).trans (congrArg _ ?_)
  clear h x3 x2 x1 h12 h9 h7 h5 hA hX hg ha
  interval_cases r <;>
    simp [grad, carried, ← hS] <;> ring

/-- The carried pair of the next block, in every row. -/
theorem blkG_real (a x : ℕ → ℝ) (n : ℕ) (l : ℕ) (aw xw cg ca : Vec Ideal S8x128 .f32) (A G : ℝ)
    (hA : Rows l aw fun r => a (n + 7 - r)) (hX : Rows l xw fun r => x (n + 7 - r))
    (hg : Rows l cg fun _ => G) (ha : Rows l ca fun _ => A)
    (hS : A * G = carried a x n) : Rows l (blkG aw xw cg ca) fun _ => grad a x (n + 7) := by
  intro r hr
  refine Eq.trans ?_ (blk_real a x n l aw xw cg ca A G hA hX hg ha hS 0 (by decide))
  unfold blkG k0_pay14 blk
  pointwise
  congr 1
theorem blkA_real (l : ℕ) (aw : Vec Ideal S8x128 .f32) (f : ℕ → ℝ) (hA : Rows l aw f) : Rows l (blkA aw) fun _ => f 0 := by
  intro r hr
  refine Eq.trans ?_ (hA 0 (by decide))
  unfold blkA k0_pay15
  pointwise
  congr 1

end Cert.KernelIdeal.Lru

end
-- ==== Proof.LruTrip.lean ====
/-
  The two loops of the reverse scan (lane groups 0 to 4, then 5 to 9): before trip `k` each holds its groups' carried
  pairs, and every piece it has written is the output block's contents at that piece's rows and lanes.
-/
module

public import proofs.«01_k».proof.Proof.LruSpec
public import Idealize.ShloMosaic.Lib.Writes

@[expose] public section

set_option maxRecDepth 16384

noncomputable section

namespace Cert.KernelIdeal.Lru

open Idealize.ShloMosaic Idealize.ShloMosaic.TcCoe
open Cert.KernelIdeal Cert.KernelIdeal.Gen

variable {F : FTy → Type} [FloatOps F]

/-- Five groups' carried pairs before block `k`, as the loop carries them. -/
def acc5 (x1 x2 : Vec F S1024x1280 .f32) (cs : ℕ → Vec F S8x128 .f32 × Vec F S8x128 .f32) (q k : ℕ) :
    Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 :=
  ((carry x1 x2 q (cs q) k).1, (carry x1 x2 q (cs q) k).2,
   (carry x1 x2 (q + 1) (cs (q + 1)) k).1, (carry x1 x2 (q + 1) (cs (q + 1)) k).2,
   (carry x1 x2 (q + 2) (cs (q + 2)) k).1, (carry x1 x2 (q + 2) (cs (q + 2)) k).2,
   (carry x1 x2 (q + 3) (cs (q + 3)) k).1, (carry x1 x2 (q + 3) (cs (q + 3)) k).2,
   (carry x1 x2 (q + 4) (cs (q + 4)) k).1, (carry x1 x2 (q + 4) (cs (q + 4)) k).2)

/-- A group's rows of trip `k` are entries of the output block. -/
theorem piece_ok (x1 x2 : Vec F S1024x1280 .f32) (cs : ℕ → Vec F S8x128 .f32 × Vec F S8x128 .f32) (off : Fin 2 → ℕ)
    (inb : ∀ a, off a + S8x128.size a ≤ S1024x1280.size a) (k q : ℕ) (hk : k < 128) (hq : q < 10)
    (h : off = ![1016 - 8 * k, 128 * q]) (w : (Rect.unit (s := S1024x1280) off S8x128.size inb).shape.Idx → Elt F .f32)
    (hw : w = blk (rowBlk x2 k q) (rowBlk x1 k q) (carry x1 x2 q (cs q) k).1 (carry x1 x2 q (cs q) k).2) :
    ∀ x, w x = gOut x1 x2 cs ((Rect.unit (s := S1024x1280) off S8x128.size inb).emb x) := by
  subst hw
  exact blk_eq_gOut x1 x2 cs off inb k q hk hq h

theorem tripR1_eq (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (X1 : BufTy.Contents (Elt F) arg1.view.ty) (X2 : BufTy.Contents (Elt F) arg2.view.ty) (k : Fin k0_t1_loop.trips) (acc) :
    tripR_k0_t1 (F := F) 𝒱 c bd i arg1 harg1 arg2 harg2 arg3 harg3 arg4 harg4 arg5 harg5 rows8 X1 X2 k acc
      = (blkG (arg2.view.readAt (Elt F) (Rect.unit (s := S1024x1280) (k0_off1 k) S8x128.size (k0_off1_inb k)).toLoadRect X2) (arg1.view.readAt (Elt F) (Rect.unit (s := S1024x1280) (k0_off1 k) S8x128.size (k0_off1_inb k)).toLoadRect X1) acc.1 acc.2.1, blkA (arg2.view.readAt (Elt F) (Rect.unit (s := S1024x1280) (k0_off1 k) S8x128.size (k0_off1_inb k)).toLoadRect X2), blkG (arg2.view.readAt (Elt F) (Rect.unit (s := S1024x1280) (k0_off2 k) S8x128.size (k0_off2_inb k)).toLoadRect X2) (arg1.view.readAt (Elt F) (Rect.unit (s := S1024x1280) (k0_off2 k) S8x128.size (k0_off2_inb k)).toLoadRect X1) acc.2.2.1 acc.2.2.2.1, blkA (arg2.view.readAt (Elt F) (Rect.unit (s := S1024x1280) (k0_off2 k) S8x128.size (k0_off2_inb k)).toLoadRect X2), blkG (arg2.view.readAt (Elt F) (Rect.unit (s := S1024x1280) (k0_off3 k) S8x128.size (k0_off3_inb k)).toLoadRect X2) (arg1.view.readAt (Elt F) (Rect.unit (s := S1024x1280) (k0_off3 k) S8x128.size (k0_off3_inb k)).toLoadRect X1) acc.2.2.2.2.1 acc.2.2.2.2.2.1, blkA (arg2.view.readAt (Elt F) (Rect.unit (s := S1024x1280) (k0_off3 k) S8x128.size (k0_off3_inb k)).toLoadRect X2), blkG (arg2.view.readAt (Elt F) (Rect.unit (s := S1024x1280) (k0_off4 k) S8x128.size (k0_off4_inb k)).toLoadRect X2) (arg1.view.readAt (Elt F) (Rect.unit (s := S1024x1280) (k0_off4 k) S8x128.size (k0_off4_inb k)).toLoadRect X1) acc.2.2.2.2.2.2.1 acc.2.2.2.2.2.2.2.1, blkA (arg2.view.readAt (Elt F) (Rect.unit (s := S1024x1280) (k0_off4 k) S8x128.size (k0_off4_inb k)).toLoadRect X2), blkG (arg2.view.readAt (Elt F) (Rect.unit (s := S1024x1280) (k0_off5 k) S8x128.size (k0_off5_inb k)).toLoadRect X2) (arg1.view.readAt (Elt F) (Rect.unit (s := S1024x1280) (k0_off5 k) S8x128.size (k0_off5_inb k)).toLoadRect X1) acc.2.2.2.2.2.2.2.2.1 acc.2.2.2.2.2.2.2.2.2, blkA (arg2.view.readAt (Elt F) (Rect.unit (s := S1024x1280) (k0_off5 k) S8x128.size (k0_off5_inb k)).toLoadRect X2)) := by
  unfold tripR_k0_t1 trip_k0_t1
  rfl

theorem tripL1_eq (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (X1 : BufTy.Contents (Elt F) arg1.view.ty) (X2 : BufTy.Contents (Elt F) arg2.view.ty) (k : Fin k0_t1_loop.trips) (acc) :
    tripL_k0_t1 (F := F) 𝒱 c bd i arg1 harg1 arg2 harg2 arg3 harg3 arg4 harg4 arg5 harg5 rows8 X1 X2 k acc
      = [⟨Rect.unit (s := S1024x1280) (k0_off5 k) S8x128.size (k0_off5_inb k), blk (arg2.view.readAt (Elt F) (Rect.unit (s := S1024x1280) (k0_off5 k) S8x128.size (k0_off5_inb k)).toLoadRect X2) (arg1.view.readAt (Elt F) (Rect.unit (s := S1024x1280) (k0_off5 k) S8x128.size (k0_off5_inb k)).toLoadRect X1) acc.2.2.2.2.2.2.2.2.1 acc.2.2.2.2.2.2.2.2.2⟩,
       ⟨Rect.unit (s := S1024x1280) (k0_off4 k) S8x128.size (k0_off4_inb k), blk (arg2.view.readAt (Elt F) (Rect.unit (s := S1024x1280) (k0_off4 k) S8x128.size (k0_off4_inb k)).toLoadRect X2) (arg1.view.readAt (Elt F) (Rect.unit (s := S1024x1280) (k0_off4 k) S8x128.size (k0_off4_inb k)).toLoadRect X1) acc.2.2.2.2.2.2.1 acc.2.2.2.2.2.2.2.1⟩,
       ⟨Rect.unit (s := S1024x1280) (k0_off3 k) S8x128.size (k0_off3_inb k), blk (arg2.view.readAt (Elt F) (Rect.unit (s := S1024x1280) (k0_off3 k) S8x128.size (k0_off3_inb k)).toLoadRect X2) (arg1.view.readAt (Elt F) (Rect.unit (s := S1024x1280) (k0_off3 k) S8x128.size (k0_off3_inb k)).toLoadRect X1) acc.2.2.2.2.1 acc.2.2.2.2.2.1⟩,
       ⟨Rect.unit (s := S1024x1280) (k0_off2 k) S8x128.size (k0_off2_inb k), blk (arg2.view.readAt (Elt F) (Rect.unit (s := S1024x1280) (k0_off2 k) S8x128.size (k0_off2_inb k)).toLoadRect X2) (arg1.view.readAt (Elt F) (Rect.unit (s := S1024x1280) (k0_off2 k) S8x128.size (k0_off2_inb k)).toLoadRect X1) acc.2.2.1 acc.2.2.2.1⟩,
       ⟨Rect.unit (s := S1024x1280) (k0_off1 k) S8x128.size (k0_off1_inb k), blk (arg2.view.readAt (Elt F) (Rect.unit (s := S1024x1280) (k0_off1 k) S8x128.size (k0_off1_inb k)).toLoadRect X2) (arg1.view.readAt (Elt F) (Rect.unit (s := S1024x1280) (k0_off1 k) S8x128.size (k0_off1_inb k)).toLoadRect X1) acc.1 acc.2.1⟩] := by
  unfold tripL_k0_t1 trip_k0_t1
  rfl

/-- Before trip `k` loop 1 carries its groups' pairs. -/
theorem carry1 (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (X1 : BufTy.Contents (Elt F) arg1.view.ty) (X2 : BufTy.Contents (Elt F) arg2.view.ty) (cs : ℕ → Vec F S8x128 .f32 × Vec F S8x128 .f32) : ∀ k, k ≤ 128 →
    (st_k0_t1 (F := F) 𝒱 c bd i arg1 harg1 arg2 harg2 arg3 harg3 arg4 harg4 arg5 harg5 rows8 X1 X2 (acc5 (arg1.view.read (Elt F) X1) (arg2.view.read (Elt F) X2) cs 0 0) k).1 = acc5 (arg1.view.read (Elt F) X1) (arg2.view.read (Elt F) X2) cs 0 k := by
  intro k
  induction k with
  | zero => intro _; rfl
  | succ k ih =>
    intro hk1
    have hk' : k < 128 := hk1
    have hk : k < k0_t1_loop.trips := hk'
    rw [show k + 1 = (⟨k, hk⟩ : Fin k0_t1_loop.trips).val + 1 from rfl, st_k0_t1_succ]
    dsimp only
    rw [ih (by omega), tripR1_eq]
    have e10 : (arg1.view.readAt (Elt F) (Rect.unit (s := S1024x1280) (k0_off1 ⟨k, hk⟩) S8x128.size (k0_off1_inb ⟨k, hk⟩)).toLoadRect X1) = rowBlk (arg1.view.read (Elt F) X1) k 0 :=
      readAt_row arg1.view X1 _ _ k 0 hk' (by decide) (k0_off1_eq ⟨k, hk⟩)
    have e20 : (arg2.view.readAt (Elt F) (Rect.unit (s := S1024x1280) (k0_off1 ⟨k, hk⟩) S8x128.size (k0_off1_inb ⟨k, hk⟩)).toLoadRect X2) = rowBlk (arg2.view.read (Elt F) X2) k 0 :=
      readAt_row arg2.view X2 _ _ k 0 hk' (by decide) (k0_off1_eq ⟨k, hk⟩)
    have e11 : (arg1.view.readAt (Elt F) (Rect.unit (s := S1024x1280) (k0_off2 ⟨k, hk⟩) S8x128.size (k0_off2_inb ⟨k, hk⟩)).toLoadRect X1) = rowBlk (arg1.view.read (Elt F) X1) k 1 :=
      readAt_row arg1.view X1 _ _ k 1 hk' (by decide) (k0_off2_eq ⟨k, hk⟩)
    have e21 : (arg2.view.readAt (Elt F) (Rect.unit (s := S1024x1280) (k0_off2 ⟨k, hk⟩) S8x128.size (k0_off2_inb ⟨k, hk⟩)).toLoadRect X2) = rowBlk (arg2.view.read (Elt F) X2) k 1 :=
      readAt_row arg2.view X2 _ _ k 1 hk' (by decide) (k0_off2_eq ⟨k, hk⟩)
    have e12 : (arg1.view.readAt (Elt F) (Rect.unit (s := S1024x1280) (k0_off3 ⟨k, hk⟩) S8x128.size (k0_off3_inb ⟨k, hk⟩)).toLoadRect X1) = rowBlk (arg1.view.read (Elt F) X1) k 2 :=
      readAt_row arg1.view X1 _ _ k 2 hk' (by decide) (k0_off3_eq ⟨k, hk⟩)
    have e22 : (arg2.view.readAt (Elt F) (Rect.unit (s := S1024x1280) (k0_off3 ⟨k, hk⟩) S8x128.size (k0_off3_inb ⟨k, hk⟩)).toLoadRect X2) = rowBlk (arg2.view.read (Elt F) X2) k 2 :=
      readAt_row arg2.view X2 _ _ k 2 hk' (by decide) (k0_off3_eq ⟨k, hk⟩)
    have e13 : (arg1.view.readAt (Elt F) (Rect.unit (s := S1024x1280) (k0_off4 ⟨k, hk⟩) S8x128.size (k0_off4_inb ⟨k, hk⟩)).toLoadRect X1) = rowBlk (arg1.view.read (Elt F) X1) k 3 :=
      readAt_row arg1.view X1 _ _ k 3 hk' (by decide) (k0_off4_eq ⟨k, hk⟩)
    have e23 : (arg2.view.readAt (Elt F) (Rect.unit (s := S1024x1280) (k0_off4 ⟨k, hk⟩) S8x128.size (k0_off4_inb ⟨k, hk⟩)).toLoadRect X2) = rowBlk (arg2.view.read (Elt F) X2) k 3 :=
      readAt_row arg2.view X2 _ _ k 3 hk' (by decide) (k0_off4_eq ⟨k, hk⟩)
    have e14 : (arg1.view.readAt (Elt F) (Rect.unit (s := S1024x1280) (k0_off5 ⟨k, hk⟩) S8x128.size (k0_off5_inb ⟨k, hk⟩)).toLoadRect X1) = rowBlk (arg1.view.read (Elt F) X1) k 4 :=
      readAt_row arg1.view X1 _ _ k 4 hk' (by decide) (k0_off5_eq ⟨k, hk⟩)
    have e24 : (arg2.view.readAt (Elt F) (Rect.unit (s := S1024x1280) (k0_off5 ⟨k, hk⟩) S8x128.size (k0_off5_inb ⟨k, hk⟩)).toLoadRect X2) = rowBlk (arg2.view.read (Elt F) X2) k 4 :=
      readAt_row arg2.view X2 _ _ k 4 hk' (by decide) (k0_off5_eq ⟨k, hk⟩)
    rw [e10, e20, e11, e21, e12, e22, e13, e23, e14, e24]
    rfl

/-- Every piece loop 1 has written before trip `k` is the output block's contents there. -/
theorem pieces1 (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (X1 : BufTy.Contents (Elt F) arg1.view.ty) (X2 : BufTy.Contents (Elt F) arg2.view.ty) (cs : ℕ → Vec F S8x128 .f32 × Vec F S8x128 .f32) : ∀ k, k ≤ 128 →
    ∀ p ∈ (st_k0_t1 (F := F) 𝒱 c bd i arg1 harg1 arg2 harg2 arg3 harg3 arg4 harg4 arg5 harg5 rows8 X1 X2 (acc5 (arg1.view.read (Elt F) X1) (arg2.view.read (Elt F) X2) cs 0 0) k).2, ∀ x, p.2 x = gOut (arg1.view.read (Elt F) X1) (arg2.view.read (Elt F) X2) cs (p.1.emb x) := by
  intro k
  induction k with
  | zero => intro _ p hp; exact absurd hp (List.not_mem_nil)
  | succ k ih =>
    intro hk1
    have hk' : k < 128 := hk1
    have hk : k < k0_t1_loop.trips := hk'
    rw [show k + 1 = (⟨k, hk⟩ : Fin k0_t1_loop.trips).val + 1 from rfl, st_k0_t1_succ]
    dsimp only
    rw [carry1 𝒱 c bd i arg1 harg1 arg2 harg2 arg3 harg3 arg4 harg4 arg5 harg5   X1 X2 cs k (by omega), tripL1_eq]
    have e10 : (arg1.view.readAt (Elt F) (Rect.unit (s := S1024x1280) (k0_off1 ⟨k, hk⟩) S8x128.size (k0_off1_inb ⟨k, hk⟩)).toLoadRect X1) = rowBlk (arg1.view.read (Elt F) X1) k 0 :=
      readAt_row arg1.view X1 _ _ k 0 hk' (by decide) (k0_off1_eq ⟨k, hk⟩)
    have e20 : (arg2.view.readAt (Elt F) (Rect.unit (s := S1024x1280) (k0_off1 ⟨k, hk⟩) S8x128.size (k0_off1_inb ⟨k, hk⟩)).toLoadRect X2) = rowBlk (arg2.view.read (Elt F) X2) k 0 :=
      readAt_row arg2.view X2 _ _ k 0 hk' (by decide) (k0_off1_eq ⟨k, hk⟩)
    have e11 : (arg1.view.readAt (Elt F) (Rect.unit (s := S1024x1280) (k0_off2 ⟨k, hk⟩) S8x128.size (k0_off2_inb ⟨k, hk⟩)).toLoadRect X1) = rowBlk (arg1.view.read (Elt F) X1) k 1 :=
      readAt_row arg1.view X1 _ _ k 1 hk' (by decide) (k0_off2_eq ⟨k, hk⟩)
    have e21 : (arg2.view.readAt (Elt F) (Rect.unit (s := S1024x1280) (k0_off2 ⟨k, hk⟩) S8x128.size (k0_off2_inb ⟨k, hk⟩)).toLoadRect X2) = rowBlk (arg2.view.read (Elt F) X2) k 1 :=
      readAt_row arg2.view X2 _ _ k 1 hk' (by decide) (k0_off2_eq ⟨k, hk⟩)
    have e12 : (arg1.view.readAt (Elt F) (Rect.unit (s := S1024x1280) (k0_off3 ⟨k, hk⟩) S8x128.size (k0_off3_inb ⟨k, hk⟩)).toLoadRect X1) = rowBlk (arg1.view.read (Elt F) X1) k 2 :=
      readAt_row arg1.view X1 _ _ k 2 hk' (by decide) (k0_off3_eq ⟨k, hk⟩)
    have e22 : (arg2.view.readAt (Elt F) (Rect.unit (s := S1024x1280) (k0_off3 ⟨k, hk⟩) S8x128.size (k0_off3_inb ⟨k, hk⟩)).toLoadRect X2) = rowBlk (arg2.view.read (Elt F) X2) k 2 :=
      readAt_row arg2.view X2 _ _ k 2 hk' (by decide) (k0_off3_eq ⟨k, hk⟩)
    have e13 : (arg1.view.readAt (Elt F) (Rect.unit (s := S1024x1280) (k0_off4 ⟨k, hk⟩) S8x128.size (k0_off4_inb ⟨k, hk⟩)).toLoadRect X1) = rowBlk (arg1.view.read (Elt F) X1) k 3 :=
      readAt_row arg1.view X1 _ _ k 3 hk' (by decide) (k0_off4_eq ⟨k, hk⟩)
    have e23 : (arg2.view.readAt (Elt F) (Rect.unit (s := S1024x1280) (k0_off4 ⟨k, hk⟩) S8x128.size (k0_off4_inb ⟨k, hk⟩)).toLoadRect X2) = rowBlk (arg2.view.read (Elt F) X2) k 3 :=
      readAt_row arg2.view X2 _ _ k 3 hk' (by decide) (k0_off4_eq ⟨k, hk⟩)
    have e14 : (arg1.view.readAt (Elt F) (Rect.unit (s := S1024x1280) (k0_off5 ⟨k, hk⟩) S8x128.size (k0_off5_inb ⟨k, hk⟩)).toLoadRect X1) = rowBlk (arg1.view.read (Elt F) X1) k 4 :=
      readAt_row arg1.view X1 _ _ k 4 hk' (by decide) (k0_off5_eq ⟨k, hk⟩)
    have e24 : (arg2.view.readAt (Elt F) (Rect.unit (s := S1024x1280) (k0_off5 ⟨k, hk⟩) S8x128.size (k0_off5_inb ⟨k, hk⟩)).toLoadRect X2) = rowBlk (arg2.view.read (Elt F) X2) k 4 :=
      readAt_row arg2.view X2 _ _ k 4 hk' (by decide) (k0_off5_eq ⟨k, hk⟩)
    rw [e10, e20, e11, e21, e12, e22, e13, e23, e14, e24]
    intro p hp
    rcases List.mem_append.mp hp with hp | hp
    · simp only [List.mem_cons, List.not_mem_nil, or_false] at hp
      rcases hp with rfl | rfl | rfl | rfl | rfl
      · exact piece_ok _ _ cs _ (k0_off5_inb ⟨k, hk⟩) k 4 hk' (by decide) (k0_off5_eq ⟨k, hk⟩) _ rfl
      · exact piece_ok _ _ cs _ (k0_off4_inb ⟨k, hk⟩) k 3 hk' (by decide) (k0_off4_eq ⟨k, hk⟩) _ rfl
      · exact piece_ok _ _ cs _ (k0_off3_inb ⟨k, hk⟩) k 2 hk' (by decide) (k0_off3_eq ⟨k, hk⟩) _ rfl
      · exact piece_ok _ _ cs _ (k0_off2_inb ⟨k, hk⟩) k 1 hk' (by decide) (k0_off2_eq ⟨k, hk⟩) _ rfl
      · exact piece_ok _ _ cs _ (k0_off1_inb ⟨k, hk⟩) k 0 hk' (by decide) (k0_off1_eq ⟨k, hk⟩) _ rfl
    · exact ih (by omega) p hp

/-- After trip `k` the lanes of loop 1 in the last `8 k` rows are written. -/
theorem cover1 (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (X1 : BufTy.Contents (Elt F) arg1.view.ty) (X2 : BufTy.Contents (Elt F) arg2.view.ty) (init) : ∀ k, k ≤ 128 → ∀ y : S1024x1280.Idx,
    1024 - 8 * k ≤ (y 0).val → 128 * 0 ≤ (y 1).val → (y 1).val < 128 * 5 →
    ∃ p ∈ (st_k0_t1 (F := F) 𝒱 c bd i arg1 harg1 arg2 harg2 arg3 harg3 arg4 harg4 arg5 harg5 rows8 X1 X2 init k).2, y ∈ p.1.set := by
  intro k
  induction k with
  | zero => intro _ y hy; have := (y 0).isLt; exact absurd hy (by change (y 0).val < 1024 at this; omega)
  | succ k ih =>
    intro hk1 y hy hl hr
    have hk' : k < 128 := hk1
    have hk : k < k0_t1_loop.trips := hk'
    have hlt : (y 0).val < 1024 := (y 0).isLt
    rw [show k + 1 = (⟨k, hk⟩ : Fin k0_t1_loop.trips).val + 1 from rfl, st_k0_t1_succ]
    dsimp only
    by_cases hge : 1024 - 8 * k ≤ (y 0).val
    · obtain ⟨p, hp, hy⟩ := ih (by omega) y hge hl hr
      exact ⟨p, List.mem_append_right _ hp, hy⟩
    rw [tripL1_eq]
    have key : ∀ (off : Fin 2 → ℕ) (inb : ∀ a, off a + S8x128.size a ≤ S1024x1280.size a) (q : ℕ),
        off = ![1016 - 8 * k, 128 * q] → 128 * q ≤ (y 1).val → (y 1).val < 128 * q + 128 →
        y ∈ (Rect.unit (s := S1024x1280) off S8x128.size inb).set := by
      intro off inb q he h1 h2
      subst he
      rw [Rect.mem_set_unit]
      intro a
      match a with
      | ⟨0, _⟩ => exact ⟨show 1016 - 8 * k ≤ (y 0).val by omega, show (y 0).val < 1016 - 8 * k + 8 by omega⟩
      | ⟨1, _⟩ => exact ⟨h1, h2⟩
    obtain h | h | h | h | h : (y 1).val / 128 = 0 ∨ (y 1).val / 128 = 1 ∨ (y 1).val / 128 = 2 ∨ (y 1).val / 128 = 3 ∨ (y 1).val / 128 = 4 := by omega
    · refine ⟨_, List.mem_append_left _ (List.mem_of_getElem (i := 4) (h := by simp) rfl), ?_⟩
      exact key _ (k0_off1_inb ⟨k, hk⟩) 0 (k0_off1_eq ⟨k, hk⟩) (by omega) (by omega)
    · refine ⟨_, List.mem_append_left _ (List.mem_of_getElem (i := 3) (h := by simp) rfl), ?_⟩
      exact key _ (k0_off2_inb ⟨k, hk⟩) 1 (k0_off2_eq ⟨k, hk⟩) (by omega) (by omega)
    · refine ⟨_, List.mem_append_left _ (List.mem_of_getElem (i := 2) (h := by simp) rfl), ?_⟩
      exact key _ (k0_off3_inb ⟨k, hk⟩) 2 (k0_off3_eq ⟨k, hk⟩) (by omega) (by omega)
    · refine ⟨_, List.mem_append_left _ (List.mem_of_getElem (i := 1) (h := by simp) rfl), ?_⟩
      exact key _ (k0_off4_inb ⟨k, hk⟩) 3 (k0_off4_eq ⟨k, hk⟩) (by omega) (by omega)
    · refine ⟨_, List.mem_append_left _ (List.mem_of_getElem (i := 0) (h := by simp) rfl), ?_⟩
      exact key _ (k0_off5_inb ⟨k, hk⟩) 4 (k0_off5_eq ⟨k, hk⟩) (by omega) (by omega)

theorem tripR2_eq (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (v46 v47 v48 v49 v50 : Vec F S8x128 .f32) (X1 : BufTy.Contents (Elt F) arg1.view.ty) (X2 : BufTy.Contents (Elt F) arg2.view.ty) (k : Fin k0_t2_loop.trips) (acc) :
    tripR_k0_t2 (F := F) 𝒱 c bd i arg1 harg1 arg2 harg2 arg3 harg3 arg4 harg4 arg5 harg5 rows8 v46 v47 v48 v49 v50 X1 X2 k acc
      = (blkG (arg2.view.readAt (Elt F) (Rect.unit (s := S1024x1280) (k0_off6 k) S8x128.size (k0_off6_inb k)).toLoadRect X2) (arg1.view.readAt (Elt F) (Rect.unit (s := S1024x1280) (k0_off6 k) S8x128.size (k0_off6_inb k)).toLoadRect X1) acc.1 acc.2.1, blkA (arg2.view.readAt (Elt F) (Rect.unit (s := S1024x1280) (k0_off6 k) S8x128.size (k0_off6_inb k)).toLoadRect X2), blkG (arg2.view.readAt (Elt F) (Rect.unit (s := S1024x1280) (k0_off7 k) S8x128.size (k0_off7_inb k)).toLoadRect X2) (arg1.view.readAt (Elt F) (Rect.unit (s := S1024x1280) (k0_off7 k) S8x128.size (k0_off7_inb k)).toLoadRect X1) acc.2.2.1 acc.2.2.2.1, blkA (arg2.view.readAt (Elt F) (Rect.unit (s := S1024x1280) (k0_off7 k) S8x128.size (k0_off7_inb k)).toLoadRect X2), blkG (arg2.view.readAt (Elt F) (Rect.unit (s := S1024x1280) (k0_off8 k) S8x128.size (k0_off8_inb k)).toLoadRect X2) (arg1.view.readAt (Elt F) (Rect.unit (s := S1024x1280) (k0_off8 k) S8x128.size (k0_off8_inb k)).toLoadRect X1) acc.2.2.2.2.1 acc.2.2.2.2.2.1, blkA (arg2.view.readAt (Elt F) (Rect.unit (s := S1024x1280) (k0_off8 k) S8x128.size (k0_off8_inb k)).toLoadRect X2), blkG (arg2.view.readAt (Elt F) (Rect.unit (s := S1024x1280) (k0_off9 k) S8x128.size (k0_off9_inb k)).toLoadRect X2) (arg1.view.readAt (Elt F) (Rect.unit (s := S1024x1280) (k0_off9 k) S8x128.size (k0_off9_inb k)).toLoadRect X1) acc.2.2.2.2.2.2.1 acc.2.2.2.2.2.2.2.1, blkA (arg2.view.readAt (Elt F) (Rect.unit (s := S1024x1280) (k0_off9 k) S8x128.size (k0_off9_inb k)).toLoadRect X2), blkG (arg2.view.readAt (Elt F) (Rect.unit (s := S1024x1280) (k0_off10 k) S8x128.size (k0_off10_inb k)).toLoadRect X2) (arg1.view.readAt (Elt F) (Rect.unit (s := S1024x1280) (k0_off10 k) S8x128.size (k0_off10_inb k)).toLoadRect X1) acc.2.2.2.2.2.2.2.2.1 acc.2.2.2.2.2.2.2.2.2, blkA (arg2.view.readAt (Elt F) (Rect.unit (s := S1024x1280) (k0_off10 k) S8x128.size (k0_off10_inb k)).toLoadRect X2)) := by
  unfold tripR_k0_t2 trip_k0_t2
  rfl

theorem tripL2_eq (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (v46 v47 v48 v49 v50 : Vec F S8x128 .f32) (X1 : BufTy.Contents (Elt F) arg1.view.ty) (X2 : BufTy.Contents (Elt F) arg2.view.ty) (k : Fin k0_t2_loop.trips) (acc) :
    tripL_k0_t2 (F := F) 𝒱 c bd i arg1 harg1 arg2 harg2 arg3 harg3 arg4 harg4 arg5 harg5 rows8 v46 v47 v48 v49 v50 X1 X2 k acc
      = [⟨Rect.unit (s := S1024x1280) (k0_off10 k) S8x128.size (k0_off10_inb k), blk (arg2.view.readAt (Elt F) (Rect.unit (s := S1024x1280) (k0_off10 k) S8x128.size (k0_off10_inb k)).toLoadRect X2) (arg1.view.readAt (Elt F) (Rect.unit (s := S1024x1280) (k0_off10 k) S8x128.size (k0_off10_inb k)).toLoadRect X1) acc.2.2.2.2.2.2.2.2.1 acc.2.2.2.2.2.2.2.2.2⟩,
       ⟨Rect.unit (s := S1024x1280) (k0_off9 k) S8x128.size (k0_off9_inb k), blk (arg2.view.readAt (Elt F) (Rect.unit (s := S1024x1280) (k0_off9 k) S8x128.size (k0_off9_inb k)).toLoadRect X2) (arg1.view.readAt (Elt F) (Rect.unit (s := S1024x1280) (k0_off9 k) S8x128.size (k0_off9_inb k)).toLoadRect X1) acc.2.2.2.2.2.2.1 acc.2.2.2.2.2.2.2.1⟩,
       ⟨Rect.unit (s := S1024x1280) (k0_off8 k) S8x128.size (k0_off8_inb k), blk (arg2.view.readAt (Elt F) (Rect.unit (s := S1024x1280) (k0_off8 k) S8x128.size (k0_off8_inb k)).toLoadRect X2) (arg1.view.readAt (Elt F) (Rect.unit (s := S1024x1280) (k0_off8 k) S8x128.size (k0_off8_inb k)).toLoadRect X1) acc.2.2.2.2.1 acc.2.2.2.2.2.1⟩,
       ⟨Rect.unit (s := S1024x1280) (k0_off7 k) S8x128.size (k0_off7_inb k), blk (arg2.view.readAt (Elt F) (Rect.unit (s := S1024x1280) (k0_off7 k) S8x128.size (k0_off7_inb k)).toLoadRect X2) (arg1.view.readAt (Elt F) (Rect.unit (s := S1024x1280) (k0_off7 k) S8x128.size (k0_off7_inb k)).toLoadRect X1) acc.2.2.1 acc.2.2.2.1⟩,
       ⟨Rect.unit (s := S1024x1280) (k0_off6 k) S8x128.size (k0_off6_inb k), blk (arg2.view.readAt (Elt F) (Rect.unit (s := S1024x1280) (k0_off6 k) S8x128.size (k0_off6_inb k)).toLoadRect X2) (arg1.view.readAt (Elt F) (Rect.unit (s := S1024x1280) (k0_off6 k) S8x128.size (k0_off6_inb k)).toLoadRect X1) acc.1 acc.2.1⟩] := by
  unfold tripL_k0_t2 trip_k0_t2
  rfl

/-- Before trip `k` loop 2 carries its groups' pairs. -/
theorem carry2 (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (v46 v47 v48 v49 v50 : Vec F S8x128 .f32) (X1 : BufTy.Contents (Elt F) arg1.view.ty) (X2 : BufTy.Contents (Elt F) arg2.view.ty) (cs : ℕ → Vec F S8x128 .f32 × Vec F S8x128 .f32) : ∀ k, k ≤ 128 →
    (st_k0_t2 (F := F) 𝒱 c bd i arg1 harg1 arg2 harg2 arg3 harg3 arg4 harg4 arg5 harg5 rows8 v46 v47 v48 v49 v50 X1 X2 (acc5 (arg1.view.read (Elt F) X1) (arg2.view.read (Elt F) X2) cs 5 0) k).1 = acc5 (arg1.view.read (Elt F) X1) (arg2.view.read (Elt F) X2) cs 5 k := by
  intro k
  induction k with
  | zero => intro _; rfl
  | succ k ih =>
    intro hk1
    have hk' : k < 128 := hk1
    have hk : k < k0_t2_loop.trips := hk'
    rw [show k + 1 = (⟨k, hk⟩ : Fin k0_t2_loop.trips).val + 1 from rfl, st_k0_t2_succ]
    dsimp only
    rw [ih (by omega), tripR2_eq]
    have e10 : (arg1.view.readAt (Elt F) (Rect.unit (s := S1024x1280) (k0_off6 ⟨k, hk⟩) S8x128.size (k0_off6_inb ⟨k, hk⟩)).toLoadRect X1) = rowBlk (arg1.view.read (Elt F) X1) k 5 :=
      readAt_row arg1.view X1 _ _ k 5 hk' (by decide) (k0_off6_eq ⟨k, hk⟩)
    have e20 : (arg2.view.readAt (Elt F) (Rect.unit (s := S1024x1280) (k0_off6 ⟨k, hk⟩) S8x128.size (k0_off6_inb ⟨k, hk⟩)).toLoadRect X2) = rowBlk (arg2.view.read (Elt F) X2) k 5 :=
      readAt_row arg2.view X2 _ _ k 5 hk' (by decide) (k0_off6_eq ⟨k, hk⟩)
    have e11 : (arg1.view.readAt (Elt F) (Rect.unit (s := S1024x1280) (k0_off7 ⟨k, hk⟩) S8x128.size (k0_off7_inb ⟨k, hk⟩)).toLoadRect X1) = rowBlk (arg1.view.read (Elt F) X1) k 6 :=
      readAt_row arg1.view X1 _ _ k 6 hk' (by decide) (k0_off7_eq ⟨k, hk⟩)
    have e21 : (arg2.view.readAt (Elt F) (Rect.unit (s := S1024x1280) (k0_off7 ⟨k, hk⟩) S8x128.size (k0_off7_inb ⟨k, hk⟩)).toLoadRect X2) = rowBlk (arg2.view.read (Elt F) X2) k 6 :=
      readAt_row arg2.view X2 _ _ k 6 hk' (by decide) (k0_off7_eq ⟨k, hk⟩)
    have e12 : (arg1.view.readAt (Elt F) (Rect.unit (s := S1024x1280) (k0_off8 ⟨k, hk⟩) S8x128.size (k0_off8_inb ⟨k, hk⟩)).toLoadRect X1) = rowBlk (arg1.view.read (Elt F) X1) k 7 :=
      readAt_row arg1.view X1 _ _ k 7 hk' (by decide) (k0_off8_eq ⟨k, hk⟩)
    have e22 : (arg2.view.readAt (Elt F) (Rect.unit (s := S1024x1280) (k0_off8 ⟨k, hk⟩) S8x128.size (k0_off8_inb ⟨k, hk⟩)).toLoadRect X2) = rowBlk (arg2.view.read (Elt F) X2) k 7 :=
      readAt_row arg2.view X2 _ _ k 7 hk' (by decide) (k0_off8_eq ⟨k, hk⟩)
    have e13 : (arg1.view.readAt (Elt F) (Rect.unit (s := S1024x1280) (k0_off9 ⟨k, hk⟩) S8x128.size (k0_off9_inb ⟨k, hk⟩)).toLoadRect X1) = rowBlk (arg1.view.read (Elt F) X1) k 8 :=
      readAt_row arg1.view X1 _ _ k 8 hk' (by decide) (k0_off9_eq ⟨k, hk⟩)
    have e23 : (arg2.view.readAt (Elt F) (Rect.unit (s := S1024x1280) (k0_off9 ⟨k, hk⟩) S8x128.size (k0_off9_inb ⟨k, hk⟩)).toLoadRect X2) = rowBlk (arg2.view.read (Elt F) X2) k 8 :=
      readAt_row arg2.view X2 _ _ k 8 hk' (by decide) (k0_off9_eq ⟨k, hk⟩)
    have e14 : (arg1.view.readAt (Elt F) (Rect.unit (s := S1024x1280) (k0_off10 ⟨k, hk⟩) S8x128.size (k0_off10_inb ⟨k, hk⟩)).toLoadRect X1) = rowBlk (arg1.view.read (Elt F) X1) k 9 :=
      readAt_row arg1.view X1 _ _ k 9 hk' (by decide) (k0_off10_eq ⟨k, hk⟩)
    have e24 : (arg2.view.readAt (Elt F) (Rect.unit (s := S1024x1280) (k0_off10 ⟨k, hk⟩) S8x128.size (k0_off10_inb ⟨k, hk⟩)).toLoadRect X2) = rowBlk (arg2.view.read (Elt F) X2) k 9 :=
      readAt_row arg2.view X2 _ _ k 9 hk' (by decide) (k0_off10_eq ⟨k, hk⟩)
    rw [e10, e20, e11, e21, e12, e22, e13, e23, e14, e24]
    rfl

/-- Every piece loop 2 has written before trip `k` is the output block's contents there. -/
theorem pieces2 (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (v46 v47 v48 v49 v50 : Vec F S8x128 .f32) (X1 : BufTy.Contents (Elt F) arg1.view.ty) (X2 : BufTy.Contents (Elt F) arg2.view.ty) (cs : ℕ → Vec F S8x128 .f32 × Vec F S8x128 .f32) : ∀ k, k ≤ 128 →
    ∀ p ∈ (st_k0_t2 (F := F) 𝒱 c bd i arg1 harg1 arg2 harg2 arg3 harg3 arg4 harg4 arg5 harg5 rows8 v46 v47 v48 v49 v50 X1 X2 (acc5 (arg1.view.read (Elt F) X1) (arg2.view.read (Elt F) X2) cs 5 0) k).2, ∀ x, p.2 x = gOut (arg1.view.read (Elt F) X1) (arg2.view.read (Elt F) X2) cs (p.1.emb x) := by
  intro k
  induction k with
  | zero => intro _ p hp; exact absurd hp (List.not_mem_nil)
  | succ k ih =>
    intro hk1
    have hk' : k < 128 := hk1
    have hk : k < k0_t2_loop.trips := hk'
    rw [show k + 1 = (⟨k, hk⟩ : Fin k0_t2_loop.trips).val + 1 from rfl, st_k0_t2_succ]
    dsimp only
    rw [carry2 𝒱 c bd i arg1 harg1 arg2 harg2 arg3 harg3 arg4 harg4 arg5 harg5   v46 v47 v48 v49 v50 X1 X2 cs k (by omega), tripL2_eq]
    have e10 : (arg1.view.readAt (Elt F) (Rect.unit (s := S1024x1280) (k0_off6 ⟨k, hk⟩) S8x128.size (k0_off6_inb ⟨k, hk⟩)).toLoadRect X1) = rowBlk (arg1.view.read (Elt F) X1) k 5 :=
      readAt_row arg1.view X1 _ _ k 5 hk' (by decide) (k0_off6_eq ⟨k, hk⟩)
    have e20 : (arg2.view.readAt (Elt F) (Rect.unit (s := S1024x1280) (k0_off6 ⟨k, hk⟩) S8x128.size (k0_off6_inb ⟨k, hk⟩)).toLoadRect X2) = rowBlk (arg2.view.read (Elt F) X2) k 5 :=
      readAt_row arg2.view X2 _ _ k 5 hk' (by decide) (k0_off6_eq ⟨k, hk⟩)
    have e11 : (arg1.view.readAt (Elt F) (Rect.unit (s := S1024x1280) (k0_off7 ⟨k, hk⟩) S8x128.size (k0_off7_inb ⟨k, hk⟩)).toLoadRect X1) = rowBlk (arg1.view.read (Elt F) X1) k 6 :=
      readAt_row arg1.view X1 _ _ k 6 hk' (by decide) (k0_off7_eq ⟨k, hk⟩)
    have e21 : (arg2.view.readAt (Elt F) (Rect.unit (s := S1024x1280) (k0_off7 ⟨k, hk⟩) S8x128.size (k0_off7_inb ⟨k, hk⟩)).toLoadRect X2) = rowBlk (arg2.view.read (Elt F) X2) k 6 :=
      readAt_row arg2.view X2 _ _ k 6 hk' (by decide) (k0_off7_eq ⟨k, hk⟩)
    have e12 : (arg1.view.readAt (Elt F) (Rect.unit (s := S1024x1280) (k0_off8 ⟨k, hk⟩) S8x128.size (k0_off8_inb ⟨k, hk⟩)).toLoadRect X1) = rowBlk (arg1.view.read (Elt F) X1) k 7 :=
      readAt_row arg1.view X1 _ _ k 7 hk' (by decide) (k0_off8_eq ⟨k, hk⟩)
    have e22 : (arg2.view.readAt (Elt F) (Rect.unit (s := S1024x1280) (k0_off8 ⟨k, hk⟩) S8x128.size (k0_off8_inb ⟨k, hk⟩)).toLoadRect X2) = rowBlk (arg2.view.read (Elt F) X2) k 7 :=
      readAt_row arg2.view X2 _ _ k 7 hk' (by decide) (k0_off8_eq ⟨k, hk⟩)
    have e13 : (arg1.view.readAt (Elt F) (Rect.unit (s := S1024x1280) (k0_off9 ⟨k, hk⟩) S8x128.size (k0_off9_inb ⟨k, hk⟩)).toLoadRect X1) = rowBlk (arg1.view.read (Elt F) X1) k 8 :=
      readAt_row arg1.view X1 _ _ k 8 hk' (by decide) (k0_off9_eq ⟨k, hk⟩)
    have e23 : (arg2.view.readAt (Elt F) (Rect.unit (s := S1024x1280) (k0_off9 ⟨k, hk⟩) S8x128.size (k0_off9_inb ⟨k, hk⟩)).toLoadRect X2) = rowBlk (arg2.view.read (Elt F) X2) k 8 :=
      readAt_row arg2.view X2 _ _ k 8 hk' (by decide) (k0_off9_eq ⟨k, hk⟩)
    have e14 : (arg1.view.readAt (Elt F) (Rect.unit (s := S1024x1280) (k0_off10 ⟨k, hk⟩) S8x128.size (k0_off10_inb ⟨k, hk⟩)).toLoadRect X1) = rowBlk (arg1.view.read (Elt F) X1) k 9 :=
      readAt_row arg1.view X1 _ _ k 9 hk' (by decide) (k0_off10_eq ⟨k, hk⟩)
    have e24 : (arg2.view.readAt (Elt F) (Rect.unit (s := S1024x1280) (k0_off10 ⟨k, hk⟩) S8x128.size (k0_off10_inb ⟨k, hk⟩)).toLoadRect X2) = rowBlk (arg2.view.read (Elt F) X2) k 9 :=
      readAt_row arg2.view X2 _ _ k 9 hk' (by decide) (k0_off10_eq ⟨k, hk⟩)
    rw [e10, e20, e11, e21, e12, e22, e13, e23, e14, e24]
    intro p hp
    rcases List.mem_append.mp hp with hp | hp
    · simp only [List.mem_cons, List.not_mem_nil, or_false] at hp
      rcases hp with rfl | rfl | rfl | rfl | rfl
      · exact piece_ok _ _ cs _ (k0_off10_inb ⟨k, hk⟩) k 9 hk' (by decide) (k0_off10_eq ⟨k, hk⟩) _ rfl
      · exact piece_ok _ _ cs _ (k0_off9_inb ⟨k, hk⟩) k 8 hk' (by decide) (k0_off9_eq ⟨k, hk⟩) _ rfl
      · exact piece_ok _ _ cs _ (k0_off8_inb ⟨k, hk⟩) k 7 hk' (by decide) (k0_off8_eq ⟨k, hk⟩) _ rfl
      · exact piece_ok _ _ cs _ (k0_off7_inb ⟨k, hk⟩) k 6 hk' (by decide) (k0_off7_eq ⟨k, hk⟩) _ rfl
      · exact piece_ok _ _ cs _ (k0_off6_inb ⟨k, hk⟩) k 5 hk' (by decide) (k0_off6_eq ⟨k, hk⟩) _ rfl
    · exact ih (by omega) p hp

/-- After trip `k` the lanes of loop 2 in the last `8 k` rows are written. -/
theorem cover2 (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (v46 v47 v48 v49 v50 : Vec F S8x128 .f32) (X1 : BufTy.Contents (Elt F) arg1.view.ty) (X2 : BufTy.Contents (Elt F) arg2.view.ty) (init) : ∀ k, k ≤ 128 → ∀ y : S1024x1280.Idx,
    1024 - 8 * k ≤ (y 0).val → 128 * 5 ≤ (y 1).val → (y 1).val < 128 * 10 →
    ∃ p ∈ (st_k0_t2 (F := F) 𝒱 c bd i arg1 harg1 arg2 harg2 arg3 harg3 arg4 harg4 arg5 harg5 rows8 v46 v47 v48 v49 v50 X1 X2 init k).2, y ∈ p.1.set := by
  intro k
  induction k with
  | zero => intro _ y hy; have := (y 0).isLt; exact absurd hy (by change (y 0).val < 1024 at this; omega)
  | succ k ih =>
    intro hk1 y hy hl hr
    have hk' : k < 128 := hk1
    have hk : k < k0_t2_loop.trips := hk'
    have hlt : (y 0).val < 1024 := (y 0).isLt
    rw [show k + 1 = (⟨k, hk⟩ : Fin k0_t2_loop.trips).val + 1 from rfl, st_k0_t2_succ]
    dsimp only
    by_cases hge : 1024 - 8 * k ≤ (y 0).val
    · obtain ⟨p, hp, hy⟩ := ih (by omega) y hge hl hr
      exact ⟨p, List.mem_append_right _ hp, hy⟩
    rw [tripL2_eq]
    have key : ∀ (off : Fin 2 → ℕ) (inb : ∀ a, off a + S8x128.size a ≤ S1024x1280.size a) (q : ℕ),
        off = ![1016 - 8 * k, 128 * q] → 128 * q ≤ (y 1).val → (y 1).val < 128 * q + 128 →
        y ∈ (Rect.unit (s := S1024x1280) off S8x128.size inb).set := by
      intro off inb q he h1 h2
      subst he
      rw [Rect.mem_set_unit]
      intro a
      match a with
      | ⟨0, _⟩ => exact ⟨show 1016 - 8 * k ≤ (y 0).val by omega, show (y 0).val < 1016 - 8 * k + 8 by omega⟩
      | ⟨1, _⟩ => exact ⟨h1, h2⟩
    obtain h | h | h | h | h : (y 1).val / 128 = 5 ∨ (y 1).val / 128 = 6 ∨ (y 1).val / 128 = 7 ∨ (y 1).val / 128 = 8 ∨ (y 1).val / 128 = 9 := by omega
    · refine ⟨_, List.mem_append_left _ (List.mem_of_getElem (i := 4) (h := by simp) rfl), ?_⟩
      exact key _ (k0_off6_inb ⟨k, hk⟩) 5 (k0_off6_eq ⟨k, hk⟩) (by omega) (by omega)
    · refine ⟨_, List.mem_append_left _ (List.mem_of_getElem (i := 3) (h := by simp) rfl), ?_⟩
      exact key _ (k0_off7_inb ⟨k, hk⟩) 6 (k0_off7_eq ⟨k, hk⟩) (by omega) (by omega)
    · refine ⟨_, List.mem_append_left _ (List.mem_of_getElem (i := 2) (h := by simp) rfl), ?_⟩
      exact key _ (k0_off8_inb ⟨k, hk⟩) 7 (k0_off8_eq ⟨k, hk⟩) (by omega) (by omega)
    · refine ⟨_, List.mem_append_left _ (List.mem_of_getElem (i := 1) (h := by simp) rfl), ?_⟩
      exact key _ (k0_off9_inb ⟨k, hk⟩) 8 (k0_off9_eq ⟨k, hk⟩) (by omega) (by omega)
    · refine ⟨_, List.mem_append_left _ (List.mem_of_getElem (i := 0) (h := by simp) rfl), ?_⟩
      exact key _ (k0_off10_inb ⟨k, hk⟩) 9 (k0_off10_eq ⟨k, hk⟩) (by omega) (by omega)

end Cert.KernelIdeal.Lru

end
-- ==== Proof.LruOut.lean ====
/-
  From the two loops' pieces to whole buffers: what the output block and the two scratches hold when the body is done.
-/
module

public import proofs.«01_k».proof.Proof.LruTrip

@[expose] public section

set_option maxRecDepth 16384

noncomputable section

namespace Cert.KernelIdeal.Lru

open Idealize.ShloMosaic Idealize.ShloMosaic.TcCoe
open Cert.KernelIdeal Cert.KernelIdeal.Gen

variable {F : FTy → Type} [FloatOps F]

/-- A load of one lane group of a scratch. -/
theorem readAt_lane (v : View sig .tc .vmem S8x1280 .f32) (X : BufTy.Contents (Elt F) v.ty) (s : Vec F S8x1280 .f32)
    (hs : v.read (Elt F) X = s) (off : Fin 2 → ℕ) (inb : ∀ a, off a + S8x128.size a ≤ S8x1280.size a) (q : ℕ) (hq : q < 10)
    (h : off = ![0, 128 * q]) :
    v.readAt (Elt F) (Rect.unit (s := S8x1280) off S8x128.size inb).toLoadRect X = laneBlk s q := by
  subst h hs
  funext j
  rw [View.readAt_apply]
  unfold laneBlk
  congr 1
  funext a
  apply Fin.ext
  have h0 : (j 0).val < 8 := (j 0).isLt
  have h1 : (j 1).val < 128 := (j 1).isLt
  match a with
  | ⟨0, _⟩ =>
    show 0 + 1 * (j 0).val = (j 0).val % 8
    rw [Nat.mod_eq_of_lt (by omega)]; omega
  | ⟨1, _⟩ =>
    show 128 * q + 1 * (j 1).val = (128 * q + (j 1).val) % 1280
    rw [Nat.mod_eq_of_lt (by omega)]; omega

/-- Ten stores, one per lane group, leave a scratch at `G` when each stores `G`'s lanes. -/
theorem lanes_eq (v : View sig .tc .vmem S8x1280 .f32) (f : BufTy.Contents (Elt F) v.ty) (G : Vec F S8x1280 .f32)
    (w0 w1 w2 w3 w4 w5 w6 w7 w8 w9 : Vec F S8x128 .f32) (hw0 : w0 = laneBlk G 0) (hw1 : w1 = laneBlk G 1) (hw2 : w2 = laneBlk G 2) (hw3 : w3 = laneBlk G 3) (hw4 : w4 = laneBlk G 4) (hw5 : w5 = laneBlk G 5) (hw6 : w6 = laneBlk G 6) (hw7 : w7 = laneBlk G 7) (hw8 : w8 = laneBlk G 8) (hw9 : w9 = laneBlk G 9)
    (b0 : ∀ a, (![0, 0] : Fin 2 → ℕ) a + S8x128.size a ≤ S8x1280.size a) (b1 : ∀ a, (![0, 128] : Fin 2 → ℕ) a + S8x128.size a ≤ S8x1280.size a) (b2 : ∀ a, (![0, 256] : Fin 2 → ℕ) a + S8x128.size a ≤ S8x1280.size a) (b3 : ∀ a, (![0, 384] : Fin 2 → ℕ) a + S8x128.size a ≤ S8x1280.size a) (b4 : ∀ a, (![0, 512] : Fin 2 → ℕ) a + S8x128.size a ≤ S8x1280.size a) (b5 : ∀ a, (![0, 640] : Fin 2 → ℕ) a + S8x128.size a ≤ S8x1280.size a) (b6 : ∀ a, (![0, 768] : Fin 2 → ℕ) a + S8x128.size a ≤ S8x1280.size a) (b7 : ∀ a, (![0, 896] : Fin 2 → ℕ) a + S8x128.size a ≤ S8x1280.size a) (b8 : ∀ a, (![0, 1024] : Fin 2 → ℕ) a + S8x128.size a ≤ S8x1280.size a) (b9 : ∀ a, (![0, 1152] : Fin 2 → ℕ) a + S8x128.size a ≤ S8x1280.size a) :
    v.read (Elt F) (v.writes (Elt F) f [⟨Rect.unit (s := S8x1280) ![0, 1152] S8x128.size b9, w9⟩, ⟨Rect.unit (s := S8x1280) ![0, 1024] S8x128.size b8, w8⟩, ⟨Rect.unit (s := S8x1280) ![0, 896] S8x128.size b7, w7⟩, ⟨Rect.unit (s := S8x1280) ![0, 768] S8x128.size b6, w6⟩, ⟨Rect.unit (s := S8x1280) ![0, 640] S8x128.size b5, w5⟩, ⟨Rect.unit (s := S8x1280) ![0, 512] S8x128.size b4, w4⟩, ⟨Rect.unit (s := S8x1280) ![0, 384] S8x128.size b3, w3⟩, ⟨Rect.unit (s := S8x1280) ![0, 256] S8x128.size b2, w2⟩, ⟨Rect.unit (s := S8x1280) ![0, 128] S8x128.size b1, w1⟩, ⟨Rect.unit (s := S8x1280) ![0, 0] S8x128.size b0, w0⟩]) = G := by
  subst hw0 hw1 hw2 hw3 hw4 hw5 hw6 hw7 hw8 hw9
  have key : ∀ (off : Fin 2 → ℕ) (inb : ∀ a, off a + S8x128.size a ≤ S8x1280.size a) (q : ℕ), q < 10 →
      off = ![0, 128 * q] → ∀ x : (Rect.unit (s := S8x1280) off S8x128.size inb).shape.Idx,
      laneBlk G q x = G ((Rect.unit (s := S8x1280) off S8x128.size inb).emb x) := by
    intro off inb q hq he x
    subst he
    unfold laneBlk
    congr 1
    funext a
    apply Fin.ext
    have h0 : (x 0).val < 8 := (x 0).isLt
    have h1 : (x 1).val < 128 := (x 1).isLt
    match a with
    | ⟨0, _⟩ =>
      show (x 0).val % 8 = 0 + 1 * (x 0).val
      rw [Nat.mod_eq_of_lt (by omega)]; omega
    | ⟨1, _⟩ =>
      show (128 * q + (x 1).val) % 1280 = 128 * q + 1 * (x 1).val
      rw [Nat.mod_eq_of_lt (by omega)]; omega
  funext y
  have hlt0 : (y 0).val < 8 := (y 0).isLt
  have hlt1 : (y 1).val < 1280 := (y 1).isLt
  have mem : ∀ (off : Fin 2 → ℕ) (inb : ∀ a, off a + S8x128.size a ≤ S8x1280.size a) (q : ℕ),
      off = ![0, 128 * q] → (y 1).val / 128 = q → y ∈ (Rect.unit (s := S8x1280) off S8x128.size inb).set := by
    intro off inb q he hq
    subst he
    rw [Rect.mem_set_unit]
    intro a
    match a with
    | ⟨0, _⟩ => exact ⟨Nat.zero_le _, show (y 0).val < 0 + 8 by omega⟩
    | ⟨1, _⟩ => exact ⟨show 128 * q ≤ (y 1).val by omega, show (y 1).val < 128 * q + 128 by omega⟩
  refine View.read_writes_apply_of_pieces _ _ G _ ?_ y ?_
  · intro p hp
    simp only [List.mem_cons, List.not_mem_nil, or_false] at hp
    rcases hp with rfl | rfl | rfl | rfl | rfl | rfl | rfl | rfl | rfl | rfl
    · exact key _ b9 9 (by decide) rfl
    · exact key _ b8 8 (by decide) rfl
    · exact key _ b7 7 (by decide) rfl
    · exact key _ b6 6 (by decide) rfl
    · exact key _ b5 5 (by decide) rfl
    · exact key _ b4 4 (by decide) rfl
    · exact key _ b3 3 (by decide) rfl
    · exact key _ b2 2 (by decide) rfl
    · exact key _ b1 1 (by decide) rfl
    · exact key _ b0 0 (by decide) rfl
  · obtain h | h | h | h | h | h | h | h | h | h : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 ∨ (y 1).val / 128 = 8 ∨ (y 1).val / 128 = 9 := by omega
    · exact ⟨_, List.mem_of_getElem (i := 9) (h := by simp) rfl, mem _ b0 0 rfl h⟩
    · exact ⟨_, List.mem_of_getElem (i := 8) (h := by simp) rfl, mem _ b1 1 rfl h⟩
    · exact ⟨_, List.mem_of_getElem (i := 7) (h := by simp) rfl, mem _ b2 2 rfl h⟩
    · exact ⟨_, List.mem_of_getElem (i := 6) (h := by simp) rfl, mem _ b3 3 rfl h⟩
    · exact ⟨_, List.mem_of_getElem (i := 5) (h := by simp) rfl, mem _ b4 4 rfl h⟩
    · exact ⟨_, List.mem_of_getElem (i := 4) (h := by simp) rfl, mem _ b5 5 rfl h⟩
    · exact ⟨_, List.mem_of_getElem (i := 3) (h := by simp) rfl, mem _ b6 6 rfl h⟩
    · exact ⟨_, List.mem_of_getElem (i := 2) (h := by simp) rfl, mem _ b7 7 rfl h⟩
    · exact ⟨_, List.mem_of_getElem (i := 1) (h := by simp) rfl, mem _ b8 8 rfl h⟩
    · exact ⟨_, List.mem_of_getElem (i := 0) (h := by simp) rfl, mem _ b9 9 rfl h⟩

/-- The same over an earlier store of the whole scratch. -/
theorem lanes_eqZ (v : View sig .tc .vmem S8x1280 .f32) (f : BufTy.Contents (Elt F) v.ty) (G : Vec F S8x1280 .f32)
    (w0 w1 w2 w3 w4 w5 w6 w7 w8 w9 : Vec F S8x128 .f32) (hw0 : w0 = laneBlk G 0) (hw1 : w1 = laneBlk G 1) (hw2 : w2 = laneBlk G 2) (hw3 : w3 = laneBlk G 3) (hw4 : w4 = laneBlk G 4) (hw5 : w5 = laneBlk G 5) (hw6 : w6 = laneBlk G 6) (hw7 : w7 = laneBlk G 7) (hw8 : w8 = laneBlk G 8) (hw9 : w9 = laneBlk G 9)
    (b0 : ∀ a, (![0, 0] : Fin 2 → ℕ) a + S8x128.size a ≤ S8x1280.size a) (b1 : ∀ a, (![0, 128] : Fin 2 → ℕ) a + S8x128.size a ≤ S8x1280.size a) (b2 : ∀ a, (![0, 256] : Fin 2 → ℕ) a + S8x128.size a ≤ S8x1280.size a) (b3 : ∀ a, (![0, 384] : Fin 2 → ℕ) a + S8x128.size a ≤ S8x1280.size a) (b4 : ∀ a, (![0, 512] : Fin 2 → ℕ) a + S8x128.size a ≤ S8x1280.size a) (b5 : ∀ a, (![0, 640] : Fin 2 → ℕ) a + S8x128.size a ≤ S8x1280.size a) (b6 : ∀ a, (![0, 768] : Fin 2 → ℕ) a + S8x128.size a ≤ S8x1280.size a) (b7 : ∀ a, (![0, 896] : Fin 2 → ℕ) a + S8x128.size a ≤ S8x1280.size a) (b8 : ∀ a, (![0, 1024] : Fin 2 → ℕ) a + S8x128.size a ≤ S8x1280.size a) (b9 : ∀ a, (![0, 1152] : Fin 2 → ℕ) a + S8x128.size a ≤ S8x1280.size a) (bz : ∀ a, (![0, 0] : Fin 2 → ℕ) a + S8x1280.size a ≤ S8x1280.size a) (z : Vec F S8x1280 .f32) :
    v.read (Elt F) (v.writes (Elt F) f [⟨Rect.unit (s := S8x1280) ![0, 1152] S8x128.size b9, w9⟩, ⟨Rect.unit (s := S8x1280) ![0, 1024] S8x128.size b8, w8⟩, ⟨Rect.unit (s := S8x1280) ![0, 896] S8x128.size b7, w7⟩, ⟨Rect.unit (s := S8x1280) ![0, 768] S8x128.size b6, w6⟩, ⟨Rect.unit (s := S8x1280) ![0, 640] S8x128.size b5, w5⟩, ⟨Rect.unit (s := S8x1280) ![0, 512] S8x128.size b4, w4⟩, ⟨Rect.unit (s := S8x1280) ![0, 384] S8x128.size b3, w3⟩, ⟨Rect.unit (s := S8x1280) ![0, 256] S8x128.size b2, w2⟩, ⟨Rect.unit (s := S8x1280) ![0, 128] S8x128.size b1, w1⟩, ⟨Rect.unit (s := S8x1280) ![0, 0] S8x128.size b0, w0⟩, ⟨Rect.unit (s := S8x1280) ![0, 0] S8x1280.size bz, z⟩]) = G := by
  have h := lanes_eq v (v.writes (Elt F) f [⟨Rect.unit (s := S8x1280) ![0, 0] S8x1280.size bz, z⟩]) G w0 w1 w2 w3 w4 w5 w6 w7 w8 w9 hw0 hw1 hw2 hw3 hw4 hw5 hw6 hw7 hw8 hw9 b0 b1 b2 b3 b4 b5 b6 b7 b8 b9
  rw [← View.writes_append] at h
  exact h

/-- The output block when both loops are done. -/
theorem out_eq (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (x1 x2 : Vec F S1024x1280 .f32)
    (v46 v47 v48 v49 v50 : Vec F S8x128 .f32) (cs : ℕ → Vec F S8x128 .f32 × Vec F S8x128 .f32) (i1 i2)
    (h1 : i1 = acc5 x1 x2 cs 0 0) (h2 : i2 = acc5 x1 x2 cs 5 0) (f : BufTy.Contents (Elt F) arg3.view.ty) :
    arg3.view.read (Elt F) (arg3.view.writes (Elt F) f
      ((st_k0_t2 (F := F) 𝒱 c bd i arg1 harg1 arg2 harg2 arg3 harg3 arg4 harg4 arg5 harg5 rows8 v46 v47 v48 v49 v50 (harg1.unread x1) (harg2.unread x2) i2 128).2
        ++ (st_k0_t1 (F := F) 𝒱 c bd i arg1 harg1 arg2 harg2 arg3 harg3 arg4 harg4 arg5 harg5 rows8 (harg1.unread x1) (harg2.unread x2) i1 128).2)) = gOut x1 x2 cs := by
  subst h1 h2
  have e1 := harg1.read_unread (Val := Elt F) x1
  have e2 := harg2.read_unread (Val := Elt F) x2
  have p1 := pieces1 𝒱 c bd i arg1 harg1 arg2 harg2 arg3 harg3 arg4 harg4 arg5 harg5 (harg1.unread x1) (harg2.unread x2) cs 128 le_rfl
  have p2 := pieces2 𝒱 c bd i arg1 harg1 arg2 harg2 arg3 harg3 arg4 harg4 arg5 harg5 v46 v47 v48 v49 v50 (harg1.unread x1) (harg2.unread x2) cs 128 le_rfl
  rw [e1, e2] at p1 p2
  funext y
  refine View.read_writes_apply_of_pieces _ _ (gOut x1 x2 cs) _ ?_ y ?_
  · intro p hp
    rcases List.mem_append.mp hp with hp | hp
    · exact p2 p hp
    · exact p1 p hp
  · have hl : (y 1).val < 1280 := (y 1).isLt
    by_cases hq : (y 1).val < 640
    · obtain ⟨p, hp, hy⟩ := cover1 𝒱 c bd i arg1 harg1 arg2 harg2 arg3 harg3 arg4 harg4 arg5 harg5 (harg1.unread x1) (harg2.unread x2) (acc5 x1 x2 cs 0 0) 128 le_rfl y (by omega) (by omega) (by omega)
      exact ⟨p, List.mem_append_right _ hp, hy⟩
    · obtain ⟨p, hp, hy⟩ := cover2 𝒱 c bd i arg1 harg1 arg2 harg2 arg3 harg3 arg4 harg4 arg5 harg5 v46 v47 v48 v49 v50 (harg1.unread x1) (harg2.unread x2) (acc5 x1 x2 cs 5 0) 128 le_rfl y (by omega) (by omega) (by omega)
      exact ⟨p, List.mem_append_left _ hp, hy⟩

/-- What the loops hand on when they are done. -/
theorem fin1 (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (x1 x2 : Vec F S1024x1280 .f32)
    (cs : ℕ → Vec F S8x128 .f32 × Vec F S8x128 .f32) (i1) (h1 : i1 = acc5 x1 x2 cs 0 0) :
    (st_k0_t1 (F := F) 𝒱 c bd i arg1 harg1 arg2 harg2 arg3 harg3 arg4 harg4 arg5 harg5 rows8 (harg1.unread x1) (harg2.unread x2) i1 128).1 = acc5 x1 x2 cs 0 128 := by
  subst h1
  have h := carry1 𝒱 c bd i arg1 harg1 arg2 harg2 arg3 harg3 arg4 harg4 arg5 harg5 (harg1.unread x1) (harg2.unread x2) cs 128 le_rfl
  rw [harg1.read_unread, harg2.read_unread] at h
  exact h

theorem fin2 (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (x1 x2 : Vec F S1024x1280 .f32)
    (v46 v47 v48 v49 v50 : Vec F S8x128 .f32) (cs : ℕ → Vec F S8x128 .f32 × Vec F S8x128 .f32) (i2) (h2 : i2 = acc5 x1 x2 cs 5 0) :
    (st_k0_t2 (F := F) 𝒱 c bd i arg1 harg1 arg2 harg2 arg3 harg3 arg4 harg4 arg5 harg5 rows8 v46 v47 v48 v49 v50 (harg1.unread x1) (harg2.unread x2) i2 128).1 = acc5 x1 x2 cs 5 128 := by
  subst h2
  have h := carry2 𝒱 c bd i arg1 harg1 arg2 harg2 arg3 harg3 arg4 harg4 arg5 harg5 v46 v47 v48 v49 v50 (harg1.unread x1) (harg2.unread x2) cs 128 le_rfl
  rw [harg1.read_unread, harg2.read_unread] at h
  exact h

/-- A lane group of the scratches' final contents. -/
theorem laneBlk_cgOut (x1 x2 : Vec F S1024x1280 .f32) (cs : ℕ → Vec F S8x128 .f32 × Vec F S8x128 .f32) (q : ℕ) (hq : q < 10) :
    laneBlk (cgOut x1 x2 cs) q = (carry x1 x2 q (cs q) 128).1 ∧ laneBlk (caOut x1 x2 cs) q = (carry x1 x2 q (cs q) 128).2 := by
  have key : ∀ j : S8x128.Idx, (128 * q + (j 1).val) % 1280 / 128 = q
      ∧ (at2 (by decide) (by decide) ((j 0).val % 8) ((128 * q + (j 1).val) % 1280) : S8x128.Idx) = j := by
    intro j
    have h0 : (j 0).val < 8 := (j 0).isLt
    have h1 : (j 1).val < 128 := (j 1).isLt
    refine ⟨by omega, ?_⟩
    funext a
    apply Fin.ext
    match a with
    | ⟨0, _⟩ => show (j 0).val % 8 % 8 = (j 0).val; omega
    | ⟨1, _⟩ => show (128 * q + (j 1).val) % 1280 % 128 = (j 1).val; omega
  constructor <;> funext j
  · show (carry x1 x2 ((128 * q + (j 1).val) % 1280 / 128) (cs ((128 * q + (j 1).val) % 1280 / 128)) 128).1
      (at2 (by decide) (by decide) ((j 0).val % 8) ((128 * q + (j 1).val) % 1280)) = _
    rw [(key j).1, (key j).2]
  · show (carry x1 x2 ((128 * q + (j 1).val) % 1280 / 128) (cs ((128 * q + (j 1).val) % 1280 / 128)) 128).2
      (at2 (by decide) (by decide) ((j 0).val % 8) ((128 * q + (j 1).val) % 1280)) = _
    rw [(key j).1, (key j).2]

/-- The gradient scratch when both loops are done. -/
theorem cg_final (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (x1 x2 : Vec F S1024x1280 .f32)
    (v46 v47 v48 v49 v50 : Vec F S8x128 .f32) (cs : ℕ → Vec F S8x128 .f32 × Vec F S8x128 .f32) (i1 i2)
    (h1 : i1 = acc5 x1 x2 cs 0 0) (h2 : i2 = acc5 x1 x2 cs 5 0) (v : View sig .tc .vmem S8x1280 .f32) (f : BufTy.Contents (Elt F) v.ty)
    (b0 : ∀ a, (![0, 0] : Fin 2 → ℕ) a + S8x128.size a ≤ S8x1280.size a) (b1 : ∀ a, (![0, 128] : Fin 2 → ℕ) a + S8x128.size a ≤ S8x1280.size a) (b2 : ∀ a, (![0, 256] : Fin 2 → ℕ) a + S8x128.size a ≤ S8x1280.size a) (b3 : ∀ a, (![0, 384] : Fin 2 → ℕ) a + S8x128.size a ≤ S8x1280.size a) (b4 : ∀ a, (![0, 512] : Fin 2 → ℕ) a + S8x128.size a ≤ S8x1280.size a) (b5 : ∀ a, (![0, 640] : Fin 2 → ℕ) a + S8x128.size a ≤ S8x1280.size a) (b6 : ∀ a, (![0, 768] : Fin 2 → ℕ) a + S8x128.size a ≤ S8x1280.size a) (b7 : ∀ a, (![0, 896] : Fin 2 → ℕ) a + S8x128.size a ≤ S8x1280.size a) (b8 : ∀ a, (![0, 1024] : Fin 2 → ℕ) a + S8x128.size a ≤ S8x1280.size a) (b9 : ∀ a, (![0, 1152] : Fin 2 → ℕ) a + S8x128.size a ≤ S8x1280.size a) :
    v.read (Elt F) (v.writes (Elt F) f
       [⟨Rect.unit (s := S8x1280) ![0, 1152] S8x128.size b9, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.2.2.2.1 shapeCasts_S8x128_S8x128⟩,
        ⟨Rect.unit (s := S8x1280) ![0, 1024] S8x128.size b8, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.2.1 shapeCasts_S8x128_S8x128⟩,
        ⟨Rect.unit (s := S8x1280) ![0, 896] S8x128.size b7, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.1 shapeCasts_S8x128_S8x128⟩,
        ⟨Rect.unit (s := S8x1280) ![0, 768] S8x128.size b6, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.1 shapeCasts_S8x128_S8x128⟩,
        ⟨Rect.unit (s := S8x1280) ![0, 640] S8x128.size b5, shapeCast S8x128 (st_k0_t2 (F := F) 𝒱 c bd i arg1 harg1 arg2 harg2 arg3 harg3 arg4 harg4 arg5 harg5 rows8 v46 v47 v48 v49 v50 (harg1.unread x1) (harg2.unread x2) i2 128).1.1 shapeCasts_S8x128_S8x128⟩,
        ⟨Rect.unit (s := S8x1280) ![0, 512] S8x128.size b4, shapeCast S8x128 (st_k0_t1 (F := F) 𝒱 c bd i arg1 harg1 arg2 harg2 arg3 harg3 arg4 harg4 arg5 harg5 rows8 (harg1.unread x1) (harg2.unread x2) i1 128).1.2.2.2.2.2.2.2.2.1 shapeCasts_S8x128_S8x128⟩,
        ⟨Rect.unit (s := S8x1280) ![0, 384] S8x128.size b3, shapeCast S8x128 (st_k0_t1 (F := F) 𝒱 c bd i arg1 harg1 arg2 harg2 arg3 harg3 arg4 harg4 arg5 harg5 rows8 (harg1.unread x1) (harg2.unread x2) i1 128).1.2.2.2.2.2.2.1 shapeCasts_S8x128_S8x128⟩,
        ⟨Rect.unit (s := S8x1280) ![0, 256] S8x128.size b2, shapeCast S8x128 (st_k0_t1 (F := F) 𝒱 c bd i arg1 harg1 arg2 harg2 arg3 harg3 arg4 harg4 arg5 harg5 rows8 (harg1.unread x1) (harg2.unread x2) i1 128).1.2.2.2.2.1 shapeCasts_S8x128_S8x128⟩,
        ⟨Rect.unit (s := S8x1280) ![0, 128] S8x128.size b1, shapeCast S8x128 (st_k0_t1 (F := F) 𝒱 c bd i arg1 harg1 arg2 harg2 arg3 harg3 arg4 harg4 arg5 harg5 rows8 (harg1.unread x1) (harg2.unread x2) i1 128).1.2.2.1 shapeCasts_S8x128_S8x128⟩,
        ⟨Rect.unit (s := S8x1280) ![0, 0] S8x128.size b0, shapeCast S8x128 (st_k0_t1 (F := F) 𝒱 c bd i arg1 harg1 arg2 harg2 arg3 harg3 arg4 harg4 arg5 harg5 rows8 (harg1.unread x1) (harg2.unread x2) i1 128).1.1 shapeCasts_S8x128_S8x128⟩]) = cgOut x1 x2 cs := by
  rw [fin1 𝒱 c bd i arg1 harg1 arg2 harg2 arg3 harg3 arg4 harg4 arg5 harg5 x1 x2 cs i1 h1, fin2 𝒱 c bd i arg1 harg1 arg2 harg2 arg3 harg3 arg4 harg4 arg5 harg5 x1 x2 v46 v47 v48 v49 v50 cs i2 h2]
  refine lanes_eq v f (cgOut x1 x2 cs) _ _ _ _ _ _ _ _ _ _ ?_ ?_ ?_ ?_ ?_ ?_ ?_ ?_ ?_ ?_ b0 b1 b2 b3 b4 b5 b6 b7 b8 b9
  · exact (shapeCast_self _ _).trans (laneBlk_cgOut x1 x2 cs 0 (by decide)).1.symm
  · exact (shapeCast_self _ _).trans (laneBlk_cgOut x1 x2 cs 1 (by decide)).1.symm
  · exact (shapeCast_self _ _).trans (laneBlk_cgOut x1 x2 cs 2 (by decide)).1.symm
  · exact (shapeCast_self _ _).trans (laneBlk_cgOut x1 x2 cs 3 (by decide)).1.symm
  · exact (shapeCast_self _ _).trans (laneBlk_cgOut x1 x2 cs 4 (by decide)).1.symm
  · exact (shapeCast_self _ _).trans (laneBlk_cgOut x1 x2 cs 5 (by decide)).1.symm
  · exact (shapeCast_self _ _).trans (laneBlk_cgOut x1 x2 cs 6 (by decide)).1.symm
  · exact (shapeCast_self _ _).trans (laneBlk_cgOut x1 x2 cs 7 (by decide)).1.symm
  · exact (shapeCast_self _ _).trans (laneBlk_cgOut x1 x2 cs 8 (by decide)).1.symm
  · exact (shapeCast_self _ _).trans (laneBlk_cgOut x1 x2 cs 9 (by decide)).1.symm

/-- The gradient scratch when both loops are done, over an earlier store of all of it. -/
theorem cg_finalZ (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (x1 x2 : Vec F S1024x1280 .f32)
    (v46 v47 v48 v49 v50 : Vec F S8x128 .f32) (cs : ℕ → Vec F S8x128 .f32 × Vec F S8x128 .f32) (i1 i2)
    (h1 : i1 = acc5 x1 x2 cs 0 0) (h2 : i2 = acc5 x1 x2 cs 5 0) (v : View sig .tc .vmem S8x1280 .f32) (f : BufTy.Contents (Elt F) v.ty)
    (b0 : ∀ a, (![0, 0] : Fin 2 → ℕ) a + S8x128.size a ≤ S8x1280.size a) (b1 : ∀ a, (![0, 128] : Fin 2 → ℕ) a + S8x128.size a ≤ S8x1280.size a) (b2 : ∀ a, (![0, 256] : Fin 2 → ℕ) a + S8x128.size a ≤ S8x1280.size a) (b3 : ∀ a, (![0, 384] : Fin 2 → ℕ) a + S8x128.size a ≤ S8x1280.size a) (b4 : ∀ a, (![0, 512] : Fin 2 → ℕ) a + S8x128.size a ≤ S8x1280.size a) (b5 : ∀ a, (![0, 640] : Fin 2 → ℕ) a + S8x128.size a ≤ S8x1280.size a) (b6 : ∀ a, (![0, 768] : Fin 2 → ℕ) a + S8x128.size a ≤ S8x1280.size a) (b7 : ∀ a, (![0, 896] : Fin 2 → ℕ) a + S8x128.size a ≤ S8x1280.size a) (b8 : ∀ a, (![0, 1024] : Fin 2 → ℕ) a + S8x128.size a ≤ S8x1280.size a) (b9 : ∀ a, (![0, 1152] : Fin 2 → ℕ) a + S8x128.size a ≤ S8x1280.size a) (bz : ∀ a, (![0, 0] : Fin 2 → ℕ) a + S8x1280.size a ≤ S8x1280.size a) (z : Vec F S8x1280 .f32) :
    v.read (Elt F) (v.writes (Elt F) f
       [⟨Rect.unit (s := S8x1280) ![0, 1152] S8x128.size b9, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.2.2.2.1 shapeCasts_S8x128_S8x128⟩,
        ⟨Rect.unit (s := S8x1280) ![0, 1024] S8x128.size b8, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.2.1 shapeCasts_S8x128_S8x128⟩,
        ⟨Rect.unit (s := S8x1280) ![0, 896] S8x128.size b7, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.1 shapeCasts_S8x128_S8x128⟩,
        ⟨Rect.unit (s := S8x1280) ![0, 768] S8x128.size b6, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.1 shapeCasts_S8x128_S8x128⟩,
        ⟨Rect.unit (s := S8x1280) ![0, 640] S8x128.size b5, shapeCast S8x128 (st_k0_t2 (F := F) 𝒱 c bd i arg1 harg1 arg2 harg2 arg3 harg3 arg4 harg4 arg5 harg5 rows8 v46 v47 v48 v49 v50 (harg1.unread x1) (harg2.unread x2) i2 128).1.1 shapeCasts_S8x128_S8x128⟩,
        ⟨Rect.unit (s := S8x1280) ![0, 512] S8x128.size b4, shapeCast S8x128 (st_k0_t1 (F := F) 𝒱 c bd i arg1 harg1 arg2 harg2 arg3 harg3 arg4 harg4 arg5 harg5 rows8 (harg1.unread x1) (harg2.unread x2) i1 128).1.2.2.2.2.2.2.2.2.1 shapeCasts_S8x128_S8x128⟩,
        ⟨Rect.unit (s := S8x1280) ![0, 384] S8x128.size b3, shapeCast S8x128 (st_k0_t1 (F := F) 𝒱 c bd i arg1 harg1 arg2 harg2 arg3 harg3 arg4 harg4 arg5 harg5 rows8 (harg1.unread x1) (harg2.unread x2) i1 128).1.2.2.2.2.2.2.1 shapeCasts_S8x128_S8x128⟩,
        ⟨Rect.unit (s := S8x1280) ![0, 256] S8x128.size b2, shapeCast S8x128 (st_k0_t1 (F := F) 𝒱 c bd i arg1 harg1 arg2 harg2 arg3 harg3 arg4 harg4 arg5 harg5 rows8 (harg1.unread x1) (harg2.unread x2) i1 128).1.2.2.2.2.1 shapeCasts_S8x128_S8x128⟩,
        ⟨Rect.unit (s := S8x1280) ![0, 128] S8x128.size b1, shapeCast S8x128 (st_k0_t1 (F := F) 𝒱 c bd i arg1 harg1 arg2 harg2 arg3 harg3 arg4 harg4 arg5 harg5 rows8 (harg1.unread x1) (harg2.unread x2) i1 128).1.2.2.1 shapeCasts_S8x128_S8x128⟩,
        ⟨Rect.unit (s := S8x1280) ![0, 0] S8x128.size b0, shapeCast S8x128 (st_k0_t1 (F := F) 𝒱 c bd i arg1 harg1 arg2 harg2 arg3 harg3 arg4 harg4 arg5 harg5 rows8 (harg1.unread x1) (harg2.unread x2) i1 128).1.1 shapeCasts_S8x128_S8x128⟩, ⟨Rect.unit (s := S8x1280) ![0, 0] S8x1280.size bz, z⟩]) = cgOut x1 x2 cs := by
  rw [fin1 𝒱 c bd i arg1 harg1 arg2 harg2 arg3 harg3 arg4 harg4 arg5 harg5 x1 x2 cs i1 h1, fin2 𝒱 c bd i arg1 harg1 arg2 harg2 arg3 harg3 arg4 harg4 arg5 harg5 x1 x2 v46 v47 v48 v49 v50 cs i2 h2]
  refine lanes_eqZ v f (cgOut x1 x2 cs) _ _ _ _ _ _ _ _ _ _ ?_ ?_ ?_ ?_ ?_ ?_ ?_ ?_ ?_ ?_ b0 b1 b2 b3 b4 b5 b6 b7 b8 b9 bz z
  · exact (shapeCast_self _ _).trans (laneBlk_cgOut x1 x2 cs 0 (by decide)).1.symm
  · exact (shapeCast_self _ _).trans (laneBlk_cgOut x1 x2 cs 1 (by decide)).1.symm
  · exact (shapeCast_self _ _).trans (laneBlk_cgOut x1 x2 cs 2 (by decide)).1.symm
  · exact (shapeCast_self _ _).trans (laneBlk_cgOut x1 x2 cs 3 (by decide)).1.symm
  · exact (shapeCast_self _ _).trans (laneBlk_cgOut x1 x2 cs 4 (by decide)).1.symm
  · exact (shapeCast_self _ _).trans (laneBlk_cgOut x1 x2 cs 5 (by decide)).1.symm
  · exact (shapeCast_self _ _).trans (laneBlk_cgOut x1 x2 cs 6 (by decide)).1.symm
  · exact (shapeCast_self _ _).trans (laneBlk_cgOut x1 x2 cs 7 (by decide)).1.symm
  · exact (shapeCast_self _ _).trans (laneBlk_cgOut x1 x2 cs 8 (by decide)).1.symm
  · exact (shapeCast_self _ _).trans (laneBlk_cgOut x1 x2 cs 9 (by decide)).1.symm

/-- The decay scratch when both loops are done. -/
theorem ca_final (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (x1 x2 : Vec F S1024x1280 .f32)
    (v46 v47 v48 v49 v50 : Vec F S8x128 .f32) (cs : ℕ → Vec F S8x128 .f32 × Vec F S8x128 .f32) (i1 i2)
    (h1 : i1 = acc5 x1 x2 cs 0 0) (h2 : i2 = acc5 x1 x2 cs 5 0) (v : View sig .tc .vmem S8x1280 .f32) (f : BufTy.Contents (Elt F) v.ty)
    (b0 : ∀ a, (![0, 0] : Fin 2 → ℕ) a + S8x128.size a ≤ S8x1280.size a) (b1 : ∀ a, (![0, 128] : Fin 2 → ℕ) a + S8x128.size a ≤ S8x1280.size a) (b2 : ∀ a, (![0, 256] : Fin 2 → ℕ) a + S8x128.size a ≤ S8x1280.size a) (b3 : ∀ a, (![0, 384] : Fin 2 → ℕ) a + S8x128.size a ≤ S8x1280.size a) (b4 : ∀ a, (![0, 512] : Fin 2 → ℕ) a + S8x128.size a ≤ S8x1280.size a) (b5 : ∀ a, (![0, 640] : Fin 2 → ℕ) a + S8x128.size a ≤ S8x1280.size a) (b6 : ∀ a, (![0, 768] : Fin 2 → ℕ) a + S8x128.size a ≤ S8x1280.size a) (b7 : ∀ a, (![0, 896] : Fin 2 → ℕ) a + S8x128.size a ≤ S8x1280.size a) (b8 : ∀ a, (![0, 1024] : Fin 2 → ℕ) a + S8x128.size a ≤ S8x1280.size a) (b9 : ∀ a, (![0, 1152] : Fin 2 → ℕ) a + S8x128.size a ≤ S8x1280.size a) :
    v.read (Elt F) (v.writes (Elt F) f
       [⟨Rect.unit (s := S8x1280) ![0, 1152] S8x128.size b9, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.2.2.2.2 shapeCasts_S8x128_S8x128⟩,
        ⟨Rect.unit (s := S8x1280) ![0, 1024] S8x128.size b8, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.2.2.1 shapeCasts_S8x128_S8x128⟩,
        ⟨Rect.unit (s := S8x1280) ![0, 896] S8x128.size b7, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.1 shapeCasts_S8x128_S8x128⟩,
        ⟨Rect.unit (s := S8x1280) ![0, 768] S8x128.size b6, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.1 shapeCasts_S8x128_S8x128⟩,
        ⟨Rect.unit (s := S8x1280) ![0, 640] S8x128.size b5, shapeCast S8x128 (st_k0_t2 (F := F) 𝒱 c bd i arg1 harg1 arg2 harg2 arg3 harg3 arg4 harg4 arg5 harg5 rows8 v46 v47 v48 v49 v50 (harg1.unread x1) (harg2.unread x2) i2 128).1.2.1 shapeCasts_S8x128_S8x128⟩,
        ⟨Rect.unit (s := S8x1280) ![0, 512] S8x128.size b4, shapeCast S8x128 (st_k0_t1 (F := F) 𝒱 c bd i arg1 harg1 arg2 harg2 arg3 harg3 arg4 harg4 arg5 harg5 rows8 (harg1.unread x1) (harg2.unread x2) i1 128).1.2.2.2.2.2.2.2.2.2 shapeCasts_S8x128_S8x128⟩,
        ⟨Rect.unit (s := S8x1280) ![0, 384] S8x128.size b3, shapeCast S8x128 (st_k0_t1 (F := F) 𝒱 c bd i arg1 harg1 arg2 harg2 arg3 harg3 arg4 harg4 arg5 harg5 rows8 (harg1.unread x1) (harg2.unread x2) i1 128).1.2.2.2.2.2.2.2.1 shapeCasts_S8x128_S8x128⟩,
        ⟨Rect.unit (s := S8x1280) ![0, 256] S8x128.size b2, shapeCast S8x128 (st_k0_t1 (F := F) 𝒱 c bd i arg1 harg1 arg2 harg2 arg3 harg3 arg4 harg4 arg5 harg5 rows8 (harg1.unread x1) (harg2.unread x2) i1 128).1.2.2.2.2.2.1 shapeCasts_S8x128_S8x128⟩,
        ⟨Rect.unit (s := S8x1280) ![0, 128] S8x128.size b1, shapeCast S8x128 (st_k0_t1 (F := F) 𝒱 c bd i arg1 harg1 arg2 harg2 arg3 harg3 arg4 harg4 arg5 harg5 rows8 (harg1.unread x1) (harg2.unread x2) i1 128).1.2.2.2.1 shapeCasts_S8x128_S8x128⟩,
        ⟨Rect.unit (s := S8x1280) ![0, 0] S8x128.size b0, shapeCast S8x128 (st_k0_t1 (F := F) 𝒱 c bd i arg1 harg1 arg2 harg2 arg3 harg3 arg4 harg4 arg5 harg5 rows8 (harg1.unread x1) (harg2.unread x2) i1 128).1.2.1 shapeCasts_S8x128_S8x128⟩]) = caOut x1 x2 cs := by
  rw [fin1 𝒱 c bd i arg1 harg1 arg2 harg2 arg3 harg3 arg4 harg4 arg5 harg5 x1 x2 cs i1 h1, fin2 𝒱 c bd i arg1 harg1 arg2 harg2 arg3 harg3 arg4 harg4 arg5 harg5 x1 x2 v46 v47 v48 v49 v50 cs i2 h2]
  refine lanes_eq v f (caOut x1 x2 cs) _ _ _ _ _ _ _ _ _ _ ?_ ?_ ?_ ?_ ?_ ?_ ?_ ?_ ?_ ?_ b0 b1 b2 b3 b4 b5 b6 b7 b8 b9
  · exact (shapeCast_self _ _).trans (laneBlk_cgOut x1 x2 cs 0 (by decide)).2.symm
  · exact (shapeCast_self _ _).trans (laneBlk_cgOut x1 x2 cs 1 (by decide)).2.symm
  · exact (shapeCast_self _ _).trans (laneBlk_cgOut x1 x2 cs 2 (by decide)).2.symm
  · exact (shapeCast_self _ _).trans (laneBlk_cgOut x1 x2 cs 3 (by decide)).2.symm
  · exact (shapeCast_self _ _).trans (laneBlk_cgOut x1 x2 cs 4 (by decide)).2.symm
  · exact (shapeCast_self _ _).trans (laneBlk_cgOut x1 x2 cs 5 (by decide)).2.symm
  · exact (shapeCast_self _ _).trans (laneBlk_cgOut x1 x2 cs 6 (by decide)).2.symm
  · exact (shapeCast_self _ _).trans (laneBlk_cgOut x1 x2 cs 7 (by decide)).2.symm
  · exact (shapeCast_self _ _).trans (laneBlk_cgOut x1 x2 cs 8 (by decide)).2.symm
  · exact (shapeCast_self _ _).trans (laneBlk_cgOut x1 x2 cs 9 (by decide)).2.symm

/-- The decay scratch when both loops are done, over an earlier store of all of it. -/
theorem ca_finalZ (𝒱 : Variants) (c : Dev nD) (bd : Option 𝒱.V) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (x1 x2 : Vec F S1024x1280 .f32)
    (v46 v47 v48 v49 v50 : Vec F S8x128 .f32) (cs : ℕ → Vec F S8x128 .f32 × Vec F S8x128 .f32) (i1 i2)
    (h1 : i1 = acc5 x1 x2 cs 0 0) (h2 : i2 = acc5 x1 x2 cs 5 0) (v : View sig .tc .vmem S8x1280 .f32) (f : BufTy.Contents (Elt F) v.ty)
    (b0 : ∀ a, (![0, 0] : Fin 2 → ℕ) a + S8x128.size a ≤ S8x1280.size a) (b1 : ∀ a, (![0, 128] : Fin 2 → ℕ) a + S8x128.size a ≤ S8x1280.size a) (b2 : ∀ a, (![0, 256] : Fin 2 → ℕ) a + S8x128.size a ≤ S8x1280.size a) (b3 : ∀ a, (![0, 384] : Fin 2 → ℕ) a + S8x128.size a ≤ S8x1280.size a) (b4 : ∀ a, (![0, 512] : Fin 2 → ℕ) a + S8x128.size a ≤ S8x1280.size a) (b5 : ∀ a, (![0, 640] : Fin 2 → ℕ) a + S8x128.size a ≤ S8x1280.size a) (b6 : ∀ a, (![0, 768] : Fin 2 → ℕ) a + S8x128.size a ≤ S8x1280.size a) (b7 : ∀ a, (![0, 896] : Fin 2 → ℕ) a + S8x128.size a ≤ S8x1280.size a) (b8 : ∀ a, (![0, 1024] : Fin 2 → ℕ) a + S8x128.size a ≤ S8x1280.size a) (b9 : ∀ a, (![0, 1152] : Fin 2 → ℕ) a + S8x128.size a ≤ S8x1280.size a) (bz : ∀ a, (![0, 0] : Fin 2 → ℕ) a + S8x1280.size a ≤ S8x1280.size a) (z : Vec F S8x1280 .f32) :
    v.read (Elt F) (v.writes (Elt F) f
       [⟨Rect.unit (s := S8x1280) ![0, 1152] S8x128.size b9, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.2.2.2.2 shapeCasts_S8x128_S8x128⟩,
        ⟨Rect.unit (s := S8x1280) ![0, 1024] S8x128.size b8, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.2.2.1 shapeCasts_S8x128_S8x128⟩,
        ⟨Rect.unit (s := S8x1280) ![0, 896] S8x128.size b7, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.2.2.1 shapeCasts_S8x128_S8x128⟩,
        ⟨Rect.unit (s := S8x1280) ![0, 768] S8x128.size b6, shapeCast S8x128 (st_k0_t2 (F := F) 𝒱 c bd i arg1 harg1 arg2 harg2 arg3 harg3 arg4 harg4 arg5 harg5 rows8 v46 v47 v48 v49 v50 (harg1.unread x1) (harg2.unread x2) i2 128).1.2.2.2.1 shapeCasts_S8x128_S8x128⟩,
        ⟨Rect.unit (s := S8x1280) ![0, 640] S8x128.size b5, shapeCast S8x128 (st_k0_t2 (F := F) 𝒱 c bd i arg1 harg1 arg2 harg2 arg3 harg3 arg4 harg4 arg5 harg5 rows8 v46 v47 v48 v49 v50 (harg1.unread x1) (harg2.unread x2) i2 128).1.2.1 shapeCasts_S8x128_S8x128⟩,
        ⟨Rect.unit (s := S8x1280) ![0, 512] S8x128.size b4, shapeCast S8x128 (st_k0_t1 (F := F) 𝒱 c bd i arg1 harg1 arg2 harg2 arg3 harg3 arg4 harg4 arg5 harg5 rows8 (harg1.unread x1) (harg2.unread x2) i1 128).1.2.2.2.2.2.2.2.2.2 shapeCasts_S8x128_S8x128⟩,
        ⟨Rect.unit (s := S8x1280) ![0, 384] S8x128.size b3, shapeCast S8x128 (st_k0_t1 (F := F) 𝒱 c bd i arg1 harg1 arg2 harg2 arg3 harg3 arg4 harg4 arg5 harg5 rows8 (harg1.unread x1) (harg2.unread x2) i1 128).1.2.2.2.2.2.2.2.1 shapeCasts_S8x128_S8x128⟩,
        ⟨Rect.unit (s := S8x1280) ![0, 256] S8x128.size b2, shapeCast S8x128 (st_k0_t1 (F := F) 𝒱 c bd i arg1 harg1 arg2 harg2 arg3 harg3 arg4 harg4 arg5 harg5 rows8 (harg1.unread x1) (harg2.unread x2) i1 128).1.2.2.2.2.2.1 shapeCasts_S8x128_S8x128⟩,
        ⟨Rect.unit (s := S8x1280) ![0, 128] S8x128.size b1, shapeCast S8x128 (st_k0_t1 (F := F) 𝒱 c bd i arg1 harg1 arg2 harg2 arg3 harg3 arg4 harg4 arg5 harg5 rows8 (harg1.unread x1) (harg2.unread x2) i1 128).1.2.2.2.1 shapeCasts_S8x128_S8x128⟩,
        ⟨Rect.unit (s := S8x1280) ![0, 0] S8x128.size b0, shapeCast S8x128 (st_k0_t1 (F := F) 𝒱 c bd i arg1 harg1 arg2 harg2 arg3 harg3 arg4 harg4 arg5 harg5 rows8 (harg1.unread x1) (harg2.unread x2) i1 128).1.2.1 shapeCasts_S8x128_S8x128⟩, ⟨Rect.unit (s := S8x1280) ![0, 0] S8x1280.size bz, z⟩]) = caOut x1 x2 cs := by
  rw [fin1 𝒱 c bd i arg1 harg1 arg2 harg2 arg3 harg3 arg4 harg4 arg5 harg5 x1 x2 cs i1 h1, fin2 𝒱 c bd i arg1 harg1 arg2 harg2 arg3 harg3 arg4 harg4 arg5 harg5 x1 x2 v46 v47 v48 v49 v50 cs i2 h2]
  refine lanes_eqZ v f (caOut x1 x2 cs) _ _ _ _ _ _ _ _ _ _ ?_ ?_ ?_ ?_ ?_ ?_ ?_ ?_ ?_ ?_ b0 b1 b2 b3 b4 b5 b6 b7 b8 b9 bz z
  · exact (shapeCast_self _ _).trans (laneBlk_cgOut x1 x2 cs 0 (by decide)).2.symm
  · exact (shapeCast_self _ _).trans (laneBlk_cgOut x1 x2 cs 1 (by decide)).2.symm
  · exact (shapeCast_self _ _).trans (laneBlk_cgOut x1 x2 cs 2 (by decide)).2.symm
  · exact (shapeCast_self _ _).trans (laneBlk_cgOut x1 x2 cs 3 (by decide)).2.symm
  · exact (shapeCast_self _ _).trans (laneBlk_cgOut x1 x2 cs 4 (by decide)).2.symm
  · exact (shapeCast_self _ _).trans (laneBlk_cgOut x1 x2 cs 5 (by decide)).2.symm
  · exact (shapeCast_self _ _).trans (laneBlk_cgOut x1 x2 cs 6 (by decide)).2.symm
  · exact (shapeCast_self _ _).trans (laneBlk_cgOut x1 x2 cs 7 (by decide)).2.symm
  · exact (shapeCast_self _ _).trans (laneBlk_cgOut x1 x2 cs 8 (by decide)).2.symm
  · exact (shapeCast_self _ _).trans (laneBlk_cgOut x1 x2 cs 9 (by decide)).2.symm

end Cert.KernelIdeal.Lru

end
-- ==== Proof.LruRunB.lean ====
/-
  The body at a point after the first: from any carried scratches it leaves the output block and both scratches at the
  contents LruSpec.lean states.
-/
module

public import proofs.«01_k».proof.Proof.LruOut
public import proofs.«01_k».proof.Proof.Gen.KernelIdeal.Frame

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The condition of the body's conditional: the grid's first point. -/
abbrev atFirst (i : grid0.Coords) : Prop :=
  (Scalar.cmpi .ne (Scalar.extui (Scalar.cmpi .eq (BitVec.ofNat 32 (i 0).val) 0#32)) 0#32) = 1#1

set_option maxHeartbeats 1000000 in
theorem run_later (c : Dev nD) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (hc0 : ¬atFirst i)
    (x1 x2 : Vec F S1024x1280 .f32) (s0 s1 : Vec F S8x1280 .f32) (E : Set ℕ) (K : PUnit → sProp 𝕄) :
    iprop(owns (c : Thread nD τ) arg1 fullShare x1 ∗ owns (c : Thread nD τ) arg2 fullShare x2 ∗ (∃ d, owns (c : Thread nD τ) arg3 fullShare d) ∗ owns (c : Thread nD τ) arg4 fullShare s0 ∗ owns (c : Thread nD τ) arg5 fullShare s1
        ∗ (iprop(owns (c : Thread nD τ) arg1 fullShare x1 ∗ owns (c : Thread nD τ) arg2 fullShare x2 ∗ owns (c : Thread nD τ) arg3 fullShare (gOut x1 x2 (pairs s0 s1)) ∗ owns (c : Thread nD τ) arg4 fullShare (cgOut x1 x2 (pairs s0 s1)) ∗ owns (c : Thread nD τ) arg5 fullShare (caOut x1 x2 (pairs s0 s1))) -∗ K ⟨⟩))
      ⊢ wp frame (wpE (defs₀ (F := F)) Variants.none c none) E (cc0_lru_scan_bwd i arg1 harg1 arg2 harg2 arg3 harg3 arg4 harg4 arg5 harg5) K := by
  simp only [cc0_lru_scan_bwd_eq_skeleton]; unfold cc0_lru_scan_bwd_skel
  simp only [k0_part11_eq_skeleton, k0_part12_eq_skeleton, k0_part13_eq_skeleton]
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1; obtain rfl := harg4.eq_unread hfs0; obtain rfl := harg5.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_words
    refine out_eq (F := F) Variants.none c none i arg1 harg1 arg2 harg2 arg3 harg3 arg4 harg4 arg5 harg5 x1 x2 _ _ _ _ _ (pairs s0 s1) _ _ ?_ ?_ _
    · rw [readAt_lane _ _ s0 (harg4.read_unread _) _ _ 0 (by decide) rfl, readAt_lane _ _ s1 (harg5.read_unread _) _ _ 0 (by decide) rfl, readAt_lane _ _ s0 (harg4.read_unread _) _ _ 1 (by decide) rfl, readAt_lane _ _ s1 (harg5.read_unread _) _ _ 1 (by decide) rfl, readAt_lane _ _ s0 (harg4.read_unread _) _ _ 2 (by decide) rfl, readAt_lane _ _ s1 (harg5.read_unread _) _ _ 2 (by decide) rfl, readAt_lane _ _ s0 (harg4.read_unread _) _ _ 3 (by decide) rfl, readAt_lane _ _ s1 (harg5.read_unread _) _ _ 3 (by decide) rfl, readAt_lane _ _ s0 (harg4.read_unread _) _ _ 4 (by decide) rfl, readAt_lane _ _ s1 (harg5.read_unread _) _ _ 4 (by decide) rfl]; rfl
    · rw [readAt_lane _ _ s0 (harg4.read_unread _) _ _ 5 (by decide) rfl, readAt_lane _ _ s1 (harg5.read_unread _) _ _ 5 (by decide) rfl, readAt_lane _ _ s0 (harg4.read_unread _) _ _ 6 (by decide) rfl, readAt_lane _ _ s1 (harg5.read_unread _) _ _ 6 (by decide) rfl, readAt_lane _ _ s0 (harg4.read_unread _) _ _ 7 (by decide) rfl, readAt_lane _ _ s1 (harg5.read_unread _) _ _ 7 (by decide) rfl, readAt_lane _ _ s0 (harg4.read_unread _) _ _ 8 (by decide) rfl, readAt_lane _ _ s1 (harg5.read_unread _) _ _ 8 (by decide) rfl, readAt_lane _ _ s0 (harg4.read_unread _) _ _ 9 (by decide) rfl, readAt_lane _ _ s1 (harg5.read_unread _) _ _ 9 (by decide) rfl]; rfl
  isplitl [HS0]
  · iexists _; isplitr; swap; · iexact HS0
    ipureintro
    sl_unfold_words
    refine cg_final (F := F) Variants.none c none i arg1 harg1 arg2 harg2 arg3 harg3 arg4 harg4 arg5 harg5 x1 x2 _ _ _ _ _ (pairs s0 s1) _ _ ?_ ?_ _ _ _ _ _ _ _ _ _ _ _ _
    · rw [readAt_lane _ _ s0 (harg4.read_unread _) _ _ 0 (by decide) rfl, readAt_lane _ _ s1 (harg5.read_unread _) _ _ 0 (by decide) rfl, readAt_lane _ _ s0 (harg4.read_unread _) _ _ 1 (by decide) rfl, readAt_lane _ _ s1 (harg5.read_unread _) _ _ 1 (by decide) rfl, readAt_lane _ _ s0 (harg4.read_unread _) _ _ 2 (by decide) rfl, readAt_lane _ _ s1 (harg5.read_unread _) _ _ 2 (by decide) rfl, readAt_lane _ _ s0 (harg4.read_unread _) _ _ 3 (by decide) rfl, readAt_lane _ _ s1 (harg5.read_unread _) _ _ 3 (by decide) rfl, readAt_lane _ _ s0 (harg4.read_unread _) _ _ 4 (by decide) rfl, readAt_lane _ _ s1 (harg5.read_unread _) _ _ 4 (by decide) rfl]; rfl
    · rw [readAt_lane _ _ s0 (harg4.read_unread _) _ _ 5 (by decide) rfl, readAt_lane _ _ s1 (harg5.read_unread _) _ _ 5 (by decide) rfl, readAt_lane _ _ s0 (harg4.read_unread _) _ _ 6 (by decide) rfl, readAt_lane _ _ s1 (harg5.read_unread _) _ _ 6 (by decide) rfl, readAt_lane _ _ s0 (harg4.read_unread _) _ _ 7 (by decide) rfl, readAt_lane _ _ s1 (harg5.read_unread _) _ _ 7 (by decide) rfl, readAt_lane _ _ s0 (harg4.read_unread _) _ _ 8 (by decide) rfl, readAt_lane _ _ s1 (harg5.read_unread _) _ _ 8 (by decide) rfl, readAt_lane _ _ s0 (harg4.read_unread _) _ _ 9 (by decide) rfl, readAt_lane _ _ s1 (harg5.read_unread _) _ _ 9 (by decide) rfl]; rfl
  · iexists _; isplitr; swap; · iexact HS1
    ipureintro
    sl_unfold_words
    refine ca_final (F := F) Variants.none c none i arg1 harg1 arg2 harg2 arg3 harg3 arg4 harg4 arg5 harg5 x1 x2 _ _ _ _ _ (pairs s0 s1) _ _ ?_ ?_ _ _ _ _ _ _ _ _ _ _ _ _
    · rw [readAt_lane _ _ s0 (harg4.read_unread _) _ _ 0 (by decide) rfl, readAt_lane _ _ s1 (harg5.read_unread _) _ _ 0 (by decide) rfl, readAt_lane _ _ s0 (harg4.read_unread _) _ _ 1 (by decide) rfl, readAt_lane _ _ s1 (harg5.read_unread _) _ _ 1 (by decide) rfl, readAt_lane _ _ s0 (harg4.read_unread _) _ _ 2 (by decide) rfl, readAt_lane _ _ s1 (harg5.read_unread _) _ _ 2 (by decide) rfl, readAt_lane _ _ s0 (harg4.read_unread _) _ _ 3 (by decide) rfl, readAt_lane _ _ s1 (harg5.read_unread _) _ _ 3 (by decide) rfl, readAt_lane _ _ s0 (harg4.read_unread _) _ _ 4 (by decide) rfl, readAt_lane _ _ s1 (harg5.read_unread _) _ _ 4 (by decide) rfl]; rfl
    · rw [readAt_lane _ _ s0 (harg4.read_unread _) _ _ 5 (by decide) rfl, readAt_lane _ _ s1 (harg5.read_unread _) _ _ 5 (by decide) rfl, readAt_lane _ _ s0 (harg4.read_unread _) _ _ 6 (by decide) rfl, readAt_lane _ _ s1 (harg5.read_unread _) _ _ 6 (by decide) rfl, readAt_lane _ _ s0 (harg4.read_unread _) _ _ 7 (by decide) rfl, readAt_lane _ _ s1 (harg5.read_unread _) _ _ 7 (by decide) rfl, readAt_lane _ _ s0 (harg4.read_unread _) _ _ 8 (by decide) rfl, readAt_lane _ _ s1 (harg5.read_unread _) _ _ 8 (by decide) rfl, readAt_lane _ _ s0 (harg4.read_unread _) _ _ 9 (by decide) rfl, readAt_lane _ _ s1 (harg5.read_unread _) _ _ 9 (by decide) rfl]; rfl

end Cert.KernelIdeal.Lru

end
-- ==== Proof.LruRunA.lean ====
/-
  The body at the first point: from any scratches, which it sets to zero, it leaves the output block and both scratches at the
  contents LruSpec.lean states.
-/
module

public import proofs.«01_k».proof.Proof.LruRunB
public import Idealize.ShloMosaic.Lib.WritesUnit

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A scratch the body has just set to zero. -/
def zeros : Vec F S8x1280 .f32 := k0_pay103

/-- What a load of lane group `q` reads is not what was stored to another lane group. -/
theorem cov_skip (v : View sig .tc .vmem S8x1280 .f32) (p q : ℕ) (hpq : p ≠ q) (off' off : Fin 2 → ℕ)
    (inb' : ∀ a, off' a + S8x128.size a ≤ S8x1280.size a) (inb : ∀ a, off a + S8x128.size a ≤ S8x1280.size a)
    (h' : off' = ![0, 128 * p]) (h : off = ![0, 128 * q]) (w : (Rect.unit (s := S8x1280) off' S8x128.size inb').shape.Idx → Elt F .f32)
    (L : List (View.Piece (Elt F) S8x1280 .f32)) :
    v.readCov (Val := Elt F) (⟨Rect.unit (s := S8x1280) off' S8x128.size inb', w⟩ :: L) (Rect.unit (s := S8x1280) off S8x128.size inb).toLoadRect
      = v.readCov L (Rect.unit (s := S8x1280) off S8x128.size inb).toLoadRect := by
  subst h
  funext j
  refine View.read_writes_cons_unit_of_not_mem (v := v) (f := v.junk) inb' w L _ h' 1 ?_
  have h1 : (j 1).val < 128 := (j 1).isLt
  show 128 * q + 1 * (j 1).val < 128 * p ∨ 128 * p + 128 ≤ 128 * q + 1 * (j 1).val
  omega

/-- A load of a lane group of a buffer stored whole. -/
theorem cov_whole (v : View sig .tc .vmem S8x1280 .f32) (q : ℕ) (hq : q < 10) (off' off : Fin 2 → ℕ)
    (inb' : ∀ a, off' a + S8x1280.size a ≤ S8x1280.size a) (inb : ∀ a, off a + S8x128.size a ≤ S8x1280.size a)
    (h' : off' = ![0, 0]) (h : off = ![0, 128 * q]) (w : Vec F S8x1280 .f32) :
    v.readCov (Val := Elt F) [⟨Rect.unit (s := S8x1280) off' S8x1280.size inb', w⟩] (Rect.unit (s := S8x1280) off S8x128.size inb).toLoadRect
      = laneBlk w q := by
  refine readAt_lane v _ w ?_ off inb q hq h
  funext y
  refine View.read_writes_cons_unit_of_mem (v := v) (f := v.junk) inb' w [] y y h' fun a => ?_
  match a with
  | ⟨0, _⟩ => exact (Nat.zero_add _).symm
  | ⟨1, _⟩ => exact (Nat.zero_add _).symm

/-- Ten equal components. -/
theorem mk10 {α : Type} {a0 a1 a2 a3 a4 a5 a6 a7 a8 a9 b0 b1 b2 b3 b4 b5 b6 b7 b8 b9 : α} (h0 : a0 = b0) (h1 : a1 = b1)
    (h2 : a2 = b2) (h3 : a3 = b3) (h4 : a4 = b4) (h5 : a5 = b5) (h6 : a6 = b6) (h7 : a7 = b7) (h8 : a8 = b8) (h9 : a9 = b9) :
    (a0, a1, a2, a3, a4, a5, a6, a7, a8, a9) = (b0, b1, b2, b3, b4, b5, b6, b7, b8, b9) := by
  subst h0 h1 h2 h3 h4 h5 h6 h7 h8 h9; rfl

set_option maxHeartbeats 1000000 in
theorem run_first (c : Dev nD) (i : grid0.Coords) (arg1 : Memref sig .tc .vmem S1024x1280 .f32) (harg1 : arg1.IsWhole) (arg2 : Memref sig .tc .vmem S1024x1280 .f32) (harg2 : arg2.IsWhole) (arg3 : Memref sig .tc .vmem S1024x1280 .f32) (harg3 : arg3.IsWhole) (arg4 : Memref sig .tc .vmem S8x1280 .f32) (harg4 : arg4.IsWhole) (arg5 : Memref sig .tc .vmem S8x1280 .f32) (harg5 : arg5.IsWhole) (hc0 : atFirst i)
    (x1 x2 : Vec F S1024x1280 .f32) (E : Set ℕ) (K : PUnit → sProp 𝕄) :
    iprop(owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x1 ∗ owns (c : Thread nD τ) arg2 fullShare x2 ∗ owns (c : Thread nD τ) arg3 fullShare (gOut x1 x2 (pairs zeros zeros)) ∗ owns (c : Thread nD τ) arg4 fullShare (cgOut x1 x2 (pairs zeros zeros)) ∗ owns (c : Thread nD τ) arg5 fullShare (caOut x1 x2 (pairs zeros zeros))) -∗ K ⟨⟩))
      ⊢ wp frame (wpE (defs₀ (F := F)) Variants.none c none) E (cc0_lru_scan_bwd i arg1 harg1 arg2 harg2 arg3 harg3 arg4 harg4 arg5 harg5) K := by
  simp only [cc0_lru_scan_bwd_eq_skeleton]; unfold cc0_lru_scan_bwd_skel
  simp only [k0_part11_eq_skeleton, k0_part12_eq_skeleton, k0_part13_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine out_eq (F := F) Variants.none c none i arg1 harg1 arg2 harg2 arg3 harg3 arg4 harg4 arg5 harg5 x1 x2 _ _ _ _ _ (pairs zeros zeros) _ _ ?_ ?_ _
    · exact mk10 (cov_whole _ 0 (by decide) _ _ _ _ rfl rfl _) (cov_whole _ 0 (by decide) _ _ _ _ rfl rfl _) (cov_whole _ 1 (by decide) _ _ _ _ rfl rfl _) (cov_whole _ 1 (by decide) _ _ _ _ rfl rfl _) (cov_whole _ 2 (by decide) _ _ _ _ rfl rfl _) (cov_whole _ 2 (by decide) _ _ _ _ rfl rfl _) (cov_whole _ 3 (by decide) _ _ _ _ rfl rfl _) (cov_whole _ 3 (by decide) _ _ _ _ rfl rfl _) (cov_whole _ 4 (by decide) _ _ _ _ rfl rfl _) (cov_whole _ 4 (by decide) _ _ _ _ rfl rfl _)
    · exact mk10 ((cov_skip _ 4 5 (by decide) _ _ _ _ rfl rfl _ _).trans ((cov_skip _ 3 5 (by decide) _ _ _ _ rfl rfl _ _).trans ((cov_skip _ 2 5 (by decide) _ _ _ _ rfl rfl _ _).trans ((cov_skip _ 1 5 (by decide) _ _ _ _ rfl rfl _ _).trans ((cov_skip _ 0 5 (by decide) _ _ _ _ rfl rfl _ _).trans (cov_whole _ 5 (by decide) _ _ _ _ rfl rfl _)))))) ((cov_skip _ 4 5 (by decide) _ _ _ _ rfl rfl _ _).trans ((cov_skip _ 3 5 (by decide) _ _ _ _ rfl rfl _ _).trans ((cov_skip _ 2 5 (by decide) _ _ _ _ rfl rfl _ _).trans ((cov_skip _ 1 5 (by decide) _ _ _ _ rfl rfl _ _).trans ((cov_skip _ 0 5 (by decide) _ _ _ _ rfl rfl _ _).trans (cov_whole _ 5 (by decide) _ _ _ _ rfl rfl _)))))) ((cov_skip _ 4 6 (by decide) _ _ _ _ rfl rfl _ _).trans ((cov_skip _ 3 6 (by decide) _ _ _ _ rfl rfl _ _).trans ((cov_skip _ 2 6 (by decide) _ _ _ _ rfl rfl _ _).trans ((cov_skip _ 1 6 (by decide) _ _ _ _ rfl rfl _ _).trans ((cov_skip _ 0 6 (by decide) _ _ _ _ rfl rfl _ _).trans (cov_whole _ 6 (by decide) _ _ _ _ rfl rfl _)))))) ((cov_skip _ 4 6 (by decide) _ _ _ _ rfl rfl _ _).trans ((cov_skip _ 3 6 (by decide) _ _ _ _ rfl rfl _ _).trans ((cov_skip _ 2 6 (by decide) _ _ _ _ rfl rfl _ _).trans ((cov_skip _ 1 6 (by decide) _ _ _ _ rfl rfl _ _).trans ((cov_skip _ 0 6 (by decide) _ _ _ _ rfl rfl _ _).trans (cov_whole _ 6 (by decide) _ _ _ _ rfl rfl _)))))) ((cov_skip _ 4 7 (by decide) _ _ _ _ rfl rfl _ _).trans ((cov_skip _ 3 7 (by decide) _ _ _ _ rfl rfl _ _).trans ((cov_skip _ 2 7 (by decide) _ _ _ _ rfl rfl _ _).trans ((cov_skip _ 1 7 (by decide) _ _ _ _ rfl rfl _ _).trans ((cov_skip _ 0 7 (by decide) _ _ _ _ rfl rfl _ _).trans (cov_whole _ 7 (by decide) _ _ _ _ rfl rfl _)))))) ((cov_skip _ 4 7 (by decide) _ _ _ _ rfl rfl _ _).trans ((cov_skip _ 3 7 (by decide) _ _ _ _ rfl rfl _ _).trans ((cov_skip _ 2 7 (by decide) _ _ _ _ rfl rfl _ _).trans ((cov_skip _ 1 7 (by decide) _ _ _ _ rfl rfl _ _).trans ((cov_skip _ 0 7 (by decide) _ _ _ _ rfl rfl _ _).trans (cov_whole _ 7 (by decide) _ _ _ _ rfl rfl _)))))) ((cov_skip _ 4 8 (by decide) _ _ _ _ rfl rfl _ _).trans ((cov_skip _ 3 8 (by decide) _ _ _ _ rfl rfl _ _).trans ((cov_skip _ 2 8 (by decide) _ _ _ _ rfl rfl _ _).trans ((cov_skip _ 1 8 (by decide) _ _ _ _ rfl rfl _ _).trans ((cov_skip _ 0 8 (by decide) _ _ _ _ rfl rfl _ _).trans (cov_whole _ 8 (by decide) _ _ _ _ rfl rfl _)))))) ((cov_skip _ 4 8 (by decide) _ _ _ _ rfl rfl _ _).trans ((cov_skip _ 3 8 (by decide) _ _ _ _ rfl rfl _ _).trans ((cov_skip _ 2 8 (by decide) _ _ _ _ rfl rfl _ _).trans ((cov_skip _ 1 8 (by decide) _ _ _ _ rfl rfl _ _).trans ((cov_skip _ 0 8 (by decide) _ _ _ _ rfl rfl _ _).trans (cov_whole _ 8 (by decide) _ _ _ _ rfl rfl _)))))) ((cov_skip _ 4 9 (by decide) _ _ _ _ rfl rfl _ _).trans ((cov_skip _ 3 9 (by decide) _ _ _ _ rfl rfl _ _).trans ((cov_skip _ 2 9 (by decide) _ _ _ _ rfl rfl _ _).trans ((cov_skip _ 1 9 (by decide) _ _ _ _ rfl rfl _ _).trans ((cov_skip _ 0 9 (by decide) _ _ _ _ rfl rfl _ _).trans (cov_whole _ 9 (by decide) _ _ _ _ rfl rfl _)))))) ((cov_skip _ 4 9 (by decide) _ _ _ _ rfl rfl _ _).trans ((cov_skip _ 3 9 (by decide) _ _ _ _ rfl rfl _ _).trans ((cov_skip _ 2 9 (by decide) _ _ _ _ rfl rfl _ _).trans ((cov_skip _ 1 9 (by decide) _ _ _ _ rfl rfl _ _).trans ((cov_skip _ 0 9 (by decide) _ _ _ _ rfl rfl _ _).trans (cov_whole _ 9 (by decide) _ _ _ _ rfl rfl _))))))
  isplitl [HS0]
  · iexists _; isplitr; swap; · iexact HS0
    ipureintro
    refine cg_finalZ (F := F) Variants.none c none i arg1 harg1 arg2 harg2 arg3 harg3 arg4 harg4 arg5 harg5 x1 x2 _ _ _ _ _ (pairs zeros zeros) _ _ ?_ ?_ _ _ _ _ _ _ _ _ _ _ _ _ _ _
    · exact mk10 (cov_whole _ 0 (by decide) _ _ _ _ rfl rfl _) (cov_whole _ 0 (by decide) _ _ _ _ rfl rfl _) (cov_whole _ 1 (by decide) _ _ _ _ rfl rfl _) (cov_whole _ 1 (by decide) _ _ _ _ rfl rfl _) (cov_whole _ 2 (by decide) _ _ _ _ rfl rfl _) (cov_whole _ 2 (by decide) _ _ _ _ rfl rfl _) (cov_whole _ 3 (by decide) _ _ _ _ rfl rfl _) (cov_whole _ 3 (by decide) _ _ _ _ rfl rfl _) (cov_whole _ 4 (by decide) _ _ _ _ rfl rfl _) (cov_whole _ 4 (by decide) _ _ _ _ rfl rfl _)
    · exact mk10 ((cov_skip _ 4 5 (by decide) _ _ _ _ rfl rfl _ _).trans ((cov_skip _ 3 5 (by decide) _ _ _ _ rfl rfl _ _).trans ((cov_skip _ 2 5 (by decide) _ _ _ _ rfl rfl _ _).trans ((cov_skip _ 1 5 (by decide) _ _ _ _ rfl rfl _ _).trans ((cov_skip _ 0 5 (by decide) _ _ _ _ rfl rfl _ _).trans (cov_whole _ 5 (by decide) _ _ _ _ rfl rfl _)))))) ((cov_skip _ 4 5 (by decide) _ _ _ _ rfl rfl _ _).trans ((cov_skip _ 3 5 (by decide) _ _ _ _ rfl rfl _ _).trans ((cov_skip _ 2 5 (by decide) _ _ _ _ rfl rfl _ _).trans ((cov_skip _ 1 5 (by decide) _ _ _ _ rfl rfl _ _).trans ((cov_skip _ 0 5 (by decide) _ _ _ _ rfl rfl _ _).trans (cov_whole _ 5 (by decide) _ _ _ _ rfl rfl _)))))) ((cov_skip _ 4 6 (by decide) _ _ _ _ rfl rfl _ _).trans ((cov_skip _ 3 6 (by decide) _ _ _ _ rfl rfl _ _).trans ((cov_skip _ 2 6 (by decide) _ _ _ _ rfl rfl _ _).trans ((cov_skip _ 1 6 (by decide) _ _ _ _ rfl rfl _ _).trans ((cov_skip _ 0 6 (by decide) _ _ _ _ rfl rfl _ _).trans (cov_whole _ 6 (by decide) _ _ _ _ rfl rfl _)))))) ((cov_skip _ 4 6 (by decide) _ _ _ _ rfl rfl _ _).trans ((cov_skip _ 3 6 (by decide) _ _ _ _ rfl rfl _ _).trans ((cov_skip _ 2 6 (by decide) _ _ _ _ rfl rfl _ _).trans ((cov_skip _ 1 6 (by decide) _ _ _ _ rfl rfl _ _).trans ((cov_skip _ 0 6 (by decide) _ _ _ _ rfl rfl _ _).trans (cov_whole _ 6 (by decide) _ _ _ _ rfl rfl _)))))) ((cov_skip _ 4 7 (by decide) _ _ _ _ rfl rfl _ _).trans ((cov_skip _ 3 7 (by decide) _ _ _ _ rfl rfl _ _).trans ((cov_skip _ 2 7 (by decide) _ _ _ _ rfl rfl _ _).trans ((cov_skip _ 1 7 (by decide) _ _ _ _ rfl rfl _ _).trans ((cov_skip _ 0 7 (by decide) _ _ _ _ rfl rfl _ _).trans (cov_whole _ 7 (by decide) _ _ _ _ rfl rfl _)))))) ((cov_skip _ 4 7 (by decide) _ _ _ _ rfl rfl _ _).trans ((cov_skip _ 3 7 (by decide) _ _ _ _ rfl rfl _ _).trans ((cov_skip _ 2 7 (by decide) _ _ _ _ rfl rfl _ _).trans ((cov_skip _ 1 7 (by decide) _ _ _ _ rfl rfl _ _).trans ((cov_skip _ 0 7 (by decide) _ _ _ _ rfl rfl _ _).trans (cov_whole _ 7 (by decide) _ _ _ _ rfl rfl _)))))) ((cov_skip _ 4 8 (by decide) _ _ _ _ rfl rfl _ _).trans ((cov_skip _ 3 8 (by decide) _ _ _ _ rfl rfl _ _).trans ((cov_skip _ 2 8 (by decide) _ _ _ _ rfl rfl _ _).trans ((cov_skip _ 1 8 (by decide) _ _ _ _ rfl rfl _ _).trans ((cov_skip _ 0 8 (by decide) _ _ _ _ rfl rfl _ _).trans (cov_whole _ 8 (by decide) _ _ _ _ rfl rfl _)))))) ((cov_skip _ 4 8 (by decide) _ _ _ _ rfl rfl _ _).trans ((cov_skip _ 3 8 (by decide) _ _ _ _ rfl rfl _ _).trans ((cov_skip _ 2 8 (by decide) _ _ _ _ rfl rfl _ _).trans ((cov_skip _ 1 8 (by decide) _ _ _ _ rfl rfl _ _).trans ((cov_skip _ 0 8 (by decide) _ _ _ _ rfl rfl _ _).trans (cov_whole _ 8 (by decide) _ _ _ _ rfl rfl _)))))) ((cov_skip _ 4 9 (by decide) _ _ _ _ rfl rfl _ _).trans ((cov_skip _ 3 9 (by decide) _ _ _ _ rfl rfl _ _).trans ((cov_skip _ 2 9 (by decide) _ _ _ _ rfl rfl _ _).trans ((cov_skip _ 1 9 (by decide) _ _ _ _ rfl rfl _ _).trans ((cov_skip _ 0 9 (by decide) _ _ _ _ rfl rfl _ _).trans (cov_whole _ 9 (by decide) _ _ _ _ rfl rfl _)))))) ((cov_skip _ 4 9 (by decide) _ _ _ _ rfl rfl _ _).trans ((cov_skip _ 3 9 (by decide) _ _ _ _ rfl rfl _ _).trans ((cov_skip _ 2 9 (by decide) _ _ _ _ rfl rfl _ _).trans ((cov_skip _ 1 9 (by decide) _ _ _ _ rfl rfl _ _).trans ((cov_skip _ 0 9 (by decide) _ _ _ _ rfl rfl _ _).trans (cov_whole _ 9 (by decide) _ _ _ _ rfl rfl _))))))
  · iexists _; isplitr; swap; · iexact HS1
    ipureintro
    refine ca_finalZ (F := F) Variants.none c none i arg1 harg1 arg2 harg2 arg3 harg3 arg4 harg4 arg5 harg5 x1 x2 _ _ _ _ _ (pairs zeros zeros) _ _ ?_ ?_ _ _ _ _ _ _ _ _ _ _ _ _ _ _
    · exact mk10 (cov_whole _ 0 (by decide) _ _ _ _ rfl rfl _) (cov_whole _ 0 (by decide) _ _ _ _ rfl rfl _) (cov_whole _ 1 (by decide) _ _ _ _ rfl rfl _) (cov_whole _ 1 (by decide) _ _ _ _ rfl rfl _) (cov_whole _ 2 (by decide) _ _ _ _ rfl rfl _) (cov_whole _ 2 (by decide) _ _ _ _ rfl rfl _) (cov_whole _ 3 (by decide) _ _ _ _ rfl rfl _) (cov_whole _ 3 (by decide) _ _ _ _ rfl rfl _) (cov_whole _ 4 (by decide) _ _ _ _ rfl rfl _) (cov_whole _ 4 (by decide) _ _ _ _ rfl rfl _)
    · exact mk10 ((cov_skip _ 4 5 (by decide) _ _ _ _ rfl rfl _ _).trans ((cov_skip _ 3 5 (by decide) _ _ _ _ rfl rfl _ _).trans ((cov_skip _ 2 5 (by decide) _ _ _ _ rfl rfl _ _).trans ((cov_skip _ 1 5 (by decide) _ _ _ _ rfl rfl _ _).trans ((cov_skip _ 0 5 (by decide) _ _ _ _ rfl rfl _ _).trans (cov_whole _ 5 (by decide) _ _ _ _ rfl rfl _)))))) ((cov_skip _ 4 5 (by decide) _ _ _ _ rfl rfl _ _).trans ((cov_skip _ 3 5 (by decide) _ _ _ _ rfl rfl _ _).trans ((cov_skip _ 2 5 (by decide) _ _ _ _ rfl rfl _ _).trans ((cov_skip _ 1 5 (by decide) _ _ _ _ rfl rfl _ _).trans ((cov_skip _ 0 5 (by decide) _ _ _ _ rfl rfl _ _).trans (cov_whole _ 5 (by decide) _ _ _ _ rfl rfl _)))))) ((cov_skip _ 4 6 (by decide) _ _ _ _ rfl rfl _ _).trans ((cov_skip _ 3 6 (by decide) _ _ _ _ rfl rfl _ _).trans ((cov_skip _ 2 6 (by decide) _ _ _ _ rfl rfl _ _).trans ((cov_skip _ 1 6 (by decide) _ _ _ _ rfl rfl _ _).trans ((cov_skip _ 0 6 (by decide) _ _ _ _ rfl rfl _ _).trans (cov_whole _ 6 (by decide) _ _ _ _ rfl rfl _)))))) ((cov_skip _ 4 6 (by decide) _ _ _ _ rfl rfl _ _).trans ((cov_skip _ 3 6 (by decide) _ _ _ _ rfl rfl _ _).trans ((cov_skip _ 2 6 (by decide) _ _ _ _ rfl rfl _ _).trans ((cov_skip _ 1 6 (by decide) _ _ _ _ rfl rfl _ _).trans ((cov_skip _ 0 6 (by decide) _ _ _ _ rfl rfl _ _).trans (cov_whole _ 6 (by decide) _ _ _ _ rfl rfl _)))))) ((cov_skip _ 4 7 (by decide) _ _ _ _ rfl rfl _ _).trans ((cov_skip _ 3 7 (by decide) _ _ _ _ rfl rfl _ _).trans ((cov_skip _ 2 7 (by decide) _ _ _ _ rfl rfl _ _).trans ((cov_skip _ 1 7 (by decide) _ _ _ _ rfl rfl _ _).trans ((cov_skip _ 0 7 (by decide) _ _ _ _ rfl rfl _ _).trans (cov_whole _ 7 (by decide) _ _ _ _ rfl rfl _)))))) ((cov_skip _ 4 7 (by decide) _ _ _ _ rfl rfl _ _).trans ((cov_skip _ 3 7 (by decide) _ _ _ _ rfl rfl _ _).trans ((cov_skip _ 2 7 (by decide) _ _ _ _ rfl rfl _ _).trans ((cov_skip _ 1 7 (by decide) _ _ _ _ rfl rfl _ _).trans ((cov_skip _ 0 7 (by decide) _ _ _ _ rfl rfl _ _).trans (cov_whole _ 7 (by decide) _ _ _ _ rfl rfl _)))))) ((cov_skip _ 4 8 (by decide) _ _ _ _ rfl rfl _ _).trans ((cov_skip _ 3 8 (by decide) _ _ _ _ rfl rfl _ _).trans ((cov_skip _ 2 8 (by decide) _ _ _ _ rfl rfl _ _).trans ((cov_skip _ 1 8 (by decide) _ _ _ _ rfl rfl _ _).trans ((cov_skip _ 0 8 (by decide) _ _ _ _ rfl rfl _ _).trans (cov_whole _ 8 (by decide) _ _ _ _ rfl rfl _)))))) ((cov_skip _ 4 8 (by decide) _ _ _ _ rfl rfl _ _).trans ((cov_skip _ 3 8 (by decide) _ _ _ _ rfl rfl _ _).trans ((cov_skip _ 2 8 (by decide) _ _ _ _ rfl rfl _ _).trans ((cov_skip _ 1 8 (by decide) _ _ _ _ rfl rfl _ _).trans ((cov_skip _ 0 8 (by decide) _ _ _ _ rfl rfl _ _).trans (cov_whole _ 8 (by decide) _ _ _ _ rfl rfl _)))))) ((cov_skip _ 4 9 (by decide) _ _ _ _ rfl rfl _ _).trans ((cov_skip _ 3 9 (by decide) _ _ _ _ rfl rfl _ _).trans ((cov_skip _ 2 9 (by decide) _ _ _ _ rfl rfl _ _).trans ((cov_skip _ 1 9 (by decide) _ _ _ _ rfl rfl _ _).trans ((cov_skip _ 0 9 (by decide) _ _ _ _ rfl rfl _ _).trans (cov_whole _ 9 (by decide) _ _ _ _ rfl rfl _)))))) ((cov_skip _ 4 9 (by decide) _ _ _ _ rfl rfl _ _).trans ((cov_skip _ 3 9 (by decide) _ _ _ _ rfl rfl _ _).trans ((cov_skip _ 2 9 (by decide) _ _ _ _ rfl rfl _ _).trans ((cov_skip _ 1 9 (by decide) _ _ _ _ rfl rfl _ _).trans ((cov_skip _ 0 9 (by decide) _ _ _ _ rfl rfl _ _).trans (cov_whole _ 9 (by decide) _ _ _ _ rfl rfl _))))))

end Cert.KernelIdeal.Lru

end
-- ==== Proof.LruFrame.lean ====
/-
  The whole grid: what each point leaves (proof data over the specification), the body's obligation, the run, and the result
  array — for any float values.
-/
module

public import proofs.«01_k».proof.Proof.LruRunA
public import Idealize.ShloMosaic.Lib.Pipeline.ValueKit.Geometry
public import Idealize.ShloMosaic.Lib.Claim

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The specification over the whole arrays -/

/-- The tile of grid point `t`: the grid goes up the rows, the last tile first. -/
def tile (X : Vec F S8192x1280 .f32) (t : ℕ) : Vec F S1024x1280 .f32 :=
  fun j => X (at2 (by decide) (by decide) (1024 * (7 - t) + (j 0).val) (j 1).val)

/-- The two scratches before point `t`. -/
def scr (X1 X2 : Vec F S8192x1280 .f32) : ℕ → Vec F S8x1280 .f32 × Vec F S8x1280 .f32
  | 0 => (zeros, zeros)
  | t + 1 => (cgOut (tile X1 t) (tile X2 t) (pairs (scr X1 X2 t).1 (scr X1 X2 t).2),
      caOut (tile X1 t) (tile X2 t) (pairs (scr X1 X2 t).1 (scr X1 X2 t).2))

/-- The output block of point `t`. -/
def outBlk (X1 X2 : Vec F S8192x1280 .f32) (t : ℕ) : Vec F S1024x1280 .f32 :=
  gOut (tile X1 t) (tile X2 t) (pairs (scr X1 X2 t).1 (scr X1 X2 t).2)

/-- The result array. -/
def result (X1 X2 : Vec F S8192x1280 .f32) : Vec F S8192x1280 .f32 :=
  fun y => outBlk X1 X2 (7 - (y 0).val / 1024) (at2 (by decide) (by decide) (y 0).val (y 1).val)

/-- The two arguments as the region finds them. -/
abbrev A1 (c : Dev nD) : Vec F S8192x1280 .f32 := V m c main_arg0
abbrev A2 (c : Dev nD) : Vec F S8192x1280 .f32 := V m c main_arg1

theorem index_0 : ∀ t : Fin cfg0.N, win0_0.index t = ![7 - t.val, 0] := (by decide +kernel : ∀ t : Fin grid0.N, _)
theorem index_1 : ∀ t : Fin cfg0.N, win0_1.index t = ![7 - t.val, 0] := (by decide +kernel : ∀ t : Fin grid0.N, _)
theorem index_2 : ∀ t : Fin cfg0.N, win0_2.index t = ![7 - t.val, 0] := (by decide +kernel : ∀ t : Fin grid0.N, _)

/-- Each input's block is its tile. -/
theorem iblk_0 (c : Dev nD) (t : Fin cfg0.N) : iblk m c 0 t = tile (A1 m c) t.val := by
  have ht : t.val < 8 := lt_of_lt_of_eq t.isLt (show cfg0.N = 8 from N_0)
  funext j
  blk_simp [iblk, index_0]
  unfold tile
  congr 1
  funext a
  apply Fin.ext
  have h0 : (j 0).val < 1024 := (j 0).isLt
  have h1 : (j 1).val < 1280 := (j 1).isLt
  match a with
  | ⟨0, _⟩ =>
    show ((win0_0.blk t).view.emb j 0).val = (1024 * (7 - t.val) + (j 0).val) % 8192
    blk_simp [index_0]
    show (7 - t.val) * 1024 + (j 0).val = _
    omega
  | ⟨1, _⟩ =>
    show ((win0_0.blk t).view.emb j 1).val = (j 1).val % 1280
    blk_simp [index_0]
    omega

theorem iblk_1 (c : Dev nD) (t : Fin cfg0.N) : iblk m c 1 t = tile (A2 m c) t.val := by
  have ht : t.val < 8 := lt_of_lt_of_eq t.isLt (show cfg0.N = 8 from N_0)
  funext j
  blk_simp [iblk, index_1]
  unfold tile
  congr 1
  funext a
  apply Fin.ext
  have h0 : (j 0).val < 1024 := (j 0).isLt
  have h1 : (j 1).val < 1280 := (j 1).isLt
  match a with
  | ⟨0, _⟩ =>
    show ((win0_1.blk t).view.emb j 0).val = (1024 * (7 - t.val) + (j 0).val) % 8192
    blk_simp [index_1]
    show (7 - t.val) * 1024 + (j 0).val = _
    omega
  | ⟨1, _⟩ =>
    show ((win0_1.blk t).view.emb j 1).val = (j 1).val % 1280
    blk_simp [index_1]
    omega

/-! ## The proof data -/

/-- The conditional is taken at the first point only. -/
theorem atFirst_iff : ∀ t : Fin cfg0.N, atFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [atFirst, e0, e1]
    word_cmp
   : ∀ t : Fin grid0.N, atFirst (grid0.coords t) ↔ t.val = 0)

/-- Each window's staging memref at point `t`, whole; the two scratches. -/
abbrev st_0 (t : Fin cfg0.N) : Memref sig .tc .vmem S1024x1280 .f32 := win0_0.stage (cfg0.slots t 0)
abbrev st_1 (t : Fin cfg0.N) : Memref sig .tc .vmem S1024x1280 .f32 := win0_1.stage (cfg0.slots t 1)
abbrev st_2 (t : Fin cfg0.N) : Memref sig .tc .vmem S1024x1280 .f32 := win0_2.stage (cfg0.slots t 2)
abbrev sc_0 : Memref sig .tc .vmem S8x1280 .f32 := Memref.whole cc0_scratch0
abbrev sc_1 : Memref sig .tc .vmem S8x1280 .f32 := Memref.whole cc0_scratch1

/-- The launch's invariant with the scratches as memrefs owned at some contents. -/
theorem phi_eq (c : Dev nD) :
    (Pipeline.ΦA spec0 c : sProp 𝕄)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-- The invariant before position `n`: at the start anything, later the scratches at what the points before left. -/
def phi (c : Dev nD) : (n : ℕ) → sProp 𝕄
  | 0 => Pipeline.ΦA spec0 c
  | n + 1 => iprop(iprop(owns (c : Thread nD τ) sc_0 fullShare (scr (A1 m c) (A2 m c) (n + 1)).1
      ∗ owns (c : Thread nD τ) sc_1 fullShare (scr (A1 m c) (A2 m c) (n + 1)).2) ∗ (∃ r, prngReg c r))

/-- The proof data: each input's buffer keeps its block, the output's ends at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (A1 m c) (A2 m c) t.val
  Φ t := phi m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk (A1 m c) (A2 m c) t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body's obligation -/

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d)))

/-- and what it returns. -/
def post (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t))

set_option maxHeartbeats 3200000 in
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dats m 0 c).owesAt () t.succ = (dats m 0 c).owesAt () t.castSucc from rfl, after_0, after_1, after_2]
  rw [show (dats m 0 c).Φ t.succ = phi m c (t.val + 1) from rfl, show (dats m 0 c).Φ t.castSucc = phi m c t.val from rfl]
  rw [iblk_0, iblk_1]
  unfold outBlk
  rw [phi]
  dsimp only [scr]
  by_cases hz : t.val = 0
  · rw [hz]
    dsimp only [scr, phi]
    rw [phi_eq]
    iintro ⟨⟨⟨HS0, HS1⟩, Hg⟩, Ho, ⟨%d0, H0⟩, ⟨%d1, H1⟩, ⟨%d2, H2⟩⟩
    iapply (run_first c (grid0.coords t) (st_0 t) (hstage0_0 _) (st_1 t) (hstage0_1 _) (st_2 t) (hstage0_2 _) sc_0 (Memref.isWhole_whole _) sc_1 (Memref.isWhole_whole _) ((atFirst_iff t).mpr hz) (tile (A1 m c) 0) (tile (A2 m c) 0) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    iexact H2
  · obtain ⟨n, hn⟩ : ∃ n, t.val = n + 1 := ⟨t.val - 1, by omega⟩
    rw [show phi m c t.val = phi m c (n + 1) by rw [hn], phi, ← hn]
    iintro ⟨⟨⟨HS0, HS1⟩, Hg⟩, Ho, ⟨%d0, H0⟩, ⟨%d1, H1⟩, ⟨%d2, H2⟩⟩
    iapply (run_later c (grid0.coords t) (st_0 t) (hstage0_0 _) (st_1 t) (hstage0_1 _) (st_2 t) (hstage0_2 _) sc_0 (Memref.isWhole_whole _) sc_1 (Memref.isWhole_whole _) (fun h => hz ((atFirst_iff t).mp h)) (tile (A1 m c) t.val) (tile (A2 m c) t.val) _ _ Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    iexact H2

/-- The body table's row is the body. -/
theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem phi_in (c : Dev nD) : Pipeline.ΦA spec0 c ⊢ (dats m 0 c).Φ 0 :=
  Idealize.SL.BI.Entails.refl _

theorem phi_out (c : Dev nD) : (dats m 0 c).Φ (Fin.last cfg0.N) ⊢ Pipeline.ΦA spec0 c := by
  rw [show (dats m 0 c).Φ (Fin.last cfg0.N) = phi m c cfg0.N from rfl, show cfg0.N = 7 + 1 from N_0, phi, phi_eq]
  iintro ⟨⟨HS0, HS1⟩, Hg⟩
  isplitl [HS0 HS1]
  · isplitl [HS0]
    · iexists _; iexact HS0
    iexists _; iexact HS1
  iexact Hg

/-! ## The run, the frame and the result -/

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := phi_in m) (hout := phi_out m)

/-- The argument arrays end unchanged and every counter at zero. -/
theorem frame_eq : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result array after the last point. -/
theorem arr_result (c : Dev nD) : (dats m 0 c).arrAt 2 cfg0.N = result (A1 m c) (A2 m c) := by
  refine (dats m 0 c).arrAt_eq_of_covers 2 _ (by decide +kernel) fun t hf y => ?_
  have ht : t.val < 8 := lt_of_lt_of_eq t.isLt (show cfg0.N = 8 from N_0)
  have h0 : (y 0).val < 1024 := (y 0).isLt
  have h1 : (y 1).val < 1280 := (y 1).isLt
  have e0 : ((win0_2.blk t).view.emb y 0).val = 1024 * (7 - t.val) + (y 0).val := by
    blk_simp [index_2]
    show (7 - t.val) * 1024 + (y 0).val = _
    omega
  have e1 : ((win0_2.blk t).view.emb y 1).val = (y 1).val := by
    blk_simp [index_2]
  blk_simp
  rw [after_2]
  show _ = outBlk (A1 m c) (A2 m c) (7 - ((win0_2.blk t).view.emb y 0).val / 1024)
    (at2 (by decide) (by decide) ((win0_2.blk t).view.emb y 0).val ((win0_2.blk t).view.emb y 1).val)
  rw [e0, e1, show 7 - (1024 * (7 - t.val) + (y 0).val) / 1024 = t.val by omega]
  congr 1
  funext a
  apply Fin.ext
  match a with
  | ⟨0, _⟩ => show (y 0).val = (1024 * (7 - t.val) + (y 0).val) % 1024; omega
  | ⟨1, _⟩ => show (y 1).val = (y 1).val % 1280; omega

/-- The run with the result array at its function of the arguments. -/
theorem run_result : θ_run defs (onTc (τ := τ) (main (F := F))) ⟨m, fun _ => 0, ρ⟩ (fun r => ∀ c : Dev nD,
      r.2.mem ((c.tc : Thread nD τ).loc main_v0)
        = result (m ((c.tc : Thread nD τ).loc main_arg0)) (m ((c.tc : Thread nD τ).loc main_arg1))) :=
  (θ_run defs _ _).mono (fun _ h c => ((h.1 c).1 2).trans (arr_result m c)) (run_main m ρ)

end Cert.KernelIdeal.Lru

end
-- ==== Proof.LruValue.lean ====
/-
  The reverse scan's result at the ideal values, on finite data: row `8191 - n` holds the recurrence's gradient at step
  `n`. Over the blocks of a tile, then over the tiles.
-/
module

public import proofs.«01_k».proof.Proof.LruMath
public import proofs.«01_k».proof.Proof.LruFrame

@[expose] public section

set_option maxRecDepth 16384

noncomputable section

namespace Cert.KernelIdeal.Lru

open Idealize.ShloMosaic Idealize.ShloMosaic.TcCoe
open Cert.KernelIdeal Cert.KernelIdeal.Gen

/-- An index of the whole array. -/
abbrev wi (r l : ℕ) : S8192x1280.Idx := at2 (by decide) (by decide) r l

/-- The array holds the real numbers `f`. -/
def Reals (X : Vec Ideal S8192x1280 .f32) (f : ℕ → ℕ → ℝ) : Prop :=
  ∀ r l, r < 8192 → l < 1280 → X (wi r l) = ((f r l : ℝ) : EReal)

/-- A lane of the array from the last row up. -/
def up (f : ℕ → ℕ → ℝ) (l : ℕ) (n : ℕ) : ℝ := f (8191 - n) l

theorem rowBlk_tile {X : Vec Ideal S8192x1280 .f32} {f : ℕ → ℕ → ℝ} (h : Reals X f) (t k q l : ℕ) (ht : t < 8) (hk : k < 128)
    (hq : q < 10) (hl : l < 128) :
    Rows l (rowBlk (tile X t) k q) fun r => up f (128 * q + l) (1024 * t + 8 * k + 7 - r) := by
  intro r hr
  refine Eq.trans ?_ ((h (1024 * (7 - t) + (1016 - 8 * k + r)) (128 * q + l) (by omega) (by omega)).trans ?_)
  · unfold rowBlk tile
    congr 1
    funext a
    apply Fin.ext
    match a with
    | ⟨0, _⟩ =>
      show (1024 * (7 - t) + (1016 - 8 * k + r % 8) % 1024) % 8192 = (1024 * (7 - t) + (1016 - 8 * k + r)) % 8192
      omega
    | ⟨1, _⟩ =>
      show ((128 * q + l % 128) % 1280) % 1280 = (128 * q + l) % 1280
      omega
  · unfold up
    congr 2
    omega

/-- A carried pair: equal in every row, multiplying to what the recurrence carries into step `n`. -/
def Pair (a x : ℕ → ℝ) (n l : ℕ) (c : Vec Ideal S8x128 .f32 × Vec Ideal S8x128 .f32) : Prop :=
  ∃ A G : ℝ, Rows l c.1 (fun _ => G) ∧ Rows l c.2 (fun _ => A) ∧ A * G = carried a x n

theorem lane_idx (q l : ℕ) (hq : q < 10) (hl : l < 128) (r : ℕ) :
    at2 (n0 := 8) (n1 := 128) (by decide) (by decide)
      (at2 (n0 := 8) (n1 := 1280) (by decide) (by decide) (bi r l 0).val (128 * q + (bi r l 1).val) 0).val
      (at2 (n0 := 8) (n1 := 1280) (by decide) (by decide) (bi r l 0).val (128 * q + (bi r l 1).val) 1).val = bi r l := by
  funext a
  apply Fin.ext
  match a with
  | ⟨0, _⟩ => show (r % 8 % 8) % 8 = r % 8; omega
  | ⟨1, _⟩ => show ((128 * q + l % 128) % 1280) % 128 = l % 128; omega

theorem lane_div (q l : ℕ) (hq : q < 10) (hl : l < 128) (r : ℕ) :
    (at2 (n0 := 8) (n1 := 1280) (by decide) (by decide) (bi r l 0).val (128 * q + (bi r l 1).val) 1).val / 128 = q := by
  show (128 * q + l % 128) % 1280 / 128 = q
  omega

theorem cgOut_lane (x1 x2 : Vec Ideal S1024x1280 .f32) (c : ℕ → Vec Ideal S8x128 .f32 × Vec Ideal S8x128 .f32) (q l : ℕ)
    (hq : q < 10) (hl : l < 128) (r : ℕ) :
    laneBlk (cgOut x1 x2 c) q (bi r l) = (carry x1 x2 q (c q) 128).1 (bi r l) := by
  unfold laneBlk cgOut
  rw [lane_div q l hq hl r, lane_idx q l hq hl r]

theorem caOut_lane (x1 x2 : Vec Ideal S1024x1280 .f32) (c : ℕ → Vec Ideal S8x128 .f32 × Vec Ideal S8x128 .f32) (q l : ℕ)
    (hq : q < 10) (hl : l < 128) (r : ℕ) :
    laneBlk (caOut x1 x2 c) q (bi r l) = (carry x1 x2 q (c q) 128).2 (bi r l) := by
  unfold laneBlk caOut
  rw [lane_div q l hq hl r, lane_idx q l hq hl r]

variable {X1 X2 : Vec Ideal S8192x1280 .f32} {x a : ℕ → ℕ → ℝ} (h1 : Reals X1 x) (h2 : Reals X2 a)
include h1 h2

theorem carry_pair (t q l : ℕ) (ht : t < 8) (hq : q < 10) (hl : l < 128) (c : Vec Ideal S8x128 .f32 × Vec Ideal S8x128 .f32)
    (hc : Pair (up a (128 * q + l)) (up x (128 * q + l)) (1024 * t) l c) :
    ∀ k, k ≤ 128 → Pair (up a (128 * q + l)) (up x (128 * q + l)) (1024 * t + 8 * k) l (carry (tile X1 t) (tile X2 t) q c k)
  | 0, _ => hc
  | k + 1, hk => by
    obtain ⟨A, G, hG, hA, hS⟩ := carry_pair t q l ht hq hl c hc k (by omega)
    have ra := rowBlk_tile h2 t k q l ht (by omega) hq hl
    have rx := rowBlk_tile h1 t k q l ht (by omega) hq hl
    refine ⟨_, _, blkG_real _ _ (1024 * t + 8 * k) l _ _ _ _ A G ra rx hG hA hS, blkA_real l _ _ ra, ?_⟩
    rfl

omit h1 h2 in
theorem zeros_rows (l q : ℕ) : Rows l (laneBlk (zeros : Vec Ideal S8x1280 .f32) q) fun _ => 0 := by
  intro r hr
  unfold laneBlk zeros k0_pay103
  pointwise
  rfl

omit h1 h2 in
theorem pair_zero (a x : ℕ → ℝ) (l q : ℕ) : Pair a x 0 l (pairs (zeros : Vec Ideal S8x1280 .f32) zeros q) :=
  ⟨0, 0, zeros_rows l q, zeros_rows l q, zero_mul 0⟩

/-- The scratches before point `t`. -/
theorem scr_pair (q l : ℕ) (hq : q < 10) (hl : l < 128) (t : ℕ) (ht : t ≤ 8) :
    Pair (up a (128 * q + l)) (up x (128 * q + l)) (1024 * t) l (pairs (scr X1 X2 t).1 (scr X1 X2 t).2 q) := by
  induction t with
  | zero => exact pair_zero _ _ _ _
  | succ t ih =>
    have h := carry_pair h1 h2 t q l (by omega) hq hl _ (ih (by omega)) 128 le_rfl
    rw [show 1024 * t + 8 * 128 = 1024 * (t + 1) by omega] at h
    obtain ⟨A, G, hG, hA, hS⟩ := h
    have e1 := cgOut_lane (tile X1 t) (tile X2 t) (pairs (scr X1 X2 t).1 (scr X1 X2 t).2) q l hq hl
    have e2 := caOut_lane (tile X1 t) (tile X2 t) (pairs (scr X1 X2 t).1 (scr X1 X2 t).2) q l hq hl
    unfold pairs at hG hA e1 e2 ⊢
    rw [scr]
    generalize carry (tile X1 t) (tile X2 t) q _ 128 = z at hG hA e1 e2
    exact ⟨A, G, fun r hr => (e1 r).trans (hG r hr), fun r hr => (e2 r).trans (hA r hr), hS⟩

/-- The result is the gradient of every row and lane. -/
theorem result_real (y : S8192x1280.Idx) :
    result X1 X2 y = ((grad (up a (y 1).val) (up x (y 1).val) (8191 - (y 0).val) : ℝ) : EReal) := by
  have i0 : (y 0).val < 8192 := (y 0).isLt
  have i1 : (y 1).val < 1280 := (y 1).isLt
  generalize hr : (y 0).val = r at i0
  generalize hl : (y 1).val = L at i1
  have hq : L / 128 < 10 := by omega
  have hlt : L % 128 < 128 := Nat.mod_lt _ (by decide)
  have ht : 7 - r / 1024 < 8 := by omega
  have hk : 127 - r % 1024 / 8 < 128 := by omega
  obtain ⟨A, G, hG, hA, hS⟩ := carry_pair h1 h2 (7 - r / 1024) (L / 128) (L % 128) ht hq hlt _
    (scr_pair h1 h2 (L / 128) (L % 128) hq hlt (7 - r / 1024) (by omega)) (127 - r % 1024 / 8) (by omega)
  have ra := rowBlk_tile h2 (7 - r / 1024) (127 - r % 1024 / 8) (L / 128) (L % 128) ht hk hq hlt
  have rx := rowBlk_tile h1 (7 - r / 1024) (127 - r % 1024 / 8) (L / 128) (L % 128) ht hk hq hlt
  have hL : 128 * (L / 128) + L % 128 = L := by omega
  rw [hL] at ra rx hS
  have key := blk_real _ _ _ _ _ _ _ _ A G ra rx hG hA hS (r % 8) (Nat.mod_lt _ (by decide))
  beta_reduce at key
  rw [show 1024 * (7 - r / 1024) + 8 * (127 - r % 1024 / 8) + 7 - r % 8 = 8191 - r by omega] at key
  refine Eq.trans ?_ key
  unfold result outBlk gOut
  rw [hr, hl]
  dsimp only
  have e0 : ((at2 (n0 := 1024) (n1 := 1280) (by decide) (by decide) r L 0).val) / 8 = r % 1024 / 8 := rfl
  have e1 : ((at2 (n0 := 1024) (n1 := 1280) (by decide) (by decide) r L 1).val) / 128 = L / 128 := by
    show L % 1280 / 128 = L / 128
    omega
  rw [e0, e1]
  congr 1
  funext a
  apply Fin.ext
  match a with
  | ⟨0, _⟩ => show (r % 1024) % 8 = (r % 8) % 8; omega
  | ⟨1, _⟩ => show (L % 1280) % 128 = (L % 128) % 128; omega

end Cert.KernelIdeal.Lru

end
-- ==== Proof.LruRef.lean ====
/-
  The reference's loop at the ideal values, on finite data: after `k` trips the carry is what the recurrence carries into
  step `k`, and the last `k` rows of the result hold the gradient.
-/
module

public import proofs.«01_k».proof.Proof.LruValue
public import proofs.«01_k».proof.Proof.Gen.ReferenceIdeal.Run

@[expose] public section

set_option maxRecDepth 16384

noncomputable section

namespace Cert.ReferenceIdeal.Lru

open Idealize.ShloMosaic Idealize.ShloMosaic.TcCoe
open Cert.ReferenceIdeal Cert.ReferenceIdeal.Gen Cert.ReferenceIdeal.Value
open Idealize.ShloMosaic.StableHlo
open Cert.KernelIdeal.Lru (Reals wi up grad carried at2)

/-- The start of a row's window is the row. -/
theorem start_row (n : ℕ) (hn : n < 8192) (h : S1x1280.rank = S8192x1280.rank) :
    Host.clampedStart S8192x1280 S1x1280 h
      (fun k => ((![fun _ => BitVec.ofNat 32 n, constantI S_ 32 0#32] : Fin 2 → IVec S_ 32) k (Shape.Idx.first h_S_)).toInt) 0 = n := by
  refine Host.clampedStart_of_le h _ 0 n ?_ (by show n + 1 ≤ 8192; omega)
  show (BitVec.ofNat 32 n).toInt = (n : ℤ)
  rw [BitVec.toInt_eq_toNat_of_lt (by rw [BitVec.toNat_ofNat]; omega), BitVec.toNat_ofNat, Nat.mod_eq_of_lt (by omega)]
theorem start_lane (i : IVec S_ 32) (h : S1x1280.rank = S8192x1280.rank) :
    Host.clampedStart S8192x1280 S1x1280 h
      (fun k => ((![i, constantI S_ 32 0#32] : Fin 2 → IVec S_ 32) k (Shape.Idx.first h_S_)).toInt) 1 = 0 :=
  Host.clampedStart_of_le h _ 1 0 rfl (show (0 : ℕ) + 1280 ≤ 1280 from le_rfl)

/-- A slice of one row, as a vector. -/
theorem row_apply (X : FVec Ideal S8192x1280 .f32) (i : IVec S_ 32) (n : ℕ) (hn : n < 8192) (hi : i = fun _ => BitVec.ofNat 32 n)
    (j : S1280.Idx) :
    shapeCast S1280 (Host.dynamicSlice S1x1280 X (fun k => ((![i, constantI S_ 32 0#32] : Fin 2 → IVec S_ 32) k (Shape.Idx.first h_S_)).toInt)
      sliceFits_S8192x1280_S1x1280) shapeCasts_S1x1280_S1280 j = X (wi n (j 0).val) := by
  subst hi
  pointwise
  congr 1
  have j0 : (j 0).val < 1280 := (j 0).isLt
  funext a
  apply Fin.ext
  match a with
  | ⟨0, _⟩ =>
    exact (start_row n hn rfl).trans (Nat.mod_eq_of_lt hn).symm
  | ⟨1, _⟩ =>
    exact (congrArg (· + (j 0).val) (start_lane _ rfl)).trans ((Nat.zero_add _).trans (Nat.mod_eq_of_lt j0).symm)

/-- The result with one row replaced. -/
theorem update_apply (X : FVec Ideal S8192x1280 .f32) (v : FVec Ideal S1280 .f32) (i : IVec S_ 32) (n : ℕ) (hn : n < 8192)
    (hi : i = fun _ => BitVec.ofNat 32 n) (r l : ℕ) (hr : r < 8192) (hl : l < 1280) :
    Host.dynamicUpdateSlice X (broadcastInDim S1x1280 ![1] bcast_S1280_S1x1280_1 v)
      (fun k => ((![i, constantI S_ 32 0#32] : Fin 2 → IVec S_ 32) k (Shape.Idx.first h_S_)).toInt) updateFits_S8192x1280_S1x1280 (wi r l)
      = if r = n then v (ix1 ⟨l, hl⟩) else X (wi r l) := by
  subst hi
  pointwise
  have w0 : (wi r l 0).val = r := Nat.mod_eq_of_lt hr
  have w1 : (wi r l 1).val = l := Nat.mod_eq_of_lt hl
  by_cases h : r = n
  · rw [dif_pos, if_pos h]
    · congr 1
      funext a
      apply Fin.ext
      match a with
      | ⟨0, _⟩ =>
        refine (congrArg ((wi r l 1).val - ·) (start_lane _ _)).trans ?_
        exact w1
    · rw [start_row n hn, start_lane, w0, w1]
      omega
  · rw [dif_neg, if_neg h]
    rw [start_row n hn, start_lane, w0, w1]
    omega

theorem grad_eq (a x : ℕ → ℝ) (n : ℕ) : ((carried a x n + x n : ℝ) : EReal) = ((grad a x n : ℝ) : EReal) := rfl
theorem carried_eq (a x : ℕ → ℝ) (n : ℕ) : ((a n * grad a x n : ℝ) : EReal) = ((carried a x (n + 1) : ℝ) : EReal) := rfl
theorem carried_zero (a x : ℕ → ℝ) : ((carried a x 0 : ℝ) : EReal) = 0 := rfl

attribute [local irreducible] Cert.KernelIdeal.Lru.carried Cert.KernelIdeal.Lru.grad

variable {X1 X2 : FVec Ideal S8192x1280 .f32} {x a : ℕ → ℕ → ℝ}

/-- One trip on arrays: the gradient of the trip's row, -/
theorem trip_grad (h1 : Reals X1 x) (k : ℕ) (hk : k < 8192) (i : IVec S_ 32) (hi : i = fun _ => BitVec.ofNat 32 (8191 - k))
    (c : FVec Ideal S1280 .f32) (hc : ∀ (l : ℕ) (hl : l < 1280), c (ix1 ⟨l, hl⟩) = ((carried (up a l) (up x l) k : ℝ) : EReal))
    (l : ℕ) (hl : l < 1280) :
    addf c (shapeCast S1280 (Host.dynamicSlice S1x1280 X1 (fun k => ((![i, constantI S_ 32 0#32] : Fin 2 → IVec S_ 32) k (Shape.Idx.first h_S_)).toInt)
      sliceFits_S8192x1280_S1x1280) shapeCasts_S1x1280_S1280) (ix1 ⟨l, hl⟩) = ((grad (up a l) (up x l) k : ℝ) : EReal) := by
  refine (congrArg₂ (HAdd.hAdd (α := EReal) (β := EReal) (γ := EReal)) (hc l hl) ((row_apply X1 i _ (by omega) hi (ix1 ⟨l, hl⟩)).trans ?_)).trans
    ((EReal.coe_add _ _).symm.trans (grad_eq _ _ _))
  exact h1 _ _ (by omega) hl

/-- the next carry, -/
theorem trip_carry (h2 : Reals X2 a) (k : ℕ) (hk : k < 8192) (i : IVec S_ 32) (hi : i = fun _ => BitVec.ofNat 32 (8191 - k))
    (v : FVec Ideal S1280 .f32) (hv : ∀ (l : ℕ) (hl : l < 1280), v (ix1 ⟨l, hl⟩) = ((grad (up a l) (up x l) k : ℝ) : EReal))
    (l : ℕ) (hl : l < 1280) :
    mulf (shapeCast S1280 (Host.dynamicSlice S1x1280 X2 (fun k => ((![i, constantI S_ 32 0#32] : Fin 2 → IVec S_ 32) k (Shape.Idx.first h_S_)).toInt)
      sliceFits_S8192x1280_S1x1280) shapeCasts_S1x1280_S1280) v (ix1 ⟨l, hl⟩) = ((carried (up a l) (up x l) (k + 1) : ℝ) : EReal) := by
  refine (congrArg₂ (HMul.hMul (α := EReal) (β := EReal) (γ := EReal)) ((row_apply X2 i _ (by omega) hi (ix1 ⟨l, hl⟩)).trans ?_) (hv l hl)).trans
    ((EReal.coe_mul _ _).symm.trans (carried_eq _ _ _))
  exact h2 _ _ (by omega) hl

/-- and the result with the row put in. -/
theorem trip_out (k : ℕ) (hk : k < 8192) (i : IVec S_ 32) (hi : i = fun _ => BitVec.ofNat 32 (8191 - k))
    (v : FVec Ideal S1280 .f32) (hv : ∀ (l : ℕ) (hl : l < 1280), v (ix1 ⟨l, hl⟩) = ((grad (up a l) (up x l) k : ℝ) : EReal))
    (o : FVec Ideal S8192x1280 .f32)
    (ho : ∀ r l : ℕ, 8192 - k ≤ r → r < 8192 → l < 1280 → o (wi r l) = ((grad (up a l) (up x l) (8191 - r) : ℝ) : EReal))
    (r l : ℕ) (hr : 8192 - (k + 1) ≤ r) (hr' : r < 8192) (hl : l < 1280) :
    Host.dynamicUpdateSlice o (broadcastInDim S1x1280 ![1] bcast_S1280_S1x1280_1 v)
      (fun k => ((![i, constantI S_ 32 0#32] : Fin 2 → IVec S_ 32) k (Shape.Idx.first h_S_)).toInt) updateFits_S8192x1280_S1x1280 (wi r l)
      = ((grad (up a l) (up x l) (8191 - r) : ℝ) : EReal) := by
  have u := update_apply o v i _ (by omega) hi r l hr' hl
  by_cases e : r = 8191 - k
  · have ek : k = 8191 - r := by omega
    rw [if_pos e] at u
    exact u.trans ((hv l hl).trans (congrArg (fun n => ((grad (up a l) (up x l) n : ℝ) : EReal)) ek))
  · rw [if_neg e] at u
    exact u.trans (ho r l (by omega) hr' hl)

/-- What the loop's buffers hold after `k` trips. -/
structure Inv (X1 X2 : FVec Ideal S8192x1280 .f32) (x a : ℕ → ℕ → ℝ) (k : ℕ) (V : Valuation τ sig (Elt Ideal)) : Prop where
  b0 : V (Proc.devRef .tc main_v3_0) = X1
  b1 : V (Proc.devRef .tc main_v3_1) = X2
  n : V (Proc.devRef .tc main_v3_2) = fun _ => BitVec.ofNat 32 k
  c : ∀ (l : ℕ) (hl : l < 1280), (V (Proc.devRef .tc main_v3_3) : FVec Ideal S1280 .f32) (ix1 ⟨l, hl⟩)
    = ((carried (up a l) (up x l) k : ℝ) : EReal)
  o : ∀ r l : ℕ, 8192 - k ≤ r → r < 8192 → l < 1280 → (V (Proc.devRef .tc main_v3_4) : FVec Ideal S8192x1280 .f32) (wi r l)
    = ((grad (up a l) (up x l) (8191 - r) : ℝ) : EReal)

/-- The row a trip works on. -/
theorem row_no (k : ℕ) (hk : k < 8192) (V : Valuation τ sig (Elt Ideal))
    (h : V (Proc.devRef .tc main_v3_2) = fun _ => BitVec.ofNat 32 k) :
    res_main_while0b_v5 V = fun _ => BitVec.ofNat 32 (8191 - k) := by
  unfold res_main_while0b_v5
  rw [h]
  funext i
  show 8192#32 - BitVec.ofNat 32 k - 1#32 = _
  apply BitVec.eq_of_toNat_eq
  simp only [BitVec.toNat_sub, BitVec.toNat_ofNat]
  omega

theorem inv_step (h1 : Reals X1 x) (h2 : Reals X2 a) (k : ℕ) (hk : k < 8192) (V : Valuation τ sig (Elt Ideal)) (h : Inv X1 X2 x a k V) :
    Inv X1 X2 x a (k + 1) (STEP V) := by
  obtain ⟨b0, b1, b2, bc, bo⟩ := h
  have hn := row_no k hk V b2
  have hct : ∀ (l : ℕ) (hl : l < 1280), (res_main_while0b_v8 V : FVec Ideal S1280 .f32) (ix1 ⟨l, hl⟩)
      = ((grad (up a l) (up x l) k : ℝ) : EReal) := by
    unfold res_main_while0b_v8
    rw [b0]
    exact trip_grad h1 k hk _ hn _ bc
  refine ⟨(STEP_main_v3_0 V).trans b0, (STEP_main_v3_1 V).trans b1, ?_, ?_, ?_⟩
  · rw [STEP_main_v3_2]
    unfold step_main_v3_2
    rw [b2]
    funext i
    show BitVec.ofNat 32 k + 1#32 = _
    simp only [BitVec.ofNat_add]
  · rw [STEP_main_v3_3]
    unfold step_main_v3_3
    rw [b1]
    exact trip_carry h2 k hk _ hn _ hct
  · rw [STEP_main_v3_4]
    have u := trip_out k hk (res_main_while0b_v5 V) hn (res_main_while0b_v8 V) hct (V (Proc.devRef .tc main_v3_4)) bo
    unfold step_main_v3_4
    rw [id]
    exact u

variable (m : (ℓ : Loc nD τ sig) → Buf (Elt Ideal) ℓ)

theorem inv_entry (c : Dev nD) :
    Inv (m ((c.tc : Thread nD τ).loc main_arg0)) (m ((c.tc : Thread nD τ).loc main_arg1)) x a 0 (entryContents preI m c) := by
  refine ⟨?_, ?_, ctr_entry m c, ?_, fun r l hr hr' _ => absurd hr (by omega)⟩
  · simp only [entryContents, afterL_cons, afterL_nil]; after_reads_simp; rfl
  · simp only [entryContents, afterL_cons, afterL_nil]; after_reads_simp; rfl
  · intro l hl
    have e : entryContents preI m c (Proc.devRef .tc main_v3_3)
        = (broadcastInDim S1280 ![] bcast_S_S1280 (constant S_ .f32 0x00000000#32 : FVec Ideal S_ .f32) : FVec Ideal S1280 .f32) := by
      simp only [entryContents, afterL_cons, afterL_nil]; after_reads_simp; rfl
    rw [e, carried_zero]
    pointwise

theorem inv_all (c : Dev nD) (h1 : Reals (m ((c.tc : Thread nD τ).loc main_arg0)) x) (h2 : Reals (m ((c.tc : Thread nD τ).loc main_arg1)) a)
    (k : ℕ) (hk : k ≤ 8192) :
    Inv (m ((c.tc : Thread nD τ).loc main_arg0)) (m ((c.tc : Thread nD τ).loc main_arg1)) x a k (STEP^[k] (entryContents preI m c)) := by
  induction k with
  | zero => exact inv_entry m c
  | succ k ih =>
    rw [Function.iterate_succ_apply']
    exact inv_step h1 h2 k (by omega) _ (ih (by omega))

/-- The reference's result is the gradient of every row and lane. -/
theorem value (c : Dev nD) (h1 : Reals (m ((c.tc : Thread nD τ).loc main_arg0)) x) (h2 : Reals (m ((c.tc : Thread nD τ).loc main_arg1)) a)
    (y : S8192x1280.Idx) :
    ((STEP^[8192] (entryContents preI m c)) (Proc.devRef .tc main_v3_4) : FVec Ideal S8192x1280 .f32) y
      = ((grad (up a (y 1).val) (up x (y 1).val) (8191 - (y 0).val) : ℝ) : EReal) := by
  have i0 : (y 0).val < 8192 := (y 0).isLt
  have i1 : (y 1).val < 1280 := (y 1).isLt
  have e : y = wi (y 0).val (y 1).val := by
    funext b
    apply Fin.ext
    match b with
    | ⟨0, _⟩ => exact (Nat.mod_eq_of_lt i0).symm
    | ⟨1, _⟩ => exact (Nat.mod_eq_of_lt i1).symm
  refine Eq.trans ?_ ((inv_all m c h1 h2 8192 le_rfl).o (y 0).val (y 1).val (by omega) i0 i1)
  rw [← e]

end Cert.ReferenceIdeal.Lru

end
-- ==== Proof.Lru.lean ====
/-
  The reverse scan: kernel and reference give the same gradient on finite arguments.
-/
module

public import proofs.«01_k».proof.Defs
public import proofs.«01_k».proof.Proof.LruRef
public import proofs.«01_k».proof.Proof.Gen.Kernel

@[expose] public section

noncomputable section

namespace Cert.Lru

open Idealize.ShloMosaic Idealize.ShloMosaic.TcCoe Idealize.SL.Sem
open Cert.KernelIdeal.Lru (Reals wi)

/-- An extended real that is zero less itself is a real. -/
theorem real_of_sub_self (x : EReal) (h : Ideal.cmp .oeq (x - x) 0 = 1#1) : x = ((x.toReal : ℝ) : EReal) := by
  induction x using EReal.rec with
  | bot => exfalso; revert h; simp [Ideal.cmp]
  | top => exfalso; revert h; simp [Ideal.cmp]
  | coe x => rfl

variable [hPre : Cert.Pre_finite.Facts]

/-- The precondition: both arrays hold reals. -/
theorem reals_of_finite (X Y : FVec Ideal Cert.Pre_finite.S8192x1280 .f32)
    (h : (Cert.Pre_finite.fn (F := Ideal) X Y).1 = (fun _ => 1#1) ∧ (Cert.Pre_finite.fn (F := Ideal) X Y).2 = (fun _ => 1#1)) :
    Reals X (fun r l => (X (wi r l)).toReal) ∧ Reals Y (fun r l => (Y (wi r l)).toReal) := by
  constructor
  · intro r l _ _
    have e := congrFun h.1 (wi r l)
    unfold Cert.Pre_finite.fn at e
    refine real_of_sub_self _ (Eq.trans ?_ e)
    pointwise
  · intro r l _ _
    have e := congrFun h.2 (wi r l)
    unfold Cert.Pre_finite.fn at e
    refine real_of_sub_self _ (Eq.trans ?_ e)
    pointwise

/-- The two programs have the same body, -/
theorem body_eq : (Cert.Kernel.cc0_lru_scan_bwd (F := Bits)) = (Cert.KernelIdeal.cc0_lru_scan_bwd (F := Bits)) := by
  with_unfolding_all rfl
/-- and so the same table of bodies. -/
theorem table_eq : (Cert.Kernel.defs₀ (F := Bits)) = (Cert.KernelIdeal.defs₀ (F := Bits)) := by
  refine congrArg Defs.onTc (funext fun l => funext fun x => ?_)
  match l, x with
  | 0, (t, s) =>
    exact congrFun (congrFun (congrFun (congrFun (congrFun (congrFun (congrFun (congrFun (congrFun (congrFun (congrFun
      body_eq _) _) _) _) _) _) _) _) _) _) _
/-- The kernel's frame, from the one run. -/
theorem frame_kernel : Cert.quiescent_Kernel := fun m ρ _ => by
  have h := Cert.KernelIdeal.Lru.frame_eq (F := Bits) m ρ
  unfold Cert.KernelIdeal.defs at h
  rw [← table_eq] at h
  exact h

/-- The reference's frame. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- Kernel and reference compute the same gradient. -/
theorem algebraic : Cert.algebraic_KernelIdeal_ReferenceIdeal_pre_finite (hKernelIdeal := Cert.KernelIdeal.Gen.facts)
    (hReferenceIdeal := Cert.ReferenceIdeal.Gen.facts) := by
  intro m g m' g' hp hm
  refine ⟨fun c => Cert.KernelIdeal.Lru.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun r h c => ⟨h.1 c, (h.2.1 c).1, (h.2.1 c).2⟩)
      (θ_run_and (Cert.KernelIdeal.Lru.run_result m g) (Cert.KernelIdeal.Lru.frame_eq m g))
  · refine (θ_run Cert.ReferenceIdeal.defs _ _).mono (fun r h c => ⟨(h c).1.trans ?_, (h c).2.1, (h c).2.2⟩)
      (Cert.ReferenceIdeal.Value.run m' g')
    obtain ⟨r1, r2⟩ := reals_of_finite _ _ (hp c)
    generalize (fun r l => (m ((c.tc : Thread Cert.KernelIdeal.nD Cert.KernelIdeal.τ).loc Cert.KernelIdeal.main_arg0) (wi r l)).toReal) = x at r1
    generalize (fun r l => (m ((c.tc : Thread Cert.KernelIdeal.nD Cert.KernelIdeal.τ).loc Cert.KernelIdeal.main_arg1) (wi r l)).toReal) = a at r2
    have e := hm c
    have q1 := r1
    have q2 := r2
    rw [← e.1] at q1
    rw [← e.2] at q2
    funext y
    exact (Cert.ReferenceIdeal.Lru.value m' c q1 q2 y).trans (Cert.KernelIdeal.Lru.result_real r1 r2 y).symm

end Cert.Lru

end
-- ==== Proof.Win2.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Quiescent
public import Idealize.ShloMosaic.Lib.Pipeline.ValueKit
public import Idealize.ShloMosaic.Lib.Pointwise

/-! The weight gradient of the input projection, slot 0: the eight points' products of 1024 rows each add up to the
    product over all 8192 rows. -/

@[expose] public section

noncomputable section

namespace Cert.Win2

open Idealize.ShloMosaic Idealize.ShloMosaic.TcCoe Idealize.SL.Sem
open Cert.Kernel2Ideal Cert.Kernel2Ideal.Gen

set_option maxRecDepth 16384

/-- Column `j` of the slot, read in the cotangents laid side by side. -/
def sel (x1 : Fin 512 → EReal) (x2 : Fin 512 → EReal) (x3 : Fin 1280 → EReal) (j : Fin 1408) : EReal :=
  if h : j.val < 512 then x1 ⟨j.val, h⟩ else if hh : j.val - 512 < 512 then x2 ⟨j.val - 512, hh⟩ else x3 ⟨j.val - 512 - 512, by omega⟩

/-- What one point adds to the accumulated block. -/
def part (x0 : Vec Ideal S1024x1024 .bf16) (x1 : Vec Ideal S1024x512 .bf16) (x2 : Vec Ideal S1024x512 .bf16) (x3 : Vec Ideal S1024x1280 .bf16) (y : S1024x1408.Idx) : EReal :=
  ∑ k : Fin 1024, x0 (ix2 k (y 0)) * sel (fun l => x1 (ix2 k l)) (fun l => x2 (ix2 k l)) (fun l => x3 (ix2 k l)) (y 1)

/-- One row's term in an entry of the result. -/
def term (x0 : Vec Ideal S8192x1024 .bf16) (x1 : Vec Ideal S8192x512 .bf16) (x2 : Vec Ideal S8192x512 .bf16) (x3 : Vec Ideal S8192x1280 .bf16) (i : Fin 1024) (j : Fin 1408) (k : Fin 8192) : EReal :=
  x0 (ix2 k i) * sel (fun l => x1 (ix2 k l)) (fun l => x2 (ix2 k l)) (fun l => x3 (ix2 k l)) j

/-- The product over all rows at one entry. -/
def full (x0 : Vec Ideal S8192x1024 .bf16) (x1 : Vec Ideal S8192x512 .bf16) (x2 : Vec Ideal S8192x512 .bf16) (x3 : Vec Ideal S8192x1280 .bf16) (i : Fin 1024) (j : Fin 1408) : EReal :=
  ∑ k : Fin 8192, term x0 x1 x2 x3 i j k

theorem pay (x0 : Vec Ideal S1024x1024 .bf16) (x1 : Vec Ideal S1024x512 .bf16) (x2 : Vec Ideal S1024x512 .bf16) (x3 : Vec Ideal S1024x1280 .bf16) (acc : Vec Ideal S1024x1408 .f32)
    (y : S1024x1408.Idx) : k0_pay2 x0 x1 x2 x3 acc y = acc y + part x0 x1 x2 x3 y := by
  idx_vars y
  unfold part sel
  pointwise [k0_pay2]

theorem zero (y : S1024x1408.Idx) : (k0_pay1 (F := Ideal)) y = 0 := by
  idx_vars y
  pointwise [k0_pay1]

variable (m : (ℓ : Loc nD τ sig) → Buf (Elt Ideal) ℓ)

/-- Point `n`'s addend (nothing past the last point). -/
def addend (c : Dev nD) (n : ℕ) (y : S1024x1408.Idx) : EReal :=
  if h : n < cfg0.N then part (iblk m c 0 ⟨n, h⟩) (iblk m c 1 ⟨n, h⟩) (iblk m c 2 ⟨n, h⟩) (iblk m c 3 ⟨n, h⟩) y else 0

/-- The array row of row `k` of point `t`'s block. -/
abbrev row (t : Fin cfg0.N) (k : Fin 1024) : Fin 8192 := ⟨t.val * 1024 + k.val, by have := t.isLt; have : cfg0.N = 8 := N_0; omega⟩

theorem blk0 (c : Dev nD) (t : Fin cfg0.N) (k : Fin 1024) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 1024) (i : Fin 512) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 1024) (i : Fin 512) : iblk m c 2 t (ix2 k i) = m ((c.tc : Thread nD τ).loc main_arg2) (ix2 (row t k) i) := by
  have e : ∀ t : Fin cfg0.N, win0_2.index t = ![t.val, 0] := (by decide +kernel : ∀ t : Fin grid0.N, _)
  blk_ext [row, Gen.iblk, Gen.V, e t]

theorem blk3 (c : Dev nD) (t : Fin cfg0.N) (k : Fin 1024) (i : Fin 1280) : iblk m c 3 t (ix2 k i) = m ((c.tc : Thread nD τ).loc main_arg3) (ix2 (row t k) i) := by
  have e : ∀ t : Fin cfg0.N, win0_3.index t = ![t.val, 0] := (by decide +kernel : ∀ t : Fin grid0.N, _)
  blk_ext [row, Gen.iblk, Gen.V, e t]

theorem part_blk (c : Dev nD) (t : Fin cfg0.N) (i : Fin 1024) (j : Fin 1408) :
    part (iblk m c 0 t) (iblk m c 1 t) (iblk m c 2 t) (iblk m c 3 t) (ix2 i j) = ∑ k : Fin 1024, term (m ((c.tc : Thread nD τ).loc main_arg0)) (m ((c.tc : Thread nD τ).loc main_arg1)) (m ((c.tc : Thread nD τ).loc main_arg2)) (m ((c.tc : Thread nD τ).loc main_arg3)) i j (row t k) := by
  unfold part term
  refine Fin.sum_fin_congr fun k => ?_
  show @HMul.hMul EReal EReal EReal _ (iblk m c 0 t (ix2 k i)) (sel (fun l => iblk m c 1 t (ix2 k l)) (fun l => iblk m c 2 t (ix2 k l)) (fun l => iblk m c 3 t (ix2 k l)) j) = _
  rw [blk0]
  simp only [blk1, blk2, blk3]

theorem value (c : Dev nD) (i : Fin 1024) (j : Fin 1408) : Value.G4 m c (ix2 i j) = full (m ((c.tc : Thread nD τ).loc main_arg0)) (m ((c.tc : Thread nD τ).loc main_arg1)) (m ((c.tc : Thread nD τ).loc main_arg2)) (m ((c.tc : Thread nD τ).loc main_arg3)) i j := by
  have hN : cfg0.N = 8 := N_0
  have hr : Value.run4Of (ix2 i j) = 0 := by
    show 1 * (i.val / 1024 - 0) + 1 * (j.val / 1408 - 0) = 0
    omega
  have hl : Value.loc4Of (ix2 i j) = ix2 i j := by
    funext a
    apply Fin.ext
    match a with
    | ⟨0, _⟩ => exact Nat.mod_eq_of_lt i.isLt
    | ⟨1, _⟩ => exact Nat.mod_eq_of_lt j.isLt
  have u := Pipeline.accAt_add_apply (Value.reset4 m c) (Value.step4 m c) (fun _ => (0 : EReal)) (addend m c) 0 7
    (fun h y => by unfold Value.reset4 addend; rw [pay, zero, dif_pos h]) (fun n h acc y _ _ => by unfold Value.step4 addend; rw [pay, dif_pos h])
    7 le_rfl (by rw [hN]; decide) (ix2 i j)
  unfold Value.G4
  rw [dif_pos (by rw [hr, hN]; decide), hl]
  have g : ∀ (b : ℕ) (h : b + 7 < cfg0.N), b = 0 → Pipeline.accAt (Value.reset4 m c) (Value.step4 m c) b 7 h (ix2 i j) =
    0 + ∑ s ∈ Finset.range (7 + 1), addend m c (0 + s) (ix2 i j) := by
    intro b h hb; subst hb; exact u
  rw [g _ _ (by rw [hr])]
  rw [zero_add, Finset.sum_range]
  unfold full
  have q : ∀ s : Fin 8, addend m c (0 + s.val) (ix2 i j) = ∑ k : Fin 1024, term (m ((c.tc : Thread nD τ).loc main_arg0)) (m ((c.tc : Thread nD τ).loc main_arg1)) (m ((c.tc : Thread nD τ).loc main_arg2)) (m ((c.tc : Thread nD τ).loc main_arg3)) i j (row ⟨s.val, by omega⟩ k) := by
    intro s
    rw [Nat.zero_add]
    unfold addend
    rw [dif_pos (by have := s.isLt; omega)]
    exact part_blk m c ⟨s.val, by omega⟩ i j
  exact (Fin.sum_fin_congr q).trans (Fin.sum_mul_add_congr fun s k hl => rfl)

/-- The run of the kernel: its array holds the products over all rows. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0) = (fun y : S1024x1408.Idx => full (m ((c.tc : Thread nD τ).loc main_arg0)) (m ((c.tc : Thread nD τ).loc main_arg1)) (m ((c.tc : Thread nD τ).loc main_arg2)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (funext fun y => by idx_vars y; exact value m c _ _), (h c).2⟩) (Value.run m ρ)

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference compute the same products. -/
theorem algebraic : Cert.algebraic_Kernel2Ideal_Reference2Ideal := by
  intro m ρ m' ρ' _ hm
  refine ⟨_, result m ρ, ?_⟩
  refine (θ_run Cert.Reference2Ideal.defs _ _).mono (fun r h c => ⟨(h c).1.trans ?_, (h c).2⟩) (Cert.Reference2Ideal.Value.run (F := Ideal) m' ρ')
  obtain ⟨e0, e1, e2, e3⟩ := hm c
  rw [e0, e1, e2, e3]
  generalize m _ = x0
  generalize m _ = x1
  generalize m _ = x2
  generalize m _ = x3
  funext y
  idx_vars y
  unfold full term sel
  pointwise []
  exact Fin.sum_fin_congr fun k => mul_comm _ _

end Cert.Win2

end
-- ==== Proof.Win3.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent
public import Idealize.ShloMosaic.Lib.Pipeline.ValueKit
public import Idealize.ShloMosaic.Lib.Pointwise

/-! The weight gradient of the input projection, slot 1: the eight points' products of 1024 rows each add up to the
    product over all 8192 rows. -/

@[expose] public section

noncomputable section

namespace Cert.Win3

open Idealize.ShloMosaic Idealize.ShloMosaic.TcCoe Idealize.SL.Sem
open Cert.Kernel3Ideal Cert.Kernel3Ideal.Gen

set_option maxRecDepth 16384

/-- Column `j` of the slot, read in the cotangents laid side by side. -/
def sel (x1 : Fin 1280 → EReal) (x2 : Fin 1280 → EReal) (j : Fin 1408) : EReal :=
  if h : 384 + j.val < 1280 then x1 ⟨384 + j.val, h⟩ else x2 ⟨384 + j.val - 1280, by omega⟩

/-- What one point adds to the accumulated block. -/
def part (x0 : Vec Ideal S1024x1024 .bf16) (x1 : Vec Ideal S1024x1280 .bf16) (x2 : Vec Ideal S1024x1280 .bf16) (y : S1024x1408.Idx) : EReal :=
  ∑ k : Fin 1024, x0 (ix2 k (y 0)) * sel (fun l => x1 (ix2 k l)) (fun l => x2 (ix2 k l)) (y 1)

/-- One row's term in an entry of the result. -/
def term (x0 : Vec Ideal S8192x1024 .bf16) (x1 : Vec Ideal S8192x1280 .bf16) (x2 : Vec Ideal S8192x1280 .bf16) (i : Fin 1024) (j : Fin 1408) (k : Fin 8192) : EReal :=
  x0 (ix2 k i) * sel (fun l => x1 (ix2 k l)) (fun l => x2 (ix2 k l)) j

/-- The product over all rows at one entry. -/
def full (x0 : Vec Ideal S8192x1024 .bf16) (x1 : Vec Ideal S8192x1280 .bf16) (x2 : Vec Ideal S8192x1280 .bf16) (i : Fin 1024) (j : Fin 1408) : EReal :=
  ∑ k : Fin 8192, term x0 x1 x2 i j k

theorem pay (x0 : Vec Ideal S1024x1024 .bf16) (x1 : Vec Ideal S1024x1280 .bf16) (x2 : Vec Ideal S1024x1280 .bf16) (acc : Vec Ideal S1024x1408 .f32)
    (y : S1024x1408.Idx) : k0_pay2 x0 x1 x2 acc y = acc y + part x0 x1 x2 y := by
  idx_vars y
  unfold part sel
  pointwise [k0_pay2]

theorem zero (y : S1024x1408.Idx) : (k0_pay1 (F := Ideal)) y = 0 := by
  idx_vars y
  pointwise [k0_pay1]

variable (m : (ℓ : Loc nD τ sig) → Buf (Elt Ideal) ℓ)

/-- Point `n`'s addend (nothing past the last point). -/
def addend (c : Dev nD) (n : ℕ) (y : S1024x1408.Idx) : EReal :=
  if h : n < cfg0.N then part (iblk m c 0 ⟨n, h⟩) (iblk m c 1 ⟨n, h⟩) (iblk m c 2 ⟨n, h⟩) y else 0

/-- The array row of row `k` of point `t`'s block. -/
abbrev row (t : Fin cfg0.N) (k : Fin 1024) : Fin 8192 := ⟨t.val * 1024 + k.val, by have := t.isLt; have : cfg0.N = 8 := N_0; omega⟩

theorem blk0 (c : Dev nD) (t : Fin cfg0.N) (k : Fin 1024) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 1024) (i : Fin 1280) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 1024) (i : Fin 1280) : iblk m c 2 t (ix2 k i) = m ((c.tc : Thread nD τ).loc main_arg2) (ix2 (row t k) i) := by
  have e : ∀ t : Fin cfg0.N, win0_2.index t = ![t.val, 0] := (by decide +kernel : ∀ t : Fin grid0.N, _)
  blk_ext [row, Gen.iblk, Gen.V, e t]

theorem part_blk (c : Dev nD) (t : Fin cfg0.N) (i : Fin 1024) (j : Fin 1408) :
    part (iblk m c 0 t) (iblk m c 1 t) (iblk m c 2 t) (ix2 i j) = ∑ k : Fin 1024, term (m ((c.tc : Thread nD τ).loc main_arg0)) (m ((c.tc : Thread nD τ).loc main_arg1)) (m ((c.tc : Thread nD τ).loc main_arg2)) i j (row t k) := by
  unfold part term
  refine Fin.sum_fin_congr fun k => ?_
  show @HMul.hMul EReal EReal EReal _ (iblk m c 0 t (ix2 k i)) (sel (fun l => iblk m c 1 t (ix2 k l)) (fun l => iblk m c 2 t (ix2 k l)) j) = _
  rw [blk0]
  simp only [blk1, blk2]

theorem value (c : Dev nD) (i : Fin 1024) (j : Fin 1408) : Value.G3 m c (ix2 i j) = full (m ((c.tc : Thread nD τ).loc main_arg0)) (m ((c.tc : Thread nD τ).loc main_arg1)) (m ((c.tc : Thread nD τ).loc main_arg2)) i j := by
  have hN : cfg0.N = 8 := N_0
  have hr : Value.run3Of (ix2 i j) = 0 := by
    show 1 * (i.val / 1024 - 0) + 1 * (j.val / 1408 - 0) = 0
    omega
  have hl : Value.loc3Of (ix2 i j) = ix2 i j := by
    funext a
    apply Fin.ext
    match a with
    | ⟨0, _⟩ => exact Nat.mod_eq_of_lt i.isLt
    | ⟨1, _⟩ => exact Nat.mod_eq_of_lt j.isLt
  have u := Pipeline.accAt_add_apply (Value.reset3 m c) (Value.step3 m c) (fun _ => (0 : EReal)) (addend m c) 0 7
    (fun h y => by unfold Value.reset3 addend; rw [pay, zero, dif_pos h]) (fun n h acc y _ _ => by unfold Value.step3 addend; rw [pay, dif_pos h])
    7 le_rfl (by rw [hN]; decide) (ix2 i j)
  unfold Value.G3
  rw [dif_pos (by rw [hr, hN]; decide), hl]
  have g : ∀ (b : ℕ) (h : b + 7 < cfg0.N), b = 0 → Pipeline.accAt (Value.reset3 m c) (Value.step3 m c) b 7 h (ix2 i j) =
    0 + ∑ s ∈ Finset.range (7 + 1), addend m c (0 + s) (ix2 i j) := by
    intro b h hb; subst hb; exact u
  rw [g _ _ (by rw [hr])]
  rw [zero_add, Finset.sum_range]
  unfold full
  have q : ∀ s : Fin 8, addend m c (0 + s.val) (ix2 i j) = ∑ k : Fin 1024, term (m ((c.tc : Thread nD τ).loc main_arg0)) (m ((c.tc : Thread nD τ).loc main_arg1)) (m ((c.tc : Thread nD τ).loc main_arg2)) i j (row ⟨s.val, by omega⟩ k) := by
    intro s
    rw [Nat.zero_add]
    unfold addend
    rw [dif_pos (by have := s.isLt; omega)]
    exact part_blk m c ⟨s.val, by omega⟩ i j
  exact (Fin.sum_fin_congr q).trans (Fin.sum_mul_add_congr fun s k hl => rfl)

/-- The run of the kernel: its array holds the products over all rows. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0) = (fun y : S1024x1408.Idx => full (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun y => by idx_vars y; exact value m c _ _), (h c).2⟩) (Value.run m ρ)

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference compute the same products. -/
theorem algebraic : Cert.algebraic_Kernel3Ideal_Reference3Ideal := by
  intro m ρ m' ρ' _ hm
  refine ⟨_, result m ρ, ?_⟩
  refine (θ_run Cert.Reference3Ideal.defs _ _).mono (fun r h c => ⟨(h c).1.trans ?_, (h c).2⟩) (Cert.Reference3Ideal.Value.run (F := Ideal) m' ρ')
  obtain ⟨e0, e1, e2⟩ := hm c
  rw [e0, e1, e2]
  generalize m _ = x0
  generalize m _ = x1
  generalize m _ = x2
  funext y
  idx_vars y
  unfold full term sel
  pointwise []
  exact Fin.sum_fin_congr fun k => mul_comm _ _

end Cert.Win3

end
-- ==== Proof.Win4.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent
public import Idealize.ShloMosaic.Lib.Pipeline.ValueKit
public import Idealize.ShloMosaic.Lib.Pointwise

/-! The weight gradient of the input projection, slot 2: the eight points' products of 1024 rows each add up to the
    product over all 8192 rows. -/

@[expose] public section

noncomputable section

namespace Cert.Win4

open Idealize.ShloMosaic Idealize.ShloMosaic.TcCoe Idealize.SL.Sem
open Cert.Kernel4Ideal Cert.Kernel4Ideal.Gen

set_option maxRecDepth 16384

/-- Column `j` of the slot, read in the cotangents laid side by side. -/
def sel (x1 : Fin 1280 → EReal) (x2 : Fin 1024 → EReal) (j : Fin 1408) : EReal :=
  if h : 512 + j.val < 1280 then x1 ⟨512 + j.val, h⟩ else x2 ⟨512 + j.val - 1280, by omega⟩

/-- What one point adds to the accumulated block. -/
def part (x0 : Vec Ideal S1024x1024 .bf16) (x1 : Vec Ideal S1024x1280 .bf16) (x2 : Vec Ideal S1024x1024 .bf16) (y : S1024x1408.Idx) : EReal :=
  ∑ k : Fin 1024, x0 (ix2 k (y 0)) * sel (fun l => x1 (ix2 k l)) (fun l => x2 (ix2 k l)) (y 1)

/-- One row's term in an entry of the result. -/
def term (x0 : Vec Ideal S8192x1024 .bf16) (x1 : Vec Ideal S8192x1280 .bf16) (x2 : Vec Ideal S8192x1024 .bf16) (i : Fin 1024) (j : Fin 1408) (k : Fin 8192) : EReal :=
  x0 (ix2 k i) * sel (fun l => x1 (ix2 k l)) (fun l => x2 (ix2 k l)) j

/-- The product over all rows at one entry. -/
def full (x0 : Vec Ideal S8192x1024 .bf16) (x1 : Vec Ideal S8192x1280 .bf16) (x2 : Vec Ideal S8192x1024 .bf16) (i : Fin 1024) (j : Fin 1408) : EReal :=
  ∑ k : Fin 8192, term x0 x1 x2 i j k

theorem pay (x0 : Vec Ideal S1024x1024 .bf16) (x1 : Vec Ideal S1024x1280 .bf16) (x2 : Vec Ideal S1024x1024 .bf16) (acc : Vec Ideal S1024x1408 .f32)
    (y : S1024x1408.Idx) : k0_pay2 x0 x1 x2 acc y = acc y + part x0 x1 x2 y := by
  idx_vars y
  unfold part sel
  pointwise [k0_pay2]

theorem zero (y : S1024x1408.Idx) : (k0_pay1 (F := Ideal)) y = 0 := by
  idx_vars y
  pointwise [k0_pay1]

variable (m : (ℓ : Loc nD τ sig) → Buf (Elt Ideal) ℓ)

/-- Point `n`'s addend (nothing past the last point). -/
def addend (c : Dev nD) (n : ℕ) (y : S1024x1408.Idx) : EReal :=
  if h : n < cfg0.N then part (iblk m c 0 ⟨n, h⟩) (iblk m c 1 ⟨n, h⟩) (iblk m c 2 ⟨n, h⟩) y else 0

/-- The array row of row `k` of point `t`'s block. -/
abbrev row (t : Fin cfg0.N) (k : Fin 1024) : Fin 8192 := ⟨t.val * 1024 + k.val, by have := t.isLt; have : cfg0.N = 8 := N_0; omega⟩

theorem blk0 (c : Dev nD) (t : Fin cfg0.N) (k : Fin 1024) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 1024) (i : Fin 1280) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 1024) (i : Fin 1024) : iblk m c 2 t (ix2 k i) = m ((c.tc : Thread nD τ).loc main_arg2) (ix2 (row t k) i) := by
  have e : ∀ t : Fin cfg0.N, win0_2.index t = ![t.val, 0] := (by decide +kernel : ∀ t : Fin grid0.N, _)
  blk_ext [row, Gen.iblk, Gen.V, e t]

theorem part_blk (c : Dev nD) (t : Fin cfg0.N) (i : Fin 1024) (j : Fin 1408) :
    part (iblk m c 0 t) (iblk m c 1 t) (iblk m c 2 t) (ix2 i j) = ∑ k : Fin 1024, term (m ((c.tc : Thread nD τ).loc main_arg0)) (m ((c.tc : Thread nD τ).loc main_arg1)) (m ((c.tc : Thread nD τ).loc main_arg2)) i j (row t k) := by
  unfold part term
  refine Fin.sum_fin_congr fun k => ?_
  show @HMul.hMul EReal EReal EReal _ (iblk m c 0 t (ix2 k i)) (sel (fun l => iblk m c 1 t (ix2 k l)) (fun l => iblk m c 2 t (ix2 k l)) j) = _
  rw [blk0]
  simp only [blk1, blk2]

theorem value (c : Dev nD) (i : Fin 1024) (j : Fin 1408) : Value.G3 m c (ix2 i j) = full (m ((c.tc : Thread nD τ).loc main_arg0)) (m ((c.tc : Thread nD τ).loc main_arg1)) (m ((c.tc : Thread nD τ).loc main_arg2)) i j := by
  have hN : cfg0.N = 8 := N_0
  have hr : Value.run3Of (ix2 i j) = 0 := by
    show 1 * (i.val / 1024 - 0) + 1 * (j.val / 1408 - 0) = 0
    omega
  have hl : Value.loc3Of (ix2 i j) = ix2 i j := by
    funext a
    apply Fin.ext
    match a with
    | ⟨0, _⟩ => exact Nat.mod_eq_of_lt i.isLt
    | ⟨1, _⟩ => exact Nat.mod_eq_of_lt j.isLt
  have u := Pipeline.accAt_add_apply (Value.reset3 m c) (Value.step3 m c) (fun _ => (0 : EReal)) (addend m c) 0 7
    (fun h y => by unfold Value.reset3 addend; rw [pay, zero, dif_pos h]) (fun n h acc y _ _ => by unfold Value.step3 addend; rw [pay, dif_pos h])
    7 le_rfl (by rw [hN]; decide) (ix2 i j)
  unfold Value.G3
  rw [dif_pos (by rw [hr, hN]; decide), hl]
  have g : ∀ (b : ℕ) (h : b + 7 < cfg0.N), b = 0 → Pipeline.accAt (Value.reset3 m c) (Value.step3 m c) b 7 h (ix2 i j) =
    0 + ∑ s ∈ Finset.range (7 + 1), addend m c (0 + s) (ix2 i j) := by
    intro b h hb; subst hb; exact u
  rw [g _ _ (by rw [hr])]
  rw [zero_add, Finset.sum_range]
  unfold full
  have q : ∀ s : Fin 8, addend m c (0 + s.val) (ix2 i j) = ∑ k : Fin 1024, term (m ((c.tc : Thread nD τ).loc main_arg0)) (m ((c.tc : Thread nD τ).loc main_arg1)) (m ((c.tc : Thread nD τ).loc main_arg2)) i j (row ⟨s.val, by omega⟩ k) := by
    intro s
    rw [Nat.zero_add]
    unfold addend
    rw [dif_pos (by have := s.isLt; omega)]
    exact part_blk m c ⟨s.val, by omega⟩ i j
  exact (Fin.sum_fin_congr q).trans (Fin.sum_mul_add_congr fun s k hl => rfl)

/-- The run of the kernel: its array holds the products over all rows. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0) = (fun y : S1024x1408.Idx => full (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun y => by idx_vars y; exact value m c _ _), (h c).2⟩) (Value.run m ρ)

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference compute the same products. -/
theorem algebraic : Cert.algebraic_Kernel4Ideal_Reference4Ideal := by
  intro m ρ m' ρ' _ hm
  refine ⟨_, result m ρ, ?_⟩
  refine (θ_run Cert.Reference4Ideal.defs _ _).mono (fun r h c => ⟨(h c).1.trans ?_, (h c).2⟩) (Cert.Reference4Ideal.Value.run (F := Ideal) m' ρ')
  obtain ⟨e0, e1, e2⟩ := hm c
  rw [e0, e1, e2]
  generalize m _ = x0
  generalize m _ = x1
  generalize m _ = x2
  funext y
  idx_vars y
  unfold full term sel
  pointwise []
  exact Fin.sum_fin_congr fun k => mul_comm _ _

end Cert.Win4

end
-- ==== Proof.Win5.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent
public import Idealize.ShloMosaic.Lib.Pipeline.ValueKit
public import Idealize.ShloMosaic.Lib.Pointwise

/-! The weight gradient of the input projection, slot 3: the eight points' products of 1024 rows each add up to the
    product over all 8192 rows. -/

@[expose] public section

noncomputable section

namespace Cert.Win5

open Idealize.ShloMosaic Idealize.ShloMosaic.TcCoe Idealize.SL.Sem
open Cert.Kernel5Ideal Cert.Kernel5Ideal.Gen

set_option maxRecDepth 16384

/-- Column `j` of the slot, read in the cotangents laid side by side. -/
def sel (x1 : Fin 1024 → EReal) (x2 : Fin 1024 → EReal) (j : Fin 1408) : EReal :=
  if h : 640 + j.val < 1024 then x1 ⟨640 + j.val, h⟩ else x2 ⟨640 + j.val - 1024, by omega⟩

/-- What one point adds to the accumulated block. -/
def part (x0 : Vec Ideal S1024x1024 .bf16) (x1 : Vec Ideal S1024x1024 .bf16) (x2 : Vec Ideal S1024x1024 .bf16) (y : S1024x1408.Idx) : EReal :=
  ∑ k : Fin 1024, x0 (ix2 k (y 0)) * sel (fun l => x1 (ix2 k l)) (fun l => x2 (ix2 k l)) (y 1)

/-- One row's term in an entry of the result. -/
def term (x0 : Vec Ideal S8192x1024 .bf16) (x1 : Vec Ideal S8192x1024 .bf16) (x2 : Vec Ideal S8192x1024 .bf16) (i : Fin 1024) (j : Fin 1408) (k : Fin 8192) : EReal :=
  x0 (ix2 k i) * sel (fun l => x1 (ix2 k l)) (fun l => x2 (ix2 k l)) j

/-- The product over all rows at one entry. -/
def full (x0 : Vec Ideal S8192x1024 .bf16) (x1 : Vec Ideal S8192x1024 .bf16) (x2 : Vec Ideal S8192x1024 .bf16) (i : Fin 1024) (j : Fin 1408) : EReal :=
  ∑ k : Fin 8192, term x0 x1 x2 i j k

theorem pay (x0 : Vec Ideal S1024x1024 .bf16) (x1 : Vec Ideal S1024x1024 .bf16) (x2 : Vec Ideal S1024x1024 .bf16) (acc : Vec Ideal S1024x1408 .f32)
    (y : S1024x1408.Idx) : k0_pay2 x0 x1 x2 acc y = acc y + part x0 x1 x2 y := by
  idx_vars y
  unfold part sel
  pointwise [k0_pay2]

theorem zero (y : S1024x1408.Idx) : (k0_pay1 (F := Ideal)) y = 0 := by
  idx_vars y
  pointwise [k0_pay1]

variable (m : (ℓ : Loc nD τ sig) → Buf (Elt Ideal) ℓ)

/-- Point `n`'s addend (nothing past the last point). -/
def addend (c : Dev nD) (n : ℕ) (y : S1024x1408.Idx) : EReal :=
  if h : n < cfg0.N then part (iblk m c 0 ⟨n, h⟩) (iblk m c 1 ⟨n, h⟩) (iblk m c 2 ⟨n, h⟩) y else 0

/-- The array row of row `k` of point `t`'s block. -/
abbrev row (t : Fin cfg0.N) (k : Fin 1024) : Fin 8192 := ⟨t.val * 1024 + k.val, by have := t.isLt; have : cfg0.N = 8 := N_0; omega⟩

theorem blk0 (c : Dev nD) (t : Fin cfg0.N) (k : Fin 1024) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 1024) (i : Fin 1024) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 1024) (i : Fin 1024) : iblk m c 2 t (ix2 k i) = m ((c.tc : Thread nD τ).loc main_arg2) (ix2 (row t k) i) := by
  have e : ∀ t : Fin cfg0.N, win0_2.index t = ![t.val, 0] := (by decide +kernel : ∀ t : Fin grid0.N, _)
  blk_ext [row, Gen.iblk, Gen.V, e t]

theorem part_blk (c : Dev nD) (t : Fin cfg0.N) (i : Fin 1024) (j : Fin 1408) :
    part (iblk m c 0 t) (iblk m c 1 t) (iblk m c 2 t) (ix2 i j) = ∑ k : Fin 1024, term (m ((c.tc : Thread nD τ).loc main_arg0)) (m ((c.tc : Thread nD τ).loc main_arg1)) (m ((c.tc : Thread nD τ).loc main_arg2)) i j (row t k) := by
  unfold part term
  refine Fin.sum_fin_congr fun k => ?_
  show @HMul.hMul EReal EReal EReal _ (iblk m c 0 t (ix2 k i)) (sel (fun l => iblk m c 1 t (ix2 k l)) (fun l => iblk m c 2 t (ix2 k l)) j) = _
  rw [blk0]
  simp only [blk1, blk2]

theorem value (c : Dev nD) (i : Fin 1024) (j : Fin 1408) : Value.G3 m c (ix2 i j) = full (m ((c.tc : Thread nD τ).loc main_arg0)) (m ((c.tc : Thread nD τ).loc main_arg1)) (m ((c.tc : Thread nD τ).loc main_arg2)) i j := by
  have hN : cfg0.N = 8 := N_0
  have hr : Value.run3Of (ix2 i j) = 0 := by
    show 1 * (i.val / 1024 - 0) + 1 * (j.val / 1408 - 0) = 0
    omega
  have hl : Value.loc3Of (ix2 i j) = ix2 i j := by
    funext a
    apply Fin.ext
    match a with
    | ⟨0, _⟩ => exact Nat.mod_eq_of_lt i.isLt
    | ⟨1, _⟩ => exact Nat.mod_eq_of_lt j.isLt
  have u := Pipeline.accAt_add_apply (Value.reset3 m c) (Value.step3 m c) (fun _ => (0 : EReal)) (addend m c) 0 7
    (fun h y => by unfold Value.reset3 addend; rw [pay, zero, dif_pos h]) (fun n h acc y _ _ => by unfold Value.step3 addend; rw [pay, dif_pos h])
    7 le_rfl (by rw [hN]; decide) (ix2 i j)
  unfold Value.G3
  rw [dif_pos (by rw [hr, hN]; decide), hl]
  have g : ∀ (b : ℕ) (h : b + 7 < cfg0.N), b = 0 → Pipeline.accAt (Value.reset3 m c) (Value.step3 m c) b 7 h (ix2 i j) =
    0 + ∑ s ∈ Finset.range (7 + 1), addend m c (0 + s) (ix2 i j) := by
    intro b h hb; subst hb; exact u
  rw [g _ _ (by rw [hr])]
  rw [zero_add, Finset.sum_range]
  unfold full
  have q : ∀ s : Fin 8, addend m c (0 + s.val) (ix2 i j) = ∑ k : Fin 1024, term (m ((c.tc : Thread nD τ).loc main_arg0)) (m ((c.tc : Thread nD τ).loc main_arg1)) (m ((c.tc : Thread nD τ).loc main_arg2)) i j (row ⟨s.val, by omega⟩ k) := by
    intro s
    rw [Nat.zero_add]
    unfold addend
    rw [dif_pos (by have := s.isLt; omega)]
    exact part_blk m c ⟨s.val, by omega⟩ i j
  exact (Fin.sum_fin_congr q).trans (Fin.sum_mul_add_congr fun s k hl => rfl)

/-- The run of the kernel: its array holds the products over all rows. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0) = (fun y : S1024x1408.Idx => full (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun y => by idx_vars y; exact value m c _ _), (h c).2⟩) (Value.run m ρ)

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference compute the same products. -/
theorem algebraic : Cert.algebraic_Kernel5Ideal_Reference5Ideal := by
  intro m ρ m' ρ' _ hm
  refine ⟨_, result m ρ, ?_⟩
  refine (θ_run Cert.Reference5Ideal.defs _ _).mono (fun r h c => ⟨(h c).1.trans ?_, (h c).2⟩) (Cert.Reference5Ideal.Value.run (F := Ideal) m' ρ')
  obtain ⟨e0, e1, e2⟩ := hm c
  rw [e0, e1, e2]
  generalize m _ = x0
  generalize m _ = x1
  generalize m _ = x2
  funext y
  idx_vars y
  unfold full term sel
  pointwise []
  exact Fin.sum_fin_congr fun k => mul_comm _ _

end Cert.Win5

end
-- ==== Proof.In6.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent
public import Idealize.ShloMosaic.Lib.Pipeline.ValueKit
public import Idealize.ShloMosaic.Lib.Pointwise

/-! The input projection: rows normalised and multiplied by the four slots of the weights, a block of 256 rows a
    point; the six parts of the result are column ranges of one product. -/

@[expose] public section

noncomputable section

namespace Cert.In6

open Idealize.ShloMosaic Idealize.ShloMosaic.TcCoe Idealize.SL.Sem
open Cert.Kernel6Ideal Cert.Kernel6Ideal.Gen

set_option maxRecDepth 16384

/-- Column `J` of four slots of 1408 columns laid side by side. -/
def pick (a b c d : Fin 1408 → EReal) (J : Fin 5632) : EReal :=
  if h : J.val < 1408 then a ⟨J.val, h⟩ else if hh : J.val - 1408 < 1408 then b ⟨J.val - 1408, hh⟩
    else if hhh : J.val - 1408 - 1408 < 1408 then c ⟨J.val - 1408 - 1408, hhh⟩ else d ⟨J.val - 1408 - 1408 - 1408, by omega⟩

/-- A row entry of the weights inside the longer axis. -/
abbrev wide (k : Fin 1024) : Fin 2048 := ⟨k.val, by omega⟩

/-- The normalised row. -/
def norm (x : Vec Ideal S8192x1024 .f32) (g : Vec Ideal S1x1024 .f32) (r : Fin 8192) (l : Fin 1024) : EReal :=
  x (ix2 r l) * Ideal.rsqrt (Ideal.div (∑ k : Fin 1024, x (ix2 r k) * x (ix2 r k)) (Ideal.ofBits FTy.f32 1149239296#32) + Ideal.ofBits FTy.f32 897988541#32) * g (ix2 0 l)

/-- The normalised rows times the weights, all columns. -/
def proj (x : Vec Ideal S8192x1024 .f32) (g : Vec Ideal S1x1024 .f32) (w : Vec Ideal S4x2048x1408 .bf16) (r : Fin 8192) (J : Fin 5632) : EReal :=
  ∑ l : Fin 1024, norm x g r l * pick (fun j => w (ix3 0 (wide l) j)) (fun j => w (ix3 1 (wide l) j)) (fun j => w (ix3 2 (wide l) j)) (fun j => w (ix3 3 (wide l) j)) J

theorem pay_0 (x : Vec Ideal S256x1024 .f32) (g : Vec Ideal S1x1024 .f32) (v2 v4 v6 v8 : Vec Ideal S1x1024x1408 .bf16) (i : Fin 256) (j : Fin 512) :
    k0_pay13 x g v2 v4 v6 v8 (ix2 i j) = ∑ l : Fin 1024, k0_pay6 x g (ix2 i l) * pick (fun j => v2 (ix3 0 l j)) (fun j => v4 (ix3 0 l j)) (fun j => v6 (ix3 0 l j)) (fun j => v8 (ix3 0 l j)) ⟨0 + j.val, by omega⟩ := by
  pointwise [k0_pay13, k0_pay7]
  unfold pick
  split_ifs <;> first | rfl | omega | (simp only [Nat.zero_add]; done)

theorem pay_1 (x : Vec Ideal S256x1024 .f32) (g : Vec Ideal S1x1024 .f32) (v2 v4 v6 v8 : Vec Ideal S1x1024x1408 .bf16) (i : Fin 256) (j : Fin 512) :
    k0_pay1 (k0_pay8 x g v2 v4 v6 v8) (ix2 i j) = ∑ l : Fin 1024, k0_pay6 x g (ix2 i l) * pick (fun j => v2 (ix3 0 l j)) (fun j => v4 (ix3 0 l j)) (fun j => v6 (ix3 0 l j)) (fun j => v8 (ix3 0 l j)) ⟨512 + j.val, by omega⟩ := by
  pointwise [k0_pay1, k0_pay8, k0_pay7]
  unfold pick
  split_ifs <;> first | rfl | omega | (simp only [Nat.zero_add]; done)

theorem pay_2 (x : Vec Ideal S256x1024 .f32) (g : Vec Ideal S1x1024 .f32) (v2 v4 v6 v8 : Vec Ideal S1x1024x1408 .bf16) (i : Fin 256) (j : Fin 1280) :
    k0_pay2 (k0_pay9 x g v2 v4 v6 v8) (ix2 i j) = ∑ l : Fin 1024, k0_pay6 x g (ix2 i l) * pick (fun j => v2 (ix3 0 l j)) (fun j => v4 (ix3 0 l j)) (fun j => v6 (ix3 0 l j)) (fun j => v8 (ix3 0 l j)) ⟨1024 + j.val, by omega⟩ := by
  pointwise [k0_pay2, k0_pay9, k0_pay7]
  unfold pick
  split_ifs <;> first | rfl | omega | (simp only [Nat.zero_add]; done)

theorem pay_3 (x : Vec Ideal S256x1024 .f32) (g : Vec Ideal S1x1024 .f32) (v2 v4 v6 v8 : Vec Ideal S1x1024x1408 .bf16) (i : Fin 256) (j : Fin 1280) :
    k0_pay3 (k0_pay10 x g v2 v4 v6 v8) (ix2 i j) = ∑ l : Fin 1024, k0_pay6 x g (ix2 i l) * pick (fun j => v2 (ix3 0 l j)) (fun j => v4 (ix3 0 l j)) (fun j => v6 (ix3 0 l j)) (fun j => v8 (ix3 0 l j)) ⟨2304 + j.val, by omega⟩ := by
  pointwise [k0_pay3, k0_pay10, k0_pay7]
  unfold pick
  split_ifs <;> first | rfl | omega | (simp only [Nat.zero_add]; done)

theorem pay_4 (x : Vec Ideal S256x1024 .f32) (g : Vec Ideal S1x1024 .f32) (v2 v4 v6 v8 : Vec Ideal S1x1024x1408 .bf16) (i : Fin 256) (j : Fin 1024) :
    k0_pay4 (k0_pay11 x g v2 v4 v6 v8) (ix2 i j) = ∑ l : Fin 1024, k0_pay6 x g (ix2 i l) * pick (fun j => v2 (ix3 0 l j)) (fun j => v4 (ix3 0 l j)) (fun j => v6 (ix3 0 l j)) (fun j => v8 (ix3 0 l j)) ⟨3584 + j.val, by omega⟩ := by
  pointwise [k0_pay4, k0_pay11, k0_pay7]
  unfold pick
  split_ifs <;> first | rfl | omega | (simp only [Nat.zero_add]; done)

theorem pay_5 (x : Vec Ideal S256x1024 .f32) (g : Vec Ideal S1x1024 .f32) (v2 v4 v6 v8 : Vec Ideal S1x1024x1408 .bf16) (i : Fin 256) (j : Fin 1024) :
    k0_pay5 (k0_pay12 x g v2 v4 v6 v8) (ix2 i j) = ∑ l : Fin 1024, k0_pay6 x g (ix2 i l) * pick (fun j => v2 (ix3 0 l j)) (fun j => v4 (ix3 0 l j)) (fun j => v6 (ix3 0 l j)) (fun j => v8 (ix3 0 l j)) ⟨4608 + j.val, by omega⟩ := by
  pointwise [k0_pay5, k0_pay12, k0_pay7]
  unfold pick
  split_ifs <;> first | rfl | omega | (simp only [Nat.zero_add]; done)

variable (m : (ℓ : Loc nD τ sig) → Buf (Elt Ideal) ℓ)

/-- The array row of row `k` of point `t`'s block. -/
abbrev row (t : Fin cfg0.N) (k : Fin 256) : Fin 8192 := ⟨t.val * 256 + k.val, by have := t.isLt; have : cfg0.N = 32 := N_0; omega⟩

theorem blk0 (c : Dev nD) (t : Fin cfg0.N) (k : Fin 256) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 1024) : iblk m c 1 t (ix2 0 k) = m ((c.tc : Thread nD τ).loc main_arg1) (ix2 0 k) := by
  have e : ∀ t : Fin cfg0.N, win0_1.index t = ![0, 0] := (by decide +kernel : ∀ t : Fin grid0.N, _)
  blk_ext [Gen.iblk, Gen.V, e t]

theorem blk2 (c : Dev nD) (t : Fin cfg0.N) (k : Fin 1024) (i : Fin 1408) : iblk m c 2 t (ix3 0 k i) = m ((c.tc : Thread nD τ).loc main_arg2) (ix3 0 (wide k) i) := by
  have e : ∀ t : Fin cfg0.N, win0_2.index t = ![0, 0, 0] := (by decide +kernel : ∀ t : Fin grid0.N, _)
  blk_ext [wide, Gen.iblk, Gen.V, e t]

theorem blk3 (c : Dev nD) (t : Fin cfg0.N) (k : Fin 1024) (i : Fin 1408) : iblk m c 3 t (ix3 0 k i) = m ((c.tc : Thread nD τ).loc main_arg2) (ix3 1 (wide k) i) := by
  have e : ∀ t : Fin cfg0.N, win0_3.index t = ![1, 0, 0] := (by decide +kernel : ∀ t : Fin grid0.N, _)
  blk_ext [wide, Gen.iblk, Gen.V, e t]

theorem blk4 (c : Dev nD) (t : Fin cfg0.N) (k : Fin 1024) (i : Fin 1408) : iblk m c 4 t (ix3 0 k i) = m ((c.tc : Thread nD τ).loc main_arg2) (ix3 2 (wide k) i) := by
  have e : ∀ t : Fin cfg0.N, win0_4.index t = ![2, 0, 0] := (by decide +kernel : ∀ t : Fin grid0.N, _)
  blk_ext [wide, Gen.iblk, Gen.V, e t]

theorem blk5 (c : Dev nD) (t : Fin cfg0.N) (k : Fin 1024) (i : Fin 1408) : iblk m c 5 t (ix3 0 k i) = m ((c.tc : Thread nD τ).loc main_arg2) (ix3 3 (wide k) i) := by
  have e : ∀ t : Fin cfg0.N, win0_5.index t = ![3, 0, 0] := (by decide +kernel : ∀ t : Fin grid0.N, _)
  blk_ext [wide, Gen.iblk, Gen.V, e t]

theorem head (c : Dev nD) (t : Fin cfg0.N) (i : Fin 256) (l : Fin 1024) :
    k0_pay6 (iblk m c 0 t) (iblk m c 1 t) (ix2 i l) = norm (m ((c.tc : Thread nD τ).loc main_arg0)) (m ((c.tc : Thread nD τ).loc main_arg1)) (row t i) l := by
  pointwise [k0_pay6]
  simp only [blk0, blk1]
  rfl

theorem final6 (c : Dev nD) : (dats m 0 c).arrAt 6 cfg0.N = (fun y : S8192x512.Idx => proj (m ((c.tc : Thread nD τ).loc main_arg0)) (m ((c.tc : Thread nD τ).loc main_arg1)) (m ((c.tc : Thread nD τ).loc main_arg2)) (y 0) ⟨0 + (y 1).val, by have : (y 1).val < 512 := (y 1).isLt; omega⟩) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; frame_out
  change S256x512.Idx at y
  idx_vars y
  have hb : ((View.whole main_v0_0).slice (win0_6.rect t)).emb (ix2 y0 y1) 0 = row t y0 := by
    apply Fin.ext
    show win0_6.index t (0 : Fin 2) * 256 + 1 * y0.val = t.val * 256 + y0.val
    rw [e t]
    show t.val * 256 + 1 * y0.val = t.val * 256 + y0.val
    rw [Nat.one_mul]
  refine (pay_0 _ _ _ _ _ _ _ _).trans ?_
  simp only [head, blk2, blk3, blk4, blk5]
  rw [hb]
  unfold proj
  refine Fin.sum_fin_congr fun l => ?_
  first | rfl | (simp only [Nat.zero_add]; done)

theorem final7 (c : Dev nD) : (dats m 0 c).arrAt 7 cfg0.N = (fun y : S8192x512.Idx => proj (m ((c.tc : Thread nD τ).loc main_arg0)) (m ((c.tc : Thread nD τ).loc main_arg1)) (m ((c.tc : Thread nD τ).loc main_arg2)) (y 0) ⟨512 + (y 1).val, by have : (y 1).val < 512 := (y 1).isLt; omega⟩) := by
  refine (dats m 0 c).arrAt_eq_of_covers 7 _ (by decide +kernel) fun t hf y => ?_
  have e : ∀ t : Fin cfg0.N, win0_7.index t = ![t.val, 0] := (by decide +kernel : ∀ t : Fin grid0.N, _)
  blk_simp [e t]
  rw [after0_7]; frame_out
  change S256x512.Idx at y
  idx_vars y
  have hb : ((View.whole main_v0_1).slice (win0_7.rect t)).emb (ix2 y0 y1) 0 = row t y0 := by
    apply Fin.ext
    show win0_7.index t (0 : Fin 2) * 256 + 1 * y0.val = t.val * 256 + y0.val
    rw [e t]
    show t.val * 256 + 1 * y0.val = t.val * 256 + y0.val
    rw [Nat.one_mul]
  refine (pay_1 _ _ _ _ _ _ _ _).trans ?_
  simp only [head, blk2, blk3, blk4, blk5]
  rw [hb]
  unfold proj
  refine Fin.sum_fin_congr fun l => ?_
  first | rfl | (simp only [Nat.zero_add]; done)

theorem final8 (c : Dev nD) : (dats m 0 c).arrAt 8 cfg0.N = (fun y : S8192x1280.Idx => proj (m ((c.tc : Thread nD τ).loc main_arg0)) (m ((c.tc : Thread nD τ).loc main_arg1)) (m ((c.tc : Thread nD τ).loc main_arg2)) (y 0) ⟨1024 + (y 1).val, by have : (y 1).val < 1280 := (y 1).isLt; omega⟩) := by
  refine (dats m 0 c).arrAt_eq_of_covers 8 _ (by decide +kernel) fun t hf y => ?_
  have e : ∀ t : Fin cfg0.N, win0_8.index t = ![t.val, 0] := (by decide +kernel : ∀ t : Fin grid0.N, _)
  blk_simp [e t]
  rw [after0_8]; frame_out
  change S256x1280.Idx at y
  idx_vars y
  have hb : ((View.whole main_v0_2).slice (win0_8.rect t)).emb (ix2 y0 y1) 0 = row t y0 := by
    apply Fin.ext
    show win0_8.index t (0 : Fin 2) * 256 + 1 * y0.val = t.val * 256 + y0.val
    rw [e t]
    show t.val * 256 + 1 * y0.val = t.val * 256 + y0.val
    rw [Nat.one_mul]
  refine (pay_2 _ _ _ _ _ _ _ _).trans ?_
  simp only [head, blk2, blk3, blk4, blk5]
  rw [hb]
  unfold proj
  refine Fin.sum_fin_congr fun l => ?_
  first | rfl | (simp only [Nat.zero_add]; done)

theorem final9 (c : Dev nD) : (dats m 0 c).arrAt 9 cfg0.N = (fun y : S8192x1280.Idx => proj (m ((c.tc : Thread nD τ).loc main_arg0)) (m ((c.tc : Thread nD τ).loc main_arg1)) (m ((c.tc : Thread nD τ).loc main_arg2)) (y 0) ⟨2304 + (y 1).val, by have : (y 1).val < 1280 := (y 1).isLt; omega⟩) := by
  refine (dats m 0 c).arrAt_eq_of_covers 9 _ (by decide +kernel) fun t hf y => ?_
  have e : ∀ t : Fin cfg0.N, win0_9.index t = ![t.val, 0] := (by decide +kernel : ∀ t : Fin grid0.N, _)
  blk_simp [e t]
  rw [after0_9]; frame_out
  change S256x1280.Idx at y
  idx_vars y
  have hb : ((View.whole main_v0_3).slice (win0_9.rect t)).emb (ix2 y0 y1) 0 = row t y0 := by
    apply Fin.ext
    show win0_9.index t (0 : Fin 2) * 256 + 1 * y0.val = t.val * 256 + y0.val
    rw [e t]
    show t.val * 256 + 1 * y0.val = t.val * 256 + y0.val
    rw [Nat.one_mul]
  refine (pay_3 _ _ _ _ _ _ _ _).trans ?_
  simp only [head, blk2, blk3, blk4, blk5]
  rw [hb]
  unfold proj
  refine Fin.sum_fin_congr fun l => ?_
  first | rfl | (simp only [Nat.zero_add]; done)

theorem final10 (c : Dev nD) : (dats m 0 c).arrAt 10 cfg0.N = (fun y : S8192x1024.Idx => proj (m ((c.tc : Thread nD τ).loc main_arg0)) (m ((c.tc : Thread nD τ).loc main_arg1)) (m ((c.tc : Thread nD τ).loc main_arg2)) (y 0) ⟨3584 + (y 1).val, by have : (y 1).val < 1024 := (y 1).isLt; omega⟩) := by
  refine (dats m 0 c).arrAt_eq_of_covers 10 _ (by decide +kernel) fun t hf y => ?_
  have e : ∀ t : Fin cfg0.N, win0_10.index t = ![t.val, 0] := (by decide +kernel : ∀ t : Fin grid0.N, _)
  blk_simp [e t]
  rw [after0_10]; frame_out
  change S256x1024.Idx at y
  idx_vars y
  have hb : ((View.whole main_v0_4).slice (win0_10.rect t)).emb (ix2 y0 y1) 0 = row t y0 := by
    apply Fin.ext
    show win0_10.index t (0 : Fin 2) * 256 + 1 * y0.val = t.val * 256 + y0.val
    rw [e t]
    show t.val * 256 + 1 * y0.val = t.val * 256 + y0.val
    rw [Nat.one_mul]
  refine (pay_4 _ _ _ _ _ _ _ _).trans ?_
  simp only [head, blk2, blk3, blk4, blk5]
  rw [hb]
  unfold proj
  refine Fin.sum_fin_congr fun l => ?_
  first | rfl | (simp only [Nat.zero_add]; done)

theorem final11 (c : Dev nD) : (dats m 0 c).arrAt 11 cfg0.N = (fun y : S8192x1024.Idx => proj (m ((c.tc : Thread nD τ).loc main_arg0)) (m ((c.tc : Thread nD τ).loc main_arg1)) (m ((c.tc : Thread nD τ).loc main_arg2)) (y 0) ⟨4608 + (y 1).val, by have : (y 1).val < 1024 := (y 1).isLt; omega⟩) := by
  refine (dats m 0 c).arrAt_eq_of_covers 11 _ (by decide +kernel) fun t hf y => ?_
  have e : ∀ t : Fin cfg0.N, win0_11.index t = ![t.val, 0] := (by decide +kernel : ∀ t : Fin grid0.N, _)
  blk_simp [e t]
  rw [after0_11]; frame_out
  change S256x1024.Idx at y
  idx_vars y
  have hb : ((View.whole main_v0_5).slice (win0_11.rect t)).emb (ix2 y0 y1) 0 = row t y0 := by
    apply Fin.ext
    show win0_11.index t (0 : Fin 2) * 256 + 1 * y0.val = t.val * 256 + y0.val
    rw [e t]
    show t.val * 256 + 1 * y0.val = t.val * 256 + y0.val
    rw [Nat.one_mul]
  refine (pay_5 _ _ _ _ _ _ _ _).trans ?_
  simp only [head, blk2, blk3, blk4, blk5]
  rw [hb]
  unfold proj
  refine Fin.sum_fin_congr fun l => ?_
  first | rfl | (simp only [Nat.zero_add]; done)

theorem final12 (c : Dev nD) : (dats m 0 c).arrAt 12 cfg0.N = (fun y : S8192x1024.Idx => norm (m ((c.tc : Thread nD τ).loc main_arg0)) (m ((c.tc : Thread nD τ).loc main_arg1)) (y 0) (y 1)) := by
  refine (dats m 0 c).arrAt_eq_of_covers 12 _ (by decide +kernel) fun t hf y => ?_
  have e : ∀ t : Fin cfg0.N, win0_12.index t = ![t.val, 0] := (by decide +kernel : ∀ t : Fin grid0.N, _)
  blk_simp [e t]
  rw [after0_12]; frame_out
  change S256x1024.Idx at y
  idx_vars y
  have hb : ((View.whole main_v0_6).slice (win0_12.rect t)).emb (ix2 y0 y1) 0 = row t y0 := by
    apply Fin.ext
    show win0_12.index t (0 : Fin 2) * 256 + 1 * y0.val = t.val * 256 + y0.val
    rw [e t]
    show t.val * 256 + 1 * y0.val = t.val * 256 + y0.val
    rw [Nat.one_mul]
  have hc : ((View.whole main_v0_6).slice (win0_12.rect t)).emb (ix2 y0 y1) 1 = y1 := by
    apply Fin.ext
    show win0_12.index t (1 : Fin 2) * 1024 + 1 * y1.val = y1.val
    rw [e t]
    show 0 * 1024 + 1 * y1.val = y1.val
    omega
  rw [head, hb, hc]

/-- The run of the kernel: the six parts of the product, and the normalised rows. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = (fun y : S8192x512.Idx => proj (m ((c.tc : Thread nD τ).loc main_arg0)) (m ((c.tc : Thread nD τ).loc main_arg1)) (m ((c.tc : Thread nD τ).loc main_arg2)) (y 0) ⟨0 + (y 1).val, by have : (y 1).val < 512 := (y 1).isLt; omega⟩)
      ∧ r.2.mem ((c.tc : Thread nD τ).loc main_v0_1) = (fun y : S8192x512.Idx => proj (m ((c.tc : Thread nD τ).loc main_arg0)) (m ((c.tc : Thread nD τ).loc main_arg1)) (m ((c.tc : Thread nD τ).loc main_arg2)) (y 0) ⟨512 + (y 1).val, by have : (y 1).val < 512 := (y 1).isLt; omega⟩)
      ∧ r.2.mem ((c.tc : Thread nD τ).loc main_v0_2) = (fun y : S8192x1280.Idx => proj (m ((c.tc : Thread nD τ).loc main_arg0)) (m ((c.tc : Thread nD τ).loc main_arg1)) (m ((c.tc : Thread nD τ).loc main_arg2)) (y 0) ⟨1024 + (y 1).val, by have : (y 1).val < 1280 := (y 1).isLt; omega⟩)
      ∧ r.2.mem ((c.tc : Thread nD τ).loc main_v0_3) = (fun y : S8192x1280.Idx => proj (m ((c.tc : Thread nD τ).loc main_arg0)) (m ((c.tc : Thread nD τ).loc main_arg1)) (m ((c.tc : Thread nD τ).loc main_arg2)) (y 0) ⟨2304 + (y 1).val, by have : (y 1).val < 1280 := (y 1).isLt; omega⟩)
      ∧ r.2.mem ((c.tc : Thread nD τ).loc main_v0_4) = (fun y : S8192x1024.Idx => proj (m ((c.tc : Thread nD τ).loc main_arg0)) (m ((c.tc : Thread nD τ).loc main_arg1)) (m ((c.tc : Thread nD τ).loc main_arg2)) (y 0) ⟨3584 + (y 1).val, by have : (y 1).val < 1024 := (y 1).isLt; omega⟩)
      ∧ r.2.mem ((c.tc : Thread nD τ).loc main_v0_5) = (fun y : S8192x1024.Idx => proj (m ((c.tc : Thread nD τ).loc main_arg0)) (m ((c.tc : Thread nD τ).loc main_arg1)) (m ((c.tc : Thread nD τ).loc main_arg2)) (y 0) ⟨4608 + (y 1).val, by have : (y 1).val < 1024 := (y 1).isLt; omega⟩)
      ∧ r.2.mem ((c.tc : Thread nD τ).loc main_v0_6) = (fun y : S8192x1024.Idx => norm (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final6 m c), (h c).2.1.trans (final7 m c), (h c).2.2.1.trans (final8 m c), (h c).2.2.2.1.trans (final9 m c), (h c).2.2.2.2.1.trans (final10 m c), (h c).2.2.2.2.2.1.trans (final11 m c), (h c).2.2.2.2.2.2.1.trans (final12 m c), (h c).2.2.2.2.2.2.2⟩) (Value.run_blocks m ρ)

end Cert.In6

end
-- ==== Proof.In6Ref.lean ====
module

public import proofs.«01_k».proof.Defs
public import proofs.«01_k».proof.Proof.In6
public import proofs.«01_k».proof.Proof.Gen.Reference6Ideal.Run
public import Idealize.ShloMosaic.Lib.Quiescent
public import Idealize.ShloMosaic.Lib.Pointwise

@[expose] public section

noncomputable section

namespace Cert.In6

open Idealize.ShloMosaic Idealize.ShloMosaic.TcCoe Idealize.SL.Sem
open Cert.Reference6Ideal Cert.Reference6Ideal.Gen

set_option maxRecDepth 16384

/-! The reference, read at an entry. -/

/-- The reference's product, all columns. -/
def product (x0 : Vec Ideal S8192x1024 .f32) (x1 : Vec Ideal S1x1024 .f32) (x2 : Vec Ideal S4x2048x1408 .bf16) : Vec Ideal S8192x5632 .f32 :=
  Host.dotGeneral (F := Ideal) (φ₁ := .f32) (φ₂ := .f32) dot_S8192x1024_S1024x5632_S8192x5632_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) ((concatenate S1024x5632 1 [⟨S1024x1408, ((extf (F := Ideal) .f32 (shapeCast _ (extractStridedSlice S1x1024x1408 ![0, 0, 0] (extractStridedSlice S4x1024x1408 ![0, 0, 0] x2 slices_S4x2048x1408_S4x1024x1408_0_0_0) slices_S4x1024x1408_S1x1024x1408_0_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![1, 0, 0] (extractStridedSlice S4x1024x1408 ![0, 0, 0] x2 slices_S4x2048x1408_S4x1024x1408_0_0_0) slices_S4x1024x1408_S1x1024x1408_1_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![2, 0, 0] (extractStridedSlice S4x1024x1408 ![0, 0, 0] x2 slices_S4x2048x1408_S4x1024x1408_0_0_0) slices_S4x1024x1408_S1x1024x1408_2_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![3, 0, 0] (extractStridedSlice S4x1024x1408 ![0, 0, 0] x2 slices_S4x2048x1408_S4x1024x1408_0_0_0) slices_S4x1024x1408_S1x1024x1408_3_0_0) shapeCasts_S1x1024x1408_S1024x1408) bitsLt_bf16_f32) : (⟨S1024x1408, .f32⟩ : BufTy).Contents (Elt Ideal))⟩] concatenates_S1024x1408_S1024x1408_S1024x1408_S1024x1408_S1024x5632_d1 : (⟨S1024x5632, .f32⟩ : BufTy).Contents (Elt Ideal)))

theorem product_at (x0 : Vec Ideal S8192x1024 .f32) (x1 : Vec Ideal S1x1024 .f32) (x2 : Vec Ideal S4x2048x1408 .bf16) (r : Fin 8192) (J : Fin 5632) :
    product x0 x1 x2 (ix2 r J) = proj x0 x1 x2 r J := by
  unfold product
  pointwise []
  unfold proj norm pick
  rfl

theorem part0 (x0 : Vec Ideal S8192x1024 .f32) (x1 : Vec Ideal S1x1024 .f32) (x2 : Vec Ideal S4x2048x1408 .bf16) :
    truncf (F := Ideal) .bf16 (extractStridedSlice S8192x512 ![0, 0] (product x0 x1 x2) slices_S8192x5632_S8192x512_0_0) bitsLt_bf16_f32
      = (fun y : S8192x512.Idx => proj x0 x1 x2 (y 0) ⟨0 + (y 1).val, by have : (y 1).val < 512 := (y 1).isLt; omega⟩) := by
  funext y
  idx_vars y
  show product x0 x1 x2 _ = proj x0 x1 x2 y0 ⟨0 + y1.val, _⟩
  rw [← product_at]
  congr 1
  funext a
  apply Fin.ext
  match a with
  | ⟨0, _⟩ => exact Nat.zero_add _
  | ⟨1, _⟩ => rfl

theorem part1 (x0 : Vec Ideal S8192x1024 .f32) (x1 : Vec Ideal S1x1024 .f32) (x2 : Vec Ideal S4x2048x1408 .bf16) :
    truncf (F := Ideal) .bf16 (extractStridedSlice S8192x512 ![0, 512] (product x0 x1 x2) slices_S8192x5632_S8192x512_0_512) bitsLt_bf16_f32
      = (fun y : S8192x512.Idx => proj x0 x1 x2 (y 0) ⟨512 + (y 1).val, by have : (y 1).val < 512 := (y 1).isLt; omega⟩) := by
  funext y
  idx_vars y
  show product x0 x1 x2 _ = proj x0 x1 x2 y0 ⟨512 + y1.val, _⟩
  rw [← product_at]
  congr 1
  funext a
  apply Fin.ext
  match a with
  | ⟨0, _⟩ => exact Nat.zero_add _
  | ⟨1, _⟩ => rfl

theorem part2 (x0 : Vec Ideal S8192x1024 .f32) (x1 : Vec Ideal S1x1024 .f32) (x2 : Vec Ideal S4x2048x1408 .bf16) :
    truncf (F := Ideal) .bf16 (extractStridedSlice S8192x1280 ![0, 1024] (product x0 x1 x2) slices_S8192x5632_S8192x1280_0_1024) bitsLt_bf16_f32
      = (fun y : S8192x1280.Idx => proj x0 x1 x2 (y 0) ⟨1024 + (y 1).val, by have : (y 1).val < 1280 := (y 1).isLt; omega⟩) := by
  funext y
  idx_vars y
  show product x0 x1 x2 _ = proj x0 x1 x2 y0 ⟨1024 + y1.val, _⟩
  rw [← product_at]
  congr 1
  funext a
  apply Fin.ext
  match a with
  | ⟨0, _⟩ => exact Nat.zero_add _
  | ⟨1, _⟩ => rfl

theorem part3 (x0 : Vec Ideal S8192x1024 .f32) (x1 : Vec Ideal S1x1024 .f32) (x2 : Vec Ideal S4x2048x1408 .bf16) :
    truncf (F := Ideal) .bf16 (extractStridedSlice S8192x1280 ![0, 2304] (product x0 x1 x2) slices_S8192x5632_S8192x1280_0_2304) bitsLt_bf16_f32
      = (fun y : S8192x1280.Idx => proj x0 x1 x2 (y 0) ⟨2304 + (y 1).val, by have : (y 1).val < 1280 := (y 1).isLt; omega⟩) := by
  funext y
  idx_vars y
  show product x0 x1 x2 _ = proj x0 x1 x2 y0 ⟨2304 + y1.val, _⟩
  rw [← product_at]
  congr 1
  funext a
  apply Fin.ext
  match a with
  | ⟨0, _⟩ => exact Nat.zero_add _
  | ⟨1, _⟩ => rfl

theorem part4 (x0 : Vec Ideal S8192x1024 .f32) (x1 : Vec Ideal S1x1024 .f32) (x2 : Vec Ideal S4x2048x1408 .bf16) :
    truncf (F := Ideal) .bf16 (extractStridedSlice S8192x1024 ![0, 3584] (product x0 x1 x2) slices_S8192x5632_S8192x1024_0_3584) bitsLt_bf16_f32
      = (fun y : S8192x1024.Idx => proj x0 x1 x2 (y 0) ⟨3584 + (y 1).val, by have : (y 1).val < 1024 := (y 1).isLt; omega⟩) := by
  funext y
  idx_vars y
  show product x0 x1 x2 _ = proj x0 x1 x2 y0 ⟨3584 + y1.val, _⟩
  rw [← product_at]
  congr 1
  funext a
  apply Fin.ext
  match a with
  | ⟨0, _⟩ => exact Nat.zero_add _
  | ⟨1, _⟩ => rfl

theorem part5 (x0 : Vec Ideal S8192x1024 .f32) (x1 : Vec Ideal S1x1024 .f32) (x2 : Vec Ideal S4x2048x1408 .bf16) :
    truncf (F := Ideal) .bf16 (extractStridedSlice S8192x1024 ![0, 4608] (product x0 x1 x2) slices_S8192x5632_S8192x1024_0_4608) bitsLt_bf16_f32
      = (fun y : S8192x1024.Idx => proj x0 x1 x2 (y 0) ⟨4608 + (y 1).val, by have : (y 1).val < 1024 := (y 1).isLt; omega⟩) := by
  funext y
  idx_vars y
  show product x0 x1 x2 _ = proj x0 x1 x2 y0 ⟨4608 + y1.val, _⟩
  rw [← product_at]
  congr 1
  funext a
  apply Fin.ext
  match a with
  | ⟨0, _⟩ => exact Nat.zero_add _
  | ⟨1, _⟩ => rfl

theorem head_ref (x0 : Vec Ideal S8192x1024 .f32) (x1 : Vec Ideal S1x1024 .f32) :
    truncf (F := Ideal) .bf16 (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) bitsLt_bf16_f32 = (fun y : S8192x1024.Idx => norm x0 x1 (y 0) (y 1)) := by
  funext y
  idx_vars y
  pointwise []
  rfl

theorem frame_reference : quiescent_Reference6Ideal := fun m ρ _ =>
  (θ_run defs _ _).mono (fun r h => ⟨fun c => (h c).2.2.2.2.2.2.2, sem_eq_zero_of_no_sems (by decide) r.2⟩)
    (Value.run (F := Ideal) m ρ)

/-- Kernel and reference compute the same products. -/
theorem algebraic : algebraic_Kernel6Ideal_Reference6Ideal := by
  intro m ρ m' ρ' _ hm
  refine ⟨_, _, _, _, _, _, _, result m ρ, ?_⟩
  refine (θ_run defs _ _).mono (fun r h c => ?_) (Value.run (F := Ideal) m' ρ')
  obtain ⟨e0, e1, e2⟩ := hm c
  rw [← e0, ← e1, ← e2]
  exact ⟨(h c).1.trans (part0 (m' ((c.tc : Thread nD τ).loc main_arg0)) (m' ((c.tc : Thread nD τ).loc main_arg1)) (m' ((c.tc : Thread nD τ).loc main_arg2))), (h c).2.1.trans (part1 (m' ((c.tc : Thread nD τ).loc main_arg0)) (m' ((c.tc : Thread nD τ).loc main_arg1)) (m' ((c.tc : Thread nD τ).loc main_arg2))), (h c).2.2.1.trans (part2 (m' ((c.tc : Thread nD τ).loc main_arg0)) (m' ((c.tc : Thread nD τ).loc main_arg1)) (m' ((c.tc : Thread nD τ).loc main_arg2))), (h c).2.2.2.1.trans (part3 (m' ((c.tc : Thread nD τ).loc main_arg0)) (m' ((c.tc : Thread nD τ).loc main_arg1)) (m' ((c.tc : Thread nD τ).loc main_arg2))), (h c).2.2.2.2.1.trans (part4 (m' ((c.tc : Thread nD τ).loc main_arg0)) (m' ((c.tc : Thread nD τ).loc main_arg1)) (m' ((c.tc : Thread nD τ).loc main_arg2))),
    (h c).2.2.2.2.2.1.trans (part5 (m' ((c.tc : Thread nD τ).loc main_arg0)) (m' ((c.tc : Thread nD τ).loc main_arg1)) (m' ((c.tc : Thread nD τ).loc main_arg2))), (h c).2.2.2.2.2.2.1.trans (head_ref (m' ((c.tc : Thread nD τ).loc main_arg0)) (m' ((c.tc : Thread nD τ).loc main_arg1))), (h c).2.2.2.2.2.2.2⟩

end Cert.In6

end
-- ==== Proof.Sig.lean ====
module

public import Idealize.ShloMosaic.Lib.Pointwise

/-! The kernel's sigmoid, written with the hyperbolic tangent, is the logistic function, at the infinities too. -/

@[expose] public section

noncomputable section

namespace Cert.Sig

open Idealize.ShloMosaic

theorem half_eq : Ideal.ofBits FTy.f32 1056964608#32 = ((1 / 2 : ℝ) : EReal) := by
  simp [Ideal.ofBits, Ideal.ieee, -EReal.coe_mul]
  norm_num

theorem one_eq : Ideal.ofBits FTy.f32 1065353216#32 = (1 : EReal) := by
  simp [Ideal.ofBits, Ideal.ieee, -EReal.coe_mul]
  norm_num

/-- The reference's spelling of the logistic function. -/
theorem host_eq (z : EReal) : Ideal.div 1 (1 + Ideal.exp (-z)) = Ideal.logistic z := rfl

theorem real_sigmoid (r : ℝ) : 1 / 2 * Real.tanh (1 / 2 * r) + 1 / 2 = (1 + Real.exp (-r))⁻¹ := by
  have e1 : Real.exp (-r) = Real.exp (-(1 / 2 * r)) * Real.exp (-(1 / 2 * r)) := by rw [← Real.exp_add]; ring_nf
  have e2 : Real.exp (1 / 2 * r) * Real.exp (-(1 / 2 * r)) = 1 := by rw [← Real.exp_add]; simp
  rw [e1, Real.tanh_eq_sinh_div_cosh, Real.sinh_eq, Real.cosh_eq]
  have p1 := Real.exp_pos (1 / 2 * r)
  have p2 := Real.exp_pos (-(1 / 2 * r))
  generalize Real.exp (1 / 2 * r) = a at *
  generalize Real.exp (-(1 / 2 * r)) = b at *
  have h1 : a + b ≠ 0 := by positivity
  have h2 : 1 + b * b ≠ 0 := by positivity
  field_simp
  nlinarith

theorem sigmoid_eq (z : EReal) : Ideal.ofBits FTy.f32 1056964608#32 * Ideal.tanh (Ideal.ofBits FTy.f32 1056964608#32 * z) + Ideal.ofBits FTy.f32 1056964608#32 = Ideal.logistic z := by
  rw [half_eq]
  have hp : (0 : ℝ) < 1 / 2 := by norm_num
  induction z with
  | bot =>
    rw [EReal.coe_mul_bot_of_pos hp, Ideal.tanh_bot, Ideal.logistic_bot]
    norm_num [← EReal.coe_one, ← EReal.coe_neg, ← EReal.coe_mul, ← EReal.coe_add]
  | top =>
    rw [EReal.coe_mul_top_of_pos hp, Ideal.tanh_top, Ideal.logistic_top]
    norm_num [← EReal.coe_one, ← EReal.coe_neg, ← EReal.coe_mul, ← EReal.coe_add]
  | coe r =>
    rw [← EReal.coe_mul, Ideal.tanh_coe, Ideal.logistic_coe, ← EReal.coe_mul, ← EReal.coe_add, real_sigmoid]

end Cert.Sig

end
-- ==== Proof.Ple7.lean ====
module

public import proofs.«01_k».proof.Proof.Sig
public import proofs.«01_k».proof.Proof.Gen.Kernel7Ideal.Value
public import Idealize.ShloMosaic.Lib.Pipeline.ValueKit
public import Idealize.ShloMosaic.Lib.Pointwise

/-! The gradients of the per-layer embedding branch: one result by rows, two weight gradients added up over the blocks of 512 rows. -/

@[expose] public section

noncomputable section

namespace Cert.Ple7

open Idealize.ShloMosaic Idealize.ShloMosaic.TcCoe Idealize.SL.Sem
open Cert.Kernel7Ideal Cert.Kernel7Ideal.Gen

set_option maxRecDepth 16384

/-- The gate. -/
def gate (x : Vec Ideal S8192x1024 .f32) (g : Vec Ideal S1024x1024 .bf16) (r : Fin 8192) (j : Fin 1024) : EReal :=
  Ideal.logistic (∑ k : Fin 1024, x (ix2 r k) * g (ix2 k j))

/-- The cotangent of the gate's argument. -/
def slope (d x : Vec Ideal S8192x1024 .f32) (p : Vec Ideal S8192x256 .f32) (w : Vec Ideal S256x1024 .bf16) (g : Vec Ideal S1024x1024 .bf16) (r : Fin 8192) (j : Fin 1024) : EReal :=
  d (ix2 r j) * (∑ k : Fin 256, p (ix2 r k) * w (ix2 k j)) * gate x g r j * (1 - gate x g r j)

/-- The cotangent of the rows. -/
def rows (d x : Vec Ideal S8192x1024 .f32) (p : Vec Ideal S8192x256 .f32) (w : Vec Ideal S256x1024 .bf16) (g : Vec Ideal S1024x1024 .bf16) (r : Fin 8192) (j : Fin 1024) : EReal :=
  d (ix2 r j) + ∑ k : Fin 1024, slope d x p w g r k * g (ix2 j k)

/-- One row's term in the projection's gradient. -/
def termP (d x : Vec Ideal S8192x1024 .f32) (p : Vec Ideal S8192x256 .f32) (g : Vec Ideal S1024x1024 .bf16) (i : Fin 256) (j : Fin 1024) (r : Fin 8192) : EReal :=
  p (ix2 r i) * (d (ix2 r j) * gate x g r j)

/-- The projection's gradient. -/
def gradP (d x : Vec Ideal S8192x1024 .f32) (p : Vec Ideal S8192x256 .f32) (g : Vec Ideal S1024x1024 .bf16) (i : Fin 256) (j : Fin 1024) : EReal :=
  ∑ r : Fin 8192, termP d x p g i j r

/-- One row's term in the gate's gradient. -/
def termG (d x : Vec Ideal S8192x1024 .f32) (p : Vec Ideal S8192x256 .f32) (w : Vec Ideal S256x1024 .bf16) (g : Vec Ideal S1024x1024 .bf16) (i j : Fin 1024) (r : Fin 8192) : EReal :=
  x (ix2 r i) * slope d x p w g r j

/-- The gate's gradient. -/
def gradG (d x : Vec Ideal S8192x1024 .f32) (p : Vec Ideal S8192x256 .f32) (w : Vec Ideal S256x1024 .bf16) (g : Vec Ideal S1024x1024 .bf16) (i j : Fin 1024) : EReal :=
  ∑ r : Fin 8192, termG d x p w g i j r

theorem stepP (b acc : Vec Ideal S256x1024 .f32) (y : S256x1024.Idx) : k0_pay2 b acc y = @HAdd.hAdd EReal EReal EReal _ (acc y) (b y) := by
  idx_vars y
  pointwise [k0_pay2]

theorem stepG (b acc : Vec Ideal S1024x1024 .f32) (y : S1024x1024.Idx) : k0_pay4 b acc y = @HAdd.hAdd EReal EReal EReal _ (acc y) (b y) := by
  idx_vars y
  pointwise [k0_pay4]

theorem zeroP (y : S256x1024.Idx) : (k0_pay1 (F := Ideal)) y = 0 := by
  idx_vars y
  pointwise [k0_pay1]

theorem zeroG (y : S1024x1024.Idx) : (k0_pay3 (F := Ideal)) y = 0 := by
  idx_vars y
  pointwise [k0_pay3]

variable (m : (ℓ : Loc nD τ sig) → Buf (Elt Ideal) ℓ)

/-- The array row of row `k` of point `t`'s block. -/
abbrev row (t : Fin cfg0.N) (k : Fin 512) : Fin 8192 := ⟨t.val * 512 + k.val, by have := t.isLt; have : cfg0.N = 16 := N_0; omega⟩

theorem blk0 (c : Dev nD) (t : Fin cfg0.N) (k : Fin 512) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 512) (i : Fin 1024) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 512) (i : Fin 256) : iblk m c 2 t (ix2 k i) = m ((c.tc : Thread nD τ).loc main_arg2) (ix2 (row t k) i) := by
  have e : ∀ t : Fin cfg0.N, win0_2.index t = ![t.val, 0] := (by decide +kernel : ∀ t : Fin grid0.N, _)
  blk_ext [row, Gen.iblk, Gen.V, e t]

theorem blk3 (c : Dev nD) (t : Fin cfg0.N) (k : Fin 256) (i : Fin 1024) : iblk m c 3 t (ix2 k i) = m ((c.tc : Thread nD τ).loc main_arg3) (ix2 k i) := by
  have e : ∀ t : Fin cfg0.N, win0_3.index t = ![0, 0] := (by decide +kernel : ∀ t : Fin grid0.N, _)
  blk_ext [Gen.iblk, Gen.V, e t]

theorem blk4 (c : Dev nD) (t : Fin cfg0.N) (k : Fin 1024) (i : Fin 1024) : iblk m c 4 t (ix2 k i) = m ((c.tc : Thread nD τ).loc main_arg4) (ix2 k i) := by
  have e : ∀ t : Fin cfg0.N, win0_4.index t = ![0, 0] := (by decide +kernel : ∀ t : Fin grid0.N, _)
  blk_ext [Gen.iblk, Gen.V, e t]

theorem pay_gate (c : Dev nD) (t : Fin cfg0.N) (i : Fin 512) (j : Fin 1024) :
    k0_pay5 (iblk m c 1 t) (iblk m c 4 t) (ix2 i j) = gate (m ((c.tc : Thread nD τ).loc main_arg1)) (m ((c.tc : Thread nD τ).loc main_arg4)) (row t i) j := by
  pointwise [k0_pay5]
  unfold gate
  simp only [Sig.sigmoid_eq, blk1, blk4]

theorem pay_slope (c : Dev nD) (t : Fin cfg0.N) (i : Fin 512) (j : Fin 1024) :
    k0_pay6 (iblk m c 0 t) (iblk m c 1 t) (iblk m c 2 t) (iblk m c 3 t) (iblk m c 4 t) (ix2 i j) = slope (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t i) j := by
  pointwise [k0_pay6]
  unfold slope
  simp only [Sig.one_eq, pay_gate, blk0, blk2, blk3]

theorem pay_rows (c : Dev nD) (t : Fin cfg0.N) (i : Fin 512) (j : Fin 1024) :
    k0_pay7 (iblk m c 0 t) (iblk m c 1 t) (iblk m c 2 t) (iblk m c 3 t) (iblk m c 4 t) (ix2 i j) = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t i) j := by
  pointwise [k0_pay7]
  unfold rows
  simp only [pay_slope, blk0, blk4]

theorem pay_P (c : Dev nD) (t : Fin cfg0.N) (i : Fin 256) (j : Fin 1024) :
    k0_pay8 (iblk m c 0 t) (iblk m c 1 t) (iblk m c 2 t) (iblk m c 4 t) (ix2 i j) = ∑ k : Fin 512, termP (m ((c.tc : Thread nD τ).loc main_arg0)) (m ((c.tc : Thread nD τ).loc main_arg1)) (m ((c.tc : Thread nD τ).loc main_arg2)) (m ((c.tc : Thread nD τ).loc main_arg4)) i j (row t k) := by
  pointwise [k0_pay8]
  unfold termP
  simp only [pay_gate, blk0, blk2]

theorem pay_G (c : Dev nD) (t : Fin cfg0.N) (i : Fin 1024) (j : Fin 1024) :
    k0_pay9 (iblk m c 0 t) (iblk m c 1 t) (iblk m c 2 t) (iblk m c 3 t) (iblk m c 4 t) (ix2 i j) = ∑ k : Fin 512, termG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i j (row t k) := by
  pointwise [k0_pay9]
  unfold termG
  simp only [pay_slope, blk1]

theorem emb_row5 (t : Fin cfg0.N) (y0 : Fin 512) (y1 : Fin 1024) : ((View.whole main_v0_0).slice (win0_5.rect t)).emb (ix2 y0 y1) 0 = row t y0 := by
  have e : ∀ t : Fin cfg0.N, win0_5.index t = ![t.val, 0] := (by decide +kernel : ∀ t : Fin grid0.N, _)
  apply Fin.ext
  show win0_5.index t (0 : Fin 2) * 512 + 1 * y0.val = t.val * 512 + y0.val
  rw [e t]
  show t.val * 512 + 1 * y0.val = t.val * 512 + y0.val
  rw [Nat.one_mul]

theorem emb_col5 (t : Fin cfg0.N) (y0 : Fin 512) (y1 : Fin 1024) : ((View.whole main_v0_0).slice (win0_5.rect t)).emb (ix2 y0 y1) 1 = y1 := by
  have e : ∀ t : Fin cfg0.N, win0_5.index t = ![t.val, 0] := (by decide +kernel : ∀ t : Fin grid0.N, _)
  apply Fin.ext
  show win0_5.index t (1 : Fin 2) * 1024 + 1 * y1.val = y1.val
  rw [e t]
  show 0 * 1024 + 1 * y1.val = y1.val
  omega

theorem out5 (c : Dev nD) (t : Fin cfg0.N) : (outsAt0 m c t.val t.isLt).1 = k0_pay7 (iblk m c 0 t) (iblk m c 1 t) (iblk m c 2 t) (iblk m c 3 t) (iblk m c 4 t) := by
  by_cases h : t.val % 16 = 0
  · rw [outsAt0_A m c t h h]
    frame_out
  · rw [outsAt0_B m c t h h]
    frame_out

theorem final5 (c : Dev nD) : (dats m 0 c).arrAt 5 cfg0.N = (fun y : S8192x1024.Idx => rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1)) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5];
  have hN : cfg0.N = 16 := N_0
  rw [show (outsAt0 m c t.val t.isLt).1 = k0_pay7 (iblk m c 0 t) (iblk m c 1 t) (iblk m c 2 t) (iblk m c 3 t) (iblk m c 4 t) from out5 m c t]
  change S512x1024.Idx at y
  idx_vars y
  rw [pay_rows, emb_row5, emb_col5]

theorem first6 (c : Dev nD) (t : Fin cfg0.N) (h : t.val % 16 = 0) (y : S256x1024.Idx) : @Eq EReal ((outsAt0 m c t.val t.isLt).2.1 y) (0 + (k0_pay8 (iblk m c 0 t) (iblk m c 1 t) (iblk m c 2 t) (iblk m c 4 t)) y) := by
  rw [outsAt0_A m c t h h]
  frame_out
  rw [stepP, zeroP]

theorem next6 (c : Dev nD) (t : Fin cfg0.N) (h : ¬t.val % 16 = 0) (y : S256x1024.Idx) :
    @Eq EReal ((outsAt0 m c t.val t.isLt).2.1 y) (@HAdd.hAdd EReal EReal EReal _ ((outsAt0 m c (t.val - 1) (Nat.lt_of_le_of_lt (Nat.sub_le _ _) t.isLt)).2.1 y) ((k0_pay8 (iblk m c 0 t) (iblk m c 1 t) (iblk m c 2 t) (iblk m c 4 t)) y)) := by
  rw [outsAt0_B m c t h h]
  frame_out
  rw [stepP]

theorem acc6 (c : Dev nD) (y : S256x1024.Idx) : @Eq EReal ((outsAt0 m c t0_15.val t0_15.isLt).2.1 y) (∑ t : Fin cfg0.N, ((k0_pay8 (iblk m c 0 t) (iblk m c 1 t) (iblk m c 2 t) (iblk m c 4 t)) y : EReal)) := by
  have u := Pipeline.eq_sum_fin_of_reset_step_apply_last (M := EReal) (fun n h => (outsAt0 m c n h).2.1) 16 (fun _ => (0 : EReal)) (fun t y => (k0_pay8 (iblk m c 0 t) (iblk m c 1 t) (iblk m c 2 t) (iblk m c 4 t)) y) (first6 m c) (next6 m c) (le_of_eq N_0) t0_15 N_0.symm y
  rw [zero_add] at u
  exact u

theorem final6 (c : Dev nD) : (dats m 0 c).arrAt 6 cfg0.N = (fun y : S256x1024.Idx => gradP (m ((c.tc : Thread nD τ).loc main_arg0)) (m ((c.tc : Thread nD τ).loc main_arg1)) (m ((c.tc : Thread nD τ).loc main_arg2)) (m ((c.tc : Thread nD τ).loc main_arg4)) (y 0) (y 1)) := by
  refine (dats m 0 c).arrAt_eq_of_after_last 6 t0_15 (by decide +kernel) _ fun y => ?_
  blk_simp
  rw [after0_6]
  change S256x1024.Idx at y
  idx_vars y
  refine (acc6 m c (ix2 y0 y1)).trans ?_
  refine (Fin.sum_fin_congr fun t => pay_P m c t y0 y1).trans ?_
  exact Fin.sum_mul_add_congr (S := cfg0.N) (n := 512) (fun s k hl => rfl) (by rw [show cfg0.N = 16 from N_0])

theorem first7 (c : Dev nD) (t : Fin cfg0.N) (h : t.val % 16 = 0) (y : S1024x1024.Idx) : @Eq EReal ((outsAt0 m c t.val t.isLt).2.2 y) (0 + (k0_pay9 (iblk m c 0 t) (iblk m c 1 t) (iblk m c 2 t) (iblk m c 3 t) (iblk m c 4 t)) y) := by
  rw [outsAt0_A m c t h h]
  frame_out
  rw [stepG, zeroG]

theorem next7 (c : Dev nD) (t : Fin cfg0.N) (h : ¬t.val % 16 = 0) (y : S1024x1024.Idx) :
    @Eq EReal ((outsAt0 m c t.val t.isLt).2.2 y) (@HAdd.hAdd EReal EReal EReal _ ((outsAt0 m c (t.val - 1) (Nat.lt_of_le_of_lt (Nat.sub_le _ _) t.isLt)).2.2 y) ((k0_pay9 (iblk m c 0 t) (iblk m c 1 t) (iblk m c 2 t) (iblk m c 3 t) (iblk m c 4 t)) y)) := by
  rw [outsAt0_B m c t h h]
  frame_out
  rw [stepG]

theorem acc7 (c : Dev nD) (y : S1024x1024.Idx) : @Eq EReal ((outsAt0 m c t0_15.val t0_15.isLt).2.2 y) (∑ t : Fin cfg0.N, ((k0_pay9 (iblk m c 0 t) (iblk m c 1 t) (iblk m c 2 t) (iblk m c 3 t) (iblk m c 4 t)) y : EReal)) := by
  have u := Pipeline.eq_sum_fin_of_reset_step_apply_last (M := EReal) (fun n h => (outsAt0 m c n h).2.2) 16 (fun _ => (0 : EReal)) (fun t y => (k0_pay9 (iblk m c 0 t) (iblk m c 1 t) (iblk m c 2 t) (iblk m c 3 t) (iblk m c 4 t)) y) (first7 m c) (next7 m c) (le_of_eq N_0) t0_15 N_0.symm y
  rw [zero_add] at u
  exact u

theorem final7 (c : Dev nD) : (dats m 0 c).arrAt 7 cfg0.N = (fun y : S1024x1024.Idx => gradG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1)) := by
  refine (dats m 0 c).arrAt_eq_of_after_last 7 t0_15 (by decide +kernel) _ fun y => ?_
  blk_simp
  rw [after0_7]
  change S1024x1024.Idx at y
  idx_vars y
  refine (acc7 m c (ix2 y0 y1)).trans ?_
  refine (Fin.sum_fin_congr fun t => pay_G m c t y0 y1).trans ?_
  exact Fin.sum_mul_add_congr (S := cfg0.N) (n := 512) (fun s k hl => rfl) (by rw [show cfg0.N = 16 from N_0])

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = (fun y : S8192x1024.Idx => rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1))
      ∧ r.2.mem ((c.tc : Thread nD τ).loc main_v0_1) = (fun y : S256x1024.Idx => gradP (m ((c.tc : Thread nD τ).loc main_arg0)) (m ((c.tc : Thread nD τ).loc main_arg1)) (m ((c.tc : Thread nD τ).loc main_arg2)) (m ((c.tc : Thread nD τ).loc main_arg4)) (y 0) (y 1))
      ∧ r.2.mem ((c.tc : Thread nD τ).loc main_v0_2) = (fun y : S1024x1024.Idx => gradG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final5 m c), (h c).2.1.trans (final6 m c), (h c).2.2.1.trans (final7 m c), (h c).2.2.2⟩) (Value.run_blocks m ρ)

end Cert.Ple7

end
-- ==== Proof.Ple7Ref.lean ====
module

public import proofs.«01_k».proof.Proof.Ple7
public import proofs.«01_k».proof.Defs
public import proofs.«01_k».proof.Proof.Gen.Kernel7.Frame
public import proofs.«01_k».proof.Proof.Gen.Reference7Ideal.Run
public import Idealize.ShloMosaic.Lib.Quiescent
public import Idealize.ShloMosaic.Lib.Pointwise

/-! The reference of the embedding branch's gradients, read at an entry. -/

@[expose] public section

noncomputable section

namespace Cert.Ple7

open Idealize.ShloMosaic Idealize.ShloMosaic.TcCoe Idealize.SL.Sem
open Cert.Reference7Ideal Cert.Reference7Ideal.Gen

set_option maxRecDepth 16384

theorem ref_rows (x0 x1 : Vec Ideal S8192x1024 .f32) (x2 : Vec Ideal S8192x256 .f32) (x3 : Vec Ideal S256x1024 .bf16) (x4 : Vec Ideal S1024x1024 .bf16) (r : Fin 8192) (j : Fin 1024) :
    (addf x0 (Host.dotGeneral (F := Ideal) (φ₁ := .f32) (φ₂ := .f32) dot_S8192x1024_S1024x1024_S8192x1024_1_1_0_0_n_n none (mulf (mulf (Host.dotGeneral (F := Ideal) (φ₁ := .f32) (φ₂ := .f32) dot_S8192x256_S256x1024_S8192x1024_1_0_0_1_n_n none x2 (extf (F := Ideal) .f32 x3 bitsLt_bf16_f32)) (shapeCast _ x0 shapeCasts_S8192x1024_S8192x1024)) (mulf (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (Host.dotGeneral (F := Ideal) (φ₁ := .f32) (φ₂ := .f32) dot_S8192x1024_S1024x1024_S8192x1024_1_0_0_1_n_n none x1 (extf (F := Ideal) .f32 x4 bitsLt_bf16_f32)))))) (subf (broadcastInDim S8192x1024 ![] bcast_S_S8192x1024 (constant (F := Ideal) S_ .f32 0x3F800000#32)) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (Host.dotGeneral (F := Ideal) (φ₁ := .f32) (φ₂ := .f32) dot_S8192x1024_S1024x1024_S8192x1024_1_0_0_1_n_n none x1 (extf (F := Ideal) .f32 x4 bitsLt_bf16_f32))))))))) (extf (F := Ideal) .f32 x4 bitsLt_bf16_f32))) (ix2 r j) = rows x0 x1 x2 x3 x4 r j := by
  pointwise []
  unfold rows slope gate
  simp only [Sig.host_eq]
  try (refine congrArg _ (Fin.sum_fin_congr fun k => ?_); ac_rfl)

theorem ref_P (x0 x1 : Vec Ideal S8192x1024 .f32) (x2 : Vec Ideal S8192x256 .f32) (x4 : Vec Ideal S1024x1024 .bf16) (i : Fin 256) (j : Fin 1024) :
    (transpose S256x1024 [1, 0] (Host.dotGeneral (F := Ideal) (φ₁ := .f32) (φ₂ := .f32) dot_S8192x1024_S8192x256_S1024x256_0_0_1_1_n_n none (mulf (shapeCast _ x0 shapeCasts_S8192x1024_S8192x1024) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (Host.dotGeneral (F := Ideal) (φ₁ := .f32) (φ₂ := .f32) dot_S8192x1024_S1024x1024_S8192x1024_1_0_0_1_n_n none x1 (extf (F := Ideal) .f32 x4 bitsLt_bf16_f32))))))) x2) transposes_S1024x256_S256x1024_1_0) (ix2 i j) = gradP x0 x1 x2 x4 i j := by
  pointwise []
  unfold gradP termP gate
  simp only [Sig.host_eq]
  exact Fin.sum_fin_congr fun k => mul_comm _ _

theorem ref_G (x0 x1 : Vec Ideal S8192x1024 .f32) (x2 : Vec Ideal S8192x256 .f32) (x3 : Vec Ideal S256x1024 .bf16) (x4 : Vec Ideal S1024x1024 .bf16) (i j : Fin 1024) :
    (transpose S1024x1024 [1, 0] (Host.dotGeneral (F := Ideal) (φ₁ := .f32) (φ₂ := .f32) dot_S8192x1024_S8192x1024_S1024x1024_0_0_1_1_n_n none (mulf (mulf (Host.dotGeneral (F := Ideal) (φ₁ := .f32) (φ₂ := .f32) dot_S8192x256_S256x1024_S8192x1024_1_0_0_1_n_n none x2 (extf (F := Ideal) .f32 x3 bitsLt_bf16_f32)) (shapeCast _ x0 shapeCasts_S8192x1024_S8192x1024)) (mulf (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (Host.dotGeneral (F := Ideal) (φ₁ := .f32) (φ₂ := .f32) dot_S8192x1024_S1024x1024_S8192x1024_1_0_0_1_n_n none x1 (extf (F := Ideal) .f32 x4 bitsLt_bf16_f32)))))) (subf (broadcastInDim S8192x1024 ![] bcast_S_S8192x1024 (constant (F := Ideal) S_ .f32 0x3F800000#32)) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (Host.dotGeneral (F := Ideal) (φ₁ := .f32) (φ₂ := .f32) dot_S8192x1024_S1024x1024_S8192x1024_1_0_0_1_n_n none x1 (extf (F := Ideal) .f32 x4 bitsLt_bf16_f32))))))))) x1) transposes_S1024x1024_S1024x1024_1_0) (ix2 i j) = gradG x0 x1 x2 x3 x4 i j := by
  pointwise []
  unfold gradG termG slope gate
  simp only [Sig.host_eq]
  refine Fin.sum_fin_congr fun k => ?_
  ac_rfl

theorem frame_reference : quiescent_Reference7Ideal := fun m ρ _ =>
  (θ_run defs _ _).mono (fun r h => ⟨fun c => (h c).2.2.2, sem_eq_zero_of_no_sems (by decide) r.2⟩)
    (Value.run (F := Ideal) m ρ)

/-- Kernel and reference compute the same gradients. -/
theorem algebraic : algebraic_Kernel7Ideal_Reference7Ideal := by
  intro m ρ m' ρ' _ hm
  refine ⟨_, _, _, result m ρ, ?_⟩
  refine (θ_run defs _ _).mono (fun r h c => ?_) (Value.run (F := Ideal) m' ρ')
  obtain ⟨e0, e1, e2, e3, e4⟩ := hm c
  rw [← e0, ← e1, ← e2, ← e3, ← e4]
  refine ⟨(h c).1.trans ?_, (h c).2.1.trans ?_, (h c).2.2.1.trans ?_, (h c).2.2.2⟩
  · funext y
    idx_vars y
    exact ref_rows (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) _ _
  · funext y
    idx_vars y
    exact ref_P (m' ((c.tc : Thread nD τ).loc main_arg0)) (m' ((c.tc : Thread nD τ).loc main_arg1)) (m' ((c.tc : Thread nD τ).loc main_arg2)) (m' ((c.tc : Thread nD τ).loc main_arg4)) _ _
  · funext y
    idx_vars y
    exact ref_G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) _ _

end Cert.Ple7

end
-- ==== Proof.Bl8.lean ====
module

public import proofs.«01_k».proof.Proof.Sig
public import proofs.«01_k».proof.Proof.Gen.Kernel8Ideal.Value
public import Idealize.ShloMosaic.Lib.Pipeline.ValueKit
public import Idealize.ShloMosaic.Lib.Pointwise

/-! The gradients of the recurrent branch's gated projection: two results by rows, a weight gradient added up over the blocks of 512 rows. -/

@[expose] public section

noncomputable section

namespace Cert.Bl8

open Idealize.ShloMosaic Idealize.ShloMosaic.TcCoe Idealize.SL.Sem
open Cert.Kernel8Ideal Cert.Kernel8Ideal.Gen

set_option maxRecDepth 16384

/-- The projection's cotangent carried back. -/
def back (d : Vec Ideal S8192x1024 .bf16) (w : Vec Ideal S1280x1024 .bf16) (r : Fin 8192) (k : Fin 1280) : EReal :=
  ∑ j : Fin 1024, d (ix2 r j) * w (ix2 k j)

/-- The gate of a row's entry. -/
def silu (u : Vec Ideal S8192x1280 .bf16) (r : Fin 8192) (k : Fin 1280) : EReal :=
  u (ix2 r k) * Ideal.logistic (u (ix2 r k))

/-- The cotangent of the recurrence's result. -/
def gradH (d : Vec Ideal S8192x1024 .bf16) (u : Vec Ideal S8192x1280 .bf16) (w : Vec Ideal S1280x1024 .bf16) (r : Fin 8192) (k : Fin 1280) : EReal :=
  back d w r k * silu u r k

/-- The cotangent of the gate's argument. -/
def gradU (d : Vec Ideal S8192x1024 .bf16) (h : Vec Ideal S8192x1280 .f32) (u : Vec Ideal S8192x1280 .bf16) (w : Vec Ideal S1280x1024 .bf16) (r : Fin 8192) (k : Fin 1280) : EReal :=
  back d w r k * h (ix2 r k) * Ideal.logistic (u (ix2 r k)) * (1 + u (ix2 r k) * (1 - Ideal.logistic (u (ix2 r k))))

/-- One row's term in the weight gradient. -/
def term (d : Vec Ideal S8192x1024 .bf16) (h : Vec Ideal S8192x1280 .f32) (u : Vec Ideal S8192x1280 .bf16) (i : Fin 1280) (j : Fin 1024) (r : Fin 8192) : EReal :=
  h (ix2 r i) * silu u r i * d (ix2 r j)

/-- The weight gradient. -/
def gradW (d : Vec Ideal S8192x1024 .bf16) (h : Vec Ideal S8192x1280 .f32) (u : Vec Ideal S8192x1280 .bf16) (i : Fin 1280) (j : Fin 1024) : EReal :=
  ∑ r : Fin 8192, term d h u i j r

theorem step (b acc : Vec Ideal S1280x1024 .f32) (y : S1280x1024.Idx) : k0_pay1 b acc y = @HAdd.hAdd EReal EReal EReal _ (acc y) (b y) := by
  idx_vars y
  pointwise [k0_pay1]

theorem zero (y : S1280x1024.Idx) : (k0_pay10 (F := Ideal)) y = 0 := by
  idx_vars y
  pointwise [k0_pay10]

variable (m : (ℓ : Loc nD τ sig) → Buf (Elt Ideal) ℓ)

/-- The array row of row `k` of point `t`'s block. -/
abbrev row (t : Fin cfg0.N) (k : Fin 512) : Fin 8192 := ⟨t.val * 512 + k.val, by have := t.isLt; have : cfg0.N = 16 := N_0; omega⟩

theorem blk0 (c : Dev nD) (t : Fin cfg0.N) (k : Fin 512) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 512) (i : Fin 1280) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 512) (i : Fin 1280) : iblk m c 2 t (ix2 k i) = m ((c.tc : Thread nD τ).loc main_arg2) (ix2 (row t k) i) := by
  have e : ∀ t : Fin cfg0.N, win0_2.index t = ![t.val, 0] := (by decide +kernel : ∀ t : Fin grid0.N, _)
  blk_ext [row, Gen.iblk, Gen.V, e t]

theorem blk3 (c : Dev nD) (t : Fin cfg0.N) (k : Fin 1280) (i : Fin 1024) : iblk m c 3 t (ix2 k i) = m ((c.tc : Thread nD τ).loc main_arg3) (ix2 k i) := by
  have e : ∀ t : Fin cfg0.N, win0_3.index t = ![0, 0] := (by decide +kernel : ∀ t : Fin grid0.N, _)
  blk_ext [Gen.iblk, Gen.V, e t]

theorem pay_s (c : Dev nD) (t : Fin cfg0.N) (i : Fin 512) (j : Fin 1280) :
    k0_pay4 (iblk m c 2 t) (ix2 i j) = Ideal.logistic ((m ((c.tc : Thread nD τ).loc main_arg2)) (ix2 (row t i) j)) := by
  pointwise [k0_pay4, k0_pay3]
  simp only [Sig.sigmoid_eq, blk2]

theorem pay_silu (c : Dev nD) (t : Fin cfg0.N) (i : Fin 512) (j : Fin 1280) :
    k0_pay5 (iblk m c 2 t) (ix2 i j) = silu (m ((c.tc : Thread nD τ).loc main_arg2)) (row t i) j := by
  pointwise [k0_pay5, k0_pay3]
  unfold silu
  rw [pay_s, blk2]

theorem pay_back (c : Dev nD) (t : Fin cfg0.N) (i : Fin 512) (j : Fin 1280) :
    k0_pay6 (iblk m c 0 t) (iblk m c 3 t) (ix2 i j) = back (m ((c.tc : Thread nD τ).loc main_arg0)) (m ((c.tc : Thread nD τ).loc main_arg3)) (row t i) j := by
  pointwise [k0_pay6, k0_pay2]
  unfold back
  simp only [blk0, blk3]

theorem pay_H (c : Dev nD) (t : Fin cfg0.N) (i : Fin 512) (j : Fin 1280) :
    k0_pay7 (iblk m c 0 t) (iblk m c 2 t) (iblk m c 3 t) (ix2 i j) = gradH (m ((c.tc : Thread nD τ).loc main_arg0)) (m ((c.tc : Thread nD τ).loc main_arg2)) (m ((c.tc : Thread nD τ).loc main_arg3)) (row t i) j := by
  pointwise [k0_pay7]
  unfold gradH
  rw [pay_back, pay_silu]

theorem pay_U (c : Dev nD) (t : Fin cfg0.N) (i : Fin 512) (j : Fin 1280) :
    k0_pay9 (iblk m c 0 t) (iblk m c 1 t) (iblk m c 2 t) (iblk m c 3 t) (ix2 i j) = gradU (m ((c.tc : Thread nD τ).loc main_arg0)) (m ((c.tc : Thread nD τ).loc main_arg1)) (m ((c.tc : Thread nD τ).loc main_arg2)) (m ((c.tc : Thread nD τ).loc main_arg3)) (row t i) j := by
  pointwise [k0_pay9, k0_pay3]
  unfold gradU
  rw [pay_back, pay_s, blk1, blk2]

theorem pay_W (c : Dev nD) (t : Fin cfg0.N) (i : Fin 1280) (j : Fin 1024) :
    k0_pay8 (iblk m c 0 t) (iblk m c 1 t) (iblk m c 2 t) (ix2 i j) = ∑ k : Fin 512, term (m ((c.tc : Thread nD τ).loc main_arg0)) (m ((c.tc : Thread nD τ).loc main_arg1)) (m ((c.tc : Thread nD τ).loc main_arg2)) i j (row t k) := by
  pointwise [k0_pay8, k0_pay2]
  unfold term
  simp only [pay_silu, blk0, blk1]

theorem out4 (c : Dev nD) (t : Fin cfg0.N) : (outsAt0 m c t.val t.isLt).1 = k0_pay7 (iblk m c 0 t) (iblk m c 2 t) (iblk m c 3 t) := by
  by_cases h : t.val % 16 = 0
  · rw [outsAt0_A m c t h]
    frame_out
  · rw [outsAt0_B m c t h]
    frame_out

theorem emb_row4 (t : Fin cfg0.N) (y0 : Fin 512) (y1 : Fin 1280) : ((View.whole main_v0_0).slice (win0_4.rect t)).emb (ix2 y0 y1) 0 = row t y0 := by
  have e : ∀ t : Fin cfg0.N, win0_4.index t = ![t.val, 0] := (by decide +kernel : ∀ t : Fin grid0.N, _)
  apply Fin.ext
  show win0_4.index t (0 : Fin 2) * 512 + 1 * y0.val = t.val * 512 + y0.val
  rw [e t]
  show t.val * 512 + 1 * y0.val = t.val * 512 + y0.val
  rw [Nat.one_mul]

theorem emb_col4 (t : Fin cfg0.N) (y0 : Fin 512) (y1 : Fin 1280) : ((View.whole main_v0_0).slice (win0_4.rect t)).emb (ix2 y0 y1) 1 = y1 := by
  have e : ∀ t : Fin cfg0.N, win0_4.index t = ![t.val, 0] := (by decide +kernel : ∀ t : Fin grid0.N, _)
  apply Fin.ext
  show win0_4.index t (1 : Fin 2) * 1280 + 1 * y1.val = y1.val
  rw [e t]
  show 0 * 1280 + 1 * y1.val = y1.val
  omega

theorem final4 (c : Dev nD) : (dats m 0 c).arrAt 4 cfg0.N = (fun y : S8192x1280.Idx => gradH (m ((c.tc : Thread nD τ).loc main_arg0)) (m ((c.tc : Thread nD τ).loc main_arg2)) (m ((c.tc : Thread nD τ).loc main_arg3)) (y 0) (y 1)) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; rw [show (outsAt0 m c t.val t.isLt).1 = k0_pay7 (iblk m c 0 t) (iblk m c 2 t) (iblk m c 3 t) from out4 m c t]
  change S512x1280.Idx at y
  idx_vars y
  rw [pay_H, emb_row4, emb_col4]

theorem out5 (c : Dev nD) (t : Fin cfg0.N) : (outsAt0 m c t.val t.isLt).2.1 = k0_pay9 (iblk m c 0 t) (iblk m c 1 t) (iblk m c 2 t) (iblk m c 3 t) := by
  by_cases h : t.val % 16 = 0
  · rw [outsAt0_A m c t h]
    frame_out
  · rw [outsAt0_B m c t h]
    frame_out

theorem emb_row5 (t : Fin cfg0.N) (y0 : Fin 512) (y1 : Fin 1280) : ((View.whole main_v0_1).slice (win0_5.rect t)).emb (ix2 y0 y1) 0 = row t y0 := by
  have e : ∀ t : Fin cfg0.N, win0_5.index t = ![t.val, 0] := (by decide +kernel : ∀ t : Fin grid0.N, _)
  apply Fin.ext
  show win0_5.index t (0 : Fin 2) * 512 + 1 * y0.val = t.val * 512 + y0.val
  rw [e t]
  show t.val * 512 + 1 * y0.val = t.val * 512 + y0.val
  rw [Nat.one_mul]

theorem emb_col5 (t : Fin cfg0.N) (y0 : Fin 512) (y1 : Fin 1280) : ((View.whole main_v0_1).slice (win0_5.rect t)).emb (ix2 y0 y1) 1 = y1 := by
  have e : ∀ t : Fin cfg0.N, win0_5.index t = ![t.val, 0] := (by decide +kernel : ∀ t : Fin grid0.N, _)
  apply Fin.ext
  show win0_5.index t (1 : Fin 2) * 1280 + 1 * y1.val = y1.val
  rw [e t]
  show 0 * 1280 + 1 * y1.val = y1.val
  omega

theorem final5 (c : Dev nD) : (dats m 0 c).arrAt 5 cfg0.N = (fun y : S8192x1280.Idx => gradU (m ((c.tc : Thread nD τ).loc main_arg0)) (m ((c.tc : Thread nD τ).loc main_arg1)) (m ((c.tc : Thread nD τ).loc main_arg2)) (m ((c.tc : Thread nD τ).loc main_arg3)) (y 0) (y 1)) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; rw [show (outsAt0 m c t.val t.isLt).2.1 = k0_pay9 (iblk m c 0 t) (iblk m c 1 t) (iblk m c 2 t) (iblk m c 3 t) from out5 m c t]
  change S512x1280.Idx at y
  idx_vars y
  rw [pay_U, emb_row5, emb_col5]

theorem first6 (c : Dev nD) (t : Fin cfg0.N) (h : t.val % 16 = 0) (y : S1280x1024.Idx) : @Eq EReal ((outsAt0 m c t.val t.isLt).2.2 y) (0 + (k0_pay8 (iblk m c 0 t) (iblk m c 1 t) (iblk m c 2 t)) y) := by
  rw [outsAt0_A m c t h]
  frame_out
  rw [step, zero]

theorem next6 (c : Dev nD) (t : Fin cfg0.N) (h : ¬t.val % 16 = 0) (y : S1280x1024.Idx) :
    @Eq EReal ((outsAt0 m c t.val t.isLt).2.2 y) (@HAdd.hAdd EReal EReal EReal _ ((outsAt0 m c (t.val - 1) (Nat.lt_of_le_of_lt (Nat.sub_le _ _) t.isLt)).2.2 y) ((k0_pay8 (iblk m c 0 t) (iblk m c 1 t) (iblk m c 2 t)) y)) := by
  rw [outsAt0_B m c t h]
  frame_out
  rw [step]

theorem acc6 (c : Dev nD) (y : S1280x1024.Idx) : @Eq EReal ((outsAt0 m c t0_15.val t0_15.isLt).2.2 y) (∑ t : Fin cfg0.N, ((k0_pay8 (iblk m c 0 t) (iblk m c 1 t) (iblk m c 2 t)) y : EReal)) := by
  have u := Pipeline.eq_sum_fin_of_reset_step_apply_last (M := EReal) (fun n h => (outsAt0 m c n h).2.2) 16 (fun _ => (0 : EReal)) (fun t y => (k0_pay8 (iblk m c 0 t) (iblk m c 1 t) (iblk m c 2 t)) y) (first6 m c) (next6 m c) (le_of_eq N_0) t0_15 N_0.symm y
  rw [zero_add] at u
  exact u

theorem final6 (c : Dev nD) : (dats m 0 c).arrAt 6 cfg0.N = (fun y : S1280x1024.Idx => gradW (m ((c.tc : Thread nD τ).loc main_arg0)) (m ((c.tc : Thread nD τ).loc main_arg1)) (m ((c.tc : Thread nD τ).loc main_arg2)) (y 0) (y 1)) := by
  refine (dats m 0 c).arrAt_eq_of_after_last 6 t0_15 (by decide +kernel) _ fun y => ?_
  blk_simp
  rw [after0_6]
  change S1280x1024.Idx at y
  idx_vars y
  refine (acc6 m c (ix2 y0 y1)).trans ?_
  refine (Fin.sum_fin_congr fun t => pay_W m c t y0 y1).trans ?_
  exact Fin.sum_mul_add_congr (S := cfg0.N) (n := 512) (fun s k hl => rfl) (by rw [show cfg0.N = 16 from N_0])

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = (fun y : S8192x1280.Idx => gradH (m ((c.tc : Thread nD τ).loc main_arg0)) (m ((c.tc : Thread nD τ).loc main_arg2)) (m ((c.tc : Thread nD τ).loc main_arg3)) (y 0) (y 1))
      ∧ r.2.mem ((c.tc : Thread nD τ).loc main_v0_1) = (fun y : S8192x1280.Idx => gradU (m ((c.tc : Thread nD τ).loc main_arg0)) (m ((c.tc : Thread nD τ).loc main_arg1)) (m ((c.tc : Thread nD τ).loc main_arg2)) (m ((c.tc : Thread nD τ).loc main_arg3)) (y 0) (y 1))
      ∧ r.2.mem ((c.tc : Thread nD τ).loc main_v0_2) = (fun y : S1280x1024.Idx => gradW (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c), (h c).2.1.trans (final5 m c), (h c).2.2.1.trans (final6 m c), (h c).2.2.2⟩) (Value.run_blocks m ρ)

end Cert.Bl8

end
-- ==== Proof.Reals.lean ====
module

public import Idealize.ShloMosaic.Lib.Pointwise

/-! Extended reals that are reals: sums and products stay so, and there the products distribute over the sums. -/

@[expose] public section

noncomputable section

namespace Cert.Reals

open Idealize.ShloMosaic

/-- The value is a real number. -/
def IsReal (x : EReal) : Prop := ∃ r : ℝ, x = (r : EReal)

theorem coe (r : ℝ) : IsReal (r : EReal) := ⟨r, rfl⟩

theorem of_sub_self {x : EReal} (h : Ideal.cmp .oeq (x - x) 0 = 1#1) : IsReal x := by
  induction x using EReal.rec with
  | bot => exfalso; revert h; simp [Ideal.cmp]
  | top => exfalso; revert h; simp [Ideal.cmp]
  | coe x => exact ⟨x, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem sum {n : ℕ} {f : Fin n → EReal} (h : ∀ k, IsReal (f k)) : IsReal (∑ k, f k) := by
  induction n with
  | zero => exact ⟨0, by simp⟩
  | succ n ih =>
    rw [Fin.sum_univ_succ]
    exact add (h 0) (ih fun k => h k.succ)

theorem logistic (x : EReal) : IsReal (Ideal.logistic x) := by
  induction x using EReal.rec with
  | bot => exact ⟨0, by rw [Ideal.logistic_bot]; rfl⟩
  | top => exact ⟨1, by rw [Ideal.logistic_top]; rfl⟩
  | coe x => exact ⟨_, Ideal.logistic_coe x⟩

/-- The derivative of `g * logistic g`, as one product and as the sum of two. -/
theorem silu_slope {x : EReal} (g : EReal) (hx : IsReal x) :
    x * Ideal.logistic g * (1 + g * (1 - Ideal.logistic g)) = x * Ideal.logistic g + g * x * (Ideal.logistic g * (1 - Ideal.logistic g)) := by
  obtain ⟨x, rfl⟩ := hx
  have one : (1 : EReal) = ((1 : ℝ) : EReal) := rfl
  induction g using EReal.rec with
  | bot => rw [Ideal.logistic_bot]; simp
  | top =>
    have z : (1 : EReal) - 1 = 0 := by rw [one, ← EReal.coe_sub, sub_self]; rfl
    rw [Ideal.logistic_top, z]; simp
  | coe g =>
    rw [Ideal.logistic_coe, one]
    simp only [← EReal.coe_sub, ← EReal.coe_mul, ← EReal.coe_add]
    congr 1
    ring

end Cert.Reals

end
-- ==== Proof.Bl8Ref.lean ====
module

public import proofs.«01_k».proof.Proof.Bl8
public import proofs.«01_k».proof.Proof.Reals
public import proofs.«01_k».proof.Proof.Gen.Pre_finite8
public import proofs.«01_k».proof.Defs
public import proofs.«01_k».proof.Proof.Gen.Kernel8.Frame
public import proofs.«01_k».proof.Proof.Gen.Reference8Ideal.Run
public import Idealize.ShloMosaic.Lib.Quiescent
public import Idealize.ShloMosaic.Lib.Pointwise

/-! The reference of the gated projection's gradients, read at an entry; kernel and reference agree on finite arguments. -/

@[expose] public section

noncomputable section

namespace Cert.Bl8

open Idealize.ShloMosaic Idealize.ShloMosaic.TcCoe Idealize.SL.Sem
open Cert.Reference8Ideal Cert.Reference8Ideal.Gen

set_option maxRecDepth 16384

theorem ref_H (x0 : Vec Ideal S8192x1024 .bf16) (x2 : Vec Ideal S8192x1280 .bf16) (x3 : Vec Ideal S1280x1024 .bf16) (r : Fin 8192) (j : Fin 1280) :
    (mulf (Host.dotGeneral (F := Ideal) (φ₁ := .f32) (φ₂ := .f32) dot_S8192x1024_S1280x1024_S8192x1280_1_1_0_0_n_n none (extf (F := Ideal) .f32 x0 bitsLt_bf16_f32) (extf (F := Ideal) .f32 x3 bitsLt_bf16_f32)) (mulf (extf (F := Ideal) .f32 x2 bitsLt_bf16_f32) (Host.divf (broadcastInDim S8192x1280 ![] bcast_S_S8192x1280 (constant (F := Ideal) S_ .f32 0x3F800000#32)) (addf (broadcastInDim S8192x1280 ![] bcast_S_S8192x1280 (constant (F := Ideal) S_ .f32 0x3F800000#32)) (Host.exp (Host.negf (extf (F := Ideal) .f32 x2 bitsLt_bf16_f32))))))) (ix2 r j) = gradH x0 x2 x3 r j := by
  pointwise []
  unfold gradH back silu
  simp only [Sig.host_eq]

theorem ref_U (x0 : Vec Ideal S8192x1024 .bf16) (x1 : Vec Ideal S8192x1280 .f32) (x2 : Vec Ideal S8192x1280 .bf16) (x3 : Vec Ideal S1280x1024 .bf16) (h0 : ∀ r j, Reals.IsReal (x0 (ix2 r j))) (h1 : ∀ r j, Reals.IsReal (x1 (ix2 r j))) (h3 : ∀ r j, Reals.IsReal (x3 (ix2 r j))) (r : Fin 8192) (j : Fin 1280) :
    (truncf (F := Ideal) .bf16 (addf (mulf (mulf x1 (Host.dotGeneral (F := Ideal) (φ₁ := .f32) (φ₂ := .f32) dot_S8192x1024_S1280x1024_S8192x1280_1_1_0_0_n_n none (extf (F := Ideal) .f32 x0 bitsLt_bf16_f32) (extf (F := Ideal) .f32 x3 bitsLt_bf16_f32))) (Host.divf (broadcastInDim S8192x1280 ![] bcast_S_S8192x1280 (constant (F := Ideal) S_ .f32 0x3F800000#32)) (addf (broadcastInDim S8192x1280 ![] bcast_S_S8192x1280 (constant (F := Ideal) S_ .f32 0x3F800000#32)) (Host.exp (Host.negf (extf (F := Ideal) .f32 x2 bitsLt_bf16_f32)))))) (mulf (mulf (extf (F := Ideal) .f32 x2 bitsLt_bf16_f32) (mulf x1 (Host.dotGeneral (F := Ideal) (φ₁ := .f32) (φ₂ := .f32) dot_S8192x1024_S1280x1024_S8192x1280_1_1_0_0_n_n none (extf (F := Ideal) .f32 x0 bitsLt_bf16_f32) (extf (F := Ideal) .f32 x3 bitsLt_bf16_f32)))) (mulf (Host.divf (broadcastInDim S8192x1280 ![] bcast_S_S8192x1280 (constant (F := Ideal) S_ .f32 0x3F800000#32)) (addf (broadcastInDim S8192x1280 ![] bcast_S_S8192x1280 (constant (F := Ideal) S_ .f32 0x3F800000#32)) (Host.exp (Host.negf (extf (F := Ideal) .f32 x2 bitsLt_bf16_f32))))) (subf (broadcastInDim S8192x1280 ![] bcast_S_S8192x1280 (constant (F := Ideal) S_ .f32 0x3F800000#32)) (Host.divf (broadcastInDim S8192x1280 ![] bcast_S_S8192x1280 (constant (F := Ideal) S_ .f32 0x3F800000#32)) (addf (broadcastInDim S8192x1280 ![] bcast_S_S8192x1280 (constant (F := Ideal) S_ .f32 0x3F800000#32)) (Host.exp (Host.negf (extf (F := Ideal) .f32 x2 bitsLt_bf16_f32))))))))) bitsLt_bf16_f32) (ix2 r j) = gradU x0 x1 x2 x3 r j := by
  have hb : Reals.IsReal (back x0 x3 r j * x1 (ix2 r j)) := Reals.mul (Reals.sum fun k => Reals.mul (h0 _ _) (h3 _ _)) (h1 _ _)
  unfold gradU
  refine Eq.trans ?_ (Reals.silu_slope _ hb).symm
  pointwise []
  unfold back
  simp only [Sig.host_eq]
  rw [mul_comm (x1 (ix2 r j))]

theorem ref_W (x0 : Vec Ideal S8192x1024 .bf16) (x1 : Vec Ideal S8192x1280 .f32) (x2 : Vec Ideal S8192x1280 .bf16) (i : Fin 1280) (j : Fin 1024) :
    (transpose S1280x1024 [1, 0] (Host.dotGeneral (F := Ideal) (φ₁ := .f32) (φ₂ := .f32) dot_S8192x1024_S8192x1280_S1024x1280_0_0_1_1_n_n none (extf (F := Ideal) .f32 x0 bitsLt_bf16_f32) (mulf x1 (mulf (extf (F := Ideal) .f32 x2 bitsLt_bf16_f32) (Host.divf (broadcastInDim S8192x1280 ![] bcast_S_S8192x1280 (constant (F := Ideal) S_ .f32 0x3F800000#32)) (addf (broadcastInDim S8192x1280 ![] bcast_S_S8192x1280 (constant (F := Ideal) S_ .f32 0x3F800000#32)) (Host.exp (Host.negf (extf (F := Ideal) .f32 x2 bitsLt_bf16_f32)))))))) transposes_S1024x1280_S1280x1024_1_0) (ix2 i j) = gradW x0 x1 x2 i j := by
  pointwise []
  unfold gradW term silu
  simp only [Sig.host_eq]
  exact Fin.sum_fin_congr fun k => mul_comm _ _

theorem frame_reference : quiescent_Reference8Ideal := fun m ρ _ =>
  (θ_run defs _ _).mono (fun r h => ⟨fun c => (h c).2.2.2, sem_eq_zero_of_no_sems (by decide) r.2⟩)
    (Value.run (F := Ideal) m ρ)

theorem real0 (x0 : Vec Ideal S8192x1024 .bf16) (x1 : Vec Ideal S8192x1280 .f32) (x2 : Vec Ideal S8192x1280 .bf16) (x3 : Vec Ideal S1280x1024 .bf16) (h : (Pre_finite8.fn (F := Ideal) x0 x1 x2 x3).1 = (fun _ => 1#1)) (r : Fin 8192) (j : Fin _) : Reals.IsReal (x0 (ix2 r j)) := by
  have e := congrFun h (ix2 r j)
  unfold Pre_finite8.fn at e
  refine Reals.of_sub_self (Eq.trans ?_ e)
  pointwise []

theorem real1 (x0 : Vec Ideal S8192x1024 .bf16) (x1 : Vec Ideal S8192x1280 .f32) (x2 : Vec Ideal S8192x1280 .bf16) (x3 : Vec Ideal S1280x1024 .bf16) (h : (Pre_finite8.fn (F := Ideal) x0 x1 x2 x3).2.1 = (fun _ => 1#1)) (r : Fin 8192) (j : Fin _) : Reals.IsReal (x1 (ix2 r j)) := by
  have e := congrFun h (ix2 r j)
  unfold Pre_finite8.fn at e
  refine Reals.of_sub_self (Eq.trans ?_ e)
  pointwise []

theorem real3 (x0 : Vec Ideal S8192x1024 .bf16) (x1 : Vec Ideal S8192x1280 .f32) (x2 : Vec Ideal S8192x1280 .bf16) (x3 : Vec Ideal S1280x1024 .bf16) (h : (Pre_finite8.fn (F := Ideal) x0 x1 x2 x3).2.2 = (fun _ => 1#1)) (r : Fin 1280) (j : Fin _) : Reals.IsReal (x3 (ix2 r j)) := by
  have e := congrFun h (ix2 r j)
  unfold Pre_finite8.fn at e
  refine Reals.of_sub_self (Eq.trans ?_ e)
  pointwise []

/-- Kernel and reference compute the same gradients. -/
theorem algebraic : algebraic_Kernel8Ideal_Reference8Ideal_pre_finite8 := by
  intro m ρ m' ρ' hp hm
  refine ⟨_, _, _, result m ρ, ?_⟩
  refine (θ_run defs _ _).mono (fun r h c => ?_) (Value.run (F := Ideal) m' ρ')
  obtain ⟨p0, p1, p3⟩ := hp c
  have r0 := real0 _ _ _ _ p0
  have r1 := real1 _ _ _ _ p1
  have r3 := real3 _ _ _ _ p3
  clear p0 p1 p3 hp
  obtain ⟨e0, e1, e2, e3⟩ := hm c
  rw [← e0, ← e1, ← e2, ← e3]
  rw [← e0] at r0
  rw [← e1] at r1
  rw [← e3] at r3
  refine ⟨(h c).1.trans ?_, (h c).2.1.trans ?_, (h c).2.2.1.trans ?_, (h c).2.2.2⟩
  · funext y
    idx_vars y
    exact ref_H (m' ((c.tc : Thread nD τ).loc main_arg0)) (m' ((c.tc : Thread nD τ).loc main_arg2)) (m' ((c.tc : Thread nD τ).loc main_arg3)) _ _
  · funext y
    idx_vars y
    exact ref_U (m' ((c.tc : Thread nD τ).loc main_arg0)) (m' ((c.tc : Thread nD τ).loc main_arg1)) (m' ((c.tc : Thread nD τ).loc main_arg2)) (m' ((c.tc : Thread nD τ).loc main_arg3)) r0 r1 r3 _ _
  · funext y
    idx_vars y
    exact ref_W (m' ((c.tc : Thread nD τ).loc main_arg0)) (m' ((c.tc : Thread nD τ).loc main_arg1)) (m' ((c.tc : Thread nD τ).loc main_arg2)) _ _

end Cert.Bl8

end
-- ==== Proof.Rms.lean ====
module

public import proofs.«01_k».proof.Proof.Reals

/-! The gradient of a row divided by its root mean square, over the reals, in the two forms the programs write. -/

@[expose] public section

noncomputable section

namespace Cert.Rms

open Idealize.ShloMosaic
open Cert.Reals

theorem width_eq : Ideal.ofBits FTy.f32 1149239296#32 = ((1024 : ℝ) : EReal) := by
  simp [Ideal.ofBits, Ideal.ieee, -EReal.coe_mul]
  norm_num

theorem neg_half_eq : Ideal.ofBits FTy.f32 3204448256#32 = ((-(1 / 2) : ℝ) : EReal) := by
  simp [Ideal.ofBits, Ideal.ieee, -EReal.coe_mul]
  norm_num

theorem eps_eq : ∃ e : ℝ, 0 < e ∧ Ideal.ofBits FTy.f32 897988541#32 = (e : EReal) := by
  refine ⟨_, ?_, by simp [Ideal.ofBits, Ideal.ieee, -EReal.coe_mul]; rfl⟩
  norm_num

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The mean square of a row, and the small constant. -/
def square {n : ℕ} (x : Fin n → EReal) : EReal :=
  Ideal.div (∑ k, x k * x k) (Ideal.ofBits FTy.f32 1149239296#32) + Ideal.ofBits FTy.f32 897988541#32

/-- The factor the derivative of the mean square carries back. -/
def carried {n : ℕ} (x d : Fin n → EReal) : EReal :=
  Ideal.div ((∑ k, x k * d k) * (Ideal.ofBits FTy.f32 3204448256#32 * Ideal.div (Ideal.rsqrt (square x)) (square x))) (Ideal.ofBits FTy.f32 1149239296#32)

/-- On a real row the mean square is a positive real. -/
theorem square_pos {n : ℕ} (x : Fin n → ℝ) : ∃ v : ℝ, 0 < v ∧ square (fun k => (x k : EReal)) = (v : EReal) := by
  obtain ⟨e, he, h⟩ := eps_eq
  refine ⟨(∑ k, x k * x k) * (1 / 1024) + e, ?_, ?_⟩
  · have : 0 ≤ ∑ k, x k * x k := Finset.sum_nonneg fun k _ => mul_self_nonneg _
    positivity
  · unfold square
    rw [h, width_eq, Ideal.div_coe (by norm_num)]
    simp only [← EReal.coe_mul, coe_sum, ← EReal.coe_add]

theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-- The two forms of the gradient agree on real rows. -/
theorem slope {n : ℕ} (y : EReal) {x d : Fin n → EReal} (hx : ∀ k, IsReal (x k)) (hd : ∀ k, IsReal (d k)) (k : Fin n) :
    y + Ideal.rsqrt (square x) * (d k - x k * Ideal.rsqrt (square x) * Ideal.div (∑ l, d l * (x l * Ideal.rsqrt (square x))) (Ideal.ofBits FTy.f32 1149239296#32))
      = y + d k * Ideal.rsqrt (square x) + x k * carried x d + carried x d * x k := by
  choose a ha using hx
  choose b hb using hd
  obtain rfl : x = fun k => (a k : EReal) := funext ha
  obtain rfl : d = fun k => (b k : EReal) := funext hb
  obtain ⟨v, hv, h⟩ := square_pos a
  unfold carried
  rw [h, rsqrt_pos hv, width_eq, neg_half_eq]
  simp only [Ideal.div_coe hv.ne', Ideal.div_coe (show (1024 : ℝ) ≠ 0 by norm_num)]
  simp only [add_assoc, ← EReal.coe_mul, coe_sum, ← EReal.coe_sub, ← EReal.coe_add]
  congr 2
  have hs : Real.sqrt v ≠ 0 := (Real.sqrt_pos.mpr hv).ne'
  have hm : (Real.sqrt v)⁻¹ * (Real.sqrt v)⁻¹ = 1 / v := by
    rw [← mul_inv, Real.mul_self_sqrt hv.le, one_div]
  have hsum : ∑ l, b l * (a l * (Real.sqrt v)⁻¹) = (∑ l, a l * b l) * (Real.sqrt v)⁻¹ := by
    rw [Finset.sum_mul]
    exact Finset.sum_congr rfl fun l _ => by ring
  rw [hsum]
  generalize (Real.sqrt v)⁻¹ = r at *
  generalize (∑ l, a l * b l) = s at *
  rw [← hm]
  ring

end Cert.Rms

end
-- ==== Proof.Merge9.lean ====
module

public import proofs.«01_k».proof.Proof.Rms
public import proofs.«01_k».proof.Proof.Sig
public import proofs.«01_k».proof.Proof.Gen.Kernel9Ideal.Value
public import Idealize.ShloMosaic.Lib.Pipeline.ValueKit
public import Idealize.ShloMosaic.Lib.Pointwise

/-! The gradients of the merge of the two branches and of the output projection behind it: four results by rows, a block of 512 rows a point, and two gradients added up over the blocks. -/

@[expose] public section

noncomputable section

namespace Cert.Merge9

open Idealize.ShloMosaic Idealize.ShloMosaic.TcCoe Idealize.SL.Sem
open Cert.Kernel9Ideal Cert.Kernel9Ideal.Gen

set_option maxRecDepth 16384

/-- The merged branches. -/
def merged (x1 : Vec Ideal S8192x1024 .bf16) (x2 : Vec Ideal S8192x1024 .bf16) (x3 : Vec Ideal S8192x1024 .bf16) (x4 : Vec Ideal S8192x1024 .bf16) (r : Fin 8192) (k : Fin 1024) : EReal :=
  Ideal.logistic (x3 (ix2 r k)) * x1 (ix2 r k) + Ideal.logistic (x4 (ix2 r k)) * x2 (ix2 r k)

/-- The projection of the merged branches. -/
def mix (x1 : Vec Ideal S8192x1024 .bf16) (x2 : Vec Ideal S8192x1024 .bf16) (x3 : Vec Ideal S8192x1024 .bf16) (x4 : Vec Ideal S8192x1024 .bf16) (x5 : Vec Ideal S1024x1024 .bf16) (r : Fin 8192) (l : Fin 1024) : EReal :=
  ∑ k : Fin 1024, merged x1 x2 x3 x4 r k * x5 (ix2 k l)

/-- The cotangent of the normalised projection. -/
def grad (x0 : Vec Ideal S8192x1024 .f32) (x6 : Vec Ideal S1x1024 .f32) (r : Fin 8192) (k : Fin 1024) : EReal :=
  x0 (ix2 r k) * x6 (ix2 0 k)

/-- One over the root mean square of a projected row. -/
def scale (u : Fin 8192 → Fin 1024 → EReal) (r : Fin 8192) : EReal :=
  Ideal.rsqrt (Rms.square (u r))

/-- The cotangent of the projection. -/
def dmix (u : Fin 8192 → Fin 1024 → EReal) (x0 : Vec Ideal S8192x1024 .f32) (x6 : Vec Ideal S1x1024 .f32) (r : Fin 8192) (k : Fin 1024) : EReal :=
  scale u r * (grad x0 x6 r k - u r k * scale u r * Ideal.div (∑ l : Fin 1024, grad x0 x6 r l * (u r l * scale u r)) (Ideal.ofBits FTy.f32 1149239296#32))

/-- The cotangent of the merged branches. -/
def back (u : Fin 8192 → Fin 1024 → EReal) (x0 : Vec Ideal S8192x1024 .f32) (x5 : Vec Ideal S1024x1024 .bf16) (x6 : Vec Ideal S1x1024 .f32) (r : Fin 8192) (k : Fin 1024) : EReal :=
  ∑ j : Fin 1024, dmix u x0 x6 r j * x5 (ix2 k j)

/-- The cotangent of a branch with the gate `g`. -/
def gradZ (u : Fin 8192 → Fin 1024 → EReal) (g : Vec Ideal S8192x1024 .bf16) (x0 : Vec Ideal S8192x1024 .f32) (x5 : Vec Ideal S1024x1024 .bf16) (x6 : Vec Ideal S1x1024 .f32) (r : Fin 8192) (k : Fin 1024) : EReal :=
  back u x0 x5 x6 r k * Ideal.logistic (g (ix2 r k))

/-- The cotangent of the gate `g` of the branch `z`. -/
def gradS (u : Fin 8192 → Fin 1024 → EReal) (z g : Vec Ideal S8192x1024 .bf16) (x0 : Vec Ideal S8192x1024 .f32) (x5 : Vec Ideal S1024x1024 .bf16) (x6 : Vec Ideal S1x1024 .f32) (r : Fin 8192) (k : Fin 1024) : EReal :=
  back u x0 x5 x6 r k * z (ix2 r k) * Ideal.logistic (g (ix2 r k)) * (1 - Ideal.logistic (g (ix2 r k)))

/-- One row's term in the weight gradient. -/
def termW (u : Fin 8192 → Fin 1024 → EReal) (x0 : Vec Ideal S8192x1024 .f32) (x1 : Vec Ideal S8192x1024 .bf16) (x2 : Vec Ideal S8192x1024 .bf16) (x3 : Vec Ideal S8192x1024 .bf16) (x4 : Vec Ideal S8192x1024 .bf16) (x6 : Vec Ideal S1x1024 .f32) (i j : Fin 1024) (r : Fin 8192) : EReal :=
  merged x1 x2 x3 x4 r i * dmix u x0 x6 r j

/-- The weight gradient. -/
def gradW (u : Fin 8192 → Fin 1024 → EReal) (x0 : Vec Ideal S8192x1024 .f32) (x1 : Vec Ideal S8192x1024 .bf16) (x2 : Vec Ideal S8192x1024 .bf16) (x3 : Vec Ideal S8192x1024 .bf16) (x4 : Vec Ideal S8192x1024 .bf16) (x6 : Vec Ideal S1x1024 .f32) (i j : Fin 1024) : EReal :=
  ∑ r : Fin 8192, termW u x0 x1 x2 x3 x4 x6 i j r

/-- One row's term in the scale's gradient. -/
def termG (u : Fin 8192 → Fin 1024 → EReal) (x0 : Vec Ideal S8192x1024 .f32) (k : Fin 1024) (r : Fin 8192) : EReal :=
  x0 (ix2 r k) * (u r k * scale u r)

/-- The scale's gradient. -/
def gradG (u : Fin 8192 → Fin 1024 → EReal) (x0 : Vec Ideal S8192x1024 .f32) (_ : Fin 1) (k : Fin 1024) : EReal :=
  ∑ r : Fin 8192, termG u x0 k r

theorem stepW (b acc : Vec Ideal S1024x1024 .f32) (y : S1024x1024.Idx) : k0_pay3 b acc y = @HAdd.hAdd EReal EReal EReal _ (acc y) (b y) := by
  idx_vars y
  pointwise [k0_pay3]

theorem zeroW (y : S1024x1024.Idx) : (k0_pay2 (F := Ideal)) y = 0 := by
  idx_vars y
  pointwise [k0_pay2]

theorem stepG (b acc : Vec Ideal S1x1024 .f32) (y : S1x1024.Idx) : k0_pay5 b acc y = @HAdd.hAdd EReal EReal EReal _ (acc y) (b y) := by
  idx_vars y
  pointwise [k0_pay5]

theorem zeroG (y : S1x1024.Idx) : (k0_pay4 (F := Ideal)) y = 0 := by
  idx_vars y
  pointwise [k0_pay4]

/-- The projection as the host computes it. -/
def hostMix (x1 : Vec Ideal S8192x1024 .bf16) (x2 : Vec Ideal S8192x1024 .bf16) (x3 : Vec Ideal S8192x1024 .bf16) (x4 : Vec Ideal S8192x1024 .bf16) (x5 : Vec Ideal S1024x1024 .bf16) : Vec Ideal S8192x1024 .bf16 :=
  truncf (F := Ideal) .bf16 (Host.dotGeneral (F := Ideal) (φ₁ := .f32) (φ₂ := .f32) dot_S8192x1024_S1024x1024_S8192x1024_1_0_0_1_n_n none (addf (F := Ideal) (φ := .f32) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x3 bitsLt_bf16_f32))))) (extf (F := Ideal) .f32 x1 bitsLt_bf16_f32)) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x4 bitsLt_bf16_f32))))) (extf (F := Ideal) .f32 x2 bitsLt_bf16_f32))) (extf (F := Ideal) .f32 x5 bitsLt_bf16_f32)) bitsLt_bf16_f32

theorem hostMix_at (x1 : Vec Ideal S8192x1024 .bf16) (x2 : Vec Ideal S8192x1024 .bf16) (x3 : Vec Ideal S8192x1024 .bf16) (x4 : Vec Ideal S8192x1024 .bf16) (x5 : Vec Ideal S1024x1024 .bf16) (r : Fin 8192) (k : Fin 1024) : hostMix x1 x2 x3 x4 x5 (ix2 r k) = mix x1 x2 x3 x4 x5 r k := by
  unfold hostMix
  pointwise []
  unfold mix merged
  simp only [Sig.host_eq]

variable (m : (ℓ : Loc nD τ sig) → Buf (Elt Ideal) ℓ)

theorem V_mix (c : Dev nD) : V m c main_v21 = hostMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps0 (fun b => m (c, b)) main_v21 = _
  unfold hostMix
  after_results_simp <;> (try dsimp only [Matrix.cons_val]) <;> (try after_results_simp) <;> rfl

/-- The projection the kernel reads. -/
abbrev mixOf (c : Dev nD) : Fin 8192 → Fin 1024 → EReal := mix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The array row of row `k` of point `t`'s block. -/
abbrev row (t : Fin cfg0.N) (k : Fin 512) : Fin 8192 := ⟨t.val * 512 + k.val, by have := t.isLt; have : cfg0.N = 16 := N_0; omega⟩

theorem blk0 (c : Dev nD) (t : Fin cfg0.N) (k : Fin 512) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk2 (c : Dev nD) (t : Fin cfg0.N) (k : Fin 512) (i : Fin 1024) : iblk m c 2 t (ix2 k i) = m ((c.tc : Thread nD τ).loc main_arg1) (ix2 (row t k) i) := by
  have e : ∀ t : Fin cfg0.N, win0_2.index t = ![t.val, 0] := (by decide +kernel : ∀ t : Fin grid0.N, _)
  blk_ext [row, Gen.iblk, Gen.V, e t]

theorem blk3 (c : Dev nD) (t : Fin cfg0.N) (k : Fin 512) (i : Fin 1024) : iblk m c 3 t (ix2 k i) = m ((c.tc : Thread nD τ).loc main_arg2) (ix2 (row t k) i) := by
  have e : ∀ t : Fin cfg0.N, win0_3.index t = ![t.val, 0] := (by decide +kernel : ∀ t : Fin grid0.N, _)
  blk_ext [row, Gen.iblk, Gen.V, e t]

theorem blk4 (c : Dev nD) (t : Fin cfg0.N) (k : Fin 512) (i : Fin 1024) : iblk m c 4 t (ix2 k i) = m ((c.tc : Thread nD τ).loc main_arg3) (ix2 (row t k) i) := by
  have e : ∀ t : Fin cfg0.N, win0_4.index t = ![t.val, 0] := (by decide +kernel : ∀ t : Fin grid0.N, _)
  blk_ext [row, Gen.iblk, Gen.V, e t]

theorem blk5 (c : Dev nD) (t : Fin cfg0.N) (k : Fin 512) (i : Fin 1024) : iblk m c 5 t (ix2 k i) = m ((c.tc : Thread nD τ).loc main_arg4) (ix2 (row t k) i) := by
  have e : ∀ t : Fin cfg0.N, win0_5.index t = ![t.val, 0] := (by decide +kernel : ∀ t : Fin grid0.N, _)
  blk_ext [row, Gen.iblk, Gen.V, e t]

theorem blk6 (c : Dev nD) (t : Fin cfg0.N) (k : Fin 1024) (i : Fin 1024) : iblk m c 6 t (ix2 k i) = m ((c.tc : Thread nD τ).loc main_arg5) (ix2 k i) := by
  have e : ∀ t : Fin cfg0.N, win0_6.index t = ![0, 0] := (by decide +kernel : ∀ t : Fin grid0.N, _)
  blk_ext [Gen.iblk, Gen.V, e t]

theorem blk7 (c : Dev nD) (t : Fin cfg0.N) (i : Fin 1024) : iblk m c 7 t (ix2 0 i) = m ((c.tc : Thread nD τ).loc main_arg6) (ix2 0 i) := by
  have e : ∀ t : Fin cfg0.N, win0_7.index t = ![0, 0] := (by decide +kernel : ∀ t : Fin grid0.N, _)
  blk_ext [Gen.iblk, Gen.V, e t]

theorem blk1 (c : Dev nD) (t : Fin cfg0.N) (k : Fin 512) (i : Fin 1024) : iblk m c 1 t (ix2 k i) = mixOf m c (row t k) i := by
  have e : ∀ t : Fin cfg0.N, win0_1.index t = ![t.val, 0] := (by decide +kernel : ∀ t : Fin grid0.N, _)
  refine Eq.trans ?_ ((congrFun (V_mix m c) (ix2 (row t k) i)).trans (hostMix_at _ _ _ _ _ _ _))
  blk_ext [row, Gen.iblk, e t]

theorem pay_scale (c : Dev nD) (t : Fin cfg0.N) (i : Fin 512) : k0_pay11 (iblk m c 1 t) (ix2 i 0) = scale (mixOf m c) (row t i) := by
  pointwise [k0_pay11, k0_pay6]
  unfold scale Rms.square
  simp only [blk1]

theorem pay_norm (c : Dev nD) (t : Fin cfg0.N) (i : Fin 512) (k : Fin 1024) : k0_pay12 (iblk m c 1 t) (ix2 i k) = mixOf m c (row t i) k * scale (mixOf m c) (row t i) := by
  pointwise [k0_pay12, k0_pay6]
  rw [pay_scale, blk1]

theorem pay_dmix (c : Dev nD) (t : Fin cfg0.N) (i : Fin 512) (k : Fin 1024) : (k0_pay13 (iblk m c 0 t) (iblk m c 1 t) (iblk m c 7 t)) (ix2 i k) = dmix (mixOf m c) (m ((c.tc : Thread nD τ).loc main_arg0)) (m ((c.tc : Thread nD τ).loc main_arg6)) (row t i) k := by
  pointwise [k0_pay13]
  unfold dmix grad
  simp only [pay_norm, pay_scale, blk0, blk7]

theorem pay_back (c : Dev nD) (t : Fin cfg0.N) (i : Fin 512) (k : Fin 1024) : k0_pay17 (iblk m c 6 t) (k0_pay13 (iblk m c 0 t) (iblk m c 1 t) (iblk m c 7 t)) (ix2 i k) = back (mixOf m c) (m ((c.tc : Thread nD τ).loc main_arg0)) (m ((c.tc : Thread nD τ).loc main_arg5)) (m ((c.tc : Thread nD τ).loc main_arg6)) (row t i) k := by
  pointwise [k0_pay17]
  unfold back
  simp only [pay_dmix, blk6]

theorem pay_gs (c : Dev nD) (t : Fin cfg0.N) (i : Fin 512) (k : Fin 1024) : k0_pay15 (k0_pay9 (iblk m c 4 t)) k0_pay14 (ix2 i k) = Ideal.logistic ((m ((c.tc : Thread nD τ).loc main_arg3)) (ix2 (row t i) k)) := by
  pointwise [k0_pay15, k0_pay9, k0_pay14]
  simp only [Sig.sigmoid_eq, blk4]

theorem pay_gl (c : Dev nD) (t : Fin cfg0.N) (i : Fin 512) (k : Fin 1024) : k0_pay16 (k0_pay10 (iblk m c 5 t)) (ix2 i k) = Ideal.logistic ((m ((c.tc : Thread nD τ).loc main_arg4)) (ix2 (row t i) k)) := by
  pointwise [k0_pay16, k0_pay10]
  simp only [Sig.sigmoid_eq, blk5]

theorem pay_8 (c : Dev nD) (t : Fin cfg0.N) (i : Fin 512) (j : Fin 1024) : (k0_pay21 (k0_pay9 (iblk m c 4 t)) (iblk m c 6 t) (k0_pay13 (iblk m c 0 t) (iblk m c 1 t) (iblk m c 7 t)) k0_pay14) (ix2 i j) = gradZ (mixOf m c) (m ((c.tc : Thread nD τ).loc main_arg3)) (m ((c.tc : Thread nD τ).loc main_arg0)) (m ((c.tc : Thread nD τ).loc main_arg5)) (m ((c.tc : Thread nD τ).loc main_arg6)) (row t i) j := by
  pointwise [k0_pay21]
  unfold gradZ
  simp only [pay_back, pay_gs]

theorem pay_9 (c : Dev nD) (t : Fin cfg0.N) (i : Fin 512) (j : Fin 1024) : (k0_pay22 (k0_pay10 (iblk m c 5 t)) (iblk m c 6 t) (k0_pay13 (iblk m c 0 t) (iblk m c 1 t) (iblk m c 7 t))) (ix2 i j) = gradZ (mixOf m c) (m ((c.tc : Thread nD τ).loc main_arg4)) (m ((c.tc : Thread nD τ).loc main_arg0)) (m ((c.tc : Thread nD τ).loc main_arg5)) (m ((c.tc : Thread nD τ).loc main_arg6)) (row t i) j := by
  pointwise [k0_pay22]
  unfold gradZ
  simp only [pay_back, pay_gl]

theorem pay_10 (c : Dev nD) (t : Fin cfg0.N) (i : Fin 512) (j : Fin 1024) : (k0_pay23 (k0_pay7 (iblk m c 2 t)) (k0_pay9 (iblk m c 4 t)) (iblk m c 6 t) (k0_pay13 (iblk m c 0 t) (iblk m c 1 t) (iblk m c 7 t)) k0_pay14) (ix2 i j) = gradS (mixOf m c) (m ((c.tc : Thread nD τ).loc main_arg1)) (m ((c.tc : Thread nD τ).loc main_arg3)) (m ((c.tc : Thread nD τ).loc main_arg0)) (m ((c.tc : Thread nD τ).loc main_arg5)) (m ((c.tc : Thread nD τ).loc main_arg6)) (row t i) j := by
  pointwise [k0_pay23, k0_pay7]
  unfold gradS
  simp only [pay_back, pay_gs, blk2]

theorem pay_11 (c : Dev nD) (t : Fin cfg0.N) (i : Fin 512) (j : Fin 1024) : (k0_pay1 (k0_pay18 (k0_pay8 (iblk m c 3 t)) (k0_pay10 (iblk m c 5 t)) (iblk m c 6 t) (k0_pay13 (iblk m c 0 t) (iblk m c 1 t) (iblk m c 7 t)))) (ix2 i j) = gradS (mixOf m c) (m ((c.tc : Thread nD τ).loc main_arg2)) (m ((c.tc : Thread nD τ).loc main_arg4)) (m ((c.tc : Thread nD τ).loc main_arg0)) (m ((c.tc : Thread nD τ).loc main_arg5)) (m ((c.tc : Thread nD τ).loc main_arg6)) (row t i) j := by
  pointwise [k0_pay1, k0_pay18, k0_pay8]
  unfold gradS
  simp only [pay_back, pay_gl, blk3]

theorem pay_12 (c : Dev nD) (t : Fin cfg0.N) (i j : Fin 1024) : (k0_pay19 (k0_pay7 (iblk m c 2 t)) (k0_pay8 (iblk m c 3 t)) (k0_pay9 (iblk m c 4 t)) (k0_pay10 (iblk m c 5 t)) (k0_pay13 (iblk m c 0 t) (iblk m c 1 t) (iblk m c 7 t)) k0_pay14) (ix2 i j) = ∑ k : Fin 512, termW (mixOf m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) i j (row t k) := by
  pointwise [k0_pay19, k0_pay7, k0_pay8]
  unfold termW merged
  simp only [pay_gs, pay_gl, pay_dmix, blk2, blk3]

theorem pay_13 (c : Dev nD) (t : Fin cfg0.N) (i : Fin 1) (j : Fin 1024) : (k0_pay20 (iblk m c 0 t) (k0_pay12 (iblk m c 1 t))) (ix2 i j) = ∑ k : Fin 512, termG (mixOf m c) (m ((c.tc : Thread nD τ).loc main_arg0)) j (row t k) := by
  pointwise [k0_pay20]
  unfold termG
  simp only [pay_norm, blk0]

theorem out8 (c : Dev nD) (t : Fin cfg0.N) : (outsAt0 m c t.val t.isLt).1 = k0_pay21 (k0_pay9 (iblk m c 4 t)) (iblk m c 6 t) (k0_pay13 (iblk m c 0 t) (iblk m c 1 t) (iblk m c 7 t)) k0_pay14 := by
  by_cases h : t.val % 16 = 0
  · rw [outsAt0_A m c t h h]
    frame_out
  · rw [outsAt0_B m c t h h]
    frame_out

theorem emb_row8 (t : Fin cfg0.N) (y0 : Fin 512) (y1 : Fin 1024) : ((View.whole main_v22_0).slice (win0_8.rect t)).emb (ix2 y0 y1) 0 = row t y0 := by
  have e : ∀ t : Fin cfg0.N, win0_8.index t = ![t.val, 0] := (by decide +kernel : ∀ t : Fin grid0.N, _)
  apply Fin.ext
  show win0_8.index t (0 : Fin 2) * 512 + 1 * y0.val = t.val * 512 + y0.val
  rw [e t]
  show t.val * 512 + 1 * y0.val = t.val * 512 + y0.val
  rw [Nat.one_mul]

theorem emb_col8 (t : Fin cfg0.N) (y0 : Fin 512) (y1 : Fin 1024) : ((View.whole main_v22_0).slice (win0_8.rect t)).emb (ix2 y0 y1) 1 = y1 := by
  have e : ∀ t : Fin cfg0.N, win0_8.index t = ![t.val, 0] := (by decide +kernel : ∀ t : Fin grid0.N, _)
  apply Fin.ext
  show win0_8.index t (1 : Fin 2) * 1024 + 1 * y1.val = y1.val
  rw [e t]
  show 0 * 1024 + 1 * y1.val = y1.val
  omega

theorem final8 (c : Dev nD) : (dats m 0 c).arrAt 8 cfg0.N = (fun y : S8192x1024.Idx => gradZ (mixOf m c) (m ((c.tc : Thread nD τ).loc main_arg3)) (m ((c.tc : Thread nD τ).loc main_arg0)) (m ((c.tc : Thread nD τ).loc main_arg5)) (m ((c.tc : Thread nD τ).loc main_arg6)) (y 0) (y 1)) := by
  refine (dats m 0 c).arrAt_eq_of_covers 8 _ (by decide +kernel) fun t hf y => ?_
  have e : ∀ t : Fin cfg0.N, win0_8.index t = ![t.val, 0] := (by decide +kernel : ∀ t : Fin grid0.N, _)
  blk_simp [e t]
  rw [after0_8]; rw [show (outsAt0 m c t.val t.isLt).1 = k0_pay21 (k0_pay9 (iblk m c 4 t)) (iblk m c 6 t) (k0_pay13 (iblk m c 0 t) (iblk m c 1 t) (iblk m c 7 t)) k0_pay14 from out8 m c t]
  change S512x1024.Idx at y
  idx_vars y
  rw [pay_8, emb_row8, emb_col8]

theorem out9 (c : Dev nD) (t : Fin cfg0.N) : (outsAt0 m c t.val t.isLt).2.1 = k0_pay22 (k0_pay10 (iblk m c 5 t)) (iblk m c 6 t) (k0_pay13 (iblk m c 0 t) (iblk m c 1 t) (iblk m c 7 t)) := by
  by_cases h : t.val % 16 = 0
  · rw [outsAt0_A m c t h h]
    frame_out
  · rw [outsAt0_B m c t h h]
    frame_out

theorem emb_row9 (t : Fin cfg0.N) (y0 : Fin 512) (y1 : Fin 1024) : ((View.whole main_v22_1).slice (win0_9.rect t)).emb (ix2 y0 y1) 0 = row t y0 := by
  have e : ∀ t : Fin cfg0.N, win0_9.index t = ![t.val, 0] := (by decide +kernel : ∀ t : Fin grid0.N, _)
  apply Fin.ext
  show win0_9.index t (0 : Fin 2) * 512 + 1 * y0.val = t.val * 512 + y0.val
  rw [e t]
  show t.val * 512 + 1 * y0.val = t.val * 512 + y0.val
  rw [Nat.one_mul]

theorem emb_col9 (t : Fin cfg0.N) (y0 : Fin 512) (y1 : Fin 1024) : ((View.whole main_v22_1).slice (win0_9.rect t)).emb (ix2 y0 y1) 1 = y1 := by
  have e : ∀ t : Fin cfg0.N, win0_9.index t = ![t.val, 0] := (by decide +kernel : ∀ t : Fin grid0.N, _)
  apply Fin.ext
  show win0_9.index t (1 : Fin 2) * 1024 + 1 * y1.val = y1.val
  rw [e t]
  show 0 * 1024 + 1 * y1.val = y1.val
  omega

theorem final9 (c : Dev nD) : (dats m 0 c).arrAt 9 cfg0.N = (fun y : S8192x1024.Idx => gradZ (mixOf m c) (m ((c.tc : Thread nD τ).loc main_arg4)) (m ((c.tc : Thread nD τ).loc main_arg0)) (m ((c.tc : Thread nD τ).loc main_arg5)) (m ((c.tc : Thread nD τ).loc main_arg6)) (y 0) (y 1)) := by
  refine (dats m 0 c).arrAt_eq_of_covers 9 _ (by decide +kernel) fun t hf y => ?_
  have e : ∀ t : Fin cfg0.N, win0_9.index t = ![t.val, 0] := (by decide +kernel : ∀ t : Fin grid0.N, _)
  blk_simp [e t]
  rw [after0_9]; rw [show (outsAt0 m c t.val t.isLt).2.1 = k0_pay22 (k0_pay10 (iblk m c 5 t)) (iblk m c 6 t) (k0_pay13 (iblk m c 0 t) (iblk m c 1 t) (iblk m c 7 t)) from out9 m c t]
  change S512x1024.Idx at y
  idx_vars y
  rw [pay_9, emb_row9, emb_col9]

theorem out10 (c : Dev nD) (t : Fin cfg0.N) : (outsAt0 m c t.val t.isLt).2.2.1 = k0_pay23 (k0_pay7 (iblk m c 2 t)) (k0_pay9 (iblk m c 4 t)) (iblk m c 6 t) (k0_pay13 (iblk m c 0 t) (iblk m c 1 t) (iblk m c 7 t)) k0_pay14 := by
  by_cases h : t.val % 16 = 0
  · rw [outsAt0_A m c t h h]
    frame_out
  · rw [outsAt0_B m c t h h]
    frame_out

theorem emb_row10 (t : Fin cfg0.N) (y0 : Fin 512) (y1 : Fin 1024) : ((View.whole main_v22_2).slice (win0_10.rect t)).emb (ix2 y0 y1) 0 = row t y0 := by
  have e : ∀ t : Fin cfg0.N, win0_10.index t = ![t.val, 0] := (by decide +kernel : ∀ t : Fin grid0.N, _)
  apply Fin.ext
  show win0_10.index t (0 : Fin 2) * 512 + 1 * y0.val = t.val * 512 + y0.val
  rw [e t]
  show t.val * 512 + 1 * y0.val = t.val * 512 + y0.val
  rw [Nat.one_mul]

theorem emb_col10 (t : Fin cfg0.N) (y0 : Fin 512) (y1 : Fin 1024) : ((View.whole main_v22_2).slice (win0_10.rect t)).emb (ix2 y0 y1) 1 = y1 := by
  have e : ∀ t : Fin cfg0.N, win0_10.index t = ![t.val, 0] := (by decide +kernel : ∀ t : Fin grid0.N, _)
  apply Fin.ext
  show win0_10.index t (1 : Fin 2) * 1024 + 1 * y1.val = y1.val
  rw [e t]
  show 0 * 1024 + 1 * y1.val = y1.val
  omega

theorem final10 (c : Dev nD) : (dats m 0 c).arrAt 10 cfg0.N = (fun y : S8192x1024.Idx => gradS (mixOf m c) (m ((c.tc : Thread nD τ).loc main_arg1)) (m ((c.tc : Thread nD τ).loc main_arg3)) (m ((c.tc : Thread nD τ).loc main_arg0)) (m ((c.tc : Thread nD τ).loc main_arg5)) (m ((c.tc : Thread nD τ).loc main_arg6)) (y 0) (y 1)) := by
  refine (dats m 0 c).arrAt_eq_of_covers 10 _ (by decide +kernel) fun t hf y => ?_
  have e : ∀ t : Fin cfg0.N, win0_10.index t = ![t.val, 0] := (by decide +kernel : ∀ t : Fin grid0.N, _)
  blk_simp [e t]
  rw [after0_10]; rw [show (outsAt0 m c t.val t.isLt).2.2.1 = k0_pay23 (k0_pay7 (iblk m c 2 t)) (k0_pay9 (iblk m c 4 t)) (iblk m c 6 t) (k0_pay13 (iblk m c 0 t) (iblk m c 1 t) (iblk m c 7 t)) k0_pay14 from out10 m c t]
  change S512x1024.Idx at y
  idx_vars y
  rw [pay_10, emb_row10, emb_col10]

theorem out11 (c : Dev nD) (t : Fin cfg0.N) : (outsAt0 m c t.val t.isLt).2.2.2.1 = k0_pay1 (k0_pay18 (k0_pay8 (iblk m c 3 t)) (k0_pay10 (iblk m c 5 t)) (iblk m c 6 t) (k0_pay13 (iblk m c 0 t) (iblk m c 1 t) (iblk m c 7 t))) := by
  by_cases h : t.val % 16 = 0
  · rw [outsAt0_A m c t h h]
    frame_out
  · rw [outsAt0_B m c t h h]
    frame_out

theorem emb_row11 (t : Fin cfg0.N) (y0 : Fin 512) (y1 : Fin 1024) : ((View.whole main_v22_3).slice (win0_11.rect t)).emb (ix2 y0 y1) 0 = row t y0 := by
  have e : ∀ t : Fin cfg0.N, win0_11.index t = ![t.val, 0] := (by decide +kernel : ∀ t : Fin grid0.N, _)
  apply Fin.ext
  show win0_11.index t (0 : Fin 2) * 512 + 1 * y0.val = t.val * 512 + y0.val
  rw [e t]
  show t.val * 512 + 1 * y0.val = t.val * 512 + y0.val
  rw [Nat.one_mul]

theorem emb_col11 (t : Fin cfg0.N) (y0 : Fin 512) (y1 : Fin 1024) : ((View.whole main_v22_3).slice (win0_11.rect t)).emb (ix2 y0 y1) 1 = y1 := by
  have e : ∀ t : Fin cfg0.N, win0_11.index t = ![t.val, 0] := (by decide +kernel : ∀ t : Fin grid0.N, _)
  apply Fin.ext
  show win0_11.index t (1 : Fin 2) * 1024 + 1 * y1.val = y1.val
  rw [e t]
  show 0 * 1024 + 1 * y1.val = y1.val
  omega

theorem final11 (c : Dev nD) : (dats m 0 c).arrAt 11 cfg0.N = (fun y : S8192x1024.Idx => gradS (mixOf m c) (m ((c.tc : Thread nD τ).loc main_arg2)) (m ((c.tc : Thread nD τ).loc main_arg4)) (m ((c.tc : Thread nD τ).loc main_arg0)) (m ((c.tc : Thread nD τ).loc main_arg5)) (m ((c.tc : Thread nD τ).loc main_arg6)) (y 0) (y 1)) := by
  refine (dats m 0 c).arrAt_eq_of_covers 11 _ (by decide +kernel) fun t hf y => ?_
  have e : ∀ t : Fin cfg0.N, win0_11.index t = ![t.val, 0] := (by decide +kernel : ∀ t : Fin grid0.N, _)
  blk_simp [e t]
  rw [after0_11]; rw [show (outsAt0 m c t.val t.isLt).2.2.2.1 = k0_pay1 (k0_pay18 (k0_pay8 (iblk m c 3 t)) (k0_pay10 (iblk m c 5 t)) (iblk m c 6 t) (k0_pay13 (iblk m c 0 t) (iblk m c 1 t) (iblk m c 7 t))) from out11 m c t]
  change S512x1024.Idx at y
  idx_vars y
  rw [pay_11, emb_row11, emb_col11]

theorem first12 (c : Dev nD) (t : Fin cfg0.N) (h : t.val % 16 = 0) (y : S1024x1024.Idx) : @Eq EReal ((outsAt0 m c t.val t.isLt).2.2.2.2.1 y) (0 + (k0_pay19 (k0_pay7 (iblk m c 2 t)) (k0_pay8 (iblk m c 3 t)) (k0_pay9 (iblk m c 4 t)) (k0_pay10 (iblk m c 5 t)) (k0_pay13 (iblk m c 0 t) (iblk m c 1 t) (iblk m c 7 t)) k0_pay14) y) := by
  rw [outsAt0_A m c t h h]
  frame_out
  rw [stepW, zeroW]

theorem next12 (c : Dev nD) (t : Fin cfg0.N) (h : ¬t.val % 16 = 0) (y : S1024x1024.Idx) :
    @Eq EReal ((outsAt0 m c t.val t.isLt).2.2.2.2.1 y) (@HAdd.hAdd EReal EReal EReal _ ((outsAt0 m c (t.val - 1) (Nat.lt_of_le_of_lt (Nat.sub_le _ _) t.isLt)).2.2.2.2.1 y) ((k0_pay19 (k0_pay7 (iblk m c 2 t)) (k0_pay8 (iblk m c 3 t)) (k0_pay9 (iblk m c 4 t)) (k0_pay10 (iblk m c 5 t)) (k0_pay13 (iblk m c 0 t) (iblk m c 1 t) (iblk m c 7 t)) k0_pay14) y)) := by
  rw [outsAt0_B m c t h h]
  frame_out
  rw [stepW]

theorem acc12 (c : Dev nD) (y : S1024x1024.Idx) : @Eq EReal ((outsAt0 m c t0_15.val t0_15.isLt).2.2.2.2.1 y) (∑ t : Fin cfg0.N, ((k0_pay19 (k0_pay7 (iblk m c 2 t)) (k0_pay8 (iblk m c 3 t)) (k0_pay9 (iblk m c 4 t)) (k0_pay10 (iblk m c 5 t)) (k0_pay13 (iblk m c 0 t) (iblk m c 1 t) (iblk m c 7 t)) k0_pay14) y : EReal)) := by
  have u := Pipeline.eq_sum_fin_of_reset_step_apply_last (M := EReal) (fun n h => (outsAt0 m c n h).2.2.2.2.1) 16 (fun _ => (0 : EReal)) (fun t y => (k0_pay19 (k0_pay7 (iblk m c 2 t)) (k0_pay8 (iblk m c 3 t)) (k0_pay9 (iblk m c 4 t)) (k0_pay10 (iblk m c 5 t)) (k0_pay13 (iblk m c 0 t) (iblk m c 1 t) (iblk m c 7 t)) k0_pay14) y) (first12 m c) (next12 m c) (le_of_eq N_0) t0_15 N_0.symm y
  rw [zero_add] at u
  exact u

theorem final12 (c : Dev nD) : (dats m 0 c).arrAt 12 cfg0.N = (fun y : S1024x1024.Idx => gradW (mixOf m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (y 0) (y 1)) := by
  refine (dats m 0 c).arrAt_eq_of_after_last 12 t0_15 (by decide +kernel) _ fun y => ?_
  blk_simp
  rw [after0_12]
  change S1024x1024.Idx at y
  idx_vars y
  refine (acc12 m c (ix2 y0 y1)).trans ?_
  refine (Fin.sum_fin_congr fun t => pay_12 m c t y0 y1).trans ?_
  exact Fin.sum_mul_add_congr (S := cfg0.N) (n := 512) (fun s k hl => rfl) (by rw [show cfg0.N = 16 from N_0])

theorem first13 (c : Dev nD) (t : Fin cfg0.N) (h : t.val % 16 = 0) (y : S1x1024.Idx) : @Eq EReal ((outsAt0 m c t.val t.isLt).2.2.2.2.2 y) (0 + (k0_pay20 (iblk m c 0 t) (k0_pay12 (iblk m c 1 t))) y) := by
  rw [outsAt0_A m c t h h]
  frame_out
  rw [stepG, zeroG]

theorem next13 (c : Dev nD) (t : Fin cfg0.N) (h : ¬t.val % 16 = 0) (y : S1x1024.Idx) :
    @Eq EReal ((outsAt0 m c t.val t.isLt).2.2.2.2.2 y) (@HAdd.hAdd EReal EReal EReal _ ((outsAt0 m c (t.val - 1) (Nat.lt_of_le_of_lt (Nat.sub_le _ _) t.isLt)).2.2.2.2.2 y) ((k0_pay20 (iblk m c 0 t) (k0_pay12 (iblk m c 1 t))) y)) := by
  rw [outsAt0_B m c t h h]
  frame_out
  rw [stepG]

theorem acc13 (c : Dev nD) (y : S1x1024.Idx) : @Eq EReal ((outsAt0 m c t0_15.val t0_15.isLt).2.2.2.2.2 y) (∑ t : Fin cfg0.N, ((k0_pay20 (iblk m c 0 t) (k0_pay12 (iblk m c 1 t))) y : EReal)) := by
  have u := Pipeline.eq_sum_fin_of_reset_step_apply_last (M := EReal) (fun n h => (outsAt0 m c n h).2.2.2.2.2) 16 (fun _ => (0 : EReal)) (fun t y => (k0_pay20 (iblk m c 0 t) (k0_pay12 (iblk m c 1 t))) y) (first13 m c) (next13 m c) (le_of_eq N_0) t0_15 N_0.symm y
  rw [zero_add] at u
  exact u

theorem final13 (c : Dev nD) : (dats m 0 c).arrAt 13 cfg0.N = (fun y : S1x1024.Idx => gradG (mixOf m c) (m ((c.tc : Thread nD τ).loc main_arg0)) (y 0) (y 1)) := by
  refine (dats m 0 c).arrAt_eq_of_after_last 13 t0_15 (by decide +kernel) _ fun y => ?_
  blk_simp
  rw [after0_13]
  change S1x1024.Idx at y
  idx_vars y
  refine (acc13 m c (ix2 y0 y1)).trans ?_
  refine (Fin.sum_fin_congr fun t => pay_13 m c t y0 y1).trans ?_
  exact Fin.sum_mul_add_congr (S := cfg0.N) (n := 512) (fun s k hl => rfl) (by rw [show cfg0.N = 16 from N_0])

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v22_0) = (fun y : S8192x1024.Idx => gradZ (mixOf m c) (m ((c.tc : Thread nD τ).loc main_arg3)) (m ((c.tc : Thread nD τ).loc main_arg0)) (m ((c.tc : Thread nD τ).loc main_arg5)) (m ((c.tc : Thread nD τ).loc main_arg6)) (y 0) (y 1))
      ∧ r.2.mem ((c.tc : Thread nD τ).loc main_v22_1) = (fun y : S8192x1024.Idx => gradZ (mixOf m c) (m ((c.tc : Thread nD τ).loc main_arg4)) (m ((c.tc : Thread nD τ).loc main_arg0)) (m ((c.tc : Thread nD τ).loc main_arg5)) (m ((c.tc : Thread nD τ).loc main_arg6)) (y 0) (y 1))
      ∧ r.2.mem ((c.tc : Thread nD τ).loc main_v22_2) = (fun y : S8192x1024.Idx => gradS (mixOf m c) (m ((c.tc : Thread nD τ).loc main_arg1)) (m ((c.tc : Thread nD τ).loc main_arg3)) (m ((c.tc : Thread nD τ).loc main_arg0)) (m ((c.tc : Thread nD τ).loc main_arg5)) (m ((c.tc : Thread nD τ).loc main_arg6)) (y 0) (y 1))
      ∧ r.2.mem ((c.tc : Thread nD τ).loc main_v22_3) = (fun y : S8192x1024.Idx => gradS (mixOf m c) (m ((c.tc : Thread nD τ).loc main_arg2)) (m ((c.tc : Thread nD τ).loc main_arg4)) (m ((c.tc : Thread nD τ).loc main_arg0)) (m ((c.tc : Thread nD τ).loc main_arg5)) (m ((c.tc : Thread nD τ).loc main_arg6)) (y 0) (y 1))
      ∧ r.2.mem ((c.tc : Thread nD τ).loc main_v22_4) = (fun y : S1024x1024.Idx => gradW (mixOf m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (y 0) (y 1))
      ∧ r.2.mem ((c.tc : Thread nD τ).loc main_v22_5) = (fun y : S1x1024.Idx => gradG (mixOf m c) (m ((c.tc : Thread nD τ).loc main_arg0)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2⟩) (Value.run_blocks m ρ)

end Cert.Merge9

end
-- ==== Proof.Merge9Ref.lean ====
module

public import proofs.«01_k».proof.Proof.Merge9
public import proofs.«01_k».proof.Proof.Gen.Pre_finite9
public import proofs.«01_k».proof.Defs
public import proofs.«01_k».proof.Proof.Gen.Kernel9.Frame
public import proofs.«01_k».proof.Proof.Gen.Reference9Ideal.Run
public import Idealize.ShloMosaic.Lib.Quiescent
public import Idealize.ShloMosaic.Lib.Pointwise

/-! The reference of the merge's gradients, read at an entry; kernel and reference agree where the branches, the weights, the scale and the cotangent are finite. -/

@[expose] public section

noncomputable section

namespace Cert.Merge9

open Idealize.ShloMosaic Idealize.ShloMosaic.TcCoe Idealize.SL.Sem
open Cert.Reference9Ideal Cert.Reference9Ideal.Gen

set_option maxRecDepth 16384

section

variable (m' : (ℓ : Loc nD τ sig) → Buf (Elt Ideal) ℓ) (c : Dev nD)

abbrev b0 := m' ((c.tc : Thread nD τ).loc main_arg0)
abbrev b1 := m' ((c.tc : Thread nD τ).loc main_arg1)
abbrev b2 := m' ((c.tc : Thread nD τ).loc main_arg2)
abbrev b3 := m' ((c.tc : Thread nD τ).loc main_arg3)
abbrev b4 := m' ((c.tc : Thread nD τ).loc main_arg4)
abbrev b5 := m' ((c.tc : Thread nD τ).loc main_arg5)
abbrev b6 := m' ((c.tc : Thread nD τ).loc main_arg6)

end

/-- The reference's projection. -/
def mixR (x1 : Vec Ideal S8192x1024 .bf16) (x2 : Vec Ideal S8192x1024 .bf16) (x3 : Vec Ideal S8192x1024 .bf16) (x4 : Vec Ideal S8192x1024 .bf16) (x5 : Vec Ideal S1024x1024 .bf16) : Vec Ideal S8192x1024 .f32 :=
  (Host.dotGeneral (F := Ideal) (φ₁ := .f32) (φ₂ := .f32) dot_S8192x1024_S1024x1024_S8192x1024_1_0_0_1_n_n none (addf (F := Ideal) (φ := .f32) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x3 bitsLt_bf16_f32))))) (extf (F := Ideal) .f32 x1 bitsLt_bf16_f32)) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x4 bitsLt_bf16_f32))))) (extf (F := Ideal) .f32 x2 bitsLt_bf16_f32))) (extf (F := Ideal) .f32 x5 bitsLt_bf16_f32))

/-- The reference's mean square. -/
def squareR (u : Vec Ideal S8192x1024 .f32) : Vec Ideal S8192x1 .f32 :=
  (addf (F := Ideal) (φ := .f32) (Host.divf (F := Ideal) (φ := .f32) (broadcastInDim S8192x1 ![0] bcast_S8192_S8192x1_0 (Host.reduceAdd (mulf (F := Ideal) (φ := .f32) u u) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))

/-- The reference's inverse root. -/
def rootR (u : Vec Ideal S8192x1024 .f32) : Vec Ideal S8192x1 .f32 :=
  (Host.rsqrt (F := Ideal) (φ := .f32) (squareR u))

/-- What the reference carries back through the mean square. -/
def carriedR (u : Vec Ideal S8192x1024 .f32) (x0 : Vec Ideal S8192x1024 .f32) (x6 : Vec Ideal S1x1024 .f32) : Vec Ideal S8192 .f32 :=
  (Host.reduceAdd (Host.divf (F := Ideal) (φ := .f32) (mulf (F := Ideal) (φ := .f32) (shapeCast _ (Host.reduceAdd (mulf (F := Ideal) (φ := .f32) u (mulf (F := Ideal) (φ := .f32) x0 (broadcastInDim S8192x1024 ![0, 1] bcast_S1x1024_S8192x1024_0_1 x6))) (constant (F := Ideal) S_ .f32 0x00000000#32) reducesTo_S8192x1024_S8192_d1 h_S_) shapeCasts_S8192_S8192x1) (mulf (F := Ideal) (φ := .f32) (broadcastInDim S8192x1 ![] bcast_S_S8192x1 (constant (F := Ideal) S_ .f32 0xBF000000#32)) (Host.divf (F := Ideal) (φ := .f32) (rootR u) (squareR u)))) (broadcastInDim S8192x1 ![] bcast_S_S8192x1 (constant (F := Ideal) S_ .f32 0x44800000#32))) (constant (F := Ideal) S_ .f32 0x00000000#32) reducesTo_S8192x1_S8192_d1 h_S_)

/-- The reference's cotangent of the projection. -/
def dmixR (u : Vec Ideal S8192x1024 .f32) (x0 : Vec Ideal S8192x1024 .f32) (x6 : Vec Ideal S1x1024 .f32) : Vec Ideal S8192x1024 .f32 :=
  (addf (F := Ideal) (φ := .f32) (addf (F := Ideal) (φ := .f32) (mulf (F := Ideal) (φ := .f32) (mulf (F := Ideal) (φ := .f32) x0 (broadcastInDim S8192x1024 ![0, 1] bcast_S1x1024_S8192x1024_0_1 x6)) (broadcastInDim S8192x1024 ![0, 1] bcast_S8192x1_S8192x1024_0_1 (rootR u))) (mulf (F := Ideal) (φ := .f32) u (broadcastInDim S8192x1024 ![0] bcast_S8192_S8192x1024_0 (carriedR u x0 x6)))) (mulf (F := Ideal) (φ := .f32) (broadcastInDim S8192x1024 ![0] bcast_S8192_S8192x1024_0 (carriedR u x0 x6)) u))

/-- The reference's cotangent of the merged branches. -/
def backR (dm : Vec Ideal S8192x1024 .f32) (x5 : Vec Ideal S1024x1024 .bf16) : Vec Ideal S8192x1024 .f32 :=
  (Host.dotGeneral (F := Ideal) (φ₁ := .f32) (φ₂ := .f32) dot_S8192x1024_S1024x1024_S8192x1024_1_1_0_0_n_n none dm (extf (F := Ideal) .f32 x5 bitsLt_bf16_f32))

/-- The reference's weight gradient. -/
def weightR (dm : Vec Ideal S8192x1024 .f32) (x1 : Vec Ideal S8192x1024 .bf16) (x2 : Vec Ideal S8192x1024 .bf16) (x3 : Vec Ideal S8192x1024 .bf16) (x4 : Vec Ideal S8192x1024 .bf16) : Vec Ideal S1024x1024 .f32 :=
  transpose S1024x1024 [1, 0] (Host.dotGeneral (F := Ideal) (φ₁ := .f32) (φ₂ := .f32) dot_S8192x1024_S8192x1024_S1024x1024_0_0_1_1_n_n none dm (addf (F := Ideal) (φ := .f32) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x3 bitsLt_bf16_f32))))) (extf (F := Ideal) .f32 x1 bitsLt_bf16_f32)) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x4 bitsLt_bf16_f32))))) (extf (F := Ideal) .f32 x2 bitsLt_bf16_f32)))) transposes_S1024x1024_S1024x1024_1_0

/-- The reference's gradient of the scale. -/
def scaleR (u : Vec Ideal S8192x1024 .f32) (x0 : Vec Ideal S8192x1024 .f32) : Vec Ideal S1x1024 .f32 :=
  shapeCast _ (Host.reduceAdd (mulf (F := Ideal) (φ := .f32) (mulf (F := Ideal) (φ := .f32) u (broadcastInDim S8192x1024 ![0, 1] bcast_S8192x1_S8192x1024_0_1 (rootR u))) x0) (constant (F := Ideal) S_ .f32 0x00000000#32) reducesTo_S8192x1024_S1024_d0 h_S_) shapeCasts_S1024_S1x1024

/-- The reference's cotangent of a branch. -/
def branchR (db : Vec Ideal S8192x1024 .f32) (x3 : Vec Ideal S8192x1024 .bf16) : Vec Ideal S8192x1024 .bf16 :=
  truncf (F := Ideal) .bf16 (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x3 bitsLt_bf16_f32))))) db) bitsLt_bf16_f32

/-- The reference's cotangent of a gate. -/
def gateR (db : Vec Ideal S8192x1024 .f32) (x1 : Vec Ideal S8192x1024 .bf16) (x3 : Vec Ideal S8192x1024 .bf16) : Vec Ideal S8192x1024 .bf16 :=
  truncf (F := Ideal) .bf16 (mulf (F := Ideal) (φ := .f32) (mulf (F := Ideal) (φ := .f32) db (extf (F := Ideal) .f32 x1 bitsLt_bf16_f32)) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x3 bitsLt_bf16_f32))))) (subf (F := Ideal) (φ := .f32) (broadcastInDim S8192x1024 ![] bcast_S_S8192x1024 (constant (F := Ideal) S_ .f32 0x3F800000#32)) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 x3 bitsLt_bf16_f32)))))))) bitsLt_bf16_f32

theorem mixR_at (x1 : Vec Ideal S8192x1024 .bf16) (x2 : Vec Ideal S8192x1024 .bf16) (x3 : Vec Ideal S8192x1024 .bf16) (x4 : Vec Ideal S8192x1024 .bf16) (x5 : Vec Ideal S1024x1024 .bf16) (r : Fin 8192) (k : Fin 1024) : mixR x1 x2 x3 x4 x5 (ix2 r k) = mix x1 x2 x3 x4 x5 r k := by
  unfold mixR
  pointwise []
  unfold mix merged
  simp only [Sig.host_eq]

theorem squareR_at (u : Vec Ideal S8192x1024 .f32) (r : Fin 8192) : squareR u (ix2 r 0) = Rms.square fun k : Fin 1024 => u (ix2 r k) := by
  unfold squareR
  pointwise []
  rfl

theorem rootR_at (u : Vec Ideal S8192x1024 .f32) (r : Fin 8192) : rootR u (ix2 r 0) = scale (fun r k => u (ix2 r k)) r := by
  unfold rootR
  pointwise []
  rw [squareR_at]
  rfl

theorem carriedR_at (u : Vec Ideal S8192x1024 .f32) (x0 : Vec Ideal S8192x1024 .f32) (x6 : Vec Ideal S1x1024 .f32) (r : Fin 8192) : carriedR u x0 x6 (ix1 r) = Rms.carried (fun k : Fin 1024 => u (ix2 r k)) (grad x0 x6 r) := by
  unfold carriedR
  pointwise []
  rw [Fin.sum_univ_one, squareR_at, rootR_at]
  rfl

theorem dmixR_at (u : Vec Ideal S8192x1024 .f32) (x0 : Vec Ideal S8192x1024 .f32) (x6 : Vec Ideal S1x1024 .f32) (hu : ∀ r k, Reals.IsReal (u (ix2 r k))) (hd : ∀ r k, Reals.IsReal (grad x0 x6 r k)) (r : Fin 8192) (k : Fin 1024) :
    dmixR u x0 x6 (ix2 r k) = dmix (fun r k => u (ix2 r k)) x0 x6 r k := by
  have e := Rms.slope 0 (hu r) (hd r) k
  simp only [zero_add] at e
  refine Eq.trans ?_ e.symm
  unfold dmixR
  pointwise []
  rw [carriedR_at, rootR_at]
  rfl

theorem mix_real (x1 : Vec Ideal S8192x1024 .bf16) (x2 : Vec Ideal S8192x1024 .bf16) (x3 : Vec Ideal S8192x1024 .bf16) (x4 : Vec Ideal S8192x1024 .bf16) (x5 : Vec Ideal S1024x1024 .bf16) (h1 : ∀ r k, Reals.IsReal (x1 (ix2 r k))) (h2 : ∀ r k, Reals.IsReal (x2 (ix2 r k))) (h5 : ∀ r k, Reals.IsReal (x5 (ix2 r k))) (r : Fin 8192) (k : Fin 1024) :
    Reals.IsReal (mixR x1 x2 x3 x4 x5 (ix2 r k)) := by
  rw [mixR_at]
  exact Reals.sum fun l => Reals.mul (Reals.add (Reals.mul (Reals.logistic _) (h1 _ _)) (Reals.mul (Reals.logistic _) (h2 _ _))) (h5 _ _)

theorem dmix_eq (x0 : Vec Ideal S8192x1024 .f32) (x1 : Vec Ideal S8192x1024 .bf16) (x2 : Vec Ideal S8192x1024 .bf16) (x3 : Vec Ideal S8192x1024 .bf16) (x4 : Vec Ideal S8192x1024 .bf16) (x5 : Vec Ideal S1024x1024 .bf16) (x6 : Vec Ideal S1x1024 .f32) (h0 : ∀ r k, Reals.IsReal (x0 (ix2 r k))) (h1 : ∀ r k, Reals.IsReal (x1 (ix2 r k))) (h2 : ∀ r k, Reals.IsReal (x2 (ix2 r k))) (h5 : ∀ r k, Reals.IsReal (x5 (ix2 r k)))
    (h6 : ∀ r k, Reals.IsReal (x6 (ix2 r k))) (r : Fin 8192) (k : Fin 1024) :
    dmixR (mixR x1 x2 x3 x4 x5) x0 x6 (ix2 r k) = dmix (mix x1 x2 x3 x4 x5) x0 x6 r k := by
  rw [dmixR_at _ _ _ (mix_real _ _ _ _ _ h1 h2 h5) fun r k => Reals.mul (h0 r k) (h6 0 k)]
  simp only [mixR_at]

theorem backR_at (dm : Vec Ideal S8192x1024 .f32) (u : Fin 8192 → Fin 1024 → EReal) (x0 : Vec Ideal S8192x1024 .f32) (x5 : Vec Ideal S1024x1024 .bf16) (x6 : Vec Ideal S1x1024 .f32) (hd : ∀ r k, dm (ix2 r k) = dmix u x0 x6 r k) (r : Fin 8192) (k : Fin 1024) : backR dm x5 (ix2 r k) = back u x0 x5 x6 r k := by
  unfold backR
  pointwise []
  unfold back
  simp only [hd]

theorem weightR_at (dm : Vec Ideal S8192x1024 .f32) (u : Fin 8192 → Fin 1024 → EReal) (x0 : Vec Ideal S8192x1024 .f32) (x1 : Vec Ideal S8192x1024 .bf16) (x2 : Vec Ideal S8192x1024 .bf16) (x3 : Vec Ideal S8192x1024 .bf16) (x4 : Vec Ideal S8192x1024 .bf16) (x6 : Vec Ideal S1x1024 .f32) (hd : ∀ r k, dm (ix2 r k) = dmix u x0 x6 r k) (i j : Fin 1024) : weightR dm x1 x2 x3 x4 (ix2 i j) = gradW u x0 x1 x2 x3 x4 x6 i j := by
  unfold weightR
  pointwise []
  unfold gradW termW merged
  simp only [hd, Sig.host_eq]
  exact Fin.sum_fin_congr fun r => mul_comm _ _

theorem scaleR_at (v : Vec Ideal S8192x1024 .f32) (u : Fin 8192 → Fin 1024 → EReal) (x0 : Vec Ideal S8192x1024 .f32) (hv : ∀ r k, v (ix2 r k) = u r k) (i : Fin 1) (k : Fin 1024) : scaleR v x0 (ix2 i k) = gradG u x0 i k := by
  obtain rfl : (fun r k => v (ix2 r k)) = u := funext fun r => funext fun k => hv r k
  unfold scaleR
  pointwise []
  simp only [rootR_at]
  unfold gradG termG
  exact Fin.sum_fin_congr fun r => mul_comm _ _

theorem branchR_at (dm : Vec Ideal S8192x1024 .f32) (u : Fin 8192 → Fin 1024 → EReal) (g : Vec Ideal S8192x1024 .bf16) (x0 : Vec Ideal S8192x1024 .f32) (x5 : Vec Ideal S1024x1024 .bf16) (x6 : Vec Ideal S1x1024 .f32) (hd : ∀ r k, dm (ix2 r k) = dmix u x0 x6 r k) (r : Fin 8192) (k : Fin 1024) : branchR (backR dm x5) g (ix2 r k) = gradZ u g x0 x5 x6 r k := by
  unfold branchR
  pointwise []
  rw [backR_at dm u x0 x5 x6 hd, Sig.host_eq, mul_comm]
  rfl

theorem gateR_at (dm : Vec Ideal S8192x1024 .f32) (u : Fin 8192 → Fin 1024 → EReal) (z g : Vec Ideal S8192x1024 .bf16) (x0 : Vec Ideal S8192x1024 .f32) (x5 : Vec Ideal S1024x1024 .bf16) (x6 : Vec Ideal S1x1024 .f32) (hd : ∀ r k, dm (ix2 r k) = dmix u x0 x6 r k) (r : Fin 8192) (k : Fin 1024) : gateR (backR dm x5) z g (ix2 r k) = gradS u z g x0 x5 x6 r k := by
  unfold gateR
  pointwise []
  rw [backR_at dm u x0 x5 x6 hd]
  simp only [Sig.host_eq]
  unfold gradS
  rw [mul_assoc (back u x0 x5 x6 r k * z (ix2 r k))]

theorem frame_reference : quiescent_Reference9Ideal := fun m ρ _ =>
  (θ_run defs _ _).mono (fun r h => ⟨fun c => (h c).2.2.2.2.2.2, sem_eq_zero_of_no_sems (by decide) r.2⟩)
    (Value.run (F := Ideal) m ρ)

theorem real0 (x0 : Vec Ideal S8192x1024 .f32) (x1 : Vec Ideal S8192x1024 .bf16) (x2 : Vec Ideal S8192x1024 .bf16) (x3 : Vec Ideal S8192x1024 .bf16) (x4 : Vec Ideal S8192x1024 .bf16) (x5 : Vec Ideal S1024x1024 .bf16) (x6 : Vec Ideal S1x1024 .f32) (h : (Pre_finite9.fn (F := Ideal) x0 x1 x2 x3 x4 x5 x6).1 = (fun _ => 1#1)) (r : Fin _) (j : Fin _) : Reals.IsReal (x0 (ix2 r j)) := by
  have e := congrFun h (ix2 r j)
  unfold Pre_finite9.fn at e
  refine Reals.of_sub_self (Eq.trans ?_ e)
  pointwise []

theorem real1 (x0 : Vec Ideal S8192x1024 .f32) (x1 : Vec Ideal S8192x1024 .bf16) (x2 : Vec Ideal S8192x1024 .bf16) (x3 : Vec Ideal S8192x1024 .bf16) (x4 : Vec Ideal S8192x1024 .bf16) (x5 : Vec Ideal S1024x1024 .bf16) (x6 : Vec Ideal S1x1024 .f32) (h : (Pre_finite9.fn (F := Ideal) x0 x1 x2 x3 x4 x5 x6).2.2.1 = (fun _ => 1#1)) (r : Fin _) (j : Fin _) : Reals.IsReal (x1 (ix2 r j)) := by
  have e := congrFun h (ix2 r j)
  unfold Pre_finite9.fn at e
  refine Reals.of_sub_self (Eq.trans ?_ e)
  pointwise []

theorem real2 (x0 : Vec Ideal S8192x1024 .f32) (x1 : Vec Ideal S8192x1024 .bf16) (x2 : Vec Ideal S8192x1024 .bf16) (x3 : Vec Ideal S8192x1024 .bf16) (x4 : Vec Ideal S8192x1024 .bf16) (x5 : Vec Ideal S1024x1024 .bf16) (x6 : Vec Ideal S1x1024 .f32) (h : (Pre_finite9.fn (F := Ideal) x0 x1 x2 x3 x4 x5 x6).2.2.2.1 = (fun _ => 1#1)) (r : Fin _) (j : Fin _) : Reals.IsReal (x2 (ix2 r j)) := by
  have e := congrFun h (ix2 r j)
  unfold Pre_finite9.fn at e
  refine Reals.of_sub_self (Eq.trans ?_ e)
  pointwise []

theorem real5 (x0 : Vec Ideal S8192x1024 .f32) (x1 : Vec Ideal S8192x1024 .bf16) (x2 : Vec Ideal S8192x1024 .bf16) (x3 : Vec Ideal S8192x1024 .bf16) (x4 : Vec Ideal S8192x1024 .bf16) (x5 : Vec Ideal S1024x1024 .bf16) (x6 : Vec Ideal S1x1024 .f32) (h : (Pre_finite9.fn (F := Ideal) x0 x1 x2 x3 x4 x5 x6).2.2.2.2 = (fun _ => 1#1)) (r : Fin _) (j : Fin _) : Reals.IsReal (x5 (ix2 r j)) := by
  have e := congrFun h (ix2 r j)
  unfold Pre_finite9.fn at e
  refine Reals.of_sub_self (Eq.trans ?_ e)
  pointwise []

theorem real6 (x0 : Vec Ideal S8192x1024 .f32) (x1 : Vec Ideal S8192x1024 .bf16) (x2 : Vec Ideal S8192x1024 .bf16) (x3 : Vec Ideal S8192x1024 .bf16) (x4 : Vec Ideal S8192x1024 .bf16) (x5 : Vec Ideal S1024x1024 .bf16) (x6 : Vec Ideal S1x1024 .f32) (h : (Pre_finite9.fn (F := Ideal) x0 x1 x2 x3 x4 x5 x6).2.1 = (fun _ => 1#1)) (r : Fin _) (j : Fin _) : Reals.IsReal (x6 (ix2 r j)) := by
  have e := congrFun h (ix2 r j)
  unfold Pre_finite9.fn at e
  refine Reals.of_sub_self (Eq.trans ?_ e)
  pointwise []

theorem eq_v70 (m' : (ℓ : Loc nD τ sig) → Buf (Elt Ideal) ℓ) (c : Dev nD) : Value.res_main_v70 m' c = branchR (backR (dmixR (mixR (b1 m' c) (b2 m' c) (b3 m' c) (b4 m' c) (b5 m' c)) (b0 m' c) (b6 m' c)) (b5 m' c)) (b3 m' c) := by
  unfold Value.res_main_v70 branchR backR dmixR carriedR rootR squareR mixR
  rfl

theorem eq_v71 (m' : (ℓ : Loc nD τ sig) → Buf (Elt Ideal) ℓ) (c : Dev nD) : Value.res_main_v71 m' c = branchR (backR (dmixR (mixR (b1 m' c) (b2 m' c) (b3 m' c) (b4 m' c) (b5 m' c)) (b0 m' c) (b6 m' c)) (b5 m' c)) (b4 m' c) := by
  unfold Value.res_main_v71 branchR backR dmixR carriedR rootR squareR mixR
  rfl

theorem eq_v72 (m' : (ℓ : Loc nD τ sig) → Buf (Elt Ideal) ℓ) (c : Dev nD) : Value.res_main_v72 m' c = gateR (backR (dmixR (mixR (b1 m' c) (b2 m' c) (b3 m' c) (b4 m' c) (b5 m' c)) (b0 m' c) (b6 m' c)) (b5 m' c)) (b1 m' c) (b3 m' c) := by
  unfold Value.res_main_v72 gateR backR dmixR carriedR rootR squareR mixR
  rfl

theorem eq_v73 (m' : (ℓ : Loc nD τ sig) → Buf (Elt Ideal) ℓ) (c : Dev nD) : Value.res_main_v73 m' c = gateR (backR (dmixR (mixR (b1 m' c) (b2 m' c) (b3 m' c) (b4 m' c) (b5 m' c)) (b0 m' c) (b6 m' c)) (b5 m' c)) (b2 m' c) (b4 m' c) := by
  unfold Value.res_main_v73 gateR backR dmixR carriedR rootR squareR mixR
  rfl

theorem eq_v62 (m' : (ℓ : Loc nD τ sig) → Buf (Elt Ideal) ℓ) (c : Dev nD) : Value.res_main_v62 m' c = weightR (dmixR (mixR (b1 m' c) (b2 m' c) (b3 m' c) (b4 m' c) (b5 m' c)) (b0 m' c) (b6 m' c)) (b1 m' c) (b2 m' c) (b3 m' c) (b4 m' c) := by
  unfold Value.res_main_v62 weightR dmixR carriedR rootR squareR mixR
  rfl

theorem eq_v44 (m' : (ℓ : Loc nD τ sig) → Buf (Elt Ideal) ℓ) (c : Dev nD) : (shapeCast _ (Host.reduceAdd (mulf (F := Ideal) (φ := .f32) (mulf (F := Ideal) (φ := .f32) (Host.dotGeneral (F := Ideal) (φ₁ := .f32) (φ₂ := .f32) dot_S8192x1024_S1024x1024_S8192x1024_1_0_0_1_n_n none (addf (F := Ideal) (φ := .f32) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 (b3 m' c) bitsLt_bf16_f32))))) (extf (F := Ideal) .f32 (b1 m' c) bitsLt_bf16_f32)) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 (b4 m' c) bitsLt_bf16_f32))))) (extf (F := Ideal) .f32 (b2 m' c) bitsLt_bf16_f32))) (extf (F := Ideal) .f32 (b5 m' c) bitsLt_bf16_f32)) (broadcastInDim S8192x1024 ![0, 1] bcast_S8192x1_S8192x1024_0_1 (Host.rsqrt (F := Ideal) (φ := .f32) (addf (F := Ideal) (φ := .f32) (Host.divf (F := Ideal) (φ := .f32) (broadcastInDim S8192x1 ![0] bcast_S8192_S8192x1_0 (Host.reduceAdd (mulf (F := Ideal) (φ := .f32) (Host.dotGeneral (F := Ideal) (φ₁ := .f32) (φ₂ := .f32) dot_S8192x1024_S1024x1024_S8192x1024_1_0_0_1_n_n none (addf (F := Ideal) (φ := .f32) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 (b3 m' c) bitsLt_bf16_f32))))) (extf (F := Ideal) .f32 (b1 m' c) bitsLt_bf16_f32)) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 (b4 m' c) bitsLt_bf16_f32))))) (extf (F := Ideal) .f32 (b2 m' c) bitsLt_bf16_f32))) (extf (F := Ideal) .f32 (b5 m' c) bitsLt_bf16_f32)) (Host.dotGeneral (F := Ideal) (φ₁ := .f32) (φ₂ := .f32) dot_S8192x1024_S1024x1024_S8192x1024_1_0_0_1_n_n none (addf (F := Ideal) (φ := .f32) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 (b3 m' c) bitsLt_bf16_f32))))) (extf (F := Ideal) .f32 (b1 m' c) bitsLt_bf16_f32)) (mulf (F := Ideal) (φ := .f32) (Host.divf (F := Ideal) (φ := .f32) (broadcastInDim S8192x1024 ![] bcast_S_S8192x1024 (constant (F := Ideal) S_ .f32 0x3F800000#32)) (addf (F := Ideal) (φ := .f32) (broadcastInDim S8192x1024 ![] bcast_S_S8192x1024 (constant (F := Ideal) S_ .f32 0x3F800000#32)) (Host.exp (F := Ideal) (φ := .f32) (Host.negf (F := Ideal) (φ := .f32) (extf (F := Ideal) .f32 (b4 m' c) bitsLt_bf16_f32))))) (extf (F := Ideal) .f32 (b2 m' c) bitsLt_bf16_f32))) (extf (F := Ideal) .f32 (b5 m' c) bitsLt_bf16_f32))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (b0 m' c)) (constant (F := Ideal) S_ .f32 0x00000000#32) reducesTo_S8192x1024_S1024_d0 h_S_) shapeCasts_S1024_S1x1024 : Vec Ideal S1x1024 .f32) = scaleR (mixR (b1 m' c) (b2 m' c) (b3 m' c) (b4 m' c) (b5 m' c)) (b0 m' c) := by
  unfold scaleR rootR squareR mixR
  rfl

/-- Kernel and reference compute the same gradients. -/
theorem algebraic : algebraic_Kernel9Ideal_Reference9Ideal_pre_finite9 := by
  intro m ρ m' ρ' hp hm
  refine ⟨_, _, _, _, _, _, result m ρ, ?_⟩
  refine (θ_run defs _ _).mono (fun r h c => ?_) (Value.run (F := Ideal) m' ρ')
  obtain ⟨p0, p6, p1, p2, p5⟩ := hp c
  have r0 := real0 _ _ _ _ _ _ _ p0
  have r6 := real6 _ _ _ _ _ _ _ p6
  have r1 := real1 _ _ _ _ _ _ _ p1
  have r2 := real2 _ _ _ _ _ _ _ p2
  have r5 := real5 _ _ _ _ _ _ _ p5
  clear p0 p6 p1 p2 p5 hp
  obtain ⟨e0, e1, e2, e3, e4, e5, e6⟩ := hm c
  unfold mixOf
  rw [← e0, ← e1, ← e2, ← e3, ← e4, ← e5, ← e6]
  rw [← e0] at r0
  rw [← e6] at r6
  rw [← e1] at r1
  rw [← e2] at r2
  rw [← e5] at r5
  have hd := dmix_eq (b0 m' c) (b1 m' c) (b2 m' c) (b3 m' c) (b4 m' c) (b5 m' c) (b6 m' c) r0 r1 r2 r5 r6
  refine ⟨(h c).1.trans ((eq_v70 m' c).trans ?_), (h c).2.1.trans ((eq_v71 m' c).trans ?_), (h c).2.2.1.trans ((eq_v72 m' c).trans ?_), (h c).2.2.2.1.trans ((eq_v73 m' c).trans ?_), (h c).2.2.2.2.1.trans ((eq_v62 m' c).trans ?_), (h c).2.2.2.2.2.1.trans ((eq_v44 m' c).trans ?_), (h c).2.2.2.2.2.2⟩
  · funext y
    idx_vars y
    exact branchR_at (dmixR (mixR (b1 m' c) (b2 m' c) (b3 m' c) (b4 m' c) (b5 m' c)) (b0 m' c) (b6 m' c)) (mix (b1 m' c) (b2 m' c) (b3 m' c) (b4 m' c) (b5 m' c)) (b3 m' c) (b0 m' c) (b5 m' c) (b6 m' c) hd _ _
  · funext y
    idx_vars y
    exact branchR_at (dmixR (mixR (b1 m' c) (b2 m' c) (b3 m' c) (b4 m' c) (b5 m' c)) (b0 m' c) (b6 m' c)) (mix (b1 m' c) (b2 m' c) (b3 m' c) (b4 m' c) (b5 m' c)) (b4 m' c) (b0 m' c) (b5 m' c) (b6 m' c) hd _ _
  · funext y
    idx_vars y
    exact gateR_at (dmixR (mixR (b1 m' c) (b2 m' c) (b3 m' c) (b4 m' c) (b5 m' c)) (b0 m' c) (b6 m' c)) (mix (b1 m' c) (b2 m' c) (b3 m' c) (b4 m' c) (b5 m' c)) (b1 m' c) (b3 m' c) (b0 m' c) (b5 m' c) (b6 m' c) hd _ _
  · funext y
    idx_vars y
    exact gateR_at (dmixR (mixR (b1 m' c) (b2 m' c) (b3 m' c) (b4 m' c) (b5 m' c)) (b0 m' c) (b6 m' c)) (mix (b1 m' c) (b2 m' c) (b3 m' c) (b4 m' c) (b5 m' c)) (b2 m' c) (b4 m' c) (b0 m' c) (b5 m' c) (b6 m' c) hd _ _
  · funext y
    idx_vars y
    exact weightR_at (dmixR (mixR (b1 m' c) (b2 m' c) (b3 m' c) (b4 m' c) (b5 m' c)) (b0 m' c) (b6 m' c)) (mix (b1 m' c) (b2 m' c) (b3 m' c) (b4 m' c) (b5 m' c)) (b0 m' c) (b1 m' c) (b2 m' c) (b3 m' c) (b4 m' c) (b6 m' c) hd _ _
  · funext y
    idx_vars y
    exact scaleR_at (mixR (b1 m' c) (b2 m' c) (b3 m' c) (b4 m' c) (b5 m' c)) (mix (b1 m' c) (b2 m' c) (b3 m' c) (b4 m' c) (b5 m' c)) (b0 m' c) (mixR_at (b1 m' c) (b2 m' c) (b3 m' c) (b4 m' c) (b5 m' c)) _ _

end Cert.Merge9

end
-- ==== Proof.Bin10.lean ====
module

public import proofs.«01_k».proof.Proof.Rms
public import proofs.«01_k».proof.Proof.Gen.Kernel10Ideal.Value
public import Idealize.ShloMosaic.Lib.Pipeline.ValueKit
public import Idealize.ShloMosaic.Lib.Pointwise

/-! The gradients of the input projection: the rows' gradient through the normalisation, a block of 256 rows a point, and the scale's gradient added up over the blocks. -/

@[expose] public section

noncomputable section

namespace Cert.Bin10

open Idealize.ShloMosaic Idealize.ShloMosaic.TcCoe Idealize.SL.Sem
open Cert.Kernel10Ideal Cert.Kernel10Ideal.Gen

set_option maxRecDepth 16384

/-- Column `J` of six pieces laid side by side. -/
def side (a b : Fin 512 → EReal) (c d : Fin 1280 → EReal) (e f : Fin 1024 → EReal) (J : Fin 5632) : EReal :=
  if h : J.val < 512 then a ⟨J.val, h⟩ else if h1 : J.val - 512 < 512 then b ⟨J.val - 512, h1⟩
    else if h2 : J.val - 512 - 512 < 1280 then c ⟨J.val - 512 - 512, h2⟩ else if h3 : J.val - 512 - 512 - 1280 < 1280 then d ⟨J.val - 512 - 512 - 1280, h3⟩
    else if h4 : J.val - 512 - 512 - 1280 - 1280 < 1024 then e ⟨J.val - 512 - 512 - 1280 - 1280, h4⟩ else f ⟨J.val - 512 - 512 - 1280 - 1280 - 1024, by omega⟩

/-- Column `J` of four slots laid side by side. -/
def slots (a b c d : Fin 1408 → EReal) (J : Fin 5632) : EReal :=
  if h : J.val < 1408 then a ⟨J.val, h⟩ else if h1 : J.val - 1408 < 1408 then b ⟨J.val - 1408, h1⟩
    else if h2 : J.val - 1408 - 1408 < 1408 then c ⟨J.val - 1408 - 1408, h2⟩ else d ⟨J.val - 1408 - 1408 - 1408, by omega⟩

theorem slots_0 (a b c d : Fin 1408 → EReal) (j : Fin 1408) : slots a b c d ⟨j.val, by omega⟩ = a j := by
  unfold slots
  rw [dif_pos (show j.val < 1408 by omega)]

theorem slots_1 (a b c d : Fin 1408 → EReal) (j : Fin 1408) : slots a b c d ⟨1408 + j.val, by omega⟩ = b j := by
  unfold slots
  rw [dif_neg (show ¬ 1408 + j.val < 1408 by omega), dif_pos (show 1408 + j.val - 1408 < 1408 by omega)]
  exact congrArg b (Fin.ext (show 1408 + j.val - 1408 = j.val by omega))

theorem slots_2 (a b c d : Fin 1408 → EReal) (j : Fin 1408) : slots a b c d ⟨2816 + j.val, by omega⟩ = c j := by
  unfold slots
  rw [dif_neg (show ¬ 2816 + j.val < 1408 by omega), dif_neg (show ¬ 2816 + j.val - 1408 < 1408 by omega), dif_pos (show 2816 + j.val - 1408 - 1408 < 1408 by omega)]
  exact congrArg c (Fin.ext (show 2816 + j.val - 1408 - 1408 = j.val by omega))

theorem slots_3 (a b c d : Fin 1408 → EReal) (j : Fin 1408) : slots a b c d ⟨4224 + j.val, by omega⟩ = d j := by
  unfold slots
  rw [dif_neg (show ¬ 4224 + j.val < 1408 by omega), dif_neg (show ¬ 4224 + j.val - 1408 < 1408 by omega), dif_neg (show ¬ 4224 + j.val - 1408 - 1408 < 1408 by omega)]
  exact congrArg d (Fin.ext (show 4224 + j.val - 1408 - 1408 - 1408 = j.val by omega))

/-- The sum over all columns, slot by slot. -/
theorem sum_slots (p : Fin 5632 → EReal) (a b c d : Fin 1408 → EReal) :
    ∑ j : Fin 1408, p ⟨0 + j.val, by omega⟩ * a j + ∑ j : Fin 1408, p ⟨1408 + j.val, by omega⟩ * b j + ∑ j : Fin 1408, p ⟨2816 + j.val, by omega⟩ * c j + ∑ j : Fin 1408, p ⟨4224 + j.val, by omega⟩ * d j
      = ∑ J : Fin 5632, p J * slots a b c d J := by
  symm
  refine (Fin.sum_univ_add (a := 4224) (b := 1408) (fun J : Fin (4224 + 1408) => p J * slots a b c d J)).trans ?_
  refine congrArg₂ (· + ·) ((Fin.sum_univ_add (a := 2816) (b := 1408) _).trans ?_) ?_
  refine congrArg₂ (· + ·) ((Fin.sum_univ_add (a := 1408) (b := 1408) _).trans ?_) ?_
  refine congrArg₂ (· + ·) ?_ ?_
  · refine Fin.sum_fin_congr fun k => congrArg₂ (· * ·) (congrArg p (Fin.ext (Nat.zero_add _).symm)) ?_
    exact slots_0 a b c d k
  · exact Fin.sum_fin_congr fun k => congrArg₂ (· * ·) rfl (slots_1 a b c d k)
  · exact Fin.sum_fin_congr fun k => congrArg₂ (· * ·) rfl (slots_2 a b c d k)
  · exact Fin.sum_fin_congr fun k => congrArg₂ (· * ·) rfl (slots_3 a b c d k)

/-- A row entry of the weights inside the longer axis. -/
abbrev wide (k : Fin 1024) : Fin 2048 := ⟨k.val, by omega⟩

/-- The cotangent of the projection, all columns. -/
def cot (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (r : Fin 8192) (J : Fin 5632) : EReal :=
  side (fun j => x3 (ix2 r j)) (fun j => x4 (ix2 r j)) (fun j => x5 (ix2 r j)) (fun j => x6 (ix2 r j)) (fun j => x7 (ix2 r j)) (fun j => x8 (ix2 r j)) J

/-- The weights, all columns. -/
def weight (x9 : Vec Ideal S4x2048x1408 .bf16) (k : Fin 1024) (J : Fin 5632) : EReal :=
  slots (fun j => x9 (ix3 0 (wide k) j)) (fun j => x9 (ix3 1 (wide k) j)) (fun j => x9 (ix3 2 (wide k) j)) (fun j => x9 (ix3 3 (wide k) j)) J

/-- The cotangent of the scaled rows. -/
def back (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (r : Fin 8192) (k : Fin 1024) : EReal :=
  ∑ J : Fin 5632, cot x3 x4 x5 x6 x7 x8 r J * weight x9 k J

/-- The cotangent of the normalised rows. -/
def backN (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (r : Fin 8192) (k : Fin 1024) : EReal :=
  back x3 x4 x5 x6 x7 x8 x9 r k * x2 (ix2 0 k)

/-- One over a row's root mean square. -/
def scale (x0 : Vec Ideal S8192x1024 .f32) (r : Fin 8192) : EReal :=
  Ideal.rsqrt (Rms.square fun k : Fin 1024 => x0 (ix2 r k))

/-- The rows' gradient. -/
def gradX (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (r : Fin 8192) (k : Fin 1024) : EReal :=
  x1 (ix2 r k) + scale x0 r * (backN x2 x3 x4 x5 x6 x7 x8 x9 r k - x0 (ix2 r k) * scale x0 r * Ideal.div (∑ l : Fin 1024, backN x2 x3 x4 x5 x6 x7 x8 x9 r l * (x0 (ix2 r l) * scale x0 r)) (Ideal.ofBits FTy.f32 1149239296#32))

/-- One row's term in the scale's gradient. -/
def term (x0 : Vec Ideal S8192x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (k : Fin 1024) (r : Fin 8192) : EReal :=
  back x3 x4 x5 x6 x7 x8 x9 r k * (x0 (ix2 r k) * scale x0 r)

/-- The scale's gradient. -/
def gradG (x0 : Vec Ideal S8192x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (_ : Fin 1) (k : Fin 1024) : EReal :=
  ∑ r : Fin 8192, term x0 x3 x4 x5 x6 x7 x8 x9 k r

/-- What a block adds to the scale's gradient. -/
def part (v0 : Vec Ideal S256x1024 .f32) (v16 : FVec Ideal S1024x1408 .bf16) (v17 : FVec Ideal S256x5632 .bf16) (v25 : FVec Ideal S256x1024 .f32) (y : S1x1024.Idx) : EReal :=
  ∑ k : Fin 256, @HMul.hMul EReal EReal EReal _ (k0_pay1 v16 v17 v25 (ix2 k (y 1))) (k0_pay3 v0 (ix2 k (y 1)))

theorem step (v0 : Vec Ideal S256x1024 .f32) (v16 : FVec Ideal S1024x1408 .bf16) (v17 : FVec Ideal S256x5632 .bf16) (v25 : FVec Ideal S256x1024 .f32) (acc : Vec Ideal S1x1024 .f32) (y : S1x1024.Idx) :
    k0_pay6 v0 v16 v17 v25 acc y = @HAdd.hAdd EReal EReal EReal _ (acc y) (part v0 v16 v17 v25 y) := by
  idx_vars y
  unfold part
  pointwise [k0_pay6]

theorem zero (y : S1x1024.Idx) : (k0_pay5 (F := Ideal)) y = 0 := by
  idx_vars y
  pointwise [k0_pay5]

theorem pieces (v3 v4 : Vec Ideal S256x512 .bf16) (v5 v6 : Vec Ideal S256x1280 .bf16) (v7 v8 : Vec Ideal S256x1024 .bf16) (i : Fin 256) (J : Fin 5632) :
    k0_pay8 v3 v4 v5 v6 v7 v8 (ix2 i J) = side (fun j => v3 (ix2 i j)) (fun j => v4 (ix2 i j)) (fun j => v5 (ix2 i j)) (fun j => v6 (ix2 i j)) (fun j => v7 (ix2 i j)) (fun j => v8 (ix2 i j)) J := by
  pointwise [k0_pay8]
  unfold side
  rfl

theorem carry (v3 v4 : Vec Ideal S256x512 .bf16) (v5 v6 : Vec Ideal S256x1280 .bf16) (v7 v8 : Vec Ideal S256x1024 .bf16) (v9 v11 v13 v15 : Vec Ideal S1x1024x1408 .bf16) (i : Fin 256) (k : Fin 1024) :
    k0_pay1 (k0_pay7 v15) (k0_pay8 v3 v4 v5 v6 v7 v8) (k0_pay9 v3 v4 v5 v6 v7 v8 v9 v11 v13) (ix2 i k)
      = ∑ J : Fin 5632, k0_pay8 v3 v4 v5 v6 v7 v8 (ix2 i J) * slots (fun j => v9 (ix3 0 k j)) (fun j => v11 (ix3 0 k j)) (fun j => v13 (ix3 0 k j)) (fun j => v15 (ix3 0 k j)) J := by
  rw [← sum_slots]
  pointwise [k0_pay1, k0_pay7, k0_pay9]

variable (m : (ℓ : Loc nD τ sig) → Buf (Elt Ideal) ℓ)

/-- The array row of row `k` of point `t`'s block. -/
abbrev row (t : Fin cfg0.N) (k : Fin 256) : Fin 8192 := ⟨t.val * 256 + k.val, by have := t.isLt; have : cfg0.N = 32 := N_0; omega⟩

theorem blk0 (c : Dev nD) (t : Fin cfg0.N) (k : Fin 256) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 256) (i : Fin 1024) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk3 (c : Dev nD) (t : Fin cfg0.N) (k : Fin 256) (i : Fin 512) : iblk m c 3 t (ix2 k i) = m ((c.tc : Thread nD τ).loc main_arg3) (ix2 (row t k) i) := by
  have e : ∀ t : Fin cfg0.N, win0_3.index t = ![t.val, 0] := (by decide +kernel : ∀ t : Fin grid0.N, _)
  blk_ext [row, Gen.iblk, Gen.V, e t]

theorem blk4 (c : Dev nD) (t : Fin cfg0.N) (k : Fin 256) (i : Fin 512) : iblk m c 4 t (ix2 k i) = m ((c.tc : Thread nD τ).loc main_arg4) (ix2 (row t k) i) := by
  have e : ∀ t : Fin cfg0.N, win0_4.index t = ![t.val, 0] := (by decide +kernel : ∀ t : Fin grid0.N, _)
  blk_ext [row, Gen.iblk, Gen.V, e t]

theorem blk5 (c : Dev nD) (t : Fin cfg0.N) (k : Fin 256) (i : Fin 1280) : iblk m c 5 t (ix2 k i) = m ((c.tc : Thread nD τ).loc main_arg5) (ix2 (row t k) i) := by
  have e : ∀ t : Fin cfg0.N, win0_5.index t = ![t.val, 0] := (by decide +kernel : ∀ t : Fin grid0.N, _)
  blk_ext [row, Gen.iblk, Gen.V, e t]

theorem blk6 (c : Dev nD) (t : Fin cfg0.N) (k : Fin 256) (i : Fin 1280) : iblk m c 6 t (ix2 k i) = m ((c.tc : Thread nD τ).loc main_arg6) (ix2 (row t k) i) := by
  have e : ∀ t : Fin cfg0.N, win0_6.index t = ![t.val, 0] := (by decide +kernel : ∀ t : Fin grid0.N, _)
  blk_ext [row, Gen.iblk, Gen.V, e t]

theorem blk7 (c : Dev nD) (t : Fin cfg0.N) (k : Fin 256) (i : Fin 1024) : iblk m c 7 t (ix2 k i) = m ((c.tc : Thread nD τ).loc main_arg7) (ix2 (row t k) i) := by
  have e : ∀ t : Fin cfg0.N, win0_7.index t = ![t.val, 0] := (by decide +kernel : ∀ t : Fin grid0.N, _)
  blk_ext [row, Gen.iblk, Gen.V, e t]

theorem blk8 (c : Dev nD) (t : Fin cfg0.N) (k : Fin 256) (i : Fin 1024) : iblk m c 8 t (ix2 k i) = m ((c.tc : Thread nD τ).loc main_arg8) (ix2 (row t k) i) := by
  have e : ∀ t : Fin cfg0.N, win0_8.index t = ![t.val, 0] := (by decide +kernel : ∀ t : Fin grid0.N, _)
  blk_ext [row, Gen.iblk, Gen.V, e t]

theorem blk2 (c : Dev nD) (t : Fin cfg0.N) (i : Fin 1024) : iblk m c 2 t (ix2 0 i) = m ((c.tc : Thread nD τ).loc main_arg2) (ix2 0 i) := by
  have e : ∀ t : Fin cfg0.N, win0_2.index t = ![0, 0] := (by decide +kernel : ∀ t : Fin grid0.N, _)
  blk_ext [Gen.iblk, Gen.V, e t]

theorem blk9 (c : Dev nD) (t : Fin cfg0.N) (k : Fin 1024) (i : Fin 1408) : iblk m c 9 t (ix3 0 k i) = (m ((c.tc : Thread nD τ).loc main_arg9)) (ix3 0 (wide k) i) := by
  have e : ∀ t : Fin cfg0.N, win0_9.index t = ![0, 0, 0] := (by decide +kernel : ∀ t : Fin grid0.N, _)
  blk_ext [wide, Gen.iblk, Gen.V, e t]

theorem blk10 (c : Dev nD) (t : Fin cfg0.N) (k : Fin 1024) (i : Fin 1408) : iblk m c 10 t (ix3 0 k i) = (m ((c.tc : Thread nD τ).loc main_arg9)) (ix3 1 (wide k) i) := by
  have e : ∀ t : Fin cfg0.N, win0_10.index t = ![1, 0, 0] := (by decide +kernel : ∀ t : Fin grid0.N, _)
  blk_ext [wide, Gen.iblk, Gen.V, e t]

theorem blk11 (c : Dev nD) (t : Fin cfg0.N) (k : Fin 1024) (i : Fin 1408) : iblk m c 11 t (ix3 0 k i) = (m ((c.tc : Thread nD τ).loc main_arg9)) (ix3 2 (wide k) i) := by
  have e : ∀ t : Fin cfg0.N, win0_11.index t = ![2, 0, 0] := (by decide +kernel : ∀ t : Fin grid0.N, _)
  blk_ext [wide, Gen.iblk, Gen.V, e t]

theorem blk12 (c : Dev nD) (t : Fin cfg0.N) (k : Fin 1024) (i : Fin 1408) : iblk m c 12 t (ix3 0 k i) = (m ((c.tc : Thread nD τ).loc main_arg9)) (ix3 3 (wide k) i) := by
  have e : ∀ t : Fin cfg0.N, win0_12.index t = ![3, 0, 0] := (by decide +kernel : ∀ t : Fin grid0.N, _)
  blk_ext [wide, Gen.iblk, Gen.V, e t]

theorem pay_back (c : Dev nD) (t : Fin cfg0.N) (i : Fin 256) (k : Fin 1024) :
    k0_pay1 (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t)) (ix2 i k) = back (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (row t i) k := by
  rw [carry]
  unfold back cot weight
  simp only [pieces, blk3, blk4, blk5, blk6, blk7, blk8, blk9, blk10, blk11, blk12]

theorem pay_scale (c : Dev nD) (t : Fin cfg0.N) (i : Fin 256) :
    k0_pay2 (iblk m c 0 t) (ix2 i 0) = scale (m ((c.tc : Thread nD τ).loc main_arg0)) (row t i) := by
  pointwise [k0_pay2]
  unfold scale Rms.square
  simp only [blk0]

theorem pay_norm (c : Dev nD) (t : Fin cfg0.N) (i : Fin 256) (k : Fin 1024) :
    k0_pay3 (iblk m c 0 t) (ix2 i k) = @HMul.hMul EReal EReal EReal _ ((m ((c.tc : Thread nD τ).loc main_arg0)) (ix2 (row t i) k)) (scale (m ((c.tc : Thread nD τ).loc main_arg0)) (row t i)) := by
  pointwise [k0_pay3]
  rw [pay_scale, blk0]

theorem pay_X (c : Dev nD) (t : Fin cfg0.N) (i : Fin 256) (j : Fin 1024) :
    k0_pay4 (iblk m c 0 t) (iblk m c 1 t) (iblk m c 2 t) (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t)) (ix2 i j) = gradX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (row t i) j := by
  pointwise [k0_pay4]
  unfold gradX backN
  simp only [pay_back, pay_norm, pay_scale, blk1, blk2]

theorem pay_G (c : Dev nD) (t : Fin cfg0.N) (i : Fin 1) (j : Fin 1024) :
    part (iblk m c 0 t) (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t)) (ix2 i j) = ∑ k : Fin 256, term (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) j (row t k) := by
  unfold part term
  exact Fin.sum_fin_congr fun k => congrArg₂ (· * ·) (pay_back m c t k j) (pay_norm m c t k j)

theorem out13 (c : Dev nD) (t : Fin cfg0.N) : (outsAt0 m c t.val t.isLt).1 = k0_pay4 (iblk m c 0 t) (iblk m c 1 t) (iblk m c 2 t) (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t)) := by
  by_cases h : t.val % 32 = 0
  · rw [outsAt0_A m c t h]
    frame_out
  · rw [outsAt0_B m c t h]
    frame_out

theorem emb_row13 (t : Fin cfg0.N) (y0 : Fin 256) (y1 : Fin 1024) : ((View.whole main_v0_0).slice (win0_13.rect t)).emb (ix2 y0 y1) 0 = row t y0 := by
  have e : ∀ t : Fin cfg0.N, win0_13.index t = ![t.val, 0] := (by decide +kernel : ∀ t : Fin grid0.N, _)
  apply Fin.ext
  show win0_13.index t (0 : Fin 2) * 256 + 1 * y0.val = t.val * 256 + y0.val
  rw [e t]
  show t.val * 256 + 1 * y0.val = t.val * 256 + y0.val
  rw [Nat.one_mul]

theorem emb_col13 (t : Fin cfg0.N) (y0 : Fin 256) (y1 : Fin 1024) : ((View.whole main_v0_0).slice (win0_13.rect t)).emb (ix2 y0 y1) 1 = y1 := by
  have e : ∀ t : Fin cfg0.N, win0_13.index t = ![t.val, 0] := (by decide +kernel : ∀ t : Fin grid0.N, _)
  apply Fin.ext
  show win0_13.index t (1 : Fin 2) * 1024 + 1 * y1.val = y1.val
  rw [e t]
  show 0 * 1024 + 1 * y1.val = y1.val
  omega

theorem final13 (c : Dev nD) : (dats m 0 c).arrAt 13 cfg0.N = (fun y : S8192x1024.Idx => gradX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1)) := by
  refine (dats m 0 c).arrAt_eq_of_covers 13 _ (by decide +kernel) fun t hf y => ?_
  have e : ∀ t : Fin cfg0.N, win0_13.index t = ![t.val, 0] := (by decide +kernel : ∀ t : Fin grid0.N, _)
  blk_simp [e t]
  rw [after0_13]; rw [show (outsAt0 m c t.val t.isLt).1 = k0_pay4 (iblk m c 0 t) (iblk m c 1 t) (iblk m c 2 t) (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t)) from out13 m c t]
  change S256x1024.Idx at y
  idx_vars y
  rw [pay_X, emb_row13, emb_col13]

/-- The last point. -/
abbrev last : Fin cfg0.N := ⟨31, by rw [show cfg0.N = 32 from N_0]; decide⟩

theorem last_eq : last.val + 1 = cfg0.N := N_0.symm

theorem first14 (c : Dev nD) (t : Fin cfg0.N) (h : t.val % 32 = 0) (y : S1x1024.Idx) : @Eq EReal ((outsAt0 m c t.val t.isLt).2 y) (0 + (part (iblk m c 0 t) (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t))) y) := by
  rw [outsAt0_A m c t h]
  frame_out
  rw [step, zero]

theorem next14 (c : Dev nD) (t : Fin cfg0.N) (h : ¬t.val % 32 = 0) (y : S1x1024.Idx) :
    @Eq EReal ((outsAt0 m c t.val t.isLt).2 y) (@HAdd.hAdd EReal EReal EReal _ ((outsAt0 m c (t.val - 1) (Nat.lt_of_le_of_lt (Nat.sub_le _ _) t.isLt)).2 y) ((part (iblk m c 0 t) (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t))) y)) := by
  rw [outsAt0_B m c t h]
  frame_out
  rw [step]

theorem acc14 (c : Dev nD) (y : S1x1024.Idx) : @Eq EReal ((outsAt0 m c last.val last.isLt).2 y) (∑ t : Fin cfg0.N, ((part (iblk m c 0 t) (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t))) y : EReal)) := by
  have u := Pipeline.eq_sum_fin_of_reset_step_apply_last (M := EReal) (fun n h => (outsAt0 m c n h).2) 32 (fun _ => (0 : EReal)) (fun t y => (part (iblk m c 0 t) (k0_pay7 (iblk m c 12 t)) (k0_pay8 (iblk m c 3 t) (iblk m c 4 t) (iblk m c 5 t) (iblk m c 6 t) (iblk m c 7 t) (iblk m c 8 t)) (k0_pay9 (iblk m c 3 t) (iblk m c 4 t) (iblk m c 5 t) (iblk m c 6 t) (iblk m c 7 t) (iblk m c 8 t) (iblk m c 9 t) (iblk m c 10 t) (iblk m c 11 t))) y) (first14 m c) (next14 m c) (le_of_eq N_0) last last_eq y
  rw [zero_add] at u
  exact u

theorem final14 (c : Dev nD) : (dats m 0 c).arrAt 14 cfg0.N = (fun y : S1x1024.Idx => gradG (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1)) := by
  refine (dats m 0 c).arrAt_eq_of_after_last 14 last (by decide +kernel) _ fun y => ?_
  blk_simp
  rw [after0_14]
  change S1x1024.Idx at y
  idx_vars y
  refine (acc14 m c (ix2 y0 y1)).trans ?_
  refine (Fin.sum_fin_congr fun t => pay_G m c t y0 y1).trans ?_
  exact Fin.sum_mul_add_congr (S := cfg0.N) (n := 256) (fun s k hl => rfl) (by rw [show cfg0.N = 32 from N_0])

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = (fun y : S8192x1024.Idx => gradX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1))
      ∧ r.2.mem ((c.tc : Thread nD τ).loc main_v0_1) = (fun y : S1x1024.Idx => gradG (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (final13 m c), (h c).2.1.trans (final14 m c), (h c).2.2⟩) (Value.run_blocks m ρ)

end Cert.Bin10

end
-- ==== Proof.Bin10Ref.lean ====
module

public import proofs.«01_k».proof.Proof.Bin10
public import proofs.«01_k».proof.Proof.Gen.Pre_finite10
public import proofs.«01_k».proof.Defs
public import proofs.«01_k».proof.Proof.Gen.Kernel10.Frame
public import proofs.«01_k».proof.Proof.Gen.Reference10Ideal.Run
public import Idealize.ShloMosaic.Lib.Quiescent
public import Idealize.ShloMosaic.Lib.Pointwise

/-! The reference of the input projection's gradients, read at an entry; kernel and reference agree on finite arguments. -/

@[expose] public section

noncomputable section

namespace Cert.Bin10

open Idealize.ShloMosaic Idealize.ShloMosaic.TcCoe Idealize.SL.Sem
open Cert.Reference10Ideal Cert.Reference10Ideal.Gen

set_option maxRecDepth 16384

section

variable (m' : (ℓ : Loc nD τ sig) → Buf (Elt Ideal) ℓ) (c : Dev nD)

abbrev b0 := m' ((c.tc : Thread nD τ).loc main_arg0)
abbrev b1 := m' ((c.tc : Thread nD τ).loc main_arg1)
abbrev b2 := m' ((c.tc : Thread nD τ).loc main_arg2)
abbrev b3 := m' ((c.tc : Thread nD τ).loc main_arg3)
abbrev b4 := m' ((c.tc : Thread nD τ).loc main_arg4)
abbrev b5 := m' ((c.tc : Thread nD τ).loc main_arg5)
abbrev b6 := m' ((c.tc : Thread nD τ).loc main_arg6)
abbrev b7 := m' ((c.tc : Thread nD τ).loc main_arg7)
abbrev b8 := m' ((c.tc : Thread nD τ).loc main_arg8)
abbrev b9 := m' ((c.tc : Thread nD τ).loc main_arg9)

end

/-- The reference's product carried back. -/
def backR (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) : Vec Ideal S8192x1024 .f32 :=
  (Host.dotGeneral (F := Ideal) (φ₁ := .f32) (φ₂ := .f32) dot_S8192x5632_S1024x5632_S8192x1024_1_1_0_0_n_n none ((concatenate S8192x5632 1 [⟨S8192x512, ((extf (F := Ideal) .f32 x3 bitsLt_bf16_f32) : (⟨S8192x512, .f32⟩ : BufTy).Contents (Elt Ideal))⟩, ⟨S8192x512, ((extf (F := Ideal) .f32 x4 bitsLt_bf16_f32) : (⟨S8192x512, .f32⟩ : BufTy).Contents (Elt Ideal))⟩, ⟨S8192x1280, ((extf (F := Ideal) .f32 x5 bitsLt_bf16_f32) : (⟨S8192x1280, .f32⟩ : BufTy).Contents (Elt Ideal))⟩, ⟨S8192x1280, ((extf (F := Ideal) .f32 x6 bitsLt_bf16_f32) : (⟨S8192x1280, .f32⟩ : BufTy).Contents (Elt Ideal))⟩, ⟨S8192x1024, ((extf (F := Ideal) .f32 x7 bitsLt_bf16_f32) : (⟨S8192x1024, .f32⟩ : BufTy).Contents (Elt Ideal))⟩, ⟨S8192x1024, ((extf (F := Ideal) .f32 x8 bitsLt_bf16_f32) : (⟨S8192x1024, .f32⟩ : BufTy).Contents (Elt Ideal))⟩] concatenates_S8192x512_S8192x512_S8192x1280_S8192x1280_S8192x1024_S8192x1024_S8192x5632_d1 : (⟨S8192x5632, .f32⟩ : BufTy).Contents (Elt Ideal))) ((concatenate S1024x5632 1 [⟨S1024x1408, ((extf (F := Ideal) .f32 (shapeCast _ (extractStridedSlice S1x1024x1408 ![0, 0, 0] (extractStridedSlice S4x1024x1408 ![0, 0, 0] x9 slices_S4x2048x1408_S4x1024x1408_0_0_0) slices_S4x1024x1408_S1x1024x1408_0_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![1, 0, 0] (extractStridedSlice S4x1024x1408 ![0, 0, 0] x9 slices_S4x2048x1408_S4x1024x1408_0_0_0) slices_S4x1024x1408_S1x1024x1408_1_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![2, 0, 0] (extractStridedSlice S4x1024x1408 ![0, 0, 0] x9 slices_S4x2048x1408_S4x1024x1408_0_0_0) slices_S4x1024x1408_S1x1024x1408_2_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![3, 0, 0] (extractStridedSlice S4x1024x1408 ![0, 0, 0] x9 slices_S4x2048x1408_S4x1024x1408_0_0_0) slices_S4x1024x1408_S1x1024x1408_3_0_0) shapeCasts_S1x1024x1408_S1024x1408) bitsLt_bf16_f32) : (⟨S1024x1408, .f32⟩ : BufTy).Contents (Elt Ideal))⟩] concatenates_S1024x1408_S1024x1408_S1024x1408_S1024x1408_S1024x5632_d1 : (⟨S1024x5632, .f32⟩ : BufTy).Contents (Elt Ideal))))

/-- The reference's mean square. -/
def squareR (x0 : Vec Ideal S8192x1024 .f32) : Vec Ideal S8192x1 .f32 :=
  (addf (F := Ideal) (φ := .f32) (Host.divf (F := Ideal) (φ := .f32) (broadcastInDim S8192x1 ![0] bcast_S8192_S8192x1_0 (Host.reduceAdd (mulf (F := Ideal) (φ := .f32) x0 x0) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))

/-- The reference's inverse root. -/
def rootR (x0 : Vec Ideal S8192x1024 .f32) : Vec Ideal S8192x1 .f32 :=
  (Host.rsqrt (F := Ideal) (φ := .f32) (squareR x0))

/-- What the reference carries back through the mean square. -/
def carriedR (x0 : Vec Ideal S8192x1024 .f32) (x2 : Vec Ideal S1x1024 .f32) (dh : Vec Ideal S8192x1024 .f32) : Vec Ideal S8192 .f32 :=
  (Host.reduceAdd (Host.divf (F := Ideal) (φ := .f32) (mulf (F := Ideal) (φ := .f32) (shapeCast _ (Host.reduceAdd (mulf (F := Ideal) (φ := .f32) x0 (mulf (F := Ideal) (φ := .f32) dh (broadcastInDim S8192x1024 ![0, 1] bcast_S1x1024_S8192x1024_0_1 x2))) (constant (F := Ideal) S_ .f32 0x00000000#32) reducesTo_S8192x1024_S8192_d1 h_S_) shapeCasts_S8192_S8192x1) (mulf (F := Ideal) (φ := .f32) (broadcastInDim S8192x1 ![] bcast_S_S8192x1 (constant (F := Ideal) S_ .f32 0xBF000000#32)) (Host.divf (F := Ideal) (φ := .f32) (rootR x0) (squareR x0)))) (broadcastInDim S8192x1 ![] bcast_S_S8192x1 (constant (F := Ideal) S_ .f32 0x44800000#32))) (constant (F := Ideal) S_ .f32 0x00000000#32) reducesTo_S8192x1_S8192_d1 h_S_)

/-- The reference's first result. -/
def firstR (x0 : Vec Ideal S8192x1024 .f32) (x1 : Vec Ideal S8192x1024 .f32) (x2 : Vec Ideal S1x1024 .f32) (dh : Vec Ideal S8192x1024 .f32) : Vec Ideal S8192x1024 .f32 :=
  addf (F := Ideal) (φ := .f32) (addf (F := Ideal) (φ := .f32) (addf (F := Ideal) (φ := .f32) x1 (mulf (F := Ideal) (φ := .f32) (mulf (F := Ideal) (φ := .f32) dh (broadcastInDim S8192x1024 ![0, 1] bcast_S1x1024_S8192x1024_0_1 x2)) (broadcastInDim S8192x1024 ![0, 1] bcast_S8192x1_S8192x1024_0_1 (rootR x0)))) (mulf (F := Ideal) (φ := .f32) x0 (broadcastInDim S8192x1024 ![0] bcast_S8192_S8192x1024_0 (carriedR x0 x2 dh)))) (mulf (F := Ideal) (φ := .f32) (broadcastInDim S8192x1024 ![0] bcast_S8192_S8192x1024_0 (carriedR x0 x2 dh)) x0)

/-- The reference's second result. -/
def secondR (x0 : Vec Ideal S8192x1024 .f32) (dh : Vec Ideal S8192x1024 .f32) : Vec Ideal S1x1024 .f32 :=
  shapeCast _ (Host.reduceAdd (mulf (F := Ideal) (φ := .f32) (mulf (F := Ideal) (φ := .f32) x0 (broadcastInDim S8192x1024 ![0, 1] bcast_S8192x1_S8192x1024_0_1 (rootR x0))) dh) (constant (F := Ideal) S_ .f32 0x00000000#32) reducesTo_S8192x1024_S1024_d0 h_S_) shapeCasts_S1024_S1x1024

theorem backR_at (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (r : Fin 8192) (k : Fin 1024) : backR x3 x4 x5 x6 x7 x8 x9 (ix2 r k) = back x3 x4 x5 x6 x7 x8 x9 r k := by
  unfold backR
  pointwise []
  unfold back cot weight side slots
  rfl

theorem squareR_at (x0 : Vec Ideal S8192x1024 .f32) (r : Fin 8192) : squareR x0 (ix2 r 0) = Rms.square fun k : Fin 1024 => x0 (ix2 r k) := by
  unfold squareR
  pointwise []
  rfl

theorem rootR_at (x0 : Vec Ideal S8192x1024 .f32) (r : Fin 8192) : rootR x0 (ix2 r 0) = scale x0 r := by
  unfold rootR
  pointwise []
  rw [squareR_at]
  rfl

theorem carriedR_at (x0 : Vec Ideal S8192x1024 .f32) (x2 : Vec Ideal S1x1024 .f32) (dh : Vec Ideal S8192x1024 .f32) (r : Fin 8192) :
    carriedR x0 x2 dh (ix1 r) = Rms.carried (fun k : Fin 1024 => x0 (ix2 r k)) (fun k : Fin 1024 => @HMul.hMul EReal EReal EReal _ (dh (ix2 r k)) (x2 (ix2 0 k))) := by
  unfold carriedR
  pointwise []
  rw [Fin.sum_univ_one, squareR_at, rootR_at]
  rfl

theorem firstR_at (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h0 : ∀ r j, Reals.IsReal (x0 (ix2 r j))) (hd : ∀ r j, Reals.IsReal (backN x2 x3 x4 x5 x6 x7 x8 x9 r j)) (r : Fin 8192) (k : Fin 1024) :
    firstR x0 x1 x2 (backR x3 x4 x5 x6 x7 x8 x9) (ix2 r k) = gradX x0 x1 x2 x3 x4 x5 x6 x7 x8 x9 r k := by
  refine Eq.trans ?_ (Rms.slope (x1 (ix2 r k)) (h0 r) (hd r) k).symm
  unfold firstR
  pointwise []
  rw [carriedR_at, rootR_at]
  simp only [backR_at]
  rfl

theorem secondR_at (x0 : Vec Ideal S8192x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (i : Fin 1) (k : Fin 1024) : secondR x0 (backR x3 x4 x5 x6 x7 x8 x9) (ix2 i k) = gradG x0 x3 x4 x5 x6 x7 x8 x9 i k := by
  unfold secondR
  pointwise []
  simp only [backR_at, rootR_at]
  unfold gradG term
  exact Fin.sum_fin_congr fun r => mul_comm _ _

theorem side_real {a b : Fin 512 → EReal} {c d : Fin 1280 → EReal} {e f : Fin 1024 → EReal} (ha : ∀ j, Reals.IsReal (a j)) (hb : ∀ j, Reals.IsReal (b j)) (hc : ∀ j, Reals.IsReal (c j))
    (hd : ∀ j, Reals.IsReal (d j)) (he : ∀ j, Reals.IsReal (e j)) (hf : ∀ j, Reals.IsReal (f j)) (J : Fin 5632) : Reals.IsReal (side a b c d e f J) := by
  unfold side
  split_ifs <;> solve_by_elim

theorem slots_real {a b c d : Fin 1408 → EReal} (ha : ∀ j, Reals.IsReal (a j)) (hb : ∀ j, Reals.IsReal (b j)) (hc : ∀ j, Reals.IsReal (c j)) (hd : ∀ j, Reals.IsReal (d j)) (J : Fin 5632) :
    Reals.IsReal (slots a b c d J) := by
  unfold slots
  split_ifs <;> solve_by_elim

theorem backN_real (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h2 : ∀ r j, Reals.IsReal (x2 (ix2 r j))) (h3 : ∀ r j, Reals.IsReal (x3 (ix2 r j))) (h4 : ∀ r j, Reals.IsReal (x4 (ix2 r j))) (h5 : ∀ r j, Reals.IsReal (x5 (ix2 r j))) (h6 : ∀ r j, Reals.IsReal (x6 (ix2 r j))) (h7 : ∀ r j, Reals.IsReal (x7 (ix2 r j))) (h8 : ∀ r j, Reals.IsReal (x8 (ix2 r j)))
    (h9 : ∀ (s : Fin 4) (k : Fin 1024) (j : Fin 1408), Reals.IsReal (x9 (ix3 s (wide k) j))) (r : Fin 8192) (k : Fin 1024) : Reals.IsReal (backN x2 x3 x4 x5 x6 x7 x8 x9 r k) :=
  Reals.mul (Reals.sum fun J => Reals.mul (side_real (h3 r) (h4 r) (h5 r) (h6 r) (h7 r) (h8 r) J) (slots_real (h9 0 k) (h9 1 k) (h9 2 k) (h9 3 k) J)) (h2 0 k)

theorem frame_reference : quiescent_Reference10Ideal := fun m ρ _ =>
  (θ_run defs _ _).mono (fun r h => ⟨fun c => (h c).2.2, sem_eq_zero_of_no_sems (by decide) r.2⟩)
    (Value.run (F := Ideal) m ρ)

theorem real0 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).1 = (fun _ => 1#1)) (r : Fin _) (j : Fin _) : Reals.IsReal (x0 (ix2 r j)) := by
  have e := congrFun h (ix2 r j)
  unfold Pre_finite10.fn Pre_finite10.fn_part1 at e
  refine Reals.of_sub_self (Eq.trans ?_ e)
  pointwise []

theorem real2 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).2.1 = (fun _ => 1#1)) (r : Fin _) (j : Fin _) : Reals.IsReal (x2 (ix2 r j)) := by
  have e := congrFun h (ix2 r j)
  unfold Pre_finite10.fn Pre_finite10.fn_part1 at e
  refine Reals.of_sub_self (Eq.trans ?_ e)
  pointwise []

theorem real3 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).2.2.1 = (fun _ => 1#1)) (r : Fin _) (j : Fin _) : Reals.IsReal (x3 (ix2 r j)) := by
  have e := congrFun h (ix2 r j)
  unfold Pre_finite10.fn Pre_finite10.fn_part1 at e
  refine Reals.of_sub_self (Eq.trans ?_ e)
  pointwise []

theorem real4 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).2.2.2.1 = (fun _ => 1#1)) (r : Fin _) (j : Fin _) : Reals.IsReal (x4 (ix2 r j)) := by
  have e := congrFun h (ix2 r j)
  unfold Pre_finite10.fn Pre_finite10.fn_part1 at e
  refine Reals.of_sub_self (Eq.trans ?_ e)
  pointwise []

theorem real5 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).2.2.2.2.1 = (fun _ => 1#1)) (r : Fin _) (j : Fin _) : Reals.IsReal (x5 (ix2 r j)) := by
  have e := congrFun h (ix2 r j)
  unfold Pre_finite10.fn Pre_finite10.fn_part1 at e
  refine Reals.of_sub_self (Eq.trans ?_ e)
  pointwise []

theorem real6 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).2.2.2.2.2.1 = (fun _ => 1#1)) (r : Fin _) (j : Fin _) : Reals.IsReal (x6 (ix2 r j)) := by
  have e := congrFun h (ix2 r j)
  unfold Pre_finite10.fn Pre_finite10.fn_part1 at e
  refine Reals.of_sub_self (Eq.trans ?_ e)
  pointwise []

theorem real7 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).2.2.2.2.2.2.1 = (fun _ => 1#1)) (r : Fin _) (j : Fin _) : Reals.IsReal (x7 (ix2 r j)) := by
  have e := congrFun h (ix2 r j)
  unfold Pre_finite10.fn Pre_finite10.fn_part1 at e
  refine Reals.of_sub_self (Eq.trans ?_ e)
  pointwise []

theorem real8 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).2.2.2.2.2.2.2.1 = (fun _ => 1#1)) (r : Fin _) (j : Fin _) : Reals.IsReal (x8 (ix2 r j)) := by
  have e := congrFun h (ix2 r j)
  unfold Pre_finite10.fn Pre_finite10.fn_part1 at e
  refine Reals.of_sub_self (Eq.trans ?_ e)
  pointwise []

theorem real9 (x0 : Vec Ideal S8192x1024 .f32) (x1 : Vec Ideal S8192x1024 .f32) (x2 : Vec Ideal S1x1024 .f32) (x3 : Vec Ideal S8192x512 .bf16) (x4 : Vec Ideal S8192x512 .bf16) (x5 : Vec Ideal S8192x1280 .bf16) (x6 : Vec Ideal S8192x1280 .bf16) (x7 : Vec Ideal S8192x1024 .bf16) (x8 : Vec Ideal S8192x1024 .bf16) (x9 : Vec Ideal S4x2048x1408 .bf16) (h : (Pre_finite10.fn (F := Ideal) x0 x1 x2 x3 x4 x5 x6 x7 x8 x9).2.2.2.2.2.2.2.2 = (fun _ => 1#1)) (s : Fin 4) (k : Fin 1024) (j : Fin 1408) : Reals.IsReal (x9 (ix3 s (wide k) j)) := by
  have e := congrFun h (ix3 s k j)
  unfold Pre_finite10.fn Pre_finite10.fn_part1 at e
  refine Reals.of_sub_self (Eq.trans ?_ e)
  pointwise []

theorem first_eq (m' : (ℓ : Loc nD τ sig) → Buf (Elt Ideal) ℓ) (c : Dev nD) : Value.res_main_v57 m' c = firstR (b0 m' c) (b1 m' c) (b2 m' c) (backR (b3 m' c) (b4 m' c) (b5 m' c) (b6 m' c) (b7 m' c) (b8 m' c) (b9 m' c)) := by
  unfold Value.res_main_v57 firstR carriedR rootR squareR backR
  rfl

theorem second_eq (m' : (ℓ : Loc nD τ sig) → Buf (Elt Ideal) ℓ) (c : Dev nD) : (shapeCast _ (Host.reduceAdd (mulf (F := Ideal) (φ := .f32) (mulf (F := Ideal) (φ := .f32) (b0 m' c) (broadcastInDim S8192x1024 ![0, 1] bcast_S8192x1_S8192x1024_0_1 (Host.rsqrt (F := Ideal) (φ := .f32) (addf (F := Ideal) (φ := .f32) (Host.divf (F := Ideal) (φ := .f32) (broadcastInDim S8192x1 ![0] bcast_S8192_S8192x1_0 (Host.reduceAdd (mulf (F := Ideal) (φ := .f32) (b0 m' c) (b0 m' c)) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (Host.dotGeneral (F := Ideal) (φ₁ := .f32) (φ₂ := .f32) dot_S8192x5632_S1024x5632_S8192x1024_1_1_0_0_n_n none ((concatenate S8192x5632 1 [⟨S8192x512, ((extf (F := Ideal) .f32 (b3 m' c) bitsLt_bf16_f32) : (⟨S8192x512, .f32⟩ : BufTy).Contents (Elt Ideal))⟩, ⟨S8192x512, ((extf (F := Ideal) .f32 (b4 m' c) bitsLt_bf16_f32) : (⟨S8192x512, .f32⟩ : BufTy).Contents (Elt Ideal))⟩, ⟨S8192x1280, ((extf (F := Ideal) .f32 (b5 m' c) bitsLt_bf16_f32) : (⟨S8192x1280, .f32⟩ : BufTy).Contents (Elt Ideal))⟩, ⟨S8192x1280, ((extf (F := Ideal) .f32 (b6 m' c) bitsLt_bf16_f32) : (⟨S8192x1280, .f32⟩ : BufTy).Contents (Elt Ideal))⟩, ⟨S8192x1024, ((extf (F := Ideal) .f32 (b7 m' c) bitsLt_bf16_f32) : (⟨S8192x1024, .f32⟩ : BufTy).Contents (Elt Ideal))⟩, ⟨S8192x1024, ((extf (F := Ideal) .f32 (b8 m' c) bitsLt_bf16_f32) : (⟨S8192x1024, .f32⟩ : BufTy).Contents (Elt Ideal))⟩] concatenates_S8192x512_S8192x512_S8192x1280_S8192x1280_S8192x1024_S8192x1024_S8192x5632_d1 : (⟨S8192x5632, .f32⟩ : BufTy).Contents (Elt Ideal))) ((concatenate S1024x5632 1 [⟨S1024x1408, ((extf (F := Ideal) .f32 (shapeCast _ (extractStridedSlice S1x1024x1408 ![0, 0, 0] (extractStridedSlice S4x1024x1408 ![0, 0, 0] (b9 m' c) slices_S4x2048x1408_S4x1024x1408_0_0_0) slices_S4x1024x1408_S1x1024x1408_0_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![1, 0, 0] (extractStridedSlice S4x1024x1408 ![0, 0, 0] (b9 m' c) slices_S4x2048x1408_S4x1024x1408_0_0_0) slices_S4x1024x1408_S1x1024x1408_1_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![2, 0, 0] (extractStridedSlice S4x1024x1408 ![0, 0, 0] (b9 m' c) slices_S4x2048x1408_S4x1024x1408_0_0_0) slices_S4x1024x1408_S1x1024x1408_2_0_0) shapeCasts_S1x1024x1408_S1024x1408) bitsLt_bf16_f32) : (⟨S1024x1408, .f32⟩ : BufTy).Contents (Elt Ideal))⟩, ⟨S1024x1408, ((extf (F := Ideal) .f32 (shapeCast _ (extractStridedSlice S1x1024x1408 ![3, 0, 0] (extractStridedSlice S4x1024x1408 ![0, 0, 0] (b9 m' c) slices_S4x2048x1408_S4x1024x1408_0_0_0) slices_S4x1024x1408_S1x1024x1408_3_0_0) shapeCasts_S1x1024x1408_S1024x1408) bitsLt_bf16_f32) : (⟨S1024x1408, .f32⟩ : BufTy).Contents (Elt Ideal))⟩] concatenates_S1024x1408_S1024x1408_S1024x1408_S1024x1408_S1024x5632_d1 : (⟨S1024x5632, .f32⟩ : BufTy).Contents (Elt Ideal))))) (constant (F := Ideal) S_ .f32 0x00000000#32) reducesTo_S8192x1024_S1024_d0 h_S_) shapeCasts_S1024_S1x1024 : Vec Ideal S1x1024 .f32) = secondR (b0 m' c) (backR (b3 m' c) (b4 m' c) (b5 m' c) (b6 m' c) (b7 m' c) (b8 m' c) (b9 m' c)) := by
  unfold secondR rootR squareR backR
  rfl

/-- Kernel and reference compute the same gradients. -/
theorem algebraic : algebraic_Kernel10Ideal_Reference10Ideal_pre_finite10 := by
  intro m ρ m' ρ' hp hm
  refine ⟨_, _, result m ρ, ?_⟩
  refine (θ_run defs _ _).mono (fun r h c => ?_) (Value.run (F := Ideal) m' ρ')
  obtain ⟨p0, p2, p3, p4, p5, p6, p7, p8, p9⟩ := hp c
  have r0 := real0 _ _ _ _ _ _ _ _ _ _ p0
  have r2 := real2 _ _ _ _ _ _ _ _ _ _ p2
  have r3 := real3 _ _ _ _ _ _ _ _ _ _ p3
  have r4 := real4 _ _ _ _ _ _ _ _ _ _ p4
  have r5 := real5 _ _ _ _ _ _ _ _ _ _ p5
  have r6 := real6 _ _ _ _ _ _ _ _ _ _ p6
  have r7 := real7 _ _ _ _ _ _ _ _ _ _ p7
  have r8 := real8 _ _ _ _ _ _ _ _ _ _ p8
  have r9 := real9 _ _ _ _ _ _ _ _ _ _ p9
  clear p0 p2 p3 p4 p5 p6 p7 p8 p9 hp
  obtain ⟨e0, e1, e2, e3, e4, e5, e6, e7, e8, e9⟩ := hm c
  rw [← e0, ← e1, ← e2, ← e3, ← e4, ← e5, ← e6, ← e7, ← e8, ← e9]
  rw [← e0] at r0
  rw [← e2] at r2
  rw [← e3] at r3
  rw [← e4] at r4
  rw [← e5] at r5
  rw [← e6] at r6
  rw [← e7] at r7
  rw [← e8] at r8
  rw [← e9] at r9
  refine ⟨(h c).1.trans ((first_eq m' c).trans ?_), (h c).2.1.trans ((second_eq m' c).trans ?_), (h c).2.2⟩
  · funext y
    idx_vars y
    exact firstR_at (b0 m' c) (b1 m' c) (b2 m' c) (b3 m' c) (b4 m' c) (b5 m' c) (b6 m' c) (b7 m' c) (b8 m' c) (b9 m' c) r0 (backN_real (b2 m' c) (b3 m' c) (b4 m' c) (b5 m' c) (b6 m' c) (b7 m' c) (b8 m' c) (b9 m' c) r2 r3 r4 r5 r6 r7 r8 r9) _ _
  · funext y
    idx_vars y
    exact secondR_at (b0 m' c) (b3 m' c) (b4 m' c) (b5 m' c) (b6 m' c) (b7 m' c) (b8 m' c) (b9 m' c) _ _

end Cert.Bin10

end
-- ==== Proof.Merge11.lean ====
module

public import proofs.«01_k».proof.Proof.Sig
public import proofs.«01_k».proof.Proof.Gen.Kernel11Ideal.Value
public import Idealize.ShloMosaic.Lib.Pipeline.ValueKit
public import Idealize.ShloMosaic.Lib.Pointwise

/-! The two branches gated, projected, normalised and added to the rows, a block of 512 rows a point. -/

@[expose] public section

noncomputable section

namespace Cert.Merge11

open Idealize.ShloMosaic Idealize.ShloMosaic.TcCoe Idealize.SL.Sem
open Cert.Kernel11Ideal Cert.Kernel11Ideal.Gen

set_option maxRecDepth 16384

/-- The recurrent branch, gated and projected. -/
def branch (h : Vec Ideal S8192x1280 .f32) (u : Vec Ideal S8192x1280 .bf16) (w : Vec Ideal S1280x1024 .bf16) (r : Fin 8192) (j : Fin 1024) : EReal :=
  ∑ k : Fin 1280, h (ix2 r k) * (u (ix2 r k) * Ideal.logistic (u (ix2 r k))) * w (ix2 k j)

/-- The gated sum of the branches. -/
def merged (h : Vec Ideal S8192x1280 .f32) (u : Vec Ideal S8192x1280 .bf16) (z a b : Vec Ideal S8192x1024 .bf16) (w : Vec Ideal S1280x1024 .bf16) (r : Fin 8192) (j : Fin 1024) : EReal :=
  Ideal.logistic (a (ix2 r j)) * z (ix2 r j) + Ideal.logistic (b (ix2 r j)) * branch h u w r j

/-- Its projection. -/
def mix (h : Vec Ideal S8192x1280 .f32) (u : Vec Ideal S8192x1280 .bf16) (z a b : Vec Ideal S8192x1024 .bf16) (w : Vec Ideal S1280x1024 .bf16) (v : Vec Ideal S1024x1024 .bf16) (r : Fin 8192) (j : Fin 1024) : EReal :=
  ∑ k : Fin 1024, merged h u z a b w r k * v (ix2 k j)

/-- The rows with the normalised projection added. -/
def added (h : Vec Ideal S8192x1280 .f32) (u : Vec Ideal S8192x1280 .bf16) (z a b : Vec Ideal S8192x1024 .bf16) (x : Vec Ideal S8192x1024 .f32) (w : Vec Ideal S1280x1024 .bf16) (v : Vec Ideal S1024x1024 .bf16) (g : Vec Ideal S1x1024 .f32) (r : Fin 8192) (j : Fin 1024) : EReal :=
  x (ix2 r j) + mix h u z a b w v r j * Ideal.rsqrt (Ideal.div (∑ k : Fin 1024, mix h u z a b w v r k * mix h u z a b w v r k) (Ideal.ofBits FTy.f32 1149239296#32) + Ideal.ofBits FTy.f32 897988541#32) * g (ix2 0 j)

variable (m : (ℓ : Loc nD τ sig) → Buf (Elt Ideal) ℓ)

/-- The array row of row `k` of point `t`'s block. -/
abbrev row (t : Fin cfg0.N) (k : Fin 512) : Fin 8192 := ⟨t.val * 512 + k.val, by have := t.isLt; have : cfg0.N = 16 := N_0; omega⟩

theorem blk0 (c : Dev nD) (t : Fin cfg0.N) (k : Fin 512) (i : Fin 1280) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 512) (i : Fin 1280) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 512) (i : Fin 1024) : iblk m c 2 t (ix2 k i) = m ((c.tc : Thread nD τ).loc main_arg2) (ix2 (row t k) i) := by
  have e : ∀ t : Fin cfg0.N, win0_2.index t = ![t.val, 0] := (by decide +kernel : ∀ t : Fin grid0.N, _)
  blk_ext [row, Gen.iblk, Gen.V, e t]

theorem blk3 (c : Dev nD) (t : Fin cfg0.N) (k : Fin 512) (i : Fin 1024) : iblk m c 3 t (ix2 k i) = m ((c.tc : Thread nD τ).loc main_arg3) (ix2 (row t k) i) := by
  have e : ∀ t : Fin cfg0.N, win0_3.index t = ![t.val, 0] := (by decide +kernel : ∀ t : Fin grid0.N, _)
  blk_ext [row, Gen.iblk, Gen.V, e t]

theorem blk4 (c : Dev nD) (t : Fin cfg0.N) (k : Fin 512) (i : Fin 1024) : iblk m c 4 t (ix2 k i) = m ((c.tc : Thread nD τ).loc main_arg4) (ix2 (row t k) i) := by
  have e : ∀ t : Fin cfg0.N, win0_4.index t = ![t.val, 0] := (by decide +kernel : ∀ t : Fin grid0.N, _)
  blk_ext [row, Gen.iblk, Gen.V, e t]

theorem blk5 (c : Dev nD) (t : Fin cfg0.N) (k : Fin 512) (i : Fin 1024) : iblk m c 5 t (ix2 k i) = m ((c.tc : Thread nD τ).loc main_arg5) (ix2 (row t k) i) := by
  have e : ∀ t : Fin cfg0.N, win0_5.index t = ![t.val, 0] := (by decide +kernel : ∀ t : Fin grid0.N, _)
  blk_ext [row, Gen.iblk, Gen.V, e t]

theorem blk6 (c : Dev nD) (t : Fin cfg0.N) (k : Fin 1280) (i : Fin 1024) : iblk m c 6 t (ix2 k i) = m ((c.tc : Thread nD τ).loc main_arg6) (ix2 k i) := by
  have e : ∀ t : Fin cfg0.N, win0_6.index t = ![0, 0] := (by decide +kernel : ∀ t : Fin grid0.N, _)
  blk_ext [Gen.iblk, Gen.V, e t]

theorem blk7 (c : Dev nD) (t : Fin cfg0.N) (k : Fin 1024) (i : Fin 1024) : iblk m c 7 t (ix2 k i) = m ((c.tc : Thread nD τ).loc main_arg7) (ix2 k i) := by
  have e : ∀ t : Fin cfg0.N, win0_7.index t = ![0, 0] := (by decide +kernel : ∀ t : Fin grid0.N, _)
  blk_ext [Gen.iblk, Gen.V, e t]

theorem blk8 (c : Dev nD) (t : Fin cfg0.N) (i : Fin 1024) : iblk m c 8 t (ix2 0 i) = m ((c.tc : Thread nD τ).loc main_arg8) (ix2 0 i) := by
  have e : ∀ t : Fin cfg0.N, win0_8.index t = ![0, 0] := (by decide +kernel : ∀ t : Fin grid0.N, _)
  blk_ext [Gen.iblk, Gen.V, e t]

theorem pay_branch (c : Dev nD) (t : Fin cfg0.N) (i : Fin 512) (j : Fin 1024) :
    k0_pay6 (iblk m c 0 t) (iblk m c 1 t) (iblk m c 6 t) (ix2 i j) = branch (m ((c.tc : Thread nD τ).loc main_arg0)) (m ((c.tc : Thread nD τ).loc main_arg1)) (m ((c.tc : Thread nD τ).loc main_arg6)) (row t i) j := by
  pointwise [k0_pay6]
  unfold branch
  simp only [Sig.sigmoid_eq, blk0, blk1, blk6]

theorem pay_mix (c : Dev nD) (t : Fin cfg0.N) (i : Fin 512) (j : Fin 1024) :
    k0_pay1 (k0_pay5 (iblk m c 4 t)) (iblk m c 7 t) (k0_pay6 (iblk m c 0 t) (iblk m c 1 t) (iblk m c 6 t)) (k0_pay7 (iblk m c 2 t) (iblk m c 3 t)) k0_pay8 (ix2 i j) = mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (row t i) j := by
  pointwise [k0_pay1, k0_pay5, k0_pay7, k0_pay8]
  unfold mix merged
  simp only [Sig.sigmoid_eq, blk2, blk3, blk4, blk7, pay_branch]

theorem pay_added (c : Dev nD) (t : Fin cfg0.N) (i : Fin 512) (j : Fin 1024) :
    k0_pay2 (k0_pay5 (iblk m c 4 t)) (iblk m c 5 t) (iblk m c 7 t) (iblk m c 8 t) (k0_pay6 (iblk m c 0 t) (iblk m c 1 t) (iblk m c 6 t)) (k0_pay7 (iblk m c 2 t) (iblk m c 3 t)) k0_pay8 (ix2 i j) = added (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (row t i) j := by
  pointwise [k0_pay2]
  unfold added
  simp only [blk5, blk8, pay_mix]

theorem pay_mix' (c : Dev nD) (t : Fin cfg0.N) (i : Fin 512) (j : Fin 1024) :
    k0_pay3 (k0_pay5 (iblk m c 4 t)) (iblk m c 7 t) (k0_pay6 (iblk m c 0 t) (iblk m c 1 t) (iblk m c 6 t)) (k0_pay7 (iblk m c 2 t) (iblk m c 3 t)) k0_pay8 (ix2 i j) = mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (row t i) j :=
  pay_mix m c t i j

theorem pay_branch' (c : Dev nD) (t : Fin cfg0.N) (i : Fin 512) (j : Fin 1024) :
    k0_pay4 (k0_pay6 (iblk m c 0 t) (iblk m c 1 t) (iblk m c 6 t)) (ix2 i j) = branch (m ((c.tc : Thread nD τ).loc main_arg0)) (m ((c.tc : Thread nD τ).loc main_arg1)) (m ((c.tc : Thread nD τ).loc main_arg6)) (row t i) j :=
  pay_branch m c t i j

theorem emb_row9 (t : Fin cfg0.N) (y0 : Fin 512) (y1 : Fin 1024) : ((View.whole main_v0_0).slice (win0_9.rect t)).emb (ix2 y0 y1) 0 = row t y0 := by
  have e : ∀ t : Fin cfg0.N, win0_9.index t = ![t.val, 0] := (by decide +kernel : ∀ t : Fin grid0.N, _)
  apply Fin.ext
  show win0_9.index t (0 : Fin 2) * 512 + 1 * y0.val = t.val * 512 + y0.val
  rw [e t]
  show t.val * 512 + 1 * y0.val = t.val * 512 + y0.val
  rw [Nat.one_mul]

theorem emb_col9 (t : Fin cfg0.N) (y0 : Fin 512) (y1 : Fin 1024) : ((View.whole main_v0_0).slice (win0_9.rect t)).emb (ix2 y0 y1) 1 = y1 := by
  have e : ∀ t : Fin cfg0.N, win0_9.index t = ![t.val, 0] := (by decide +kernel : ∀ t : Fin grid0.N, _)
  apply Fin.ext
  show win0_9.index t (1 : Fin 2) * 1024 + 1 * y1.val = y1.val
  rw [e t]
  show 0 * 1024 + 1 * y1.val = y1.val
  omega

theorem final9 (c : Dev nD) : (dats m 0 c).arrAt 9 cfg0.N = (fun y : S8192x1024.Idx => added (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (y 0) (y 1)) := by
  refine (dats m 0 c).arrAt_eq_of_covers 9 _ (by decide +kernel) fun t hf y => ?_
  have e : ∀ t : Fin cfg0.N, win0_9.index t = ![t.val, 0] := (by decide +kernel : ∀ t : Fin grid0.N, _)
  blk_simp [e t]
  rw [after0_9]; unfold_out out0_9; frame_out
  change S512x1024.Idx at y
  idx_vars y
  rw [pay_added, emb_row9, emb_col9]

theorem emb_row10 (t : Fin cfg0.N) (y0 : Fin 512) (y1 : Fin 1024) : ((View.whole main_v0_1).slice (win0_10.rect t)).emb (ix2 y0 y1) 0 = row t y0 := by
  have e : ∀ t : Fin cfg0.N, win0_10.index t = ![t.val, 0] := (by decide +kernel : ∀ t : Fin grid0.N, _)
  apply Fin.ext
  show win0_10.index t (0 : Fin 2) * 512 + 1 * y0.val = t.val * 512 + y0.val
  rw [e t]
  show t.val * 512 + 1 * y0.val = t.val * 512 + y0.val
  rw [Nat.one_mul]

theorem emb_col10 (t : Fin cfg0.N) (y0 : Fin 512) (y1 : Fin 1024) : ((View.whole main_v0_1).slice (win0_10.rect t)).emb (ix2 y0 y1) 1 = y1 := by
  have e : ∀ t : Fin cfg0.N, win0_10.index t = ![t.val, 0] := (by decide +kernel : ∀ t : Fin grid0.N, _)
  apply Fin.ext
  show win0_10.index t (1 : Fin 2) * 1024 + 1 * y1.val = y1.val
  rw [e t]
  show 0 * 1024 + 1 * y1.val = y1.val
  omega

theorem final10 (c : Dev nD) : (dats m 0 c).arrAt 10 cfg0.N = (fun y : S8192x1024.Idx => mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (y 0) (y 1)) := by
  refine (dats m 0 c).arrAt_eq_of_covers 10 _ (by decide +kernel) fun t hf y => ?_
  have e : ∀ t : Fin cfg0.N, win0_10.index t = ![t.val, 0] := (by decide +kernel : ∀ t : Fin grid0.N, _)
  blk_simp [e t]
  rw [after0_10]; unfold_out out0_10; frame_out
  change S512x1024.Idx at y
  idx_vars y
  rw [pay_mix', emb_row10, emb_col10]

theorem emb_row11 (t : Fin cfg0.N) (y0 : Fin 512) (y1 : Fin 1024) : ((View.whole main_v0_2).slice (win0_11.rect t)).emb (ix2 y0 y1) 0 = row t y0 := by
  have e : ∀ t : Fin cfg0.N, win0_11.index t = ![t.val, 0] := (by decide +kernel : ∀ t : Fin grid0.N, _)
  apply Fin.ext
  show win0_11.index t (0 : Fin 2) * 512 + 1 * y0.val = t.val * 512 + y0.val
  rw [e t]
  show t.val * 512 + 1 * y0.val = t.val * 512 + y0.val
  rw [Nat.one_mul]

theorem emb_col11 (t : Fin cfg0.N) (y0 : Fin 512) (y1 : Fin 1024) : ((View.whole main_v0_2).slice (win0_11.rect t)).emb (ix2 y0 y1) 1 = y1 := by
  have e : ∀ t : Fin cfg0.N, win0_11.index t = ![t.val, 0] := (by decide +kernel : ∀ t : Fin grid0.N, _)
  apply Fin.ext
  show win0_11.index t (1 : Fin 2) * 1024 + 1 * y1.val = y1.val
  rw [e t]
  show 0 * 1024 + 1 * y1.val = y1.val
  omega

theorem final11 (c : Dev nD) : (dats m 0 c).arrAt 11 cfg0.N = (fun y : S8192x1024.Idx => branch (m ((c.tc : Thread nD τ).loc main_arg0)) (m ((c.tc : Thread nD τ).loc main_arg1)) (m ((c.tc : Thread nD τ).loc main_arg6)) (y 0) (y 1)) := by
  refine (dats m 0 c).arrAt_eq_of_covers 11 _ (by decide +kernel) fun t hf y => ?_
  have e : ∀ t : Fin cfg0.N, win0_11.index t = ![t.val, 0] := (by decide +kernel : ∀ t : Fin grid0.N, _)
  blk_simp [e t]
  rw [after0_11]; unfold_out out0_11; frame_out
  change S512x1024.Idx at y
  idx_vars y
  rw [pay_branch', emb_row11, emb_col11]

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = (fun y : S8192x1024.Idx => added (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (y 0) (y 1))
      ∧ r.2.mem ((c.tc : Thread nD τ).loc main_v0_1) = (fun y : S8192x1024.Idx => mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (y 0) (y 1))
      ∧ r.2.mem ((c.tc : Thread nD τ).loc main_v0_2) = (fun y : S8192x1024.Idx => branch (m ((c.tc : Thread nD τ).loc main_arg0)) (m ((c.tc : Thread nD τ).loc main_arg1)) (m ((c.tc : Thread nD τ).loc main_arg6)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (final9 m c), (h c).2.1.trans (final10 m c), (h c).2.2.1.trans (final11 m c), (h c).2.2.2⟩) (Value.run_blocks m ρ)

end Cert.Merge11

end
-- ==== Proof.Merge11Ref.lean ====
module

public import proofs.«01_k».proof.Proof.Merge11
public import proofs.«01_k».proof.Defs
public import proofs.«01_k».proof.Proof.Gen.Kernel11.Frame
public import proofs.«01_k».proof.Proof.Gen.Reference11Ideal.Run
public import Idealize.ShloMosaic.Lib.Quiescent
public import Idealize.ShloMosaic.Lib.Pointwise

/-! The reference of the merge, read at an entry. -/

@[expose] public section

noncomputable section

namespace Cert.Merge11

open Idealize.ShloMosaic Idealize.ShloMosaic.TcCoe Idealize.SL.Sem
open Cert.Reference11Ideal Cert.Reference11Ideal.Gen

set_option maxRecDepth 16384

theorem ref_branch (x0 : Vec Ideal S8192x1280 .f32) (x1 : Vec Ideal S8192x1280 .bf16) (x6 : Vec Ideal S1280x1024 .bf16) (r : Fin 8192) (j : Fin 1024) :
    (Host.dotGeneral (F := Ideal) (φ₁ := .f32) (φ₂ := .f32) dot_S8192x1280_S1280x1024_S8192x1024_1_0_0_1_n_n none (mulf x0 (mulf (extf (F := Ideal) .f32 x1 bitsLt_bf16_f32) (Host.divf (broadcastInDim S8192x1280 ![] bcast_S_S8192x1280 (constant S_ .f32 0x3F800000#32)) (addf (broadcastInDim S8192x1280 ![] bcast_S_S8192x1280 (constant S_ .f32 0x3F800000#32)) (Host.exp (Host.negf (extf (F := Ideal) .f32 x1 bitsLt_bf16_f32))))))) (extf (F := Ideal) .f32 x6 bitsLt_bf16_f32)) (ix2 r j) = branch x0 x1 x6 r j := by
  pointwise []
  unfold branch
  simp only [Sig.host_eq]

theorem ref_mix (x0 : Vec Ideal S8192x1280 .f32) (x1 : Vec Ideal S8192x1280 .bf16) (x2 x3 x4 : Vec Ideal S8192x1024 .bf16) (x6 : Vec Ideal S1280x1024 .bf16) (x7 : Vec Ideal S1024x1024 .bf16) (r : Fin 8192) (j : Fin 1024) :
    (Host.dotGeneral (F := Ideal) (φ₁ := .f32) (φ₂ := .f32) dot_S8192x1024_S1024x1024_S8192x1024_1_0_0_1_n_n none (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf (F := Ideal) .f32 x3 bitsLt_bf16_f32))))) (extf (F := Ideal) .f32 x2 bitsLt_bf16_f32)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf (F := Ideal) .f32 x4 bitsLt_bf16_f32))))) (Host.dotGeneral (F := Ideal) (φ₁ := .f32) (φ₂ := .f32) dot_S8192x1280_S1280x1024_S8192x1024_1_0_0_1_n_n none (mulf x0 (mulf (extf (F := Ideal) .f32 x1 bitsLt_bf16_f32) (Host.divf (broadcastInDim S8192x1280 ![] bcast_S_S8192x1280 (constant S_ .f32 0x3F800000#32)) (addf (broadcastInDim S8192x1280 ![] bcast_S_S8192x1280 (constant S_ .f32 0x3F800000#32)) (Host.exp (Host.negf (extf (F := Ideal) .f32 x1 bitsLt_bf16_f32))))))) (extf (F := Ideal) .f32 x6 bitsLt_bf16_f32)))) (extf (F := Ideal) .f32 x7 bitsLt_bf16_f32)) (ix2 r j) = mix x0 x1 x2 x3 x4 x6 x7 r j := by
  pointwise []
  unfold mix merged branch
  simp only [Sig.host_eq]

theorem frame_reference : quiescent_Reference11Ideal := fun m ρ _ =>
  (θ_run defs _ _).mono (fun r h => ⟨fun c => (h c).2.2.2, sem_eq_zero_of_no_sems (by decide) r.2⟩)
    (Value.run (F := Ideal) m ρ)

theorem ref_added (m : (ℓ : Loc nD τ sig) → Buf (Elt Ideal) ℓ) (c : Dev nD) :
    Value.res_main_v37 m c = (fun y : S8192x1024.Idx => added (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (y 0) (y 1)) := by
  funext y
  idx_vars y
  unfold Value.res_main_v37
  pointwise []
  unfold added mix merged branch
  simp only [Sig.host_eq]

/-- Kernel and reference compute the same rows. -/
theorem algebraic : algebraic_Kernel11Ideal_Reference11Ideal := by
  intro m ρ m' ρ' _ hm
  refine ⟨_, _, _, result m ρ, ?_⟩
  refine (θ_run defs _ _).mono (fun r h c => ?_) (Value.run (F := Ideal) m' ρ')
  obtain ⟨e0, e1, e2, e3, e4, e5, e6, e7, e8⟩ := hm c
  rw [← e0, ← e1, ← e2, ← e3, ← e4, ← e5, ← e6, ← e7, ← e8]
  refine ⟨(h c).1.trans (ref_added m' c), (h c).2.1.trans ?_, (h c).2.2.1.trans ?_, (h c).2.2.2⟩
  · funext y
    idx_vars y
    exact ref_mix (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg6)) (m' ((c.tc : Thread nD τ).loc main_arg7)) _ _
  · funext y
    idx_vars y
    exact ref_branch (m' ((c.tc : Thread nD τ).loc main_arg0)) (m' ((c.tc : Thread nD τ).loc main_arg1)) (m' ((c.tc : Thread nD τ).loc main_arg6)) _ _

end Cert.Merge11

end
-- ==== Proof.Ple12.lean ====
module

public import proofs.«01_k».proof.Defs
public import proofs.«01_k».proof.Proof.Sig
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent
public import Idealize.ShloMosaic.Lib.Pipeline.ValueKit
public import Idealize.ShloMosaic.Lib.Pointwise

/-! The gated per-layer embedding added to the rows, a block of 512 rows a point. -/

@[expose] public section

noncomputable section

namespace Cert.Ple12

open Idealize.ShloMosaic Idealize.ShloMosaic.TcCoe Idealize.SL.Sem
open Cert.Kernel12Ideal Cert.Kernel12Ideal.Gen

set_option maxRecDepth 16384

/-- One entry of the result. -/
def entry (x : Vec Ideal S8192x1024 .f32) (p : Vec Ideal S8192x256 .f32) (w : Vec Ideal S256x1024 .bf16) (v : Vec Ideal S1024x1024 .bf16) (r : Fin 8192) (j : Fin 1024) : EReal :=
  x (ix2 r j) + (∑ k : Fin 256, p (ix2 r k) * w (ix2 k j)) * Ideal.logistic (∑ k : Fin 1024, x (ix2 r k) * v (ix2 k j))

variable (m : (ℓ : Loc nD τ sig) → Buf (Elt Ideal) ℓ)

/-- The array row of row `k` of point `t`'s block. -/
abbrev row (t : Fin cfg0.N) (k : Fin 512) : Fin 8192 := ⟨t.val * 512 + k.val, by have := t.isLt; have : cfg0.N = 16 := N_0; omega⟩

theorem blk0 (c : Dev nD) (t : Fin cfg0.N) (k : Fin 512) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 512) (i : Fin 256) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 256) (i : Fin 1024) : iblk m c 2 t (ix2 k i) = m ((c.tc : Thread nD τ).loc main_arg2) (ix2 k i) := by
  have e : ∀ t : Fin cfg0.N, win0_2.index t = ![0, 0] := (by decide +kernel : ∀ t : Fin grid0.N, _)
  blk_ext [Gen.iblk, Gen.V, e t]

theorem blk3 (c : Dev nD) (t : Fin cfg0.N) (k : Fin 1024) (i : Fin 1024) : iblk m c 3 t (ix2 k i) = m ((c.tc : Thread nD τ).loc main_arg3) (ix2 k i) := by
  have e : ∀ t : Fin cfg0.N, win0_3.index t = ![0, 0] := (by decide +kernel : ∀ t : Fin grid0.N, _)
  blk_ext [Gen.iblk, Gen.V, e t]

theorem pay (c : Dev nD) (t : Fin cfg0.N) (i : Fin 512) (j : Fin 1024) :
    k0_pay1 (iblk m c 0 t) (iblk m c 1 t) (iblk m c 2 t) (iblk m c 3 t) (ix2 i j) = entry (m ((c.tc : Thread nD τ).loc main_arg0)) (m ((c.tc : Thread nD τ).loc main_arg1)) (m ((c.tc : Thread nD τ).loc main_arg2)) (m ((c.tc : Thread nD τ).loc main_arg3)) (row t i) j := by
  pointwise [k0_pay1]
  unfold entry
  rw [Sig.sigmoid_eq]
  simp only [blk0, blk1, blk2, blk3]

theorem final (c : Dev nD) : (dats m 0 c).arrAt 4 cfg0.N = (fun y : S8192x1024.Idx => entry (m ((c.tc : Thread nD τ).loc main_arg0)) (m ((c.tc : Thread nD τ).loc main_arg1)) (m ((c.tc : Thread nD τ).loc main_arg2)) (m ((c.tc : Thread nD τ).loc main_arg3)) (y 0) (y 1)) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; frame_out
  change S512x1024.Idx at y
  idx_vars y
  have hb : ((View.whole main_v0).slice (win0_4.rect t)).emb (ix2 y0 y1) 0 = row t y0 := by
    apply Fin.ext
    show win0_4.index t (0 : Fin 2) * 512 + 1 * y0.val = t.val * 512 + y0.val
    rw [e t]
    show t.val * 512 + 1 * y0.val = t.val * 512 + y0.val
    rw [Nat.one_mul]
  have hc : ((View.whole main_v0).slice (win0_4.rect t)).emb (ix2 y0 y1) 1 = y1 := by
    apply Fin.ext
    show win0_4.index t (1 : Fin 2) * 1024 + 1 * y1.val = y1.val
    rw [e t]
    show 0 * 1024 + 1 * y1.val = y1.val
    omega
  rw [pay, hb, hc]

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0) = (fun y : S8192x1024.Idx => entry (m ((c.tc : Thread nD τ).loc main_arg0)) (m ((c.tc : Thread nD τ).loc main_arg1)) (m ((c.tc : Thread nD τ).loc main_arg2)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (Value.run_blocks m ρ)

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Kernel and reference compute the same rows. -/
theorem algebraic : Cert.algebraic_Kernel12Ideal_Reference12Ideal := by
  intro m ρ m' ρ' _ hm
  refine ⟨_, result m ρ, ?_⟩
  refine (θ_run Cert.Reference12Ideal.defs _ _).mono (fun r h c => ⟨(h c).1.trans ?_, (h c).2⟩) (Cert.Reference12Ideal.Value.run (F := Ideal) m' ρ')
  obtain ⟨e0, e1, e2, e3⟩ := hm c
  rw [e0, e1, e2, e3]
  generalize m _ = x0
  generalize m _ = x1
  generalize m _ = x2
  generalize m _ = x3
  funext y
  idx_vars y
  pointwise []
  rw [Sig.host_eq]
  rfl

end Cert.Ple12

end
-- ==== Proof.Gelu.lean ====
module

public import proofs.«01_k».proof.Proof.Sig
public import proofs.«01_k».proof.Proof.Reals

/-! The smooth rectifier written with the hyperbolic tangent of a cubic, and its derivative, as the kernel and as the host spell them. -/

@[expose] public section

noncomputable section

namespace Cert.Gelu

open Idealize.ShloMosaic

/-- The hyperbolic tangent of the cubic whose leading coefficient is `c`, up to the common factor. -/
def curve (c x : EReal) : EReal :=
  Ideal.tanh (Ideal.ofBits FTy.f32 1061962282#32 * (x + c * x * x * x))

/-- The rectifier. -/
def value (c x : EReal) : EReal :=
  Ideal.ofBits FTy.f32 1056964608#32 * x * (1 + curve c x)

/-- Its derivative, `e` the derivative's coefficient of the square. -/
def slope (c e x : EReal) : EReal :=
  Ideal.ofBits FTy.f32 1056964608#32 * (1 + curve c x) + Ideal.ofBits FTy.f32 1056964608#32 * x * (1 - curve c x * curve c x) * Ideal.ofBits FTy.f32 1061962282#32 * (1 + e * x * x)

theorem host_curve (c x : EReal) : Ideal.tanh (Ideal.ofBits FTy.f32 1061962282#32 * (x + c * (x * x * x))) = curve c x := by
  unfold curve
  rw [← mul_assoc c, ← mul_assoc c]

theorem host_value (c x : EReal) : x * (Ideal.ofBits FTy.f32 1056964608#32 * (1 + curve c x)) = value c x := by
  unfold value
  rw [← mul_assoc, mul_comm x]

theorem real_curve (c x : EReal) : Reals.IsReal (curve c x) := by
  unfold curve
  generalize Ideal.ofBits FTy.f32 1061962282#32 * (x + c * x * x * x) = z
  induction z using EReal.rec with
  | bot => exact ⟨-1, by rw [Ideal.tanh_bot]; rfl⟩
  | top => exact ⟨1, by rw [Ideal.tanh_top]; rfl⟩
  | coe z => exact ⟨_, Ideal.tanh_coe z⟩

theorem factor_eq : Ideal.ofBits FTy.f32 1061962282#32 = ((6693141 / 8388608 : ℝ) : EReal) := by
  simp [Ideal.ofBits, Ideal.ieee, -EReal.coe_mul]
  norm_num

theorem three_eq : Ideal.ofBits FTy.f32 1077936128#32 = ((3 : ℝ) : EReal) := by
  simp [Ideal.ofBits, Ideal.ieee, -EReal.coe_mul]
  norm_num

theorem real_value (c : EReal) {x : EReal} (hx : Reals.IsReal x) : Reals.IsReal (value c x) := by
  unfold value
  rw [Sig.half_eq]
  exact Reals.mul (Reals.mul (Reals.coe _) hx) (Reals.add (Reals.coe 1) (real_curve c x))

/-- The derivative times `d`, as the host adds it up. -/
theorem slope_eq (q : ℝ) {x d : EReal} (hx : Reals.IsReal x) (hd : Reals.IsReal d) :
    d * slope (q : EReal) ((3 * q : ℝ) : EReal) x =
      d * (Ideal.ofBits FTy.f32 1056964608#32 * (1 + curve q x))
        + Ideal.ofBits FTy.f32 1061962282#32 * (Ideal.ofBits FTy.f32 1056964608#32 * (x * d) * ((1 + curve q x) * (1 - curve q x)))
        + (q : EReal) * (Ideal.ofBits FTy.f32 1061962282#32 * (Ideal.ofBits FTy.f32 1056964608#32 * (x * d) * ((1 + curve q x) * (1 - curve q x)))) * (Ideal.ofBits FTy.f32 1077936128#32 * (x * x)) := by
  unfold slope
  have ht := real_curve q x
  generalize curve (q : EReal) x = t at ht ⊢
  obtain ⟨t, rfl⟩ := ht
  obtain ⟨x, rfl⟩ := hx
  obtain ⟨d, rfl⟩ := hd
  rw [Sig.half_eq, factor_eq, three_eq, show (1 : EReal) = ((1 : ℝ) : EReal) from rfl]
  simp only [← EReal.coe_sub, ← EReal.coe_mul, ← EReal.coe_add]
  congr 1
  ring

end Cert.Gelu

end
-- ==== Proof.S5post13.lean ====
module

public import proofs.«01_k».proof.Proof.Gelu
public import proofs.«01_k».proof.Proof.Gen.Kernel13Ideal.Value
public import Idealize.ShloMosaic.Lib.Pipeline.ValueKit
public import Idealize.ShloMosaic.Lib.Pointwise

/-! The structured branch behind its scan: the rectifier, the gated linear unit, the gate and the projection, a block of 512 rows a point. -/

@[expose] public section

noncomputable section

namespace Cert.S5post13

open Idealize.ShloMosaic Idealize.ShloMosaic.TcCoe Idealize.SL.Sem
open Cert.Kernel13Ideal Cert.Kernel13Ideal.Gen

set_option maxRecDepth 16384

/-- The linear unit's product, a row of twice the branch's width. -/
def glu (x0 : Vec Ideal S8192x512 .f32) (x2 : Vec Ideal S512x1024 .bf16) (r : Fin 8192) (j : Fin 1024) : EReal :=
  ∑ k : Fin 512, Gelu.value (Ideal.ofBits FTy.f32 1027024659#32) (x0 (ix2 r k)) * x2 (ix2 k j)

/-- The first half of the product, gated by the second half and by the branch's gate. -/
def gated (x0 : Vec Ideal S8192x512 .f32) (x1 : Vec Ideal S8192x512 .bf16) (x2 : Vec Ideal S512x1024 .bf16) (r : Fin 8192) (k : Fin 512) : EReal :=
  glu x0 x2 r ⟨k.val, by omega⟩ * Ideal.logistic (glu x0 x2 r ⟨512 + k.val, by omega⟩) * (x1 (ix2 r k) * Ideal.logistic (x1 (ix2 r k)))

/-- The branch's projection. -/
def branch (x0 : Vec Ideal S8192x512 .f32) (x1 : Vec Ideal S8192x512 .bf16) (x2 : Vec Ideal S512x1024 .bf16) (x3 : Vec Ideal S512x1024 .bf16) (r : Fin 8192) (j : Fin 1024) : EReal :=
  ∑ k : Fin 512, gated x0 x1 x2 r k * x3 (ix2 k j)

variable (m : (ℓ : Loc nD τ sig) → Buf (Elt Ideal) ℓ)

/-- The array row of row `k` of point `t`'s block. -/
abbrev row (t : Fin cfg0.N) (k : Fin 512) : Fin 8192 := ⟨t.val * 512 + k.val, by have := t.isLt; have : cfg0.N = 16 := N_0; omega⟩

theorem blk0 (c : Dev nD) (t : Fin cfg0.N) (k : Fin 512) (i : Fin 512) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 512) (i : Fin 512) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 512) (i : Fin 1024) : iblk m c 2 t (ix2 k i) = m ((c.tc : Thread nD τ).loc main_arg2) (ix2 k i) := by
  have e : ∀ t : Fin cfg0.N, win0_2.index t = ![0, 0] := (by decide +kernel : ∀ t : Fin grid0.N, _)
  blk_ext [Gen.iblk, Gen.V, e t]

theorem blk3 (c : Dev nD) (t : Fin cfg0.N) (k : Fin 512) (i : Fin 1024) : iblk m c 3 t (ix2 k i) = m ((c.tc : Thread nD τ).loc main_arg3) (ix2 k i) := by
  have e : ∀ t : Fin cfg0.N, win0_3.index t = ![0, 0] := (by decide +kernel : ∀ t : Fin grid0.N, _)
  blk_ext [Gen.iblk, Gen.V, e t]

theorem pay_gated (c : Dev nD) (t : Fin cfg0.N) (i : Fin 512) (k : Fin 512) :
    k0_pay2 (iblk m c 0 t) (iblk m c 1 t) (iblk m c 2 t) (ix2 i k) = gated (m ((c.tc : Thread nD τ).loc main_arg0)) (m ((c.tc : Thread nD τ).loc main_arg1)) (m ((c.tc : Thread nD τ).loc main_arg2)) (row t i) k := by
  pointwise [k0_pay2]
  unfold gated glu Gelu.value Gelu.curve
  simp only [Sig.sigmoid_eq, blk0, blk1, blk2]

theorem pay_branch (c : Dev nD) (t : Fin cfg0.N) (i : Fin 512) (j : Fin 1024) :
    k0_pay1 (iblk m c 3 t) (k0_pay2 (iblk m c 0 t) (iblk m c 1 t) (iblk m c 2 t)) (ix2 i j) = branch (m ((c.tc : Thread nD τ).loc main_arg0)) (m ((c.tc : Thread nD τ).loc main_arg1)) (m ((c.tc : Thread nD τ).loc main_arg2)) (m ((c.tc : Thread nD τ).loc main_arg3)) (row t i) j := by
  pointwise [k0_pay1]
  unfold branch
  simp only [pay_gated, blk3]

theorem emb_row4 (t : Fin cfg0.N) (y0 : Fin 512) (y1 : Fin 1024) : ((View.whole main_v0).slice (win0_4.rect t)).emb (ix2 y0 y1) 0 = row t y0 := by
  have e : ∀ t : Fin cfg0.N, win0_4.index t = ![t.val, 0] := (by decide +kernel : ∀ t : Fin grid0.N, _)
  apply Fin.ext
  show win0_4.index t (0 : Fin 2) * 512 + 1 * y0.val = t.val * 512 + y0.val
  rw [e t]
  show t.val * 512 + 1 * y0.val = t.val * 512 + y0.val
  rw [Nat.one_mul]

theorem emb_col4 (t : Fin cfg0.N) (y0 : Fin 512) (y1 : Fin 1024) : ((View.whole main_v0).slice (win0_4.rect t)).emb (ix2 y0 y1) 1 = y1 := by
  have e : ∀ t : Fin cfg0.N, win0_4.index t = ![t.val, 0] := (by decide +kernel : ∀ t : Fin grid0.N, _)
  apply Fin.ext
  show win0_4.index t (1 : Fin 2) * 1024 + 1 * y1.val = y1.val
  rw [e t]
  show 0 * 1024 + 1 * y1.val = y1.val
  omega

theorem final4 (c : Dev nD) : (dats m 0 c).arrAt 4 cfg0.N = (fun y : S8192x1024.Idx => branch (m ((c.tc : Thread nD τ).loc main_arg0)) (m ((c.tc : Thread nD τ).loc main_arg1)) (m ((c.tc : Thread nD τ).loc main_arg2)) (m ((c.tc : Thread nD τ).loc main_arg3)) (y 0) (y 1)) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S512x1024.Idx at y
  idx_vars y
  rw [pay_branch, emb_row4, emb_col4]

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0) = (fun y : S8192x1024.Idx => branch (m ((c.tc : Thread nD τ).loc main_arg0)) (m ((c.tc : Thread nD τ).loc main_arg1)) (m ((c.tc : Thread nD τ).loc main_arg2)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c), (h c).2⟩) (Value.run_blocks m ρ)

end Cert.S5post13

end
-- ==== Proof.S5post13Ref.lean ====
module

public import proofs.«01_k».proof.Proof.S5post13
public import proofs.«01_k».proof.Defs
public import proofs.«01_k».proof.Proof.Gen.Kernel13.Frame
public import proofs.«01_k».proof.Proof.Gen.Reference13Ideal.Run
public import Idealize.ShloMosaic.Lib.Quiescent
public import Idealize.ShloMosaic.Lib.Pointwise

/-! The reference of the structured branch behind its scan, read at an entry. -/

@[expose] public section

noncomputable section

namespace Cert.S5post13

open Idealize.ShloMosaic Idealize.ShloMosaic.TcCoe Idealize.SL.Sem
open Cert.Reference13Ideal Cert.Reference13Ideal.Gen

set_option maxRecDepth 16384

theorem ref_branch (x0 : Vec Ideal S8192x512 .f32) (x1 : Vec Ideal S8192x512 .bf16) (x2 : Vec Ideal S512x1024 .bf16) (x3 : Vec Ideal S512x1024 .bf16) (r : Fin 8192) (j : Fin 1024) :
    (truncf (F := Ideal) .bf16 (Host.dotGeneral (F := Ideal) (φ₁ := .f32) (φ₂ := .f32) dot_S8192x512_S512x1024_S8192x1024_1_0_0_1_n_n none (mulf (mulf (extractStridedSlice S8192x512 ![0, 0] (Host.dotGeneral (F := Ideal) (φ₁ := .f32) (φ₂ := .f32) dot_S8192x512_S512x1024_S8192x1024_1_0_0_1_n_n none (mulf x0 (mulf (broadcastInDim S8192x512 ![] bcast_S_S8192x512 (constant (F := Ideal) S_ .f32 0x3F000000#32)) (addf (broadcastInDim S8192x512 ![] bcast_S_S8192x512 (constant (F := Ideal) S_ .f32 0x3F800000#32)) (Host.tanh (mulf (broadcastInDim S8192x512 ![] bcast_S_S8192x512 (constant (F := Ideal) S_ .f32 0x3F4C422A#32)) (addf x0 (mulf (broadcastInDim S8192x512 ![] bcast_S_S8192x512 (constant (F := Ideal) S_ .f32 0x3D372713#32)) (mulf (mulf x0 x0) x0)))))))) (extf (F := Ideal) .f32 x2 bitsLt_bf16_f32)) slices_S8192x1024_S8192x512_0_0) (Host.divf (broadcastInDim S8192x512 ![] bcast_S_S8192x512 (constant (F := Ideal) S_ .f32 0x3F800000#32)) (addf (broadcastInDim S8192x512 ![] bcast_S_S8192x512 (constant (F := Ideal) S_ .f32 0x3F800000#32)) (Host.exp (Host.negf (extractStridedSlice S8192x512 ![0, 512] (Host.dotGeneral (F := Ideal) (φ₁ := .f32) (φ₂ := .f32) dot_S8192x512_S512x1024_S8192x1024_1_0_0_1_n_n none (mulf x0 (mulf (broadcastInDim S8192x512 ![] bcast_S_S8192x512 (constant (F := Ideal) S_ .f32 0x3F000000#32)) (addf (broadcastInDim S8192x512 ![] bcast_S_S8192x512 (constant (F := Ideal) S_ .f32 0x3F800000#32)) (Host.tanh (mulf (broadcastInDim S8192x512 ![] bcast_S_S8192x512 (constant (F := Ideal) S_ .f32 0x3F4C422A#32)) (addf x0 (mulf (broadcastInDim S8192x512 ![] bcast_S_S8192x512 (constant (F := Ideal) S_ .f32 0x3D372713#32)) (mulf (mulf x0 x0) x0)))))))) (extf (F := Ideal) .f32 x2 bitsLt_bf16_f32)) slices_S8192x1024_S8192x512_0_512)))))) (mulf (extf (F := Ideal) .f32 x1 bitsLt_bf16_f32) (Host.divf (broadcastInDim S8192x512 ![] bcast_S_S8192x512 (constant (F := Ideal) S_ .f32 0x3F800000#32)) (addf (broadcastInDim S8192x512 ![] bcast_S_S8192x512 (constant (F := Ideal) S_ .f32 0x3F800000#32)) (Host.exp (Host.negf (extf (F := Ideal) .f32 x1 bitsLt_bf16_f32))))))) (extf (F := Ideal) .f32 x3 bitsLt_bf16_f32)) bitsLt_bf16_f32) (ix2 r j) = branch x0 x1 x2 x3 r j := by
  pointwise []
  unfold branch gated glu
  simp only [Gelu.host_curve, Gelu.host_value, Sig.host_eq]

theorem frame_reference : quiescent_Reference13Ideal := fun m ρ _ =>
  (θ_run defs _ _).mono (fun r h => ⟨fun c => (h c).2, sem_eq_zero_of_no_sems (by decide) r.2⟩)
    (Value.run (F := Ideal) m ρ)

/-- Kernel and reference compute the same rows. -/
theorem algebraic : algebraic_Kernel13Ideal_Reference13Ideal := by
  intro m ρ m' ρ' _ hm
  refine ⟨_, result m ρ, ?_⟩
  refine (θ_run defs _ _).mono (fun r h c => ?_) (Value.run (F := Ideal) m' ρ')
  obtain ⟨e0, e1, e2, e3⟩ := hm c
  rw [← e0, ← e1, ← e2, ← e3]
  refine ⟨(h c).1.trans ?_, (h c).2⟩
  funext y
  idx_vars y
  exact ref_branch (m' ((c.tc : Thread nD τ).loc main_arg0)) (m' ((c.tc : Thread nD τ).loc main_arg1)) (m' ((c.tc : Thread nD τ).loc main_arg2)) (m' ((c.tc : Thread nD τ).loc main_arg3)) _ _

end Cert.S5post13

end
-- ==== Proof.S5post14.lean ====
module

public import proofs.«01_k».proof.Proof.Gelu
public import proofs.«01_k».proof.Proof.Gen.Kernel14Ideal.Value
public import Idealize.ShloMosaic.Lib.Pipeline.ValueKit
public import Idealize.ShloMosaic.Lib.Pointwise

/-! The gradients of the structured branch behind its scan: two results by rows, a block of 512 rows a point, and two weight gradients added up over the blocks. -/

@[expose] public section

noncomputable section

namespace Cert.S5post14

open Idealize.ShloMosaic Idealize.ShloMosaic.TcCoe Idealize.SL.Sem
open Cert.Kernel14Ideal Cert.Kernel14Ideal.Gen

set_option maxRecDepth 16384

/-- The cube's coefficient in the rectifier. -/
def cube : EReal := ((8943 / 200000 : ℝ) : EReal)

/-- The square's coefficient in the rectifier's derivative. -/
def triple : EReal := ((3 * (8943 / 200000) : ℝ) : EReal)

theorem cube_eq : (Named.named κ "cube" (0x3D372713#32 : BitVec (FTy.bits .f32)) : Ideal .f32) = cube :=
  IdealRules.named_const.ideal_named_scalar _ _ _ _ rfl

theorem triple_eq : (Named.named κ "cube3" (0x3E095D4F#32 : BitVec (FTy.bits .f32)) : Ideal .f32) = triple := by
  refine (IdealRules.named_const.ideal_named_scalar κ "cube3" (0x3E095D4F#32 : BitVec (FTy.bits .f32)) ((26829 / 200000 : ℝ) : EReal) rfl).trans ?_
  unfold triple
  congr 1
  norm_num

/-- The linear unit's product, a row of twice the branch's width. -/
def glu (x1 : Vec Ideal S8192x512 .f32) (x3 : Vec Ideal S512x1024 .bf16) (r : Fin 8192) (j : Fin 1024) : EReal :=
  ∑ k : Fin 512, Gelu.value cube (x1 (ix2 r k)) * x3 (ix2 k j)

/-- The first half of the product. -/
def half (x1 : Vec Ideal S8192x512 .f32) (x3 : Vec Ideal S512x1024 .bf16) (r : Fin 8192) (k : Fin 512) : EReal :=
  glu x1 x3 r ⟨k.val, by omega⟩

/-- The gate, of the second half of the product. -/
def gate (x1 : Vec Ideal S8192x512 .f32) (x3 : Vec Ideal S512x1024 .bf16) (r : Fin 8192) (k : Fin 512) : EReal :=
  Ideal.logistic (glu x1 x3 r ⟨512 + k.val, by omega⟩)

/-- The branch's own gate. -/
def silu (x2 : Vec Ideal S8192x512 .bf16) (r : Fin 8192) (k : Fin 512) : EReal :=
  x2 (ix2 r k) * Ideal.logistic (x2 (ix2 r k))

/-- The cotangent of the gated product. -/
def back (x0 : Vec Ideal S8192x1024 .bf16) (x4 : Vec Ideal S512x1024 .bf16) (r : Fin 8192) (k : Fin 512) : EReal :=
  ∑ j : Fin 1024, x0 (ix2 r j) * x4 (ix2 k j)

/-- The cotangent of the product's two halves. -/
def dglu (x0 : Vec Ideal S8192x1024 .bf16) (x1 : Vec Ideal S8192x512 .f32) (x2 : Vec Ideal S8192x512 .bf16) (x3 : Vec Ideal S512x1024 .bf16) (x4 : Vec Ideal S512x1024 .bf16) (r : Fin 8192) (j : Fin 1024) : EReal :=
  if h : j.val < 512 then back x0 x4 r ⟨j.val, h⟩ * gate x1 x3 r ⟨j.val, h⟩ * silu x2 r ⟨j.val, h⟩
  else back x0 x4 r ⟨j.val - 512, by omega⟩ * half x1 x3 r ⟨j.val - 512, by omega⟩ * silu x2 r ⟨j.val - 512, by omega⟩ * gate x1 x3 r ⟨j.val - 512, by omega⟩ * (1 - gate x1 x3 r ⟨j.val - 512, by omega⟩)

/-- The cotangent of the rectifier. -/
def backY (x0 : Vec Ideal S8192x1024 .bf16) (x1 : Vec Ideal S8192x512 .f32) (x2 : Vec Ideal S8192x512 .bf16) (x3 : Vec Ideal S512x1024 .bf16) (x4 : Vec Ideal S512x1024 .bf16) (r : Fin 8192) (k : Fin 512) : EReal :=
  ∑ j : Fin 1024, dglu x0 x1 x2 x3 x4 r j * x3 (ix2 k j)

/-- The cotangent of the scan's result. -/
def gradY (x0 : Vec Ideal S8192x1024 .bf16) (x1 : Vec Ideal S8192x512 .f32) (x2 : Vec Ideal S8192x512 .bf16) (x3 : Vec Ideal S512x1024 .bf16) (x4 : Vec Ideal S512x1024 .bf16) (r : Fin 8192) (k : Fin 512) : EReal :=
  backY x0 x1 x2 x3 x4 r k * Gelu.slope cube triple (x1 (ix2 r k))

/-- The cotangent of the gate's argument. -/
def gradG (x0 : Vec Ideal S8192x1024 .bf16) (x1 : Vec Ideal S8192x512 .f32) (x2 : Vec Ideal S8192x512 .bf16) (x3 : Vec Ideal S512x1024 .bf16) (x4 : Vec Ideal S512x1024 .bf16) (r : Fin 8192) (k : Fin 512) : EReal :=
  back x0 x4 r k * half x1 x3 r k * gate x1 x3 r k * Ideal.logistic (x2 (ix2 r k)) * (1 + x2 (ix2 r k) * (1 - Ideal.logistic (x2 (ix2 r k))))

/-- One row's term in the projection's gradient. -/
def termP (x0 : Vec Ideal S8192x1024 .bf16) (x1 : Vec Ideal S8192x512 .f32) (x2 : Vec Ideal S8192x512 .bf16) (x3 : Vec Ideal S512x1024 .bf16) (i : Fin 512) (j : Fin 1024) (r : Fin 8192) : EReal :=
  half x1 x3 r i * gate x1 x3 r i * silu x2 r i * x0 (ix2 r j)

/-- The projection's gradient. -/
def gradP (x0 : Vec Ideal S8192x1024 .bf16) (x1 : Vec Ideal S8192x512 .f32) (x2 : Vec Ideal S8192x512 .bf16) (x3 : Vec Ideal S512x1024 .bf16) (i : Fin 512) (j : Fin 1024) : EReal :=
  ∑ r : Fin 8192, termP x0 x1 x2 x3 i j r

/-- One row's term in the linear unit's gradient. -/
def termW (x0 : Vec Ideal S8192x1024 .bf16) (x1 : Vec Ideal S8192x512 .f32) (x2 : Vec Ideal S8192x512 .bf16) (x3 : Vec Ideal S512x1024 .bf16) (x4 : Vec Ideal S512x1024 .bf16) (i : Fin 512) (j : Fin 1024) (r : Fin 8192) : EReal :=
  Gelu.value cube (x1 (ix2 r i)) * dglu x0 x1 x2 x3 x4 r j

/-- The linear unit's gradient. -/
def gradW (x0 : Vec Ideal S8192x1024 .bf16) (x1 : Vec Ideal S8192x512 .f32) (x2 : Vec Ideal S8192x512 .bf16) (x3 : Vec Ideal S512x1024 .bf16) (x4 : Vec Ideal S512x1024 .bf16) (i : Fin 512) (j : Fin 1024) : EReal :=
  ∑ r : Fin 8192, termW x0 x1 x2 x3 x4 i j r

/-- The zeros the projection's gradient is added to inside a point. -/
abbrev zeros : FVec Ideal S512x1024 .f32 := constant S512x1024 .f32 0x00000000#32

theorem zeroP (y : S512x1024.Idx) : (k0_pay2 (F := Ideal)) y = 0 := by
  idx_vars y
  pointwise [k0_pay2]

theorem zeroW (y : S512x1024.Idx) : (k0_pay4 (F := Ideal)) y = 0 := by
  idx_vars y
  pointwise [k0_pay4]

/-- What a point adds to the projection's gradient. -/
def addP (u : FVec Ideal S512x512 .bf16) (v : FVec Ideal S512x1024 .bf16) (y : S512x1024.Idx) : EReal :=
  ∑ k : Fin 512, u (ix2 k (y 0)) * v (ix2 k (y 1))

/-- What a point adds to the linear unit's gradient. -/
def addW (u : FVec Ideal S512x512 .f32) (v : FVec Ideal S512x1024 .f32) (y : S512x1024.Idx) : EReal :=
  ∑ k : Fin 512, u (ix2 k (y 0)) * v (ix2 k (y 1))

theorem stepP (u : FVec Ideal S512x512 .bf16) (v : FVec Ideal S512x1024 .bf16) (acc : Vec Ideal S512x1024 .f32) (y : S512x1024.Idx) :
    k0_pay3 u v zeros acc y = @HAdd.hAdd EReal EReal EReal _ (acc y) (addP u v y) := by
  idx_vars y
  pointwise [k0_pay3, addP]

theorem stepW (u : FVec Ideal S512x512 .f32) (v : FVec Ideal S512x1024 .f32) (acc : Vec Ideal S512x1024 .f32) (y : S512x1024.Idx) :
    k0_pay5 u v acc y = @HAdd.hAdd EReal EReal EReal _ (acc y) (addW u v y) := by
  idx_vars y
  pointwise [k0_pay5, addW]

variable (m : (ℓ : Loc nD τ sig) → Buf (Elt Ideal) ℓ)

/-- The array row of row `k` of point `t`'s block. -/
abbrev row (t : Fin cfg0.N) (k : Fin 512) : Fin 8192 := ⟨t.val * 512 + k.val, by have := t.isLt; have : cfg0.N = 16 := N_0; omega⟩

theorem blk0 (c : Dev nD) (t : Fin cfg0.N) (k : Fin 512) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 512) (i : Fin 512) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk2 (c : Dev nD) (t : Fin cfg0.N) (k : Fin 512) (i : Fin 512) : iblk m c 2 t (ix2 k i) = m ((c.tc : Thread nD τ).loc main_arg2) (ix2 (row t k) i) := by
  have e : ∀ t : Fin cfg0.N, win0_2.index t = ![t.val, 0] := (by decide +kernel : ∀ t : Fin grid0.N, _)
  blk_ext [row, Gen.iblk, Gen.V, e t]

theorem blk3 (c : Dev nD) (t : Fin cfg0.N) (k : Fin 512) (i : Fin 1024) : iblk m c 3 t (ix2 k i) = m ((c.tc : Thread nD τ).loc main_arg3) (ix2 k i) := by
  have e : ∀ t : Fin cfg0.N, win0_3.index t = ![0, 0] := (by decide +kernel : ∀ t : Fin grid0.N, _)
  blk_ext [Gen.iblk, Gen.V, e t]

theorem blk4 (c : Dev nD) (t : Fin cfg0.N) (k : Fin 512) (i : Fin 1024) : iblk m c 4 t (ix2 k i) = m ((c.tc : Thread nD τ).loc main_arg4) (ix2 k i) := by
  have e : ∀ t : Fin cfg0.N, win0_4.index t = ![0, 0] := (by decide +kernel : ∀ t : Fin grid0.N, _)
  blk_ext [Gen.iblk, Gen.V, e t]

theorem pay_curve (c : Dev nD) (t : Fin cfg0.N) (i k : Fin 512) : k0_pay8 (iblk m c 1 t) (ix2 i k) = Gelu.curve cube ((m ((c.tc : Thread nD τ).loc main_arg1)) (ix2 (row t i) k)) := by
  pointwise [k0_pay8]
  unfold Gelu.curve
  rw [cube_eq, blk1]

theorem pay_value (c : Dev nD) (t : Fin cfg0.N) (i k : Fin 512) : k0_pay9 (iblk m c 1 t) (ix2 i k) = Gelu.value cube ((m ((c.tc : Thread nD τ).loc main_arg1)) (ix2 (row t i) k)) := by
  pointwise [k0_pay9]
  unfold Gelu.value
  rw [pay_curve, blk1]

theorem pay_glu (c : Dev nD) (t : Fin cfg0.N) (i : Fin 512) (j : Fin 1024) : k0_pay12 (iblk m c 3 t) (k0_pay9 (iblk m c 1 t)) (ix2 i j) = glu (m ((c.tc : Thread nD τ).loc main_arg1)) (m ((c.tc : Thread nD τ).loc main_arg3)) (row t i) j := by
  pointwise [k0_pay12]
  unfold glu
  simp only [pay_value, blk3]

theorem pay_half (c : Dev nD) (t : Fin cfg0.N) (i k : Fin 512) : k0_pay13 (iblk m c 3 t) (k0_pay9 (iblk m c 1 t)) (ix2 i k) = half (m ((c.tc : Thread nD τ).loc main_arg1)) (m ((c.tc : Thread nD τ).loc main_arg3)) (row t i) k := by
  pointwise [k0_pay13]
  exact pay_glu m c t i ⟨k.val, by omega⟩

theorem pay_gate (c : Dev nD) (t : Fin cfg0.N) (i k : Fin 512) : k0_pay14 (iblk m c 3 t) (k0_pay9 (iblk m c 1 t)) (ix2 i k) = gate (m ((c.tc : Thread nD τ).loc main_arg1)) (m ((c.tc : Thread nD τ).loc main_arg3)) (row t i) k := by
  pointwise [k0_pay14]
  rw [Sig.sigmoid_eq, pay_glu]
  rfl

theorem pay_sig (c : Dev nD) (t : Fin cfg0.N) (i k : Fin 512) : k0_pay15 (k0_pay7 (iblk m c 2 t)) (ix2 i k) = Ideal.logistic ((m ((c.tc : Thread nD τ).loc main_arg2)) (ix2 (row t i) k)) := by
  pointwise [k0_pay15, k0_pay7]
  rw [Sig.sigmoid_eq, blk2]

theorem pay_silu (c : Dev nD) (t : Fin cfg0.N) (i k : Fin 512) : k0_pay16 (k0_pay7 (iblk m c 2 t)) (ix2 i k) = silu (m ((c.tc : Thread nD τ).loc main_arg2)) (row t i) k := by
  pointwise [k0_pay16]
  rw [pay_sig]
  pointwise [k0_pay7]
  rw [blk2]
  rfl

theorem pay_back (c : Dev nD) (t : Fin cfg0.N) (i k : Fin 512) : k0_pay17 (k0_pay6 (iblk m c 0 t)) (iblk m c 4 t) (ix2 i k) = back (m ((c.tc : Thread nD τ).loc main_arg0)) (m ((c.tc : Thread nD τ).loc main_arg4)) (row t i) k := by
  pointwise [k0_pay17, k0_pay6]
  unfold back
  simp only [blk0, blk4]

theorem pay_dglu (c : Dev nD) (t : Fin cfg0.N) (i : Fin 512) (j : Fin 1024) : (k0_pay18 (k0_pay6 (iblk m c 0 t)) (k0_pay7 (iblk m c 2 t)) (iblk m c 3 t) (iblk m c 4 t) (k0_pay9 (iblk m c 1 t))) (ix2 i j) = dglu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t i) j := by
  pointwise [k0_pay18]
  unfold dglu
  simp only [pay_back, pay_half, pay_gate, pay_silu]

theorem pay_Y (c : Dev nD) (t : Fin cfg0.N) (i k : Fin 512) : k0_pay20 (k0_pay6 (iblk m c 0 t)) (k0_pay7 (iblk m c 2 t)) (iblk m c 3 t) (iblk m c 4 t) (k0_pay9 (iblk m c 1 t)) (k0_pay10 (iblk m c 1 t)) (k0_pay11 (iblk m c 1 t)) (ix2 i k) = gradY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t i) k := by
  pointwise [k0_pay20, k0_pay10, k0_pay11]
  unfold gradY backY Gelu.slope
  simp only [pay_dglu, pay_curve, triple_eq, blk1, blk3]

theorem pay_G (c : Dev nD) (t : Fin cfg0.N) (i k : Fin 512) : k0_pay1 (k0_pay19 (k0_pay6 (iblk m c 0 t)) (k0_pay7 (iblk m c 2 t)) (iblk m c 3 t) (iblk m c 4 t) (k0_pay9 (iblk m c 1 t))) (ix2 i k) = gradG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t i) k := by
  pointwise [k0_pay1, k0_pay19]
  unfold gradG
  rw [pay_back, pay_half, pay_gate, pay_sig]
  pointwise [k0_pay7]
  rw [blk2]

theorem pay_P (c : Dev nD) (t : Fin cfg0.N) (i : Fin 512) (j : Fin 1024) : addP (k0_pay21 (k0_pay7 (iblk m c 2 t)) (iblk m c 3 t) (k0_pay9 (iblk m c 1 t))) (k0_pay22 (k0_pay6 (iblk m c 0 t))) (ix2 i j) = ∑ k : Fin 512, termP (m ((c.tc : Thread nD τ).loc main_arg0)) (m ((c.tc : Thread nD τ).loc main_arg1)) (m ((c.tc : Thread nD τ).loc main_arg2)) (m ((c.tc : Thread nD τ).loc main_arg3)) i j (row t k) := by
  unfold addP termP
  refine Fin.sum_fin_congr fun k => ?_
  pointwise [k0_pay21, k0_pay22, k0_pay6]
  rw [pay_half, pay_gate, pay_silu, blk0]

theorem pay_W (c : Dev nD) (t : Fin cfg0.N) (i : Fin 512) (j : Fin 1024) : addW (k0_pay9 (iblk m c 1 t)) (k0_pay18 (k0_pay6 (iblk m c 0 t)) (k0_pay7 (iblk m c 2 t)) (iblk m c 3 t) (iblk m c 4 t) (k0_pay9 (iblk m c 1 t))) (ix2 i j) = ∑ k : Fin 512, termW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i j (row t k) := by
  unfold addW termW
  refine Fin.sum_fin_congr fun k => ?_
  pointwise []
  rw [pay_value, pay_dglu]

theorem out5 (c : Dev nD) (t : Fin cfg0.N) : (outsAt0 m c t.val t.isLt).1 = k0_pay20 (k0_pay6 (iblk m c 0 t)) (k0_pay7 (iblk m c 2 t)) (iblk m c 3 t) (iblk m c 4 t) (k0_pay9 (iblk m c 1 t)) (k0_pay10 (iblk m c 1 t)) (k0_pay11 (iblk m c 1 t)) := by
  by_cases h : t.val % 16 = 0
  · rw [outsAt0_A m c t h h]
    frame_out
  · rw [outsAt0_B m c t h h]
    frame_out

theorem emb_row5 (t : Fin cfg0.N) (y0 : Fin 512) (y1 : Fin 512) : ((View.whole main_v0_0).slice (win0_5.rect t)).emb (ix2 y0 y1) 0 = row t y0 := by
  have e : ∀ t : Fin cfg0.N, win0_5.index t = ![t.val, 0] := (by decide +kernel : ∀ t : Fin grid0.N, _)
  apply Fin.ext
  show win0_5.index t (0 : Fin 2) * 512 + 1 * y0.val = t.val * 512 + y0.val
  rw [e t]
  show t.val * 512 + 1 * y0.val = t.val * 512 + y0.val
  rw [Nat.one_mul]

theorem emb_col5 (t : Fin cfg0.N) (y0 : Fin 512) (y1 : Fin 512) : ((View.whole main_v0_0).slice (win0_5.rect t)).emb (ix2 y0 y1) 1 = y1 := by
  have e : ∀ t : Fin cfg0.N, win0_5.index t = ![t.val, 0] := (by decide +kernel : ∀ t : Fin grid0.N, _)
  apply Fin.ext
  show win0_5.index t (1 : Fin 2) * 512 + 1 * y1.val = y1.val
  rw [e t]
  show 0 * 512 + 1 * y1.val = y1.val
  omega

theorem final5 (c : Dev nD) : (dats m 0 c).arrAt 5 cfg0.N = (fun y : S8192x512.Idx => gradY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1)) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; rw [show (outsAt0 m c t.val t.isLt).1 = k0_pay20 (k0_pay6 (iblk m c 0 t)) (k0_pay7 (iblk m c 2 t)) (iblk m c 3 t) (iblk m c 4 t) (k0_pay9 (iblk m c 1 t)) (k0_pay10 (iblk m c 1 t)) (k0_pay11 (iblk m c 1 t)) from out5 m c t]
  change S512x512.Idx at y
  idx_vars y
  rw [pay_Y, emb_row5, emb_col5]

theorem out6 (c : Dev nD) (t : Fin cfg0.N) : (outsAt0 m c t.val t.isLt).2.1 = k0_pay1 (k0_pay19 (k0_pay6 (iblk m c 0 t)) (k0_pay7 (iblk m c 2 t)) (iblk m c 3 t) (iblk m c 4 t) (k0_pay9 (iblk m c 1 t))) := by
  by_cases h : t.val % 16 = 0
  · rw [outsAt0_A m c t h h]
    frame_out
  · rw [outsAt0_B m c t h h]
    frame_out

theorem emb_row6 (t : Fin cfg0.N) (y0 : Fin 512) (y1 : Fin 512) : ((View.whole main_v0_1).slice (win0_6.rect t)).emb (ix2 y0 y1) 0 = row t y0 := by
  have e : ∀ t : Fin cfg0.N, win0_6.index t = ![t.val, 0] := (by decide +kernel : ∀ t : Fin grid0.N, _)
  apply Fin.ext
  show win0_6.index t (0 : Fin 2) * 512 + 1 * y0.val = t.val * 512 + y0.val
  rw [e t]
  show t.val * 512 + 1 * y0.val = t.val * 512 + y0.val
  rw [Nat.one_mul]

theorem emb_col6 (t : Fin cfg0.N) (y0 : Fin 512) (y1 : Fin 512) : ((View.whole main_v0_1).slice (win0_6.rect t)).emb (ix2 y0 y1) 1 = y1 := by
  have e : ∀ t : Fin cfg0.N, win0_6.index t = ![t.val, 0] := (by decide +kernel : ∀ t : Fin grid0.N, _)
  apply Fin.ext
  show win0_6.index t (1 : Fin 2) * 512 + 1 * y1.val = y1.val
  rw [e t]
  show 0 * 512 + 1 * y1.val = y1.val
  omega

theorem final6 (c : Dev nD) : (dats m 0 c).arrAt 6 cfg0.N = (fun y : S8192x512.Idx => gradG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1)) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; rw [show (outsAt0 m c t.val t.isLt).2.1 = k0_pay1 (k0_pay19 (k0_pay6 (iblk m c 0 t)) (k0_pay7 (iblk m c 2 t)) (iblk m c 3 t) (iblk m c 4 t) (k0_pay9 (iblk m c 1 t))) from out6 m c t]
  change S512x512.Idx at y
  idx_vars y
  rw [pay_G, emb_row6, emb_col6]

theorem first7 (c : Dev nD) (t : Fin cfg0.N) (h : t.val % 16 = 0) (y : S512x1024.Idx) : @Eq EReal ((outsAt0 m c t.val t.isLt).2.2.1 y) (0 + (addP (k0_pay21 (k0_pay7 (iblk m c 2 t)) (iblk m c 3 t) (k0_pay9 (iblk m c 1 t))) (k0_pay22 (k0_pay6 (iblk m c 0 t)))) y) := by
  rw [outsAt0_A m c t h h]
  frame_out
  rw [stepP, zeroP]

theorem next7 (c : Dev nD) (t : Fin cfg0.N) (h : ¬t.val % 16 = 0) (y : S512x1024.Idx) :
    @Eq EReal ((outsAt0 m c t.val t.isLt).2.2.1 y) (@HAdd.hAdd EReal EReal EReal _ ((outsAt0 m c (t.val - 1) (Nat.lt_of_le_of_lt (Nat.sub_le _ _) t.isLt)).2.2.1 y) ((addP (k0_pay21 (k0_pay7 (iblk m c 2 t)) (iblk m c 3 t) (k0_pay9 (iblk m c 1 t))) (k0_pay22 (k0_pay6 (iblk m c 0 t)))) y)) := by
  rw [outsAt0_B m c t h h]
  frame_out
  rw [stepP]

theorem acc7 (c : Dev nD) (y : S512x1024.Idx) : @Eq EReal ((outsAt0 m c t0_15.val t0_15.isLt).2.2.1 y) (∑ t : Fin cfg0.N, ((addP (k0_pay21 (k0_pay7 (iblk m c 2 t)) (iblk m c 3 t) (k0_pay9 (iblk m c 1 t))) (k0_pay22 (k0_pay6 (iblk m c 0 t)))) y : EReal)) := by
  have u := Pipeline.eq_sum_fin_of_reset_step_apply_last (M := EReal) (fun n h => (outsAt0 m c n h).2.2.1) 16 (fun _ => (0 : EReal)) (fun t y => (addP (k0_pay21 (k0_pay7 (iblk m c 2 t)) (iblk m c 3 t) (k0_pay9 (iblk m c 1 t))) (k0_pay22 (k0_pay6 (iblk m c 0 t)))) y) (first7 m c) (next7 m c) (le_of_eq N_0) t0_15 N_0.symm y
  rw [zero_add] at u
  exact u

theorem final7 (c : Dev nD) : (dats m 0 c).arrAt 7 cfg0.N = (fun y : S512x1024.Idx => gradP (m ((c.tc : Thread nD τ).loc main_arg0)) (m ((c.tc : Thread nD τ).loc main_arg1)) (m ((c.tc : Thread nD τ).loc main_arg2)) (m ((c.tc : Thread nD τ).loc main_arg3)) (y 0) (y 1)) := by
  refine (dats m 0 c).arrAt_eq_of_after_last 7 t0_15 (by decide +kernel) _ fun y => ?_
  blk_simp
  rw [after0_7]
  change S512x1024.Idx at y
  idx_vars y
  refine (acc7 m c (ix2 y0 y1)).trans ?_
  refine (Fin.sum_fin_congr fun t => pay_P m c t y0 y1).trans ?_
  exact Fin.sum_mul_add_congr (S := cfg0.N) (n := 512) (fun s k hl => rfl) (by rw [show cfg0.N = 16 from N_0])

theorem first8 (c : Dev nD) (t : Fin cfg0.N) (h : t.val % 16 = 0) (y : S512x1024.Idx) : @Eq EReal ((outsAt0 m c t.val t.isLt).2.2.2 y) (0 + (addW (k0_pay9 (iblk m c 1 t)) (k0_pay18 (k0_pay6 (iblk m c 0 t)) (k0_pay7 (iblk m c 2 t)) (iblk m c 3 t) (iblk m c 4 t) (k0_pay9 (iblk m c 1 t)))) y) := by
  rw [outsAt0_A m c t h h]
  frame_out
  rw [stepW, zeroW]

theorem next8 (c : Dev nD) (t : Fin cfg0.N) (h : ¬t.val % 16 = 0) (y : S512x1024.Idx) :
    @Eq EReal ((outsAt0 m c t.val t.isLt).2.2.2 y) (@HAdd.hAdd EReal EReal EReal _ ((outsAt0 m c (t.val - 1) (Nat.lt_of_le_of_lt (Nat.sub_le _ _) t.isLt)).2.2.2 y) ((addW (k0_pay9 (iblk m c 1 t)) (k0_pay18 (k0_pay6 (iblk m c 0 t)) (k0_pay7 (iblk m c 2 t)) (iblk m c 3 t) (iblk m c 4 t) (k0_pay9 (iblk m c 1 t)))) y)) := by
  rw [outsAt0_B m c t h h]
  frame_out
  rw [stepW]

theorem acc8 (c : Dev nD) (y : S512x1024.Idx) : @Eq EReal ((outsAt0 m c t0_15.val t0_15.isLt).2.2.2 y) (∑ t : Fin cfg0.N, ((addW (k0_pay9 (iblk m c 1 t)) (k0_pay18 (k0_pay6 (iblk m c 0 t)) (k0_pay7 (iblk m c 2 t)) (iblk m c 3 t) (iblk m c 4 t) (k0_pay9 (iblk m c 1 t)))) y : EReal)) := by
  have u := Pipeline.eq_sum_fin_of_reset_step_apply_last (M := EReal) (fun n h => (outsAt0 m c n h).2.2.2) 16 (fun _ => (0 : EReal)) (fun t y => (addW (k0_pay9 (iblk m c 1 t)) (k0_pay18 (k0_pay6 (iblk m c 0 t)) (k0_pay7 (iblk m c 2 t)) (iblk m c 3 t) (iblk m c 4 t) (k0_pay9 (iblk m c 1 t)))) y) (first8 m c) (next8 m c) (le_of_eq N_0) t0_15 N_0.symm y
  rw [zero_add] at u
  exact u

theorem final8 (c : Dev nD) : (dats m 0 c).arrAt 8 cfg0.N = (fun y : S512x1024.Idx => gradW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1)) := by
  refine (dats m 0 c).arrAt_eq_of_after_last 8 t0_15 (by decide +kernel) _ fun y => ?_
  blk_simp
  rw [after0_8]
  change S512x1024.Idx at y
  idx_vars y
  refine (acc8 m c (ix2 y0 y1)).trans ?_
  refine (Fin.sum_fin_congr fun t => pay_W m c t y0 y1).trans ?_
  exact Fin.sum_mul_add_congr (S := cfg0.N) (n := 512) (fun s k hl => rfl) (by rw [show cfg0.N = 16 from N_0])

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = (fun y : S8192x512.Idx => gradY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1))
      ∧ r.2.mem ((c.tc : Thread nD τ).loc main_v0_1) = (fun y : S8192x512.Idx => gradG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1))
      ∧ r.2.mem ((c.tc : Thread nD τ).loc main_v0_2) = (fun y : S512x1024.Idx => gradP (m ((c.tc : Thread nD τ).loc main_arg0)) (m ((c.tc : Thread nD τ).loc main_arg1)) (m ((c.tc : Thread nD τ).loc main_arg2)) (m ((c.tc : Thread nD τ).loc main_arg3)) (y 0) (y 1))
      ∧ r.2.mem ((c.tc : Thread nD τ).loc main_v0_3) = (fun y : S512x1024.Idx => gradW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final5 m c), (h c).2.1.trans (final6 m c), (h c).2.2.1.trans (final7 m c), (h c).2.2.2.1.trans (final8 m c), (h c).2.2.2.2⟩) (Value.run_blocks m ρ)

end Cert.S5post14

end
-- ==== Proof.S5post14Ref.lean ====
module

public import proofs.«01_k».proof.Proof.S5post14
public import proofs.«01_k».proof.Proof.Gen.Pre_finite14
public import proofs.«01_k».proof.Defs
public import proofs.«01_k».proof.Proof.Gen.Kernel14.Frame
public import proofs.«01_k».proof.Proof.Gen.Reference14Ideal.Run
public import Idealize.ShloMosaic.Lib.Quiescent
public import Idealize.ShloMosaic.Lib.Pointwise

/-! The reference of the structured branch's gradients, read at an entry; kernel and reference agree on finite arguments. -/

@[expose] public section

noncomputable section

namespace Cert.S5post14

open Idealize.ShloMosaic Idealize.ShloMosaic.TcCoe Idealize.SL.Sem
open Cert.Reference14Ideal Cert.Reference14Ideal.Gen

set_option maxRecDepth 16384

section

variable (m' : (ℓ : Loc nD τ sig) → Buf (Elt Ideal) ℓ) (c : Dev nD)

abbrev b0 := m' ((c.tc : Thread nD τ).loc main_arg0)
abbrev b1 := m' ((c.tc : Thread nD τ).loc main_arg1)
abbrev b2 := m' ((c.tc : Thread nD τ).loc main_arg2)
abbrev b3 := m' ((c.tc : Thread nD τ).loc main_arg3)
abbrev b4 := m' ((c.tc : Thread nD τ).loc main_arg4)

end

/-- The reference's hyperbolic tangent. -/
def curveR (x1 : Vec Ideal S8192x512 .f32) : Vec Ideal S8192x512 .f32 :=
  (Host.tanh (F := Ideal) (φ := .f32) (mulf (F := Ideal) (φ := .f32) (broadcastInDim S8192x512 ![] bcast_S_S8192x512 (constant (F := Ideal) S_ .f32 0x3F4C422A#32)) (addf (F := Ideal) (φ := .f32) x1 (mulf (F := Ideal) (φ := .f32) (broadcastInDim S8192x512 ![] bcast_S_S8192x512 (Host.divf (F := Ideal) (φ := .f32) (constant (F := Ideal) S_ .f32 0x472EAB00#32) (constant (F := Ideal) S_ .f32 0x49742400#32))) (mulf (F := Ideal) (φ := .f32) (mulf (F := Ideal) (φ := .f32) x1 x1) x1)))))

/-- The reference's rectifier. -/
def gelR (x1 : Vec Ideal S8192x512 .f32) : Vec Ideal S8192x512 .f32 :=
  (mulf (F := Ideal) (φ := .f32) x1 (mulf (F := Ideal) (φ := .f32) (broadcastInDim S8192x512 ![] bcast_S_S8192x512 (constant (F := Ideal) S_ .f32 0x3F000000#32)) (addf (F := Ideal) (φ := .f32) (broadcastInDim S8192x512 ![] bcast_S_S8192x512 (constant (F := Ideal) S_ .f32 0x3F800000#32)) (curveR x1))))

/-- The reference's linear unit. -/
def gluR (x1 : Vec Ideal S8192x512 .f32) (x3 : Vec Ideal S512x1024 .bf16) : Vec Ideal S8192x1024 .f32 :=
  (Host.dotGeneral (F := Ideal) (φ₁ := .f32) (φ₂ := .f32) dot_S8192x512_S512x1024_S8192x1024_1_0_0_1_n_n none (gelR x1) (extf (F := Ideal) .f32 x3 bitsLt_bf16_f32))

/-- The first half of it. -/
def halfR (x1 : Vec Ideal S8192x512 .f32) (x3 : Vec Ideal S512x1024 .bf16) : Vec Ideal S8192x512 .f32 :=
  (extractStridedSlice S8192x512 ![0, 0] (gluR x1 x3) slices_S8192x1024_S8192x512_0_0)

/-- The logistic of the second half. -/
def gateR (x1 : Vec Ideal S8192x512 .f32) (x3 : Vec Ideal S512x1024 .bf16) : Vec Ideal S8192x512 .f32 :=
  (Host.divf (F := Ideal) (φ := .f32) (broadcastInDim S8192x512 ![] bcast_S_S8192x512 (constant (F := Ideal) S_ .f32 0x3F800000#32)) (addf (F := Ideal) (φ := .f32) (broadcastInDim S8192x512 ![] bcast_S_S8192x512 (constant (F := Ideal) S_ .f32 0x3F800000#32)) (Host.exp (F := Ideal) (φ := .f32) (Host.negf (F := Ideal) (φ := .f32) (extractStridedSlice S8192x512 ![0, 512] (gluR x1 x3) slices_S8192x1024_S8192x512_0_512)))))

/-- The logistic of the branch's gate. -/
def sigR (x2 : Vec Ideal S8192x512 .bf16) : Vec Ideal S8192x512 .f32 :=
  (Host.divf (F := Ideal) (φ := .f32) (broadcastInDim S8192x512 ![] bcast_S_S8192x512 (constant (F := Ideal) S_ .f32 0x3F800000#32)) (addf (F := Ideal) (φ := .f32) (broadcastInDim S8192x512 ![] bcast_S_S8192x512 (constant (F := Ideal) S_ .f32 0x3F800000#32)) (Host.exp (F := Ideal) (φ := .f32) (Host.negf (F := Ideal) (φ := .f32) (extf (F := Ideal) .f32 x2 bitsLt_bf16_f32)))))

/-- The reference's cotangent of the gated product. -/
def backR (x0 : Vec Ideal S8192x1024 .bf16) (x4 : Vec Ideal S512x1024 .bf16) : Vec Ideal S8192x512 .f32 :=
  (Host.dotGeneral (F := Ideal) (φ₁ := .f32) (φ₂ := .f32) dot_S8192x1024_S512x1024_S8192x512_1_1_0_0_n_n none (extf (F := Ideal) .f32 x0 bitsLt_bf16_f32) (extf (F := Ideal) .f32 x4 bitsLt_bf16_f32))

/-- The reference's cotangent of the two halves. -/
def dgluR (x0 : Vec Ideal S8192x1024 .bf16) (x1 : Vec Ideal S8192x512 .f32) (x2 : Vec Ideal S8192x512 .bf16) (x3 : Vec Ideal S512x1024 .bf16) (x4 : Vec Ideal S512x1024 .bf16) : Vec Ideal S8192x1024 .f32 :=
  (concatenate S8192x1024 1 [⟨S8192x512, (mulf (F := Ideal) (φ := .f32) (mulf (F := Ideal) (φ := .f32) (backR x0 x4) (mulf (F := Ideal) (φ := .f32) (extf (F := Ideal) .f32 x2 bitsLt_bf16_f32) (sigR x2))) (gateR x1 x3))⟩, ⟨S8192x512, (mulf (F := Ideal) (φ := .f32) (mulf (F := Ideal) (φ := .f32) (halfR x1 x3) (mulf (F := Ideal) (φ := .f32) (backR x0 x4) (mulf (F := Ideal) (φ := .f32) (extf (F := Ideal) .f32 x2 bitsLt_bf16_f32) (sigR x2)))) (mulf (F := Ideal) (φ := .f32) (gateR x1 x3) (subf (F := Ideal) (φ := .f32) (broadcastInDim S8192x512 ![] bcast_S_S8192x512 (constant (F := Ideal) S_ .f32 0x3F800000#32)) (gateR x1 x3))))⟩] concatenates_S8192x512_S8192x512_S8192x1024_d1)

/-- The reference's cotangent of the rectifier. -/
def backYR (x0 : Vec Ideal S8192x1024 .bf16) (x1 : Vec Ideal S8192x512 .f32) (x2 : Vec Ideal S8192x512 .bf16) (x3 : Vec Ideal S512x1024 .bf16) (x4 : Vec Ideal S512x1024 .bf16) : Vec Ideal S8192x512 .f32 :=
  (Host.dotGeneral (F := Ideal) (φ₁ := .f32) (φ₂ := .f32) dot_S8192x1024_S512x1024_S8192x512_1_1_0_0_n_n none (dgluR x0 x1 x2 x3 x4) (extf (F := Ideal) .f32 x3 bitsLt_bf16_f32))

/-- The reference's cotangent of the gate's argument. -/
def outG (x0 : Vec Ideal S8192x1024 .bf16) (x1 : Vec Ideal S8192x512 .f32) (x2 : Vec Ideal S8192x512 .bf16) (x3 : Vec Ideal S512x1024 .bf16) (x4 : Vec Ideal S512x1024 .bf16) : Vec Ideal S8192x512 .bf16 :=
  truncf (F := Ideal) .bf16 (addf (F := Ideal) (φ := .f32) (mulf (F := Ideal) (φ := .f32) (mulf (F := Ideal) (φ := .f32) (mulf (F := Ideal) (φ := .f32) (halfR x1 x3) (gateR x1 x3)) (backR x0 x4)) (sigR x2)) (mulf (F := Ideal) (φ := .f32) (mulf (F := Ideal) (φ := .f32) (extf (F := Ideal) .f32 x2 bitsLt_bf16_f32) (mulf (F := Ideal) (φ := .f32) (mulf (F := Ideal) (φ := .f32) (halfR x1 x3) (gateR x1 x3)) (backR x0 x4))) (mulf (F := Ideal) (φ := .f32) (sigR x2) (subf (F := Ideal) (φ := .f32) (broadcastInDim S8192x512 ![] bcast_S_S8192x512 (constant (F := Ideal) S_ .f32 0x3F800000#32)) (sigR x2))))) bitsLt_bf16_f32

/-- The reference's gradient of the projection. -/
def outP (x0 : Vec Ideal S8192x1024 .bf16) (x1 : Vec Ideal S8192x512 .f32) (x2 : Vec Ideal S8192x512 .bf16) (x3 : Vec Ideal S512x1024 .bf16) : Vec Ideal S512x1024 .f32 :=
  transpose S512x1024 [1, 0] (Host.dotGeneral (F := Ideal) (φ₁ := .f32) (φ₂ := .f32) dot_S8192x1024_S8192x512_S1024x512_0_0_1_1_n_n none (extf (F := Ideal) .f32 x0 bitsLt_bf16_f32) (mulf (F := Ideal) (φ := .f32) (mulf (F := Ideal) (φ := .f32) (halfR x1 x3) (gateR x1 x3)) (mulf (F := Ideal) (φ := .f32) (extf (F := Ideal) .f32 x2 bitsLt_bf16_f32) (sigR x2)))) transposes_S1024x512_S512x1024_1_0

/-- The reference's gradient of the linear unit. -/
def outW (x0 : Vec Ideal S8192x1024 .bf16) (x1 : Vec Ideal S8192x512 .f32) (x2 : Vec Ideal S8192x512 .bf16) (x3 : Vec Ideal S512x1024 .bf16) (x4 : Vec Ideal S512x1024 .bf16) : Vec Ideal S512x1024 .f32 :=
  transpose S512x1024 [1, 0] (Host.dotGeneral (F := Ideal) (φ₁ := .f32) (φ₂ := .f32) dot_S8192x1024_S8192x512_S1024x512_0_0_1_1_n_n none (dgluR x0 x1 x2 x3 x4) (gelR x1)) transposes_S1024x512_S512x1024_1_0

/-- The reference's cotangent of the scan's result, of the rectifier's cotangent `d`. -/
def outY (d : Vec Ideal S8192x512 .f32) (x1 : Vec Ideal S8192x512 .f32) : Vec Ideal S8192x512 .f32 :=
  addf (F := Ideal) (φ := .f32) (addf (F := Ideal) (φ := .f32) (mulf (F := Ideal) (φ := .f32) d (mulf (F := Ideal) (φ := .f32) (broadcastInDim S8192x512 ![] bcast_S_S8192x512 (constant (F := Ideal) S_ .f32 0x3F000000#32)) (addf (F := Ideal) (φ := .f32) (broadcastInDim S8192x512 ![] bcast_S_S8192x512 (constant (F := Ideal) S_ .f32 0x3F800000#32)) (curveR x1)))) (mulf (F := Ideal) (φ := .f32) (broadcastInDim S8192x512 ![] bcast_S_S8192x512 (constant (F := Ideal) S_ .f32 0x3F4C422A#32)) (mulf (F := Ideal) (φ := .f32) (mulf (F := Ideal) (φ := .f32) (broadcastInDim S8192x512 ![] bcast_S_S8192x512 (constant (F := Ideal) S_ .f32 0x3F000000#32)) (mulf (F := Ideal) (φ := .f32) x1 d)) (mulf (F := Ideal) (φ := .f32) (addf (F := Ideal) (φ := .f32) (broadcastInDim S8192x512 ![] bcast_S_S8192x512 (constant (F := Ideal) S_ .f32 0x3F800000#32)) (curveR x1)) (subf (F := Ideal) (φ := .f32) (broadcastInDim S8192x512 ![] bcast_S_S8192x512 (constant (F := Ideal) S_ .f32 0x3F800000#32)) (curveR x1)))))) (mulf (F := Ideal) (φ := .f32) (mulf (F := Ideal) (φ := .f32) (broadcastInDim S8192x512 ![] bcast_S_S8192x512 (Host.divf (F := Ideal) (φ := .f32) (constant (F := Ideal) S_ .f32 0x472EAB00#32) (constant (F := Ideal) S_ .f32 0x49742400#32))) (mulf (F := Ideal) (φ := .f32) (broadcastInDim S8192x512 ![] bcast_S_S8192x512 (constant (F := Ideal) S_ .f32 0x3F4C422A#32)) (mulf (F := Ideal) (φ := .f32) (mulf (F := Ideal) (φ := .f32) (broadcastInDim S8192x512 ![] bcast_S_S8192x512 (constant (F := Ideal) S_ .f32 0x3F000000#32)) (mulf (F := Ideal) (φ := .f32) x1 d)) (mulf (F := Ideal) (φ := .f32) (addf (F := Ideal) (φ := .f32) (broadcastInDim S8192x512 ![] bcast_S_S8192x512 (constant (F := Ideal) S_ .f32 0x3F800000#32)) (curveR x1)) (subf (F := Ideal) (φ := .f32) (broadcastInDim S8192x512 ![] bcast_S_S8192x512 (constant (F := Ideal) S_ .f32 0x3F800000#32)) (curveR x1)))))) (mulf (F := Ideal) (φ := .f32) (broadcastInDim S8192x512 ![] bcast_S_S8192x512 (constant (F := Ideal) S_ .f32 0x40400000#32)) (mulf (F := Ideal) (φ := .f32) x1 x1)))

theorem quotient_eq : Ideal.div (Ideal.ofBits FTy.f32 1194240768#32) (Ideal.ofBits FTy.f32 1232348160#32) = cube := by
  have a : Ideal.ofBits FTy.f32 1194240768#32 = ((44715 : ℝ) : EReal) := by
    simp [Ideal.ofBits, Ideal.ieee, -EReal.coe_mul]
    norm_num
  have b : Ideal.ofBits FTy.f32 1232348160#32 = ((1000000 : ℝ) : EReal) := by
    simp [Ideal.ofBits, Ideal.ieee, -EReal.coe_mul]
    norm_num
  rw [a, b, Ideal.div_coe (by norm_num : (1000000 : ℝ) ≠ 0), ← EReal.coe_mul]
  unfold cube
  congr 1
  norm_num

theorem curveR_at (x1 : Vec Ideal S8192x512 .f32) (r : Fin 8192) (k : Fin 512) : curveR x1 (ix2 r k) = Gelu.curve cube (x1 (ix2 r k)) := by
  unfold curveR
  pointwise []
  rw [quotient_eq, Gelu.host_curve]

theorem gelR_at (x1 : Vec Ideal S8192x512 .f32) (r : Fin 8192) (k : Fin 512) : gelR x1 (ix2 r k) = Gelu.value cube (x1 (ix2 r k)) := by
  unfold gelR
  pointwise []
  rw [curveR_at, Gelu.host_value]

theorem gluR_at (x1 : Vec Ideal S8192x512 .f32) (x3 : Vec Ideal S512x1024 .bf16) (r : Fin 8192) (j : Fin 1024) : gluR x1 x3 (ix2 r j) = glu x1 x3 r j := by
  unfold gluR
  pointwise []
  unfold glu
  simp only [gelR_at]

theorem halfR_at (x1 : Vec Ideal S8192x512 .f32) (x3 : Vec Ideal S512x1024 .bf16) (r : Fin 8192) (k : Fin 512) : halfR x1 x3 (ix2 r k) = half x1 x3 r k := by
  unfold halfR
  pointwise []
  exact gluR_at x1 x3 r ⟨k.val, by omega⟩

theorem gateR_at (x1 : Vec Ideal S8192x512 .f32) (x3 : Vec Ideal S512x1024 .bf16) (r : Fin 8192) (k : Fin 512) : gateR x1 x3 (ix2 r k) = gate x1 x3 r k := by
  unfold gateR
  pointwise []
  rw [gluR_at, Sig.host_eq]
  rfl

theorem sigR_at (x2 : Vec Ideal S8192x512 .bf16) (r : Fin 8192) (k : Fin 512) : sigR x2 (ix2 r k) = Ideal.logistic (x2 (ix2 r k)) := by
  unfold sigR
  pointwise []
  rw [Sig.host_eq]

theorem backR_at (x0 : Vec Ideal S8192x1024 .bf16) (x4 : Vec Ideal S512x1024 .bf16) (r : Fin 8192) (k : Fin 512) : backR x0 x4 (ix2 r k) = back x0 x4 r k := by
  unfold backR
  pointwise []
  rfl

theorem dgluR_at (x0 : Vec Ideal S8192x1024 .bf16) (x1 : Vec Ideal S8192x512 .f32) (x2 : Vec Ideal S8192x512 .bf16) (x3 : Vec Ideal S512x1024 .bf16) (x4 : Vec Ideal S512x1024 .bf16) (r : Fin 8192) (j : Fin 1024) : dgluR x0 x1 x2 x3 x4 (ix2 r j) = dglu x0 x1 x2 x3 x4 r j := by
  unfold dgluR
  pointwise []
  unfold dglu silu
  simp only [backR_at, halfR_at, gateR_at, sigR_at]
  split
  · rw [mul_right_comm]
  · rw [← mul_assoc, mul_comm (half x1 x3 r _), mul_right_comm (back x0 x4 r _)]

theorem backYR_at (x0 : Vec Ideal S8192x1024 .bf16) (x1 : Vec Ideal S8192x512 .f32) (x2 : Vec Ideal S8192x512 .bf16) (x3 : Vec Ideal S512x1024 .bf16) (x4 : Vec Ideal S512x1024 .bf16) (r : Fin 8192) (k : Fin 512) : backYR x0 x1 x2 x3 x4 (ix2 r k) = backY x0 x1 x2 x3 x4 r k := by
  unfold backYR
  pointwise []
  unfold backY
  simp only [dgluR_at]

theorem outP_at (x0 : Vec Ideal S8192x1024 .bf16) (x1 : Vec Ideal S8192x512 .f32) (x2 : Vec Ideal S8192x512 .bf16) (x3 : Vec Ideal S512x1024 .bf16) (i : Fin 512) (j : Fin 1024) : outP x0 x1 x2 x3 (ix2 i j) = gradP x0 x1 x2 x3 i j := by
  unfold outP
  pointwise []
  unfold gradP termP silu
  simp only [halfR_at, gateR_at, sigR_at]
  exact Fin.sum_fin_congr fun r => mul_comm _ _

theorem outW_at (x0 : Vec Ideal S8192x1024 .bf16) (x1 : Vec Ideal S8192x512 .f32) (x2 : Vec Ideal S8192x512 .bf16) (x3 : Vec Ideal S512x1024 .bf16) (x4 : Vec Ideal S512x1024 .bf16) (i : Fin 512) (j : Fin 1024) : outW x0 x1 x2 x3 x4 (ix2 i j) = gradW x0 x1 x2 x3 x4 i j := by
  unfold outW
  pointwise []
  unfold gradW termW
  simp only [gelR_at, dgluR_at]
  exact Fin.sum_fin_congr fun r => mul_comm _ _

theorem real_half (x1 : Vec Ideal S8192x512 .f32) (x3 : Vec Ideal S512x1024 .bf16) (h1 : ∀ r k, Reals.IsReal (x1 (ix2 r k))) (h3 : ∀ r k, Reals.IsReal (x3 (ix2 r k))) (r : Fin 8192) (k : Fin 512) : Reals.IsReal (half x1 x3 r k) :=
  Reals.sum fun _ => Reals.mul (Gelu.real_value _ (h1 _ _)) (h3 _ _)

theorem real_back (x0 : Vec Ideal S8192x1024 .bf16) (x4 : Vec Ideal S512x1024 .bf16) (h0 : ∀ r k, Reals.IsReal (x0 (ix2 r k))) (h4 : ∀ r k, Reals.IsReal (x4 (ix2 r k))) (r : Fin 8192) (k : Fin 512) : Reals.IsReal (back x0 x4 r k) :=
  Reals.sum fun _ => Reals.mul (h0 _ _) (h4 _ _)

theorem real_gate (x1 : Vec Ideal S8192x512 .f32) (x3 : Vec Ideal S512x1024 .bf16) (r : Fin 8192) (k : Fin 512) : Reals.IsReal (gate x1 x3 r k) :=
  Reals.logistic _

theorem real_gate' (x1 : Vec Ideal S8192x512 .f32) (x3 : Vec Ideal S512x1024 .bf16) (r : Fin 8192) (k : Fin 512) : Reals.IsReal (1 - gate x1 x3 r k) := by
  obtain ⟨g, hg⟩ := real_gate x1 x3 r k
  rw [hg]
  exact ⟨1 - g, (EReal.coe_sub 1 g).symm⟩

theorem real_silu (x2 : Vec Ideal S8192x512 .bf16) (h2 : ∀ r k, Reals.IsReal (x2 (ix2 r k))) (r : Fin 8192) (k : Fin 512) : Reals.IsReal (silu x2 r k) :=
  Reals.mul (h2 _ _) (Reals.logistic _)

theorem real_backY (x0 : Vec Ideal S8192x1024 .bf16) (x1 : Vec Ideal S8192x512 .f32) (x2 : Vec Ideal S8192x512 .bf16) (x3 : Vec Ideal S512x1024 .bf16) (x4 : Vec Ideal S512x1024 .bf16) (h0 : ∀ r k, Reals.IsReal (x0 (ix2 r k))) (h1 : ∀ r k, Reals.IsReal (x1 (ix2 r k))) (h2 : ∀ r k, Reals.IsReal (x2 (ix2 r k))) (h3 : ∀ r k, Reals.IsReal (x3 (ix2 r k))) (h4 : ∀ r k, Reals.IsReal (x4 (ix2 r k))) (r : Fin 8192) (k : Fin 512) : Reals.IsReal (backY x0 x1 x2 x3 x4 r k) := by
  unfold backY
  refine Reals.sum fun j => Reals.mul ?_ (h3 _ _)
  unfold dglu
  split
  · exact Reals.mul (Reals.mul (real_back _ _ h0 h4 _ _) (real_gate _ _ _ _)) (real_silu _ h2 _ _)
  · exact Reals.mul (Reals.mul (Reals.mul (Reals.mul (real_back _ _ h0 h4 _ _) (real_half _ _ h1 h3 _ _)) (real_silu _ h2 _ _)) (real_gate _ _ _ _)) (real_gate' _ _ _ _)

theorem outG_at (x0 : Vec Ideal S8192x1024 .bf16) (x1 : Vec Ideal S8192x512 .f32) (x2 : Vec Ideal S8192x512 .bf16) (x3 : Vec Ideal S512x1024 .bf16) (x4 : Vec Ideal S512x1024 .bf16) (h0 : ∀ r k, Reals.IsReal (x0 (ix2 r k))) (h1 : ∀ r k, Reals.IsReal (x1 (ix2 r k))) (h3 : ∀ r k, Reals.IsReal (x3 (ix2 r k))) (h4 : ∀ r k, Reals.IsReal (x4 (ix2 r k))) (r : Fin 8192) (k : Fin 512) : outG x0 x1 x2 x3 x4 (ix2 r k) = gradG x0 x1 x2 x3 x4 r k := by
  have hb : Reals.IsReal (back x0 x4 r k * half x1 x3 r k * gate x1 x3 r k) :=
    Reals.mul (Reals.mul (real_back _ _ h0 h4 _ _) (real_half _ _ h1 h3 _ _)) (real_gate _ _ _ _)
  unfold gradG
  refine Eq.trans ?_ (Reals.silu_slope _ hb).symm
  unfold outG
  pointwise []
  rw [backR_at, halfR_at, gateR_at, sigR_at, mul_comm (half x1 x3 r k * gate x1 x3 r k), ← mul_assoc (back x0 x4 r k)]

theorem outY_at (d : Vec Ideal S8192x512 .f32) (x0 : Vec Ideal S8192x1024 .bf16) (x1 : Vec Ideal S8192x512 .f32) (x2 : Vec Ideal S8192x512 .bf16) (x3 : Vec Ideal S512x1024 .bf16) (x4 : Vec Ideal S512x1024 .bf16) (hd : ∀ r k, d (ix2 r k) = backY x0 x1 x2 x3 x4 r k) (h0 : ∀ r k, Reals.IsReal (x0 (ix2 r k))) (h1 : ∀ r k, Reals.IsReal (x1 (ix2 r k))) (h2 : ∀ r k, Reals.IsReal (x2 (ix2 r k))) (h3 : ∀ r k, Reals.IsReal (x3 (ix2 r k))) (h4 : ∀ r k, Reals.IsReal (x4 (ix2 r k))) (r : Fin 8192) (k : Fin 512) :
    outY d x1 (ix2 r k) = gradY x0 x1 x2 x3 x4 r k := by
  unfold gradY
  refine Eq.trans ?_ (Gelu.slope_eq _ (h1 r k) (real_backY x0 x1 x2 x3 x4 h0 h1 h2 h3 h4 r k)).symm
  unfold outY
  pointwise []
  rw [quotient_eq, curveR_at, hd]
  rfl

theorem frame_reference : quiescent_Reference14Ideal := fun m ρ _ =>
  (θ_run defs _ _).mono (fun r h => ⟨fun c => (h c).2.2.2.2, sem_eq_zero_of_no_sems (by decide) r.2⟩)
    (Value.run (F := Ideal) m ρ)

theorem real0 (x0 : Vec Ideal S8192x1024 .bf16) (x1 : Vec Ideal S8192x512 .f32) (x2 : Vec Ideal S8192x512 .bf16) (x3 : Vec Ideal S512x1024 .bf16) (x4 : Vec Ideal S512x1024 .bf16) (h : (Pre_finite14.fn (F := Ideal) x0 x1 x2 x3 x4).2.1 = (fun _ => 1#1)) (r : Fin _) (j : Fin _) : Reals.IsReal (x0 (ix2 r j)) := by
  have e := congrFun h (ix2 r j)
  unfold Pre_finite14.fn at e
  refine Reals.of_sub_self (Eq.trans ?_ e)
  pointwise []

theorem real1 (x0 : Vec Ideal S8192x1024 .bf16) (x1 : Vec Ideal S8192x512 .f32) (x2 : Vec Ideal S8192x512 .bf16) (x3 : Vec Ideal S512x1024 .bf16) (x4 : Vec Ideal S512x1024 .bf16) (h : (Pre_finite14.fn (F := Ideal) x0 x1 x2 x3 x4).1 = (fun _ => 1#1)) (r : Fin _) (j : Fin _) : Reals.IsReal (x1 (ix2 r j)) := by
  have e := congrFun h (ix2 r j)
  unfold Pre_finite14.fn at e
  refine Reals.of_sub_self (Eq.trans ?_ e)
  pointwise []

theorem real2 (x0 : Vec Ideal S8192x1024 .bf16) (x1 : Vec Ideal S8192x512 .f32) (x2 : Vec Ideal S8192x512 .bf16) (x3 : Vec Ideal S512x1024 .bf16) (x4 : Vec Ideal S512x1024 .bf16) (h : (Pre_finite14.fn (F := Ideal) x0 x1 x2 x3 x4).2.2.1 = (fun _ => 1#1)) (r : Fin _) (j : Fin _) : Reals.IsReal (x2 (ix2 r j)) := by
  have e := congrFun h (ix2 r j)
  unfold Pre_finite14.fn at e
  refine Reals.of_sub_self (Eq.trans ?_ e)
  pointwise []

theorem real3 (x0 : Vec Ideal S8192x1024 .bf16) (x1 : Vec Ideal S8192x512 .f32) (x2 : Vec Ideal S8192x512 .bf16) (x3 : Vec Ideal S512x1024 .bf16) (x4 : Vec Ideal S512x1024 .bf16) (h : (Pre_finite14.fn (F := Ideal) x0 x1 x2 x3 x4).2.2.2.1 = (fun _ => 1#1)) (r : Fin _) (j : Fin _) : Reals.IsReal (x3 (ix2 r j)) := by
  have e := congrFun h (ix2 r j)
  unfold Pre_finite14.fn at e
  refine Reals.of_sub_self (Eq.trans ?_ e)
  pointwise []

theorem real4 (x0 : Vec Ideal S8192x1024 .bf16) (x1 : Vec Ideal S8192x512 .f32) (x2 : Vec Ideal S8192x512 .bf16) (x3 : Vec Ideal S512x1024 .bf16) (x4 : Vec Ideal S512x1024 .bf16) (h : (Pre_finite14.fn (F := Ideal) x0 x1 x2 x3 x4).2.2.2.2 = (fun _ => 1#1)) (r : Fin _) (j : Fin _) : Reals.IsReal (x4 (ix2 r j)) := by
  have e := congrFun h (ix2 r j)
  unfold Pre_finite14.fn at e
  refine Reals.of_sub_self (Eq.trans ?_ e)
  pointwise []

theorem eq_v66 (m' : (ℓ : Loc nD τ sig) → Buf (Elt Ideal) ℓ) (c : Dev nD) : Value.res_main_v66 m' c = outY (backYR (b0 m' c) (b1 m' c) (b2 m' c) (b3 m' c) (b4 m' c)) (b1 m' c) := by
  unfold Value.res_main_v66 outY backYR dgluR backR halfR gateR sigR gluR gelR curveR
  rfl

theorem eq_v67 (m' : (ℓ : Loc nD τ sig) → Buf (Elt Ideal) ℓ) (c : Dev nD) : Value.res_main_v67 m' c = outG (b0 m' c) (b1 m' c) (b2 m' c) (b3 m' c) (b4 m' c) := by
  unfold Value.res_main_v67 outG backR halfR gateR sigR gluR gelR curveR
  rfl

theorem eq_v43 (m' : (ℓ : Loc nD τ sig) → Buf (Elt Ideal) ℓ) (c : Dev nD) : (transpose S512x1024 [1, 0] (Host.dotGeneral (F := Ideal) (φ₁ := .f32) (φ₂ := .f32) dot_S8192x1024_S8192x512_S1024x512_0_0_1_1_n_n none (extf (F := Ideal) .f32 (b0 m' c) bitsLt_bf16_f32) (mulf (F := Ideal) (φ := .f32) (mulf (F := Ideal) (φ := .f32) (extractStridedSlice S8192x512 ![0, 0] (Host.dotGeneral (F := Ideal) (φ₁ := .f32) (φ₂ := .f32) dot_S8192x512_S512x1024_S8192x1024_1_0_0_1_n_n none (mulf (F := Ideal) (φ := .f32) (b1 m' c) (mulf (F := Ideal) (φ := .f32) (broadcastInDim S8192x512 ![] bcast_S_S8192x512 (constant (F := Ideal) S_ .f32 0x3F000000#32)) (addf (F := Ideal) (φ := .f32) (broadcastInDim S8192x512 ![] bcast_S_S8192x512 (constant (F := Ideal) S_ .f32 0x3F800000#32)) (Host.tanh (F := Ideal) (φ := .f32) (mulf (F := Ideal) (φ := .f32) (broadcastInDim S8192x512 ![] bcast_S_S8192x512 (constant (F := Ideal) S_ .f32 0x3F4C422A#32)) (addf (F := Ideal) (φ := .f32) (b1 m' c) (mulf (F := Ideal) (φ := .f32) (broadcastInDim S8192x512 ![] bcast_S_S8192x512 (Host.divf (F := Ideal) (φ := .f32) (constant (F := Ideal) S_ .f32 0x472EAB00#32) (constant (F := Ideal) S_ .f32 0x49742400#32))) (mulf (F := Ideal) (φ := .f32) (mulf (F := Ideal) (φ := .f32) (b1 m' c) (b1 m' c)) (b1 m' c))))))))) (extf (F := Ideal) .f32 (b3 m' c) bitsLt_bf16_f32)) slices_S8192x1024_S8192x512_0_0) (Host.divf (F := Ideal) (φ := .f32) (broadcastInDim S8192x512 ![] bcast_S_S8192x512 (constant (F := Ideal) S_ .f32 0x3F800000#32)) (addf (F := Ideal) (φ := .f32) (broadcastInDim S8192x512 ![] bcast_S_S8192x512 (constant (F := Ideal) S_ .f32 0x3F800000#32)) (Host.exp (F := Ideal) (φ := .f32) (Host.negf (F := Ideal) (φ := .f32) (extractStridedSlice S8192x512 ![0, 512] (Host.dotGeneral (F := Ideal) (φ₁ := .f32) (φ₂ := .f32) dot_S8192x512_S512x1024_S8192x1024_1_0_0_1_n_n none (mulf (F := Ideal) (φ := .f32) (b1 m' c) (mulf (F := Ideal) (φ := .f32) (broadcastInDim S8192x512 ![] bcast_S_S8192x512 (constant (F := Ideal) S_ .f32 0x3F000000#32)) (addf (F := Ideal) (φ := .f32) (broadcastInDim S8192x512 ![] bcast_S_S8192x512 (constant (F := Ideal) S_ .f32 0x3F800000#32)) (Host.tanh (F := Ideal) (φ := .f32) (mulf (F := Ideal) (φ := .f32) (broadcastInDim S8192x512 ![] bcast_S_S8192x512 (constant (F := Ideal) S_ .f32 0x3F4C422A#32)) (addf (F := Ideal) (φ := .f32) (b1 m' c) (mulf (F := Ideal) (φ := .f32) (broadcastInDim S8192x512 ![] bcast_S_S8192x512 (Host.divf (F := Ideal) (φ := .f32) (constant (F := Ideal) S_ .f32 0x472EAB00#32) (constant (F := Ideal) S_ .f32 0x49742400#32))) (mulf (F := Ideal) (φ := .f32) (mulf (F := Ideal) (φ := .f32) (b1 m' c) (b1 m' c)) (b1 m' c))))))))) (extf (F := Ideal) .f32 (b3 m' c) bitsLt_bf16_f32)) slices_S8192x1024_S8192x512_0_512)))))) (mulf (F := Ideal) (φ := .f32) (extf (F := Ideal) .f32 (b2 m' c) bitsLt_bf16_f32) (Host.divf (F := Ideal) (φ := .f32) (broadcastInDim S8192x512 ![] bcast_S_S8192x512 (constant (F := Ideal) S_ .f32 0x3F800000#32)) (addf (F := Ideal) (φ := .f32) (broadcastInDim S8192x512 ![] bcast_S_S8192x512 (constant (F := Ideal) S_ .f32 0x3F800000#32)) (Host.exp (F := Ideal) (φ := .f32) (Host.negf (F := Ideal) (φ := .f32) (extf (F := Ideal) .f32 (b2 m' c) bitsLt_bf16_f32)))))))) transposes_S1024x512_S512x1024_1_0 : Vec Ideal S512x1024 .f32) = outP (b0 m' c) (b1 m' c) (b2 m' c) (b3 m' c) := by
  unfold outP halfR gateR sigR gluR gelR curveR
  rfl

theorem eq_v53 (m' : (ℓ : Loc nD τ sig) → Buf (Elt Ideal) ℓ) (c : Dev nD) : Value.res_main_v53 m' c = outW (b0 m' c) (b1 m' c) (b2 m' c) (b3 m' c) (b4 m' c) := by
  unfold Value.res_main_v53 outW dgluR backR halfR gateR sigR gluR gelR curveR
  rfl

/-- Kernel and reference compute the same gradients. -/
theorem algebraic : algebraic_Kernel14Ideal_Reference14Ideal_pre_finite14 := by
  intro m ρ m' ρ' hp hm
  refine ⟨_, _, _, _, result m ρ, ?_⟩
  refine (θ_run defs _ _).mono (fun r h c => ?_) (Value.run (F := Ideal) m' ρ')
  obtain ⟨p1, p0, p2, p3, p4⟩ := hp c
  have r0 := real0 _ _ _ _ _ p0
  have r1 := real1 _ _ _ _ _ p1
  have r2 := real2 _ _ _ _ _ p2
  have r3 := real3 _ _ _ _ _ p3
  have r4 := real4 _ _ _ _ _ p4
  clear p0 p1 p2 p3 p4 hp
  obtain ⟨e0, e1, e2, e3, e4⟩ := hm c
  rw [← e0, ← e1, ← e2, ← e3, ← e4]
  rw [← e0] at r0
  rw [← e1] at r1
  rw [← e2] at r2
  rw [← e3] at r3
  rw [← e4] at r4
  refine ⟨(h c).1.trans ((eq_v66 m' c).trans ?_), (h c).2.1.trans ((eq_v67 m' c).trans ?_), (h c).2.2.1.trans ((eq_v43 m' c).trans ?_), (h c).2.2.2.1.trans ((eq_v53 m' c).trans ?_), (h c).2.2.2.2⟩
  · funext y
    idx_vars y
    exact outY_at (backYR (b0 m' c) (b1 m' c) (b2 m' c) (b3 m' c) (b4 m' c)) (b0 m' c) (b1 m' c) (b2 m' c) (b3 m' c) (b4 m' c) (backYR_at (b0 m' c) (b1 m' c) (b2 m' c) (b3 m' c) (b4 m' c)) r0 r1 r2 r3 r4 _ _
  · funext y
    idx_vars y
    exact outG_at (b0 m' c) (b1 m' c) (b2 m' c) (b3 m' c) (b4 m' c) r0 r1 r3 r4 _ _
  · funext y
    idx_vars y
    exact outP_at (b0 m' c) (b1 m' c) (b2 m' c) (b3 m' c) _ _
  · funext y
    idx_vars y
    exact outW_at (b0 m' c) (b1 m' c) (b2 m' c) (b3 m' c) (b4 m' c) _ _

end Cert.S5post14

end
-- ==== Proof.Adam.lean ====
module

public import Idealize.ShloMosaic.Lib.Pointwise
public import Idealize.ShloMosaic.Lib.Pipeline.ValueKit
public import proofs.«01_k».proof.Defs
public import Idealize.ShloMosaic.Lib.Quiescent

/-! One entry of the optimiser's step. -/

@[expose] public section

noncomputable section

namespace Cert.Adam

open Idealize.ShloMosaic

/-- The first moment's new entry. -/
def mean (g m : EReal) : EReal := Ideal.ofBits FTy.f32 0x3F666666#32 * m + Ideal.ofBits FTy.f32 0x3DCCCCCD#32 * g

/-- The second moment's new entry. -/
def square (g v : EReal) : EReal := Ideal.ofBits FTy.f32 0x3F7FBE77#32 * v + Ideal.ofBits FTy.f32 0x3A83126F#32 * (g * g)

/-- The weight's change: the corrected moments' quotient and the decay. -/
def delta (w g m v : EReal) : EReal :=
  Ideal.ofBits FTy.f32 0xBA83126F#32 * (Ideal.div (Ideal.div (mean g m) (Ideal.ofBits FTy.f32 0x3F26BD02#32))
    (Ideal.sqrt (Ideal.div (square g v) (Ideal.ofBits FTy.f32 0x3C231ACC#32)) + Ideal.ofBits FTy.f32 0x322BCC77#32) + Ideal.ofBits FTy.f32 0x3C23D70A#32 * w)

end Cert.Adam

end
-- ==== Proof.Adam15.lean ====
module

public import proofs.«01_k».proof.Proof.Adam
public import proofs.«01_k».proof.Proof.Gen.Kernel15Ideal.Value
public import proofs.«01_k».proof.Proof.Gen.Kernel15.Frame
public import proofs.«01_k».proof.Proof.Gen.Reference15Ideal.Run

/-! The optimiser's step on arrays of 2048 rows of 1408, 256 rows a point. -/

@[expose] public section

noncomputable section

namespace Cert.Adam15

open Idealize.ShloMosaic Idealize.ShloMosaic.TcCoe Idealize.SL.Sem
open Cert.Kernel15Ideal Cert.Kernel15Ideal.Gen

set_option maxRecDepth 16384

/-- An array as the call takes it. -/
abbrev flat (x : Vec Ideal S2x1024x1408 .f32) : Vec Ideal S2048x1408 .f32 := shapeCast S2048x1408 x shapeCasts_S2x1024x1408_S2048x1408

/-- The weight's change. -/
def delta (x0 x1 x2 x3 : Vec Ideal S2x1024x1408 .f32) : Vec Ideal S2048x1408 .f32 := fun y => Adam.delta (flat x0 y) (flat x1 y) (flat x2 y) (flat x3 y)

/-- The first moment. -/
def mean (x1 x2 : Vec Ideal S2x1024x1408 .f32) : Vec Ideal S2048x1408 .f32 := fun y => Adam.mean (flat x1 y) (flat x2 y)

/-- The second moment. -/
def square (x1 x3 : Vec Ideal S2x1024x1408 .f32) : Vec Ideal S2048x1408 .f32 := fun y => Adam.square (flat x1 y) (flat x3 y)

variable (m : (ℓ : Loc nD τ sig) → Buf (Elt Ideal) ℓ) (c : Dev nD)

abbrev a0 : Vec Ideal S2x1024x1408 .f32 := m ((c.tc : Thread nD τ).loc main_arg0)
abbrev a1 : Vec Ideal S2x1024x1408 .f32 := m ((c.tc : Thread nD τ).loc main_arg1)
abbrev a2 : Vec Ideal S2x1024x1408 .f32 := m ((c.tc : Thread nD τ).loc main_arg2)
abbrev a3 : Vec Ideal S2x1024x1408 .f32 := m ((c.tc : Thread nD τ).loc main_arg3)

/-- The array row of row `k` of point `t`'s block. -/
abbrev row (t : Fin cfg0.N) (k : Fin 256) : Fin 2048 := ⟨t.val * 256 + k.val, by have := t.isLt; have : cfg0.N = 8 := N_0; omega⟩

theorem host0 : V m c main_v0 = flat (a0 m c) := by
  show StableHlo.after hostOps0 (fun b => m (c, b)) main_v0 = _
  after_results_simp <;> rfl

theorem blk0 (t : Fin cfg0.N) (k : Fin 256) (i : Fin 1408) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 256) (i : Fin 1408) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 256) (i : Fin 1408) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 256) (i : Fin 1408) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S256x1408.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S256x1408.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S256x1408.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- Kernel and reference compute the same step. -/
theorem algebraic : Cert.algebraic_Kernel15Ideal_Reference15Ideal := by
  intro m ρ m' ρ' _ hm
  refine ⟨_, _, _, result m ρ, ?_⟩
  refine (θ_run Cert.Reference15Ideal.defs _ _).mono (fun r h c => ?_) (Cert.Reference15Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam15

end
-- ==== Proof.Adam16.lean ====
module

public import proofs.«01_k».proof.Proof.Adam
public import proofs.«01_k».proof.Proof.Gen.Kernel16Ideal.Value
public import proofs.«01_k».proof.Proof.Gen.Kernel16.Frame
public import proofs.«01_k».proof.Proof.Gen.Reference16Ideal.Run

/-! The optimiser's step on arrays of 640 rows of 1024, 128 rows a point. -/

@[expose] public section

noncomputable section

namespace Cert.Adam16

open Idealize.ShloMosaic Idealize.ShloMosaic.TcCoe Idealize.SL.Sem
open Cert.Kernel16Ideal Cert.Kernel16Ideal.Gen

set_option maxRecDepth 16384

/-- An array as the call takes it. -/
abbrev flat (x : Vec Ideal S2x320x1024 .f32) : Vec Ideal S640x1024 .f32 := shapeCast S640x1024 x shapeCasts_S2x320x1024_S640x1024

/-- The weight's change. -/
def delta (x0 x1 x2 x3 : Vec Ideal S2x320x1024 .f32) : Vec Ideal S640x1024 .f32 := fun y => Adam.delta (flat x0 y) (flat x1 y) (flat x2 y) (flat x3 y)

/-- The first moment. -/
def mean (x1 x2 : Vec Ideal S2x320x1024 .f32) : Vec Ideal S640x1024 .f32 := fun y => Adam.mean (flat x1 y) (flat x2 y)

/-- The second moment. -/
def square (x1 x3 : Vec Ideal S2x320x1024 .f32) : Vec Ideal S640x1024 .f32 := fun y => Adam.square (flat x1 y) (flat x3 y)

variable (m : (ℓ : Loc nD τ sig) → Buf (Elt Ideal) ℓ) (c : Dev nD)

abbrev a0 : Vec Ideal S2x320x1024 .f32 := m ((c.tc : Thread nD τ).loc main_arg0)
abbrev a1 : Vec Ideal S2x320x1024 .f32 := m ((c.tc : Thread nD τ).loc main_arg1)
abbrev a2 : Vec Ideal S2x320x1024 .f32 := m ((c.tc : Thread nD τ).loc main_arg2)
abbrev a3 : Vec Ideal S2x320x1024 .f32 := m ((c.tc : Thread nD τ).loc main_arg3)

/-- The array row of row `k` of point `t`'s block. -/
abbrev row (t : Fin cfg0.N) (k : Fin 128) : Fin 640 := ⟨t.val * 128 + k.val, by have := t.isLt; have : cfg0.N = 5 := N_0; omega⟩

theorem host0 : V m c main_v0 = flat (a0 m c) := by
  show StableHlo.after hostOps0 (fun b => m (c, b)) main_v0 = _
  after_results_simp <;> rfl

theorem blk0 (t : Fin cfg0.N) (k : Fin 128) (i : Fin 1024) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 128) (i : Fin 1024) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 128) (i : Fin 1024) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 128) (i : Fin 1024) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S128x1024.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S128x1024.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S128x1024.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- Kernel and reference compute the same step. -/
theorem algebraic : Cert.algebraic_Kernel16Ideal_Reference16Ideal := by
  intro m ρ m' ρ' _ hm
  refine ⟨_, _, _, result m ρ, ?_⟩
  refine (θ_run Cert.Reference16Ideal.defs _ _).mono (fun r h c => ?_) (Cert.Reference16Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam16

end
-- ==== Proof.Adam17.lean ====
module

public import proofs.«01_k».proof.Proof.Adam
public import proofs.«01_k».proof.Proof.Gen.Kernel17Ideal.Value
public import proofs.«01_k».proof.Proof.Gen.Kernel17.Frame
public import proofs.«01_k».proof.Proof.Gen.Reference17Ideal.Run

/-! The optimiser's step on arrays of 512 rows of 1024, 256 rows a point. -/

@[expose] public section

noncomputable section

namespace Cert.Adam17

open Idealize.ShloMosaic Idealize.ShloMosaic.TcCoe Idealize.SL.Sem
open Cert.Kernel17Ideal Cert.Kernel17Ideal.Gen

set_option maxRecDepth 16384

/-- An array as the call takes it. -/
abbrev flat (x : Vec Ideal S2x256x1024 .f32) : Vec Ideal S512x1024 .f32 := shapeCast S512x1024 x shapeCasts_S2x256x1024_S512x1024

/-- The weight's change. -/
def delta (x0 x1 x2 x3 : Vec Ideal S2x256x1024 .f32) : Vec Ideal S512x1024 .f32 := fun y => Adam.delta (flat x0 y) (flat x1 y) (flat x2 y) (flat x3 y)

/-- The first moment. -/
def mean (x1 x2 : Vec Ideal S2x256x1024 .f32) : Vec Ideal S512x1024 .f32 := fun y => Adam.mean (flat x1 y) (flat x2 y)

/-- The second moment. -/
def square (x1 x3 : Vec Ideal S2x256x1024 .f32) : Vec Ideal S512x1024 .f32 := fun y => Adam.square (flat x1 y) (flat x3 y)

variable (m : (ℓ : Loc nD τ sig) → Buf (Elt Ideal) ℓ) (c : Dev nD)

abbrev a0 : Vec Ideal S2x256x1024 .f32 := m ((c.tc : Thread nD τ).loc main_arg0)
abbrev a1 : Vec Ideal S2x256x1024 .f32 := m ((c.tc : Thread nD τ).loc main_arg1)
abbrev a2 : Vec Ideal S2x256x1024 .f32 := m ((c.tc : Thread nD τ).loc main_arg2)
abbrev a3 : Vec Ideal S2x256x1024 .f32 := m ((c.tc : Thread nD τ).loc main_arg3)

/-- The array row of row `k` of point `t`'s block. -/
abbrev row (t : Fin cfg0.N) (k : Fin 256) : Fin 512 := ⟨t.val * 256 + k.val, by have := t.isLt; have : cfg0.N = 2 := N_0; omega⟩

theorem host0 : V m c main_v0 = flat (a0 m c) := by
  show StableHlo.after hostOps0 (fun b => m (c, b)) main_v0 = _
  after_results_simp <;> rfl

theorem blk0 (t : Fin cfg0.N) (k : Fin 256) (i : Fin 1024) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 256) (i : Fin 1024) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 256) (i : Fin 1024) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 256) (i : Fin 1024) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S256x1024.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S256x1024.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S256x1024.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

/-- Kernel and reference compute the same step. -/
theorem algebraic : Cert.algebraic_Kernel17Ideal_Reference17Ideal := by
  intro m ρ m' ρ' _ hm
  refine ⟨_, _, _, result m ρ, ?_⟩
  refine (θ_run Cert.Reference17Ideal.defs _ _).mono (fun r h c => ?_) (Cert.Reference17Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam17

end
-- ==== Proof.Adam18.lean ====
module

public import proofs.«01_k».proof.Proof.Adam
public import proofs.«01_k».proof.Proof.Gen.Kernel18Ideal.Value
public import proofs.«01_k».proof.Proof.Gen.Kernel18.Frame
public import proofs.«01_k».proof.Proof.Gen.Reference18Ideal.Run

/-! The optimiser's step on arrays of 1024 rows of 256, 256 rows a point. -/

@[expose] public section

noncomputable section

namespace Cert.Adam18

open Idealize.ShloMosaic Idealize.ShloMosaic.TcCoe Idealize.SL.Sem
open Cert.Kernel18Ideal Cert.Kernel18Ideal.Gen

set_option maxRecDepth 16384

/-- An array as the call takes it. -/
abbrev flat (x : Vec Ideal S2x512x256 .f32) : Vec Ideal S1024x256 .f32 := shapeCast S1024x256 x shapeCasts_S2x512x256_S1024x256

/-- The weight's change. -/
def delta (x0 x1 x2 x3 : Vec Ideal S2x512x256 .f32) : Vec Ideal S1024x256 .f32 := fun y => Adam.delta (flat x0 y) (flat x1 y) (flat x2 y) (flat x3 y)

/-- The first moment. -/
def mean (x1 x2 : Vec Ideal S2x512x256 .f32) : Vec Ideal S1024x256 .f32 := fun y => Adam.mean (flat x1 y) (flat x2 y)

/-- The second moment. -/
def square (x1 x3 : Vec Ideal S2x512x256 .f32) : Vec Ideal S1024x256 .f32 := fun y => Adam.square (flat x1 y) (flat x3 y)

variable (m : (ℓ : Loc nD τ sig) → Buf (Elt Ideal) ℓ) (c : Dev nD)

abbrev a0 : Vec Ideal S2x512x256 .f32 := m ((c.tc : Thread nD τ).loc main_arg0)
abbrev a1 : Vec Ideal S2x512x256 .f32 := m ((c.tc : Thread nD τ).loc main_arg1)
abbrev a2 : Vec Ideal S2x512x256 .f32 := m ((c.tc : Thread nD τ).loc main_arg2)
abbrev a3 : Vec Ideal S2x512x256 .f32 := m ((c.tc : Thread nD τ).loc main_arg3)

/-- The array row of row `k` of point `t`'s block. -/
abbrev row (t : Fin cfg0.N) (k : Fin 256) : Fin 1024 := ⟨t.val * 256 + k.val, by have := t.isLt; have : cfg0.N = 4 := N_0; omega⟩

theorem host0 : V m c main_v0 = flat (a0 m c) := by
  show StableHlo.after hostOps0 (fun b => m (c, b)) main_v0 = _
  after_results_simp <;> rfl

theorem blk0 (t : Fin cfg0.N) (k : Fin 256) (i : Fin 256) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 256) (i : Fin 256) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 256) (i : Fin 256) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 256) (i : Fin 256) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S256x256.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S256x256.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S256x256.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- Kernel and reference compute the same step. -/
theorem algebraic : Cert.algebraic_Kernel18Ideal_Reference18Ideal := by
  intro m ρ m' ρ' _ hm
  refine ⟨_, _, _, result m ρ, ?_⟩
  refine (θ_run Cert.Reference18Ideal.defs _ _).mono (fun r h c => ?_) (Cert.Reference18Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam18

end
-- ==== Proof.Adam19.lean ====
module

public import proofs.«01_k».proof.Proof.Adam
public import proofs.«01_k».proof.Proof.Gen.Kernel19Ideal.Value
public import proofs.«01_k».proof.Proof.Gen.Kernel19.Frame
public import proofs.«01_k».proof.Proof.Gen.Reference19Ideal.Run

/-! The optimiser's step on arrays of 512 rows of 256, 256 rows a point. -/

@[expose] public section

noncomputable section

namespace Cert.Adam19

open Idealize.ShloMosaic Idealize.ShloMosaic.TcCoe Idealize.SL.Sem
open Cert.Kernel19Ideal Cert.Kernel19Ideal.Gen

set_option maxRecDepth 16384

/-- An array as the call takes it. -/
abbrev flat (x : Vec Ideal S2x256x256 .f32) : Vec Ideal S512x256 .f32 := shapeCast S512x256 x shapeCasts_S2x256x256_S512x256

/-- The weight's change. -/
def delta (x0 x1 x2 x3 : Vec Ideal S2x256x256 .f32) : Vec Ideal S512x256 .f32 := fun y => Adam.delta (flat x0 y) (flat x1 y) (flat x2 y) (flat x3 y)

/-- The first moment. -/
def mean (x1 x2 : Vec Ideal S2x256x256 .f32) : Vec Ideal S512x256 .f32 := fun y => Adam.mean (flat x1 y) (flat x2 y)

/-- The second moment. -/
def square (x1 x3 : Vec Ideal S2x256x256 .f32) : Vec Ideal S512x256 .f32 := fun y => Adam.square (flat x1 y) (flat x3 y)

variable (m : (ℓ : Loc nD τ sig) → Buf (Elt Ideal) ℓ) (c : Dev nD)

abbrev a0 : Vec Ideal S2x256x256 .f32 := m ((c.tc : Thread nD τ).loc main_arg0)
abbrev a1 : Vec Ideal S2x256x256 .f32 := m ((c.tc : Thread nD τ).loc main_arg1)
abbrev a2 : Vec Ideal S2x256x256 .f32 := m ((c.tc : Thread nD τ).loc main_arg2)
abbrev a3 : Vec Ideal S2x256x256 .f32 := m ((c.tc : Thread nD τ).loc main_arg3)

/-- The array row of row `k` of point `t`'s block. -/
abbrev row (t : Fin cfg0.N) (k : Fin 256) : Fin 512 := ⟨t.val * 256 + k.val, by have := t.isLt; have : cfg0.N = 2 := N_0; omega⟩

theorem host0 : V m c main_v0 = flat (a0 m c) := by
  show StableHlo.after hostOps0 (fun b => m (c, b)) main_v0 = _
  after_results_simp <;> rfl

theorem blk0 (t : Fin cfg0.N) (k : Fin 256) (i : Fin 256) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 256) (i : Fin 256) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 256) (i : Fin 256) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 256) (i : Fin 256) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S256x256.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S256x256.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S256x256.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- Kernel and reference compute the same step. -/
theorem algebraic : Cert.algebraic_Kernel19Ideal_Reference19Ideal := by
  intro m ρ m' ρ' _ hm
  refine ⟨_, _, _, result m ρ, ?_⟩
  refine (θ_run Cert.Reference19Ideal.defs _ _).mono (fun r h c => ?_) (Cert.Reference19Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam19

end
-- ==== Proof.Adam20.lean ====
module

public import proofs.«01_k».proof.Proof.Adam
public import proofs.«01_k».proof.Proof.Gen.Kernel20Ideal.Value
public import proofs.«01_k».proof.Proof.Gen.Kernel20.Frame
public import proofs.«01_k».proof.Proof.Gen.Reference20Ideal.Run

/-! The optimiser's step on arrays of 8 rows of 320, 8 rows a point. -/

@[expose] public section

noncomputable section

namespace Cert.Adam20

open Idealize.ShloMosaic Idealize.ShloMosaic.TcCoe Idealize.SL.Sem
open Cert.Kernel20Ideal Cert.Kernel20Ideal.Gen

set_option maxRecDepth 16384

/-- An array as the call takes it. -/
abbrev flat (x : Vec Ideal S2x4x320 .f32) : Vec Ideal S8x320 .f32 := shapeCast S8x320 x shapeCasts_S2x4x320_S8x320

/-- The weight's change. -/
def delta (x0 x1 x2 x3 : Vec Ideal S2x4x320 .f32) : Vec Ideal S8x320 .f32 := fun y => Adam.delta (flat x0 y) (flat x1 y) (flat x2 y) (flat x3 y)

/-- The first moment. -/
def mean (x1 x2 : Vec Ideal S2x4x320 .f32) : Vec Ideal S8x320 .f32 := fun y => Adam.mean (flat x1 y) (flat x2 y)

/-- The second moment. -/
def square (x1 x3 : Vec Ideal S2x4x320 .f32) : Vec Ideal S8x320 .f32 := fun y => Adam.square (flat x1 y) (flat x3 y)

variable (m : (ℓ : Loc nD τ sig) → Buf (Elt Ideal) ℓ) (c : Dev nD)

abbrev a0 : Vec Ideal S2x4x320 .f32 := m ((c.tc : Thread nD τ).loc main_arg0)
abbrev a1 : Vec Ideal S2x4x320 .f32 := m ((c.tc : Thread nD τ).loc main_arg1)
abbrev a2 : Vec Ideal S2x4x320 .f32 := m ((c.tc : Thread nD τ).loc main_arg2)
abbrev a3 : Vec Ideal S2x4x320 .f32 := m ((c.tc : Thread nD τ).loc main_arg3)

/-- The array row of row `k` of point `t`'s block. -/
abbrev row (t : Fin cfg0.N) (k : Fin 8) : Fin 8 := ⟨t.val * 8 + k.val, by have := t.isLt; have : cfg0.N = 1 := N_0; omega⟩

theorem host0 : V m c main_v0 = flat (a0 m c) := by
  show StableHlo.after hostOps0 (fun b => m (c, b)) main_v0 = _
  after_results_simp <;> rfl

theorem blk0 (t : Fin cfg0.N) (k : Fin 8) (i : Fin 320) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 8) (i : Fin 320) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 8) (i : Fin 320) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 8) (i : Fin 320) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S8x320.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S8x320.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S8x320.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

/-- Kernel and reference compute the same step. -/
theorem algebraic : Cert.algebraic_Kernel20Ideal_Reference20Ideal := by
  intro m ρ m' ρ' _ hm
  refine ⟨_, _, _, result m ρ, ?_⟩
  refine (θ_run Cert.Reference20Ideal.defs _ _).mono (fun r h c => ?_) (Cert.Reference20Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam20

end
-- ==== Proof.Adam21.lean ====
module

public import proofs.«01_k».proof.Proof.Adam
public import proofs.«01_k».proof.Proof.Gen.Kernel21Ideal.Value
public import proofs.«01_k».proof.Proof.Gen.Kernel21.Frame
public import proofs.«01_k».proof.Proof.Gen.Reference21Ideal.Run

/-! The optimiser's step on arrays of 2 rows of 1024, 2 rows a point. -/

@[expose] public section

noncomputable section

namespace Cert.Adam21

open Idealize.ShloMosaic Idealize.ShloMosaic.TcCoe Idealize.SL.Sem
open Cert.Kernel21Ideal Cert.Kernel21Ideal.Gen

set_option maxRecDepth 16384

/-- An array as the call takes it. -/
abbrev flat (x : Vec Ideal S2x1024 .f32) : Vec Ideal S2x1024 .f32 := x

/-- The weight's change. -/
def delta (x0 x1 x2 x3 : Vec Ideal S2x1024 .f32) : Vec Ideal S2x1024 .f32 := fun y => Adam.delta (flat x0 y) (flat x1 y) (flat x2 y) (flat x3 y)

/-- The first moment. -/
def mean (x1 x2 : Vec Ideal S2x1024 .f32) : Vec Ideal S2x1024 .f32 := fun y => Adam.mean (flat x1 y) (flat x2 y)

/-- The second moment. -/
def square (x1 x3 : Vec Ideal S2x1024 .f32) : Vec Ideal S2x1024 .f32 := fun y => Adam.square (flat x1 y) (flat x3 y)

variable (m : (ℓ : Loc nD τ sig) → Buf (Elt Ideal) ℓ) (c : Dev nD)

abbrev a0 : Vec Ideal S2x1024 .f32 := m ((c.tc : Thread nD τ).loc main_arg0)
abbrev a1 : Vec Ideal S2x1024 .f32 := m ((c.tc : Thread nD τ).loc main_arg1)
abbrev a2 : Vec Ideal S2x1024 .f32 := m ((c.tc : Thread nD τ).loc main_arg2)
abbrev a3 : Vec Ideal S2x1024 .f32 := m ((c.tc : Thread nD τ).loc main_arg3)

/-- The array row of row `k` of point `t`'s block. -/
abbrev row (t : Fin cfg0.N) (k : Fin 2) : Fin 2 := ⟨t.val * 2 + k.val, by have := t.isLt; have : cfg0.N = 1 := N_0; omega⟩

theorem blk0 (t : Fin cfg0.N) (k : Fin 2) (i : Fin 1024) : iblk m c 0 t (ix2 k i) = flat (a0 m c) (ix2 (row t k) i) := by
  have e : ∀ t : Fin cfg0.N, win0_0.index t = ![t.val, 0] := (by decide +kernel : ∀ t : Fin grid0.N, _)
  blk_ext [row, Gen.iblk, Gen.V, e t]

theorem blk1 (t : Fin cfg0.N) (k : Fin 2) (i : Fin 1024) : iblk m c 1 t (ix2 k i) = flat (a1 m c) (ix2 (row t k) i) := by
  have e : ∀ t : Fin cfg0.N, win0_1.index t = ![t.val, 0] := (by decide +kernel : ∀ t : Fin grid0.N, _)
  blk_ext [row, Gen.iblk, Gen.V, e t]

theorem blk2 (t : Fin cfg0.N) (k : Fin 2) (i : Fin 1024) : iblk m c 2 t (ix2 k i) = flat (a2 m c) (ix2 (row t k) i) := by
  have e : ∀ t : Fin cfg0.N, win0_2.index t = ![t.val, 0] := (by decide +kernel : ∀ t : Fin grid0.N, _)
  blk_ext [row, Gen.iblk, Gen.V, e t]

theorem blk3 (t : Fin cfg0.N) (k : Fin 2) (i : Fin 1024) : iblk m c 3 t (ix2 k i) = flat (a3 m c) (ix2 (row t k) i) := by
  have e : ∀ t : Fin cfg0.N, win0_3.index t = ![t.val, 0] := (by decide +kernel : ∀ t : Fin grid0.N, _)
  blk_ext [row, Gen.iblk, Gen.V, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S2x1024.Idx at y
  idx_vars y
  refine Eq.trans (b := delta (a0 m c) (a1 m c) (a2 m c) (a3 m c) (ix2 (row t y0) y1)) ?_ (congrArg _ (by blk_ext [row, e t]))
  pointwise [k0_pay1, k0_pay2, k0_pay3]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S2x1024.Idx at y
  idx_vars y
  refine Eq.trans (b := mean (a1 m c) (a2 m c) (ix2 (row t y0) y1)) ?_ (congrArg _ (by blk_ext [row, e t]))
  pointwise [k0_pay1, k0_pay2, k0_pay3]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S2x1024.Idx at y
  idx_vars y
  refine Eq.trans (b := square (a1 m c) (a3 m c) (ix2 (row t y0) y1)) ?_ (congrArg _ (by blk_ext [row, e t]))
  pointwise [k0_pay1, k0_pay2, k0_pay3]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = delta (a0 m c) (a1 m c) (a2 m c) (a3 m c)
      ∧ r.2.mem ((c.tc : Thread nD τ).loc main_v0_1) = mean (a1 m c) (a2 m c)
      ∧ r.2.mem ((c.tc : Thread nD τ).loc main_v0_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

/-- Kernel and reference compute the same step. -/
theorem algebraic : Cert.algebraic_Kernel21Ideal_Reference21Ideal := by
  intro m ρ m' ρ' _ hm
  refine ⟨_, _, _, result m ρ, ?_⟩
  refine (θ_run Cert.Reference21Ideal.defs _ _).mono (fun r h c => ?_) (Cert.Reference21Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam21

end
-- ==== Proof.Adam22.lean ====
module

public import proofs.«01_k».proof.Proof.Adam
public import proofs.«01_k».proof.Proof.Gen.Kernel22Ideal.Value
public import proofs.«01_k».proof.Proof.Gen.Kernel22.Frame
public import proofs.«01_k».proof.Proof.Gen.Reference22Ideal.Run

/-! The optimiser's step on arrays of 64 rows of 64, 64 rows a point. -/

@[expose] public section

noncomputable section

namespace Cert.Adam22

open Idealize.ShloMosaic Idealize.ShloMosaic.TcCoe Idealize.SL.Sem
open Cert.Kernel22Ideal Cert.Kernel22Ideal.Gen

set_option maxRecDepth 16384

/-- An array as the call takes it. -/
abbrev flat (x : Vec Ideal S2x32x64 .f32) : Vec Ideal S64x64 .f32 := shapeCast S64x64 x shapeCasts_S2x32x64_S64x64

/-- The weight's change. -/
def delta (x0 x1 x2 x3 : Vec Ideal S2x32x64 .f32) : Vec Ideal S64x64 .f32 := fun y => Adam.delta (flat x0 y) (flat x1 y) (flat x2 y) (flat x3 y)

/-- The first moment. -/
def mean (x1 x2 : Vec Ideal S2x32x64 .f32) : Vec Ideal S64x64 .f32 := fun y => Adam.mean (flat x1 y) (flat x2 y)

/-- The second moment. -/
def square (x1 x3 : Vec Ideal S2x32x64 .f32) : Vec Ideal S64x64 .f32 := fun y => Adam.square (flat x1 y) (flat x3 y)

variable (m : (ℓ : Loc nD τ sig) → Buf (Elt Ideal) ℓ) (c : Dev nD)

abbrev a0 : Vec Ideal S2x32x64 .f32 := m ((c.tc : Thread nD τ).loc main_arg0)
abbrev a1 : Vec Ideal S2x32x64 .f32 := m ((c.tc : Thread nD τ).loc main_arg1)
abbrev a2 : Vec Ideal S2x32x64 .f32 := m ((c.tc : Thread nD τ).loc main_arg2)
abbrev a3 : Vec Ideal S2x32x64 .f32 := m ((c.tc : Thread nD τ).loc main_arg3)

/-- The array row of row `k` of point `t`'s block. -/
abbrev row (t : Fin cfg0.N) (k : Fin 64) : Fin 64 := ⟨t.val * 64 + k.val, by have := t.isLt; have : cfg0.N = 1 := N_0; omega⟩

theorem host0 : V m c main_v0 = flat (a0 m c) := by
  show StableHlo.after hostOps0 (fun b => m (c, b)) main_v0 = _
  after_results_simp <;> rfl

theorem blk0 (t : Fin cfg0.N) (k : Fin 64) (i : Fin 64) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 64) (i : Fin 64) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 64) (i : Fin 64) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 64) (i : Fin 64) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S64x64.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S64x64.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S64x64.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- Kernel and reference compute the same step. -/
theorem algebraic : Cert.algebraic_Kernel22Ideal_Reference22Ideal := by
  intro m ρ m' ρ' _ hm
  refine ⟨_, _, _, result m ρ, ?_⟩
  refine (θ_run Cert.Reference22Ideal.defs _ _).mono (fun r h c => ?_) (Cert.Reference22Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam22

end
-- ==== Proof.Adam23.lean ====
module

public import proofs.«01_k».proof.Proof.Adam
public import proofs.«01_k».proof.Proof.Gen.Kernel23Ideal.Value
public import proofs.«01_k».proof.Proof.Gen.Kernel23.Frame
public import proofs.«01_k».proof.Proof.Gen.Reference23Ideal.Run

/-! The optimiser's step on arrays of 4096 rows of 16, 256 rows a point. -/

@[expose] public section

noncomputable section

namespace Cert.Adam23

open Idealize.ShloMosaic Idealize.ShloMosaic.TcCoe Idealize.SL.Sem
open Cert.Kernel23Ideal Cert.Kernel23Ideal.Gen

set_option maxRecDepth 16384

/-- An array as the call takes it. -/
abbrev flat (x : Vec Ideal S2x32x64x16 .f32) : Vec Ideal S4096x16 .f32 := shapeCast S4096x16 x shapeCasts_S2x32x64x16_S4096x16

/-- The weight's change. -/
def delta (x0 x1 x2 x3 : Vec Ideal S2x32x64x16 .f32) : Vec Ideal S4096x16 .f32 := fun y => Adam.delta (flat x0 y) (flat x1 y) (flat x2 y) (flat x3 y)

/-- The first moment. -/
def mean (x1 x2 : Vec Ideal S2x32x64x16 .f32) : Vec Ideal S4096x16 .f32 := fun y => Adam.mean (flat x1 y) (flat x2 y)

/-- The second moment. -/
def square (x1 x3 : Vec Ideal S2x32x64x16 .f32) : Vec Ideal S4096x16 .f32 := fun y => Adam.square (flat x1 y) (flat x3 y)

variable (m : (ℓ : Loc nD τ sig) → Buf (Elt Ideal) ℓ) (c : Dev nD)

abbrev a0 : Vec Ideal S2x32x64x16 .f32 := m ((c.tc : Thread nD τ).loc main_arg0)
abbrev a1 : Vec Ideal S2x32x64x16 .f32 := m ((c.tc : Thread nD τ).loc main_arg1)
abbrev a2 : Vec Ideal S2x32x64x16 .f32 := m ((c.tc : Thread nD τ).loc main_arg2)
abbrev a3 : Vec Ideal S2x32x64x16 .f32 := m ((c.tc : Thread nD τ).loc main_arg3)

/-- The array row of row `k` of point `t`'s block. -/
abbrev row (t : Fin cfg0.N) (k : Fin 256) : Fin 4096 := ⟨t.val * 256 + k.val, by have := t.isLt; have : cfg0.N = 16 := N_0; omega⟩

theorem host0 : V m c main_v0 = flat (a0 m c) := by
  show StableHlo.after hostOps0 (fun b => m (c, b)) main_v0 = _
  after_results_simp <;> rfl

theorem blk0 (t : Fin cfg0.N) (k : Fin 256) (i : Fin 16) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 256) (i : Fin 16) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 256) (i : Fin 16) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 256) (i : Fin 16) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S256x16.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S256x16.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S256x16.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

/-- Kernel and reference compute the same step. -/
theorem algebraic : Cert.algebraic_Kernel23Ideal_Reference23Ideal := by
  intro m ρ m' ρ' _ hm
  refine ⟨_, _, _, result m ρ, ?_⟩
  refine (θ_run Cert.Reference23Ideal.defs _ _).mono (fun r h c => ?_) (Cert.Reference23Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam23

end
-- ==== Proof.Adam24.lean ====
module

public import proofs.«01_k».proof.Proof.Adam
public import proofs.«01_k».proof.Proof.Gen.Kernel24Ideal.Value
public import proofs.«01_k».proof.Proof.Gen.Kernel24.Frame
public import proofs.«01_k».proof.Proof.Gen.Reference24Ideal.Run

/-! The optimiser's step on arrays of 1024 rows of 64, 256 rows a point. -/

@[expose] public section

noncomputable section

namespace Cert.Adam24

open Idealize.ShloMosaic Idealize.ShloMosaic.TcCoe Idealize.SL.Sem
open Cert.Kernel24Ideal Cert.Kernel24Ideal.Gen

set_option maxRecDepth 16384

/-- An array as the call takes it. -/
abbrev flat (x : Vec Ideal S2x32x16x64 .f32) : Vec Ideal S1024x64 .f32 := shapeCast S1024x64 x shapeCasts_S2x32x16x64_S1024x64

/-- The weight's change. -/
def delta (x0 x1 x2 x3 : Vec Ideal S2x32x16x64 .f32) : Vec Ideal S1024x64 .f32 := fun y => Adam.delta (flat x0 y) (flat x1 y) (flat x2 y) (flat x3 y)

/-- The first moment. -/
def mean (x1 x2 : Vec Ideal S2x32x16x64 .f32) : Vec Ideal S1024x64 .f32 := fun y => Adam.mean (flat x1 y) (flat x2 y)

/-- The second moment. -/
def square (x1 x3 : Vec Ideal S2x32x16x64 .f32) : Vec Ideal S1024x64 .f32 := fun y => Adam.square (flat x1 y) (flat x3 y)

variable (m : (ℓ : Loc nD τ sig) → Buf (Elt Ideal) ℓ) (c : Dev nD)

abbrev a0 : Vec Ideal S2x32x16x64 .f32 := m ((c.tc : Thread nD τ).loc main_arg0)
abbrev a1 : Vec Ideal S2x32x16x64 .f32 := m ((c.tc : Thread nD τ).loc main_arg1)
abbrev a2 : Vec Ideal S2x32x16x64 .f32 := m ((c.tc : Thread nD τ).loc main_arg2)
abbrev a3 : Vec Ideal S2x32x16x64 .f32 := m ((c.tc : Thread nD τ).loc main_arg3)

/-- The array row of row `k` of point `t`'s block. -/
abbrev row (t : Fin cfg0.N) (k : Fin 256) : Fin 1024 := ⟨t.val * 256 + k.val, by have := t.isLt; have : cfg0.N = 4 := N_0; omega⟩

theorem host0 : V m c main_v0 = flat (a0 m c) := by
  show StableHlo.after hostOps0 (fun b => m (c, b)) main_v0 = _
  after_results_simp <;> rfl

theorem blk0 (t : Fin cfg0.N) (k : Fin 256) (i : Fin 64) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 256) (i : Fin 64) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 256) (i : Fin 64) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 256) (i : Fin 64) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S256x64.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S256x64.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S256x64.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

/-- Kernel and reference compute the same step. -/
theorem algebraic : Cert.algebraic_Kernel24Ideal_Reference24Ideal := by
  intro m ρ m' ρ' _ hm
  refine ⟨_, _, _, result m ρ, ?_⟩
  refine (θ_run Cert.Reference24Ideal.defs _ _).mono (fun r h c => ?_) (Cert.Reference24Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam24

end
-- ==== Proof.Adam25.lean ====
module

public import proofs.«01_k».proof.Proof.Adam
public import proofs.«01_k».proof.Proof.Gen.Kernel25Ideal.Value
public import proofs.«01_k».proof.Proof.Gen.Kernel25.Frame
public import proofs.«01_k».proof.Proof.Gen.Reference25Ideal.Run

/-! The optimiser's step on arrays of 2 rows of 32, 2 rows a point. -/

@[expose] public section

noncomputable section

namespace Cert.Adam25

open Idealize.ShloMosaic Idealize.ShloMosaic.TcCoe Idealize.SL.Sem
open Cert.Kernel25Ideal Cert.Kernel25Ideal.Gen

set_option maxRecDepth 16384

/-- An array as the call takes it. -/
abbrev flat (x : Vec Ideal S2x32 .f32) : Vec Ideal S2x32 .f32 := x

/-- The weight's change. -/
def delta (x0 x1 x2 x3 : Vec Ideal S2x32 .f32) : Vec Ideal S2x32 .f32 := fun y => Adam.delta (flat x0 y) (flat x1 y) (flat x2 y) (flat x3 y)

/-- The first moment. -/
def mean (x1 x2 : Vec Ideal S2x32 .f32) : Vec Ideal S2x32 .f32 := fun y => Adam.mean (flat x1 y) (flat x2 y)

/-- The second moment. -/
def square (x1 x3 : Vec Ideal S2x32 .f32) : Vec Ideal S2x32 .f32 := fun y => Adam.square (flat x1 y) (flat x3 y)

variable (m : (ℓ : Loc nD τ sig) → Buf (Elt Ideal) ℓ) (c : Dev nD)

abbrev a0 : Vec Ideal S2x32 .f32 := m ((c.tc : Thread nD τ).loc main_arg0)
abbrev a1 : Vec Ideal S2x32 .f32 := m ((c.tc : Thread nD τ).loc main_arg1)
abbrev a2 : Vec Ideal S2x32 .f32 := m ((c.tc : Thread nD τ).loc main_arg2)
abbrev a3 : Vec Ideal S2x32 .f32 := m ((c.tc : Thread nD τ).loc main_arg3)

/-- The array row of row `k` of point `t`'s block. -/
abbrev row (t : Fin cfg0.N) (k : Fin 2) : Fin 2 := ⟨t.val * 2 + k.val, by have := t.isLt; have : cfg0.N = 1 := N_0; omega⟩

theorem blk0 (t : Fin cfg0.N) (k : Fin 2) (i : Fin 32) : iblk m c 0 t (ix2 k i) = flat (a0 m c) (ix2 (row t k) i) := by
  have e : ∀ t : Fin cfg0.N, win0_0.index t = ![t.val, 0] := (by decide +kernel : ∀ t : Fin grid0.N, _)
  blk_ext [row, Gen.iblk, Gen.V, e t]

theorem blk1 (t : Fin cfg0.N) (k : Fin 2) (i : Fin 32) : iblk m c 1 t (ix2 k i) = flat (a1 m c) (ix2 (row t k) i) := by
  have e : ∀ t : Fin cfg0.N, win0_1.index t = ![t.val, 0] := (by decide +kernel : ∀ t : Fin grid0.N, _)
  blk_ext [row, Gen.iblk, Gen.V, e t]

theorem blk2 (t : Fin cfg0.N) (k : Fin 2) (i : Fin 32) : iblk m c 2 t (ix2 k i) = flat (a2 m c) (ix2 (row t k) i) := by
  have e : ∀ t : Fin cfg0.N, win0_2.index t = ![t.val, 0] := (by decide +kernel : ∀ t : Fin grid0.N, _)
  blk_ext [row, Gen.iblk, Gen.V, e t]

theorem blk3 (t : Fin cfg0.N) (k : Fin 2) (i : Fin 32) : iblk m c 3 t (ix2 k i) = flat (a3 m c) (ix2 (row t k) i) := by
  have e : ∀ t : Fin cfg0.N, win0_3.index t = ![t.val, 0] := (by decide +kernel : ∀ t : Fin grid0.N, _)
  blk_ext [row, Gen.iblk, Gen.V, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S2x32.Idx at y
  idx_vars y
  refine Eq.trans (b := delta (a0 m c) (a1 m c) (a2 m c) (a3 m c) (ix2 (row t y0) y1)) ?_ (congrArg _ (by blk_ext [row, e t]))
  pointwise [k0_pay1, k0_pay2, k0_pay3]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S2x32.Idx at y
  idx_vars y
  refine Eq.trans (b := mean (a1 m c) (a2 m c) (ix2 (row t y0) y1)) ?_ (congrArg _ (by blk_ext [row, e t]))
  pointwise [k0_pay1, k0_pay2, k0_pay3]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S2x32.Idx at y
  idx_vars y
  refine Eq.trans (b := square (a1 m c) (a3 m c) (ix2 (row t y0) y1)) ?_ (congrArg _ (by blk_ext [row, e t]))
  pointwise [k0_pay1, k0_pay2, k0_pay3]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = delta (a0 m c) (a1 m c) (a2 m c) (a3 m c)
      ∧ r.2.mem ((c.tc : Thread nD τ).loc main_v0_1) = mean (a1 m c) (a2 m c)
      ∧ r.2.mem ((c.tc : Thread nD τ).loc main_v0_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- Kernel and reference compute the same step. -/
theorem algebraic : Cert.algebraic_Kernel25Ideal_Reference25Ideal := by
  intro m ρ m' ρ' _ hm
  refine ⟨_, _, _, result m ρ, ?_⟩
  refine (θ_run Cert.Reference25Ideal.defs _ _).mono (fun r h c => ?_) (Cert.Reference25Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam25

end
-- ==== Proof.Adam26.lean ====
module

public import proofs.«01_k».proof.Proof.Adam
public import proofs.«01_k».proof.Proof.Gen.Kernel26Ideal.Value
public import proofs.«01_k».proof.Proof.Gen.Kernel26.Frame
public import proofs.«01_k».proof.Proof.Gen.Reference26Ideal.Run

/-! The optimiser's step on arrays of 2 rows of 512, 2 rows a point. -/

@[expose] public section

noncomputable section

namespace Cert.Adam26

open Idealize.ShloMosaic Idealize.ShloMosaic.TcCoe Idealize.SL.Sem
open Cert.Kernel26Ideal Cert.Kernel26Ideal.Gen

set_option maxRecDepth 16384

/-- An array as the call takes it. -/
abbrev flat (x : Vec Ideal S2x512 .f32) : Vec Ideal S2x512 .f32 := x

/-- The weight's change. -/
def delta (x0 x1 x2 x3 : Vec Ideal S2x512 .f32) : Vec Ideal S2x512 .f32 := fun y => Adam.delta (flat x0 y) (flat x1 y) (flat x2 y) (flat x3 y)

/-- The first moment. -/
def mean (x1 x2 : Vec Ideal S2x512 .f32) : Vec Ideal S2x512 .f32 := fun y => Adam.mean (flat x1 y) (flat x2 y)

/-- The second moment. -/
def square (x1 x3 : Vec Ideal S2x512 .f32) : Vec Ideal S2x512 .f32 := fun y => Adam.square (flat x1 y) (flat x3 y)

variable (m : (ℓ : Loc nD τ sig) → Buf (Elt Ideal) ℓ) (c : Dev nD)

abbrev a0 : Vec Ideal S2x512 .f32 := m ((c.tc : Thread nD τ).loc main_arg0)
abbrev a1 : Vec Ideal S2x512 .f32 := m ((c.tc : Thread nD τ).loc main_arg1)
abbrev a2 : Vec Ideal S2x512 .f32 := m ((c.tc : Thread nD τ).loc main_arg2)
abbrev a3 : Vec Ideal S2x512 .f32 := m ((c.tc : Thread nD τ).loc main_arg3)

/-- The array row of row `k` of point `t`'s block. -/
abbrev row (t : Fin cfg0.N) (k : Fin 2) : Fin 2 := ⟨t.val * 2 + k.val, by have := t.isLt; have : cfg0.N = 1 := N_0; omega⟩

theorem blk0 (t : Fin cfg0.N) (k : Fin 2) (i : Fin 512) : iblk m c 0 t (ix2 k i) = flat (a0 m c) (ix2 (row t k) i) := by
  have e : ∀ t : Fin cfg0.N, win0_0.index t = ![t.val, 0] := (by decide +kernel : ∀ t : Fin grid0.N, _)
  blk_ext [row, Gen.iblk, Gen.V, e t]

theorem blk1 (t : Fin cfg0.N) (k : Fin 2) (i : Fin 512) : iblk m c 1 t (ix2 k i) = flat (a1 m c) (ix2 (row t k) i) := by
  have e : ∀ t : Fin cfg0.N, win0_1.index t = ![t.val, 0] := (by decide +kernel : ∀ t : Fin grid0.N, _)
  blk_ext [row, Gen.iblk, Gen.V, e t]

theorem blk2 (t : Fin cfg0.N) (k : Fin 2) (i : Fin 512) : iblk m c 2 t (ix2 k i) = flat (a2 m c) (ix2 (row t k) i) := by
  have e : ∀ t : Fin cfg0.N, win0_2.index t = ![t.val, 0] := (by decide +kernel : ∀ t : Fin grid0.N, _)
  blk_ext [row, Gen.iblk, Gen.V, e t]

theorem blk3 (t : Fin cfg0.N) (k : Fin 2) (i : Fin 512) : iblk m c 3 t (ix2 k i) = flat (a3 m c) (ix2 (row t k) i) := by
  have e : ∀ t : Fin cfg0.N, win0_3.index t = ![t.val, 0] := (by decide +kernel : ∀ t : Fin grid0.N, _)
  blk_ext [row, Gen.iblk, Gen.V, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S2x512.Idx at y
  idx_vars y
  refine Eq.trans (b := delta (a0 m c) (a1 m c) (a2 m c) (a3 m c) (ix2 (row t y0) y1)) ?_ (congrArg _ (by blk_ext [row, e t]))
  pointwise [k0_pay1, k0_pay2, k0_pay3]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S2x512.Idx at y
  idx_vars y
  refine Eq.trans (b := mean (a1 m c) (a2 m c) (ix2 (row t y0) y1)) ?_ (congrArg _ (by blk_ext [row, e t]))
  pointwise [k0_pay1, k0_pay2, k0_pay3]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S2x512.Idx at y
  idx_vars y
  refine Eq.trans (b := square (a1 m c) (a3 m c) (ix2 (row t y0) y1)) ?_ (congrArg _ (by blk_ext [row, e t]))
  pointwise [k0_pay1, k0_pay2, k0_pay3]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = delta (a0 m c) (a1 m c) (a2 m c) (a3 m c)
      ∧ r.2.mem ((c.tc : Thread nD τ).loc main_v0_1) = mean (a1 m c) (a2 m c)
      ∧ r.2.mem ((c.tc : Thread nD τ).loc main_v0_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

/-- Kernel and reference compute the same step. -/
theorem algebraic : Cert.algebraic_Kernel26Ideal_Reference26Ideal := by
  intro m ρ m' ρ' _ hm
  refine ⟨_, _, _, result m ρ, ?_⟩
  refine (θ_run Cert.Reference26Ideal.defs _ _).mono (fun r h c => ?_) (Cert.Reference26Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam26

end
-- ==== Proof.Adam27.lean ====
module

public import proofs.«01_k».proof.Proof.Adam
public import proofs.«01_k».proof.Proof.Gen.Kernel27Ideal.Value
public import proofs.«01_k».proof.Proof.Gen.Kernel27.Frame
public import proofs.«01_k».proof.Proof.Gen.Reference27Ideal.Run

/-! The optimiser's step on arrays of 2560 rows of 128, 256 rows a point. -/

@[expose] public section

noncomputable section

namespace Cert.Adam27

open Idealize.ShloMosaic Idealize.ShloMosaic.TcCoe Idealize.SL.Sem
open Cert.Kernel27Ideal Cert.Kernel27Ideal.Gen

set_option maxRecDepth 16384

/-- An array as the call takes it. -/
abbrev flat (x : Vec Ideal S2x10x128x128 .f32) : Vec Ideal S2560x128 .f32 := shapeCast S2560x128 x shapeCasts_S2x10x128x128_S2560x128

/-- The weight's change. -/
def delta (x0 x1 x2 x3 : Vec Ideal S2x10x128x128 .f32) : Vec Ideal S2560x128 .f32 := fun y => Adam.delta (flat x0 y) (flat x1 y) (flat x2 y) (flat x3 y)

/-- The first moment. -/
def mean (x1 x2 : Vec Ideal S2x10x128x128 .f32) : Vec Ideal S2560x128 .f32 := fun y => Adam.mean (flat x1 y) (flat x2 y)

/-- The second moment. -/
def square (x1 x3 : Vec Ideal S2x10x128x128 .f32) : Vec Ideal S2560x128 .f32 := fun y => Adam.square (flat x1 y) (flat x3 y)

variable (m : (ℓ : Loc nD τ sig) → Buf (Elt Ideal) ℓ) (c : Dev nD)

abbrev a0 : Vec Ideal S2x10x128x128 .f32 := m ((c.tc : Thread nD τ).loc main_arg0)
abbrev a1 : Vec Ideal S2x10x128x128 .f32 := m ((c.tc : Thread nD τ).loc main_arg1)
abbrev a2 : Vec Ideal S2x10x128x128 .f32 := m ((c.tc : Thread nD τ).loc main_arg2)
abbrev a3 : Vec Ideal S2x10x128x128 .f32 := m ((c.tc : Thread nD τ).loc main_arg3)

/-- The array row of row `k` of point `t`'s block. -/
abbrev row (t : Fin cfg0.N) (k : Fin 256) : Fin 2560 := ⟨t.val * 256 + k.val, by have := t.isLt; have : cfg0.N = 10 := N_0; omega⟩

theorem host0 : V m c main_v0 = flat (a0 m c) := by
  show StableHlo.after hostOps0 (fun b => m (c, b)) main_v0 = _
  after_results_simp <;> rfl

theorem blk0 (t : Fin cfg0.N) (k : Fin 256) (i : Fin 128) : iblk m c 0 t (ix2 k i) = flat (a0 m c) (ix2 (row t k) i) := by
  have e : ∀ t : Fin cfg0.N, win0_0.index t = ![t.val, 0] := (by decide +kernel : ∀ t : Fin grid0.N, _)
  refine Eq.trans ?_ (congrFun (host0 m c) (ix2 (row t k) i))
  blk_ext [row, Gen.iblk, e t]

theorem host1 : V m c main_v1 = flat (a1 m c) := by
  show StableHlo.after hostOps0 (fun b => m (c, b)) main_v1 = _
  after_results_simp <;> rfl

theorem blk1 (t : Fin cfg0.N) (k : Fin 256) (i : Fin 128) : iblk m c 1 t (ix2 k i) = flat (a1 m c) (ix2 (row t k) i) := by
  have e : ∀ t : Fin cfg0.N, win0_1.index t = ![t.val, 0] := (by decide +kernel : ∀ t : Fin grid0.N, _)
  refine Eq.trans ?_ (congrFun (host1 m c) (ix2 (row t k) i))
  blk_ext [row, Gen.iblk, e t]

theorem host2 : V m c main_v2 = flat (a2 m c) := by
  show StableHlo.after hostOps0 (fun b => m (c, b)) main_v2 = _
  after_results_simp <;> rfl

theorem blk2 (t : Fin cfg0.N) (k : Fin 256) (i : Fin 128) : iblk m c 2 t (ix2 k i) = flat (a2 m c) (ix2 (row t k) i) := by
  have e : ∀ t : Fin cfg0.N, win0_2.index t = ![t.val, 0] := (by decide +kernel : ∀ t : Fin grid0.N, _)
  refine Eq.trans ?_ (congrFun (host2 m c) (ix2 (row t k) i))
  blk_ext [row, Gen.iblk, e t]

theorem host3 : V m c main_v3 = flat (a3 m c) := by
  show StableHlo.after hostOps0 (fun b => m (c, b)) main_v3 = _
  after_results_simp <;> rfl

theorem blk3 (t : Fin cfg0.N) (k : Fin 256) (i : Fin 128) : iblk m c 3 t (ix2 k i) = flat (a3 m c) (ix2 (row t k) i) := by
  have e : ∀ t : Fin cfg0.N, win0_3.index t = ![t.val, 0] := (by decide +kernel : ∀ t : Fin grid0.N, _)
  refine Eq.trans ?_ (congrFun (host3 m c) (ix2 (row t k) i))
  blk_ext [row, Gen.iblk, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S256x128.Idx at y
  idx_vars y
  refine Eq.trans (b := delta (a0 m c) (a1 m c) (a2 m c) (a3 m c) (ix2 (row t y0) y1)) ?_ (congrArg _ (by blk_ext [row, e t]))
  pointwise [k0_pay1, k0_pay2, k0_pay3, k0_pay4]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S256x128.Idx at y
  idx_vars y
  refine Eq.trans (b := mean (a1 m c) (a2 m c) (ix2 (row t y0) y1)) ?_ (congrArg _ (by blk_ext [row, e t]))
  pointwise [k0_pay1, k0_pay2, k0_pay3, k0_pay4]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S256x128.Idx at y
  idx_vars y
  refine Eq.trans (b := square (a1 m c) (a3 m c) (ix2 (row t y0) y1)) ?_ (congrArg _ (by blk_ext [row, e t]))
  pointwise [k0_pay1, k0_pay2, k0_pay3, k0_pay4]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = delta (a0 m c) (a1 m c) (a2 m c) (a3 m c)
      ∧ r.2.mem ((c.tc : Thread nD τ).loc main_v4_1) = mean (a1 m c) (a2 m c)
      ∧ r.2.mem ((c.tc : Thread nD τ).loc main_v4_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

/-- Kernel and reference compute the same step. -/
theorem algebraic : Cert.algebraic_Kernel27Ideal_Reference27Ideal := by
  intro m ρ m' ρ' _ hm
  refine ⟨_, _, _, result m ρ, ?_⟩
  refine (θ_run Cert.Reference27Ideal.defs _ _).mono (fun r h c => ?_) (Cert.Reference27Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam27

end
-- ==== Proof.Adam28.lean ====
module

public import proofs.«01_k».proof.Proof.Adam
public import proofs.«01_k».proof.Proof.Gen.Kernel28Ideal.Value
public import proofs.«01_k».proof.Proof.Gen.Kernel28.Frame
public import proofs.«01_k».proof.Proof.Gen.Reference28Ideal.Run

/-! The optimiser's step on arrays of 2 rows of 1280, 2 rows a point. -/

@[expose] public section

noncomputable section

namespace Cert.Adam28

open Idealize.ShloMosaic Idealize.ShloMosaic.TcCoe Idealize.SL.Sem
open Cert.Kernel28Ideal Cert.Kernel28Ideal.Gen

set_option maxRecDepth 16384

/-- An array as the call takes it. -/
abbrev flat (x : Vec Ideal S2x1280 .f32) : Vec Ideal S2x1280 .f32 := x

/-- The weight's change. -/
def delta (x0 x1 x2 x3 : Vec Ideal S2x1280 .f32) : Vec Ideal S2x1280 .f32 := fun y => Adam.delta (flat x0 y) (flat x1 y) (flat x2 y) (flat x3 y)

/-- The first moment. -/
def mean (x1 x2 : Vec Ideal S2x1280 .f32) : Vec Ideal S2x1280 .f32 := fun y => Adam.mean (flat x1 y) (flat x2 y)

/-- The second moment. -/
def square (x1 x3 : Vec Ideal S2x1280 .f32) : Vec Ideal S2x1280 .f32 := fun y => Adam.square (flat x1 y) (flat x3 y)

variable (m : (ℓ : Loc nD τ sig) → Buf (Elt Ideal) ℓ) (c : Dev nD)

abbrev a0 : Vec Ideal S2x1280 .f32 := m ((c.tc : Thread nD τ).loc main_arg0)
abbrev a1 : Vec Ideal S2x1280 .f32 := m ((c.tc : Thread nD τ).loc main_arg1)
abbrev a2 : Vec Ideal S2x1280 .f32 := m ((c.tc : Thread nD τ).loc main_arg2)
abbrev a3 : Vec Ideal S2x1280 .f32 := m ((c.tc : Thread nD τ).loc main_arg3)

/-- The array row of row `k` of point `t`'s block. -/
abbrev row (t : Fin cfg0.N) (k : Fin 2) : Fin 2 := ⟨t.val * 2 + k.val, by have := t.isLt; have : cfg0.N = 1 := N_0; omega⟩

theorem blk0 (t : Fin cfg0.N) (k : Fin 2) (i : Fin 1280) : iblk m c 0 t (ix2 k i) = flat (a0 m c) (ix2 (row t k) i) := by
  have e : ∀ t : Fin cfg0.N, win0_0.index t = ![t.val, 0] := (by decide +kernel : ∀ t : Fin grid0.N, _)
  blk_ext [row, Gen.iblk, Gen.V, e t]

theorem blk1 (t : Fin cfg0.N) (k : Fin 2) (i : Fin 1280) : iblk m c 1 t (ix2 k i) = flat (a1 m c) (ix2 (row t k) i) := by
  have e : ∀ t : Fin cfg0.N, win0_1.index t = ![t.val, 0] := (by decide +kernel : ∀ t : Fin grid0.N, _)
  blk_ext [row, Gen.iblk, Gen.V, e t]

theorem blk2 (t : Fin cfg0.N) (k : Fin 2) (i : Fin 1280) : iblk m c 2 t (ix2 k i) = flat (a2 m c) (ix2 (row t k) i) := by
  have e : ∀ t : Fin cfg0.N, win0_2.index t = ![t.val, 0] := (by decide +kernel : ∀ t : Fin grid0.N, _)
  blk_ext [row, Gen.iblk, Gen.V, e t]

theorem blk3 (t : Fin cfg0.N) (k : Fin 2) (i : Fin 1280) : iblk m c 3 t (ix2 k i) = flat (a3 m c) (ix2 (row t k) i) := by
  have e : ∀ t : Fin cfg0.N, win0_3.index t = ![t.val, 0] := (by decide +kernel : ∀ t : Fin grid0.N, _)
  blk_ext [row, Gen.iblk, Gen.V, e t]

theorem final4 : (dats m 0 c).arrAt 4 cfg0.N = delta (a0 m c) (a1 m c) (a2 m c) (a3 m c) := by
  refine (dats m 0 c).arrAt_eq_of_covers 4 _ (by decide +kernel) fun t hf y => ?_
  have e : ∀ t : Fin cfg0.N, win0_4.index t = ![t.val, 0] := (by decide +kernel : ∀ t : Fin grid0.N, _)
  blk_simp [e t]
  rw [after0_4]; unfold out0_4; frame_out
  change S2x1280.Idx at y
  idx_vars y
  refine Eq.trans (b := delta (a0 m c) (a1 m c) (a2 m c) (a3 m c) (ix2 (row t y0) y1)) ?_ (congrArg _ (by blk_ext [row, e t]))
  pointwise [k0_pay1, k0_pay2, k0_pay3]
  simp only [blk0, blk1, blk2, blk3]
  rfl

theorem final5 : (dats m 0 c).arrAt 5 cfg0.N = mean (a1 m c) (a2 m c) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; unfold out0_5; frame_out
  change S2x1280.Idx at y
  idx_vars y
  refine Eq.trans (b := mean (a1 m c) (a2 m c) (ix2 (row t y0) y1)) ?_ (congrArg _ (by blk_ext [row, e t]))
  pointwise [k0_pay1, k0_pay2, k0_pay3]
  simp only [blk1, blk2]
  rfl

theorem final6 : (dats m 0 c).arrAt 6 cfg0.N = square (a1 m c) (a3 m c) := by
  refine (dats m 0 c).arrAt_eq_of_covers 6 _ (by decide +kernel) fun t hf y => ?_
  have e : ∀ t : Fin cfg0.N, win0_6.index t = ![t.val, 0] := (by decide +kernel : ∀ t : Fin grid0.N, _)
  blk_simp [e t]
  rw [after0_6]; unfold out0_6; frame_out
  change S2x1280.Idx at y
  idx_vars y
  refine Eq.trans (b := square (a1 m c) (a3 m c) (ix2 (row t y0) y1)) ?_ (congrArg _ (by blk_ext [row, e t]))
  pointwise [k0_pay1, k0_pay2, k0_pay3]
  simp only [blk1, blk3]
  rfl

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = delta (a0 m c) (a1 m c) (a2 m c) (a3 m c)
      ∧ r.2.mem ((c.tc : Thread nD τ).loc main_v0_1) = mean (a1 m c) (a2 m c)
      ∧ r.2.mem ((c.tc : Thread nD τ).loc main_v0_2) = square (a1 m c) (a3 m c)
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c :=
  (θ_run defs _ _).mono (fun r h c => ⟨(h c).1.trans (final4 m c), (h c).2.1.trans (final5 m c), (h c).2.2.1.trans (final6 m c), (h c).2.2.2⟩) (Value.run_blocks m ρ)

theorem frame_reference : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)

/-- Kernel and reference compute the same step. -/
theorem algebraic : Cert.algebraic_Kernel28Ideal_Reference28Ideal := by
  intro m ρ m' ρ' _ hm
  refine ⟨_, _, _, result m ρ, ?_⟩
  refine (θ_run Cert.Reference28Ideal.defs _ _).mono (fun r h c => ?_) (Cert.Reference28Ideal.Value.run (F := Ideal) m' ρ')
  obtain ⟨e0, e1, e2, e3⟩ := hm c
  unfold a0 a1 a2 a3
  rw [← e0, ← e1, ← e2, ← e3]
  exact ⟨(h c).1.trans rfl, (h c).2.1.trans rfl, (h c).2.2.1.trans rfl, (h c).2.2.2⟩

end Cert.Adam28

end
-- ==== Proof.Loss29.lean ====
module

public import proofs.«01_k».proof.Proof.Sig
public import proofs.«01_k».proof.Proof.Gen.Kernel29Ideal.Value
public import Idealize.ShloMosaic.Lib.Pipeline.ValueKit
public import Idealize.ShloMosaic.Lib.Pointwise
public import proofs.«01_k».proof.Defs
public import proofs.«01_k».proof.Proof.Gen.Kernel29.Frame
public import proofs.«01_k».proof.Proof.Gen.Reference29Ideal.Run
public import Idealize.ShloMosaic.Lib.Quiescent

/-! The gated per-layer embedding against the target: the gradient of the loss by rows, and the sum of the squared errors added up over the blocks of 512 rows. -/

@[expose] public section

noncomputable section

namespace Cert.Loss29

open Idealize.ShloMosaic Idealize.ShloMosaic.TcCoe Idealize.SL.Sem
open Cert.Kernel29Ideal Cert.Kernel29Ideal.Gen

set_option maxRecDepth 16384

variable (x0 : Vec Ideal S8192x1024 .f32) (x1 : Vec Ideal S8192x256 .f32) (x2 : Vec Ideal S256x1024 .bf16) (x3 : Vec Ideal S1024x1024 .bf16) (x4 : Vec Ideal S8192x1024 .f32)
  (b0 : Vec Ideal S512x1024 .f32) (b1 : Vec Ideal S512x256 .f32) (b2 : Vec Ideal S256x1024 .bf16) (b3 : Vec Ideal S1024x1024 .bf16) (b4 : Vec Ideal S512x1024 .f32)

/-- One entry of the error. -/
def err (r : Fin 8192) (j : Fin 1024) : EReal :=
  x0 (ix2 r j) + (∑ k : Fin 256, x1 (ix2 r k) * x2 (ix2 k j)) * Ideal.logistic (∑ k : Fin 1024, x0 (ix2 r k) * x3 (ix2 k j)) - x4 (ix2 r j)

/-- One entry of the loss's gradient. -/
def grad (r : Fin 8192) (j : Fin 1024) : EReal := err x0 x1 x2 x3 x4 r j * Ideal.ofBits FTy.f32 0x3A800000#32

/-- The sum of one row's squared errors. -/
def square (r : Fin 8192) : EReal := ∑ j : Fin 1024, err x0 x1 x2 x3 x4 r j * err x0 x1 x2 x3 x4 r j

/-- The sum of the squared errors. -/
def total (_ _ : Fin 1) : EReal := ∑ r : Fin 8192, square x0 x1 x2 x3 x4 r

/-- A block's sum of the squared errors. -/
def part (_ : S1x1.Idx) : EReal :=
  ∑ j : Fin 1024, ∑ i : Fin 512, k0_pay1 b0 b1 b2 b3 b4 (ix2 i j) * k0_pay1 b0 b1 b2 b3 b4 (ix2 i j)

theorem step (acc : Vec Ideal S1x1 .f32) (y : S1x1.Idx) :
    k0_pay4 b0 b1 b2 b3 b4 acc y = @HAdd.hAdd EReal EReal EReal _ (acc y) (part b0 b1 b2 b3 b4 y) := by
  idx_vars y
  pointwise [k0_pay4]
  rfl

theorem zero (y : S1x1.Idx) : (k0_pay3 (F := Ideal)) y = 0 := by
  idx_vars y
  pointwise [k0_pay3]

variable (m : (ℓ : Loc nD τ sig) → Buf (Elt Ideal) ℓ)

/-- The array row of row `k` of point `t`'s block. -/
abbrev row (t : Fin cfg0.N) (k : Fin 512) : Fin 8192 := ⟨t.val * 512 + k.val, by have := t.isLt; have : cfg0.N = 16 := N_0; omega⟩

theorem blk0 (c : Dev nD) (t : Fin cfg0.N) (k : Fin 512) (i : Fin 1024) : iblk m c 0 t (ix2 k i) = m ((c.tc : Thread nD τ).loc main_arg0) (ix2 (row t k) i) := by
  have e : ∀ t : Fin cfg0.N, win0_0.index t = ![t.val, 0] := (by decide +kernel : ∀ t : Fin grid0.N, _)
  blk_ext [row, Gen.iblk, Gen.V, e t]

theorem blk1 (c : Dev nD) (t : Fin cfg0.N) (k : Fin 512) (i : Fin 256) : iblk m c 1 t (ix2 k i) = m ((c.tc : Thread nD τ).loc main_arg1) (ix2 (row t k) i) := by
  have e : ∀ t : Fin cfg0.N, win0_1.index t = ![t.val, 0] := (by decide +kernel : ∀ t : Fin grid0.N, _)
  blk_ext [row, Gen.iblk, Gen.V, e t]

theorem blk4 (c : Dev nD) (t : Fin cfg0.N) (k : Fin 512) (i : Fin 1024) : iblk m c 4 t (ix2 k i) = m ((c.tc : Thread nD τ).loc main_arg4) (ix2 (row t k) i) := by
  have e : ∀ t : Fin cfg0.N, win0_4.index t = ![t.val, 0] := (by decide +kernel : ∀ t : Fin grid0.N, _)
  blk_ext [row, Gen.iblk, Gen.V, e t]

theorem blk2 (c : Dev nD) (t : Fin cfg0.N) (k : Fin 256) (i : Fin 1024) : iblk m c 2 t (ix2 k i) = m ((c.tc : Thread nD τ).loc main_arg2) (ix2 k i) := by
  have e : ∀ t : Fin cfg0.N, win0_2.index t = ![0, 0] := (by decide +kernel : ∀ t : Fin grid0.N, _)
  blk_ext [Gen.iblk, Gen.V, e t]

theorem blk3 (c : Dev nD) (t : Fin cfg0.N) (k : Fin 1024) (i : Fin 1024) : iblk m c 3 t (ix2 k i) = m ((c.tc : Thread nD τ).loc main_arg3) (ix2 k i) := by
  have e : ∀ t : Fin cfg0.N, win0_3.index t = ![0, 0] := (by decide +kernel : ∀ t : Fin grid0.N, _)
  blk_ext [Gen.iblk, Gen.V, e t]

abbrev a0 (c : Dev nD) := m ((c.tc : Thread nD τ).loc main_arg0)

abbrev a1 (c : Dev nD) := m ((c.tc : Thread nD τ).loc main_arg1)

abbrev a2 (c : Dev nD) := m ((c.tc : Thread nD τ).loc main_arg2)

abbrev a3 (c : Dev nD) := m ((c.tc : Thread nD τ).loc main_arg3)

abbrev a4 (c : Dev nD) := m ((c.tc : Thread nD τ).loc main_arg4)

theorem pay_err (c : Dev nD) (t : Fin cfg0.N) (i : Fin 512) (j : Fin 1024) :
    k0_pay1 (iblk m c 0 t) (iblk m c 1 t) (iblk m c 2 t) (iblk m c 3 t) (iblk m c 4 t) (ix2 i j) = err (a0 m c) (a1 m c) (a2 m c) (a3 m c) (a4 m c) (row t i) j := by
  pointwise [k0_pay1]
  unfold err
  rw [Sig.sigmoid_eq]
  simp only [blk0, blk1, blk2, blk3, blk4]

theorem pay_grad (c : Dev nD) (t : Fin cfg0.N) (i : Fin 512) (j : Fin 1024) :
    k0_pay2 (iblk m c 0 t) (iblk m c 1 t) (iblk m c 2 t) (iblk m c 3 t) (iblk m c 4 t) (ix2 i j) = grad (a0 m c) (a1 m c) (a2 m c) (a3 m c) (a4 m c) (row t i) j := by
  pointwise [k0_pay2]
  rw [pay_err]
  rfl

theorem pay_sum (c : Dev nD) (t : Fin cfg0.N) (i j : Fin 1) :
    part (iblk m c 0 t) (iblk m c 1 t) (iblk m c 2 t) (iblk m c 3 t) (iblk m c 4 t) (ix2 i j) = ∑ k : Fin 512, square (a0 m c) (a1 m c) (a2 m c) (a3 m c) (a4 m c) (row t k) := by
  unfold part square
  rw [Finset.sum_comm]
  simp only [pay_err]

theorem out5 (c : Dev nD) (t : Fin cfg0.N) : (outsAt0 m c t.val t.isLt).1 = k0_pay2 (iblk m c 0 t) (iblk m c 1 t) (iblk m c 2 t) (iblk m c 3 t) (iblk m c 4 t) := by
  by_cases h : t.val % 16 = 0
  · rw [outsAt0_A m c t h]
    frame_out
  · rw [outsAt0_B m c t h]
    frame_out

theorem emb_row5 (t : Fin cfg0.N) (y0 : Fin 512) (y1 : Fin 1024) : ((View.whole main_v0_0).slice (win0_5.rect t)).emb (ix2 y0 y1) 0 = row t y0 := by
  have e : ∀ t : Fin cfg0.N, win0_5.index t = ![t.val, 0] := (by decide +kernel : ∀ t : Fin grid0.N, _)
  apply Fin.ext
  show win0_5.index t (0 : Fin 2) * 512 + 1 * y0.val = t.val * 512 + y0.val
  rw [e t]
  show t.val * 512 + 1 * y0.val = t.val * 512 + y0.val
  rw [Nat.one_mul]

theorem emb_col5 (t : Fin cfg0.N) (y0 : Fin 512) (y1 : Fin 1024) : ((View.whole main_v0_0).slice (win0_5.rect t)).emb (ix2 y0 y1) 1 = y1 := by
  have e : ∀ t : Fin cfg0.N, win0_5.index t = ![t.val, 0] := (by decide +kernel : ∀ t : Fin grid0.N, _)
  apply Fin.ext
  show win0_5.index t (1 : Fin 2) * 1024 + 1 * y1.val = y1.val
  rw [e t]
  show 0 * 1024 + 1 * y1.val = y1.val
  omega

theorem final5 (c : Dev nD) : (dats m 0 c).arrAt 5 cfg0.N = (fun y : S8192x1024.Idx => grad (a0 m c) (a1 m c) (a2 m c) (a3 m c) (a4 m c) (y 0) (y 1)) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; rw [out5 m c t]
  change S512x1024.Idx at y
  idx_vars y
  rw [pay_grad, emb_row5, emb_col5]

theorem first6 (c : Dev nD) (t : Fin cfg0.N) (h : t.val % 16 = 0) (y : S1x1.Idx) : @Eq EReal ((outsAt0 m c t.val t.isLt).2 y) (0 + (part (iblk m c 0 t) (iblk m c 1 t) (iblk m c 2 t) (iblk m c 3 t) (iblk m c 4 t)) y) := by
  rw [outsAt0_A m c t h]
  frame_out
  rw [step, zero]

theorem next6 (c : Dev nD) (t : Fin cfg0.N) (h : ¬t.val % 16 = 0) (y : S1x1.Idx) :
    @Eq EReal ((outsAt0 m c t.val t.isLt).2 y) (@HAdd.hAdd EReal EReal EReal _ ((outsAt0 m c (t.val - 1) (Nat.lt_of_le_of_lt (Nat.sub_le _ _) t.isLt)).2 y) ((part (iblk m c 0 t) (iblk m c 1 t) (iblk m c 2 t) (iblk m c 3 t) (iblk m c 4 t)) y)) := by
  rw [outsAt0_B m c t h]
  frame_out
  rw [step]

theorem acc6 (c : Dev nD) (y : S1x1.Idx) : @Eq EReal ((outsAt0 m c t0_15.val t0_15.isLt).2 y) (∑ t : Fin cfg0.N, ((part (iblk m c 0 t) (iblk m c 1 t) (iblk m c 2 t) (iblk m c 3 t) (iblk m c 4 t)) y : EReal)) := by
  have u := Pipeline.eq_sum_fin_of_reset_step_apply_last (M := EReal) (fun n h => (outsAt0 m c n h).2) 16 (fun _ => (0 : EReal)) (fun t y => (part (iblk m c 0 t) (iblk m c 1 t) (iblk m c 2 t) (iblk m c 3 t) (iblk m c 4 t)) y) (first6 m c) (next6 m c) (le_of_eq N_0) t0_15 N_0.symm y
  rw [zero_add] at u
  exact u

theorem final6 (c : Dev nD) : (dats m 0 c).arrAt 6 cfg0.N = (fun y : S1x1.Idx => total (a0 m c) (a1 m c) (a2 m c) (a3 m c) (a4 m c) (y 0) (y 1)) := by
  refine (dats m 0 c).arrAt_eq_of_after_last 6 t0_15 (by decide +kernel) _ fun y => ?_
  blk_simp
  rw [after0_6]
  change S1x1.Idx at y
  idx_vars y
  refine (acc6 m c (ix2 y0 y1)).trans ?_
  refine (Fin.sum_fin_congr fun t => pay_sum m c t y0 y1).trans ?_
  exact Fin.sum_mul_add_congr (S := cfg0.N) (n := 512) (fun s k hl => rfl) (by rw [show cfg0.N = 16 from N_0])

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = (fun y : S8192x1024.Idx => grad (a0 m c) (a1 m c) (a2 m c) (a3 m c) (a4 m c) (y 0) (y 1))
      ∧ r.2.mem ((c.tc : Thread nD τ).loc main_v0_1) = (fun y : S1x1.Idx => total (a0 m c) (a1 m c) (a2 m c) (a3 m c) (a4 m c) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final5 m c), (h c).2.1.trans (final6 m c), (h c).2.2⟩) (Value.run_blocks m ρ)

/-- Half of twice the error over the width is the error times the width's inverse. -/
theorem scale (e : EReal) : Ideal.div (Ideal.ofBits FTy.f32 0x3F000000#32) (Ideal.ofBits FTy.f32 0x44800000#32) * (Ideal.ofBits FTy.f32 0x40000000#32 * e) = e * Ideal.ofBits FTy.f32 0x3A800000#32 := by
  rw [← mul_assoc, mul_comm e]
  congr 1
  have two : Ideal.ofBits FTy.f32 0x40000000#32 = ((2 : ℝ) : EReal) := by
    simp [Ideal.ofBits, Ideal.ieee, -EReal.coe_mul]
    norm_num
  have width : Ideal.ofBits FTy.f32 0x44800000#32 = ((1024 : ℝ) : EReal) := by
    simp [Ideal.ofBits, Ideal.ieee, -EReal.coe_mul]
    norm_num
  have inv : Ideal.ofBits FTy.f32 0x3A800000#32 = ((1 / 1024 : ℝ) : EReal) := by
    simp [Ideal.ofBits, Ideal.ieee, -EReal.coe_mul]
    norm_num
  rw [Sig.half_eq, two, width, inv]
  rw [Ideal.div_coe (by norm_num), ← EReal.coe_mul, ← EReal.coe_mul]
  norm_num

theorem frame_reference : Cert.quiescent_Reference29Ideal := fun m ρ _ =>
  (θ_run Cert.Reference29Ideal.defs _ _).mono (fun r h => ⟨fun c => (h c).2.2, sem_eq_zero_of_no_sems (by decide) r.2⟩)
    (Cert.Reference29Ideal.Value.run (F := Ideal) m ρ)

/-- Kernel and reference compute the same gradient and the same sum. -/
theorem algebraic : Cert.algebraic_Kernel29Ideal_Reference29Ideal := by
  intro m ρ m' ρ' _ hm
  refine ⟨_, _, result m ρ, ?_⟩
  refine (θ_run Cert.Reference29Ideal.defs _ _).mono (fun r h c => ⟨(h c).1.trans ?_, (h c).2.1.trans ?_, (h c).2.2⟩) (Cert.Reference29Ideal.Value.run (F := Ideal) m' ρ')
  all_goals
    obtain ⟨e0, e1, e2, e3, e4⟩ := hm c
    simp only [a0, a1, a2, a3, a4]
    rw [e0, e1, e2, e3, e4]
    generalize m _ = x0
    generalize m _ = x1
    generalize m _ = x2
    generalize m _ = x3
    generalize m _ = x4
    funext y
    idx_vars y
  · pointwise []
    simp only [Sig.host_eq]
    exact scale _
  · pointwise []
    simp only [Sig.host_eq]
    rfl

end Cert.Loss29

end
-- ==== Proof.Conv30.lean ====
module

public import proofs.«01_k».proof.Proof.Adam
public import proofs.«01_k».proof.Proof.Gen.Kernel30Ideal.Value
public import proofs.«01_k».proof.Proof.Gen.Kernel30.Frame
public import proofs.«01_k».proof.Proof.Gen.Reference30Ideal.Run

/-! The gradients of the causal convolution: the input's gradient, a block of 512 rows a point, and the filter's and the shift's, added up over the blocks. -/

@[expose] public section

noncomputable section

namespace Cert.Conv30

open Idealize.ShloMosaic Idealize.ShloMosaic.TcCoe Idealize.SL.Sem
set_option maxRecDepth 16384

section

open Cert.Kernel30Ideal Cert.Kernel30Ideal.Gen

/-- Entry `j` of the row `s` rows after row `r`, zero past the last row. -/
def next (d : Vec Ideal S8192x1280 .bf16) (s : Nat) (r : Fin 8192) (j : Fin 1280) : EReal :=
  if h : r.val + s < 8192 then d (ix2 ⟨r.val + s, h⟩ j) else 0

/-- Entry `j` of the row `s` rows before row `r`, zero before the first row. -/
def prev (x : Vec Ideal S8192x1280 .bf16) (s : Nat) (r : Fin 8192) (j : Fin 1280) : EReal :=
  if s ≤ r.val then x (ix2 ⟨r.val - s, by omega⟩ j) else 0

/-- The input's gradient. -/
def gradX (d : Vec Ideal S8192x1280 .bf16) (w : Vec Ideal S4x1280 .f32) (r : Fin 8192) (j : Fin 1280) : EReal :=
  next d 0 r j * w (ix2 3 j) + next d 1 r j * w (ix2 2 j) + next d 2 r j * w (ix2 1 j) + next d 3 r j * w (ix2 0 j)

/-- One row's term in row `i` of the filter's gradient. -/
def term (d x : Vec Ideal S8192x1280 .bf16) (i : Fin 4) (j : Fin 1280) (r : Fin 8192) : EReal :=
  d (ix2 r j) * prev x (3 - i.val) r j

/-- The filter's gradient. -/
def gradW (d x : Vec Ideal S8192x1280 .bf16) (i : Fin 4) (j : Fin 1280) : EReal := ∑ r : Fin 8192, term d x i j r

/-- One row's term in the shift's gradient. -/
def shift (d : Vec Ideal S8192x1280 .bf16) (j : Fin 1280) (r : Fin 8192) : EReal := d (ix2 r j)

/-- The shift's gradient. -/
def gradB (d : Vec Ideal S8192x1280 .bf16) (_ : Fin 1) (j : Fin 1280) : EReal := ∑ r : Fin 8192, shift d j r

/-- A block's rows moved up, the last ones taken from the eight rows that follow. -/
def after (v : FVec Ideal S512x1280 .f32) (h : FVec Ideal S8x1280 .f32) (a b : BitVec 32) : FVec Ideal S512x1280 .f32 :=
  concatenate S512x1280 0 [⟨S504x1280, extractStridedSlice S504x1280 ![0, 0] (dynamicRotate 0 a none v rotates_S512x1280_d0) slices_S512x1280_o0_0_S504x1280⟩,
    ⟨S8x1280, extractStridedSlice S8x1280 ![0, 0] (dynamicRotate 0 b none (concatenate S16x1280 0 [⟨S8x1280, extractStridedSlice S8x1280 ![504, 0] v slices_S512x1280_o504_0_S8x1280⟩, ⟨S8x1280, h⟩] concatenates_S8x1280_S8x1280_S16x1280_d0) rotates_S16x1280_d0) slices_S16x1280_o0_0_S8x1280⟩] concatenates_S504x1280_S8x1280_S512x1280_d0

/-- A block's rows moved down, the first ones taken from the eight rows that precede. -/
def before (v : FVec Ideal S512x1280 .f32) (h : FVec Ideal S8x1280 .f32) (b : BitVec 32) : FVec Ideal S512x1280 .f32 :=
  concatenate S512x1280 0 [⟨S8x1280, extractStridedSlice S8x1280 ![8, 0] (dynamicRotate 0 b none (concatenate S16x1280 0 [⟨S8x1280, h⟩, ⟨S8x1280, extractStridedSlice S8x1280 ![0, 0] v slices_S512x1280_o0_0_S8x1280⟩] concatenates_S8x1280_S8x1280_S16x1280_d0) rotates_S16x1280_d0) slices_S16x1280_o8_0_S8x1280⟩,
    ⟨S504x1280, extractStridedSlice S504x1280 ![8, 0] (dynamicRotate 0 b none v rotates_S512x1280_d0) slices_S512x1280_o8_0_S504x1280⟩] concatenates_S8x1280_S504x1280_S512x1280_d0

/-- Row `r + s` of the block, or of the rows that follow. -/
theorem after_at (v : FVec Ideal S512x1280 .f32) (h : FVec Ideal S8x1280 .f32) (s : Nat) (a b : BitVec 32) (ha : a.toNat = 512 - s) (hb : b.toNat = 16 - s) (h0 : 0 < s) (h8 : s < 8) (r : Fin 512) (j : Fin 1280) :
    after v h a b (ix2 r j) = if hr : r.val + s < 512 then v (ix2 ⟨r.val + s, hr⟩ j) else h (ix2 ⟨r.val + s - 512, by omega⟩ j) := by
  unfold after
  pointwise []
  simp only [ha, hb]
  by_cases hr : r.val + s < 512
  · rw [dif_pos hr]
    split_ifs <;> first | (refine congrArg (fun q => v (ix2 q j)) (Fin.ext ?_); dsimp only; omega) | (exfalso; omega)
  · rw [dif_neg hr]
    split_ifs <;> first | (refine congrArg (fun q => h (ix2 q j)) (Fin.ext ?_); dsimp only; omega) | (exfalso; omega)

/-- Row `r - s` of the block, or of the rows that precede. -/
theorem before_at (v : FVec Ideal S512x1280 .f32) (h : FVec Ideal S8x1280 .f32) (s : Nat) (b : BitVec 32) (hb : b.toNat = s) (h0 : 0 < s) (h8 : s < 8) (r : Fin 512) (j : Fin 1280) :
    before v h b (ix2 r j) = if s ≤ r.val then v (ix2 ⟨r.val - s, by omega⟩ j) else h (ix2 ⟨(8 + r.val - s) % 8, by omega⟩ j) := by
  unfold before
  pointwise []
  simp only [hb]
  by_cases hr : s ≤ r.val
  · rw [if_pos hr]
    split_ifs <;> first | (refine congrArg (fun q => v (ix2 q j)) (Fin.ext ?_); dsimp only; omega) | (exfalso; omega)
  · rw [if_neg hr]
    split_ifs <;> first | (refine congrArg (fun q => h (ix2 q j)) (Fin.ext ?_); dsimp only; omega) | (exfalso; omega)

/-- The sum of a block's rows. -/
def total (v : FVec Ideal S512x1280 .f32) : FVec Ideal S1x1280 .f32 :=
  shapeCast S1x1280 (multiReduction .add [0] S1280 v 0x00000000#32 reduces_S512x1280_S1280 (.inl rfl) rfl) shapeCasts_S1280_S1x1280

theorem total_at (v : FVec Ideal S512x1280 .f32) (i : Fin 1) (j : Fin 1280) : @Eq EReal (total v (ix2 i j)) (∑ k : Fin 512, (v (ix2 k j) : EReal)) := by
  unfold total
  pointwise []

/-- The two nearer terms of the input's gradient. -/
theorem near_at (i : grid0.Coords) (v0 : Vec Ideal S512x1280 .bf16) (v2 : Vec Ideal S16x1280 .bf16) (w : Vec Ideal S4x1280 .f32) (r : Fin 512) (j : Fin 1280) :
    @Eq EReal (k0_pay11 i v0 v2 w (ix2 r j)) (v0 (ix2 r j) * w (ix2 3 j) + after (k0_pay6 v0) (k0_pay8 i v2) 511#32 15#32 (ix2 r j) * w (ix2 2 j)) := by
  show addf (mulf (k0_pay6 v0) (broadcastTo S512x1280 (extractStridedSlice S1x1280 ![3, 0] w slices_S4x1280_o3_0_S1x1280) broadcasts_S1x1280_S512x1280))
    (mulf (after (k0_pay6 v0) (k0_pay8 i v2) 511#32 15#32) (broadcastTo S512x1280 (extractStridedSlice S1x1280 ![2, 0] w slices_S4x1280_o2_0_S1x1280) broadcasts_S1x1280_S512x1280)) (ix2 r j) = _
  pointwise [k0_pay6]

/-- The two further terms of the input's gradient. -/
theorem far_at (v : FVec Ideal S512x1280 .f32) (w : Vec Ideal S4x1280 .f32) (h : FVec Ideal S8x1280 .f32) (p : FVec Ideal S512x1280 .f32) (r : Fin 512) (j : Fin 1280) :
    @Eq EReal (k0_pay14 v w h p (ix2 r j)) (p (ix2 r j) + after v h 510#32 14#32 (ix2 r j) * w (ix2 1 j) + after v h 509#32 13#32 (ix2 r j) * w (ix2 0 j)) := by
  show addf (addf p (mulf (after v h 510#32 14#32) (broadcastTo S512x1280 (extractStridedSlice S1x1280 ![1, 0] w slices_S4x1280_o1_0_S1x1280) broadcasts_S1x1280_S512x1280)))
    (mulf (after v h 509#32 13#32) (broadcastTo S512x1280 (extractStridedSlice S1x1280 ![0, 0] w slices_S4x1280_o0_0_S1x1280) broadcasts_S1x1280_S512x1280)) (ix2 r j) = _
  pointwise []

/-- What a block adds to the filter's gradient, row by row. -/
theorem filter_eq (i : grid0.Coords) (v0 v5 : Vec Ideal S512x1280 .bf16) (v7 : Vec Ideal S16x1280 .bf16) :
    k0_pay15 (k0_pay6 v0) (k0_pay7 v5) (k0_pay9 i v7) (k0_pay10 v0 v5) (k0_pay12 v5) (k0_pay13 i v5 v7)
      = concatenate S4x1280 0 [⟨S1x1280, total (mulf (k0_pay6 v0) (before (k0_pay7 v5) (k0_pay9 i v7) 3#32))⟩, ⟨S1x1280, total (mulf (k0_pay6 v0) (before (k0_pay7 v5) (k0_pay9 i v7) 2#32))⟩,
          ⟨S1x1280, total (mulf (k0_pay6 v0) (before (k0_pay7 v5) (k0_pay9 i v7) 1#32))⟩, ⟨S1x1280, total (mulf (k0_pay6 v0) (k0_pay7 v5))⟩] concatenates_S1x1280_S1x1280_S1x1280_S1x1280_S4x1280_d0 := rfl

theorem zero_w (y : S4x1280.Idx) : (k0_pay2 (F := Ideal)) y = 0 := by
  idx_vars y
  pointwise [k0_pay2]

theorem zero_b (y : S1x1280.Idx) : (k0_pay4 (F := Ideal)) y = 0 := by
  idx_vars y
  pointwise [k0_pay4]

theorem step_w (p : FVec Ideal S4x1280 .f32) (acc : Vec Ideal S4x1280 .f32) (y : S4x1280.Idx) : k0_pay3 p acc y = @HAdd.hAdd EReal EReal EReal _ (acc y) (p y) := by
  idx_vars y
  pointwise [k0_pay3]

/-- What a block adds to the shift's gradient. -/
def part (v : FVec Ideal S512x1280 .f32) (y : S1x1280.Idx) : EReal := ∑ k : Fin 512, (v (ix2 k (y 1)) : EReal)

theorem step_b (v : FVec Ideal S512x1280 .f32) (acc : Vec Ideal S1x1280 .f32) (y : S1x1280.Idx) : k0_pay5 v acc y = @HAdd.hAdd EReal EReal EReal _ (acc y) (part v y) := by
  idx_vars y
  unfold part
  pointwise [k0_pay5]

variable (m : (ℓ : Loc nD τ sig) → Buf (Elt Ideal) ℓ)

/-- The array row of row `k` of point `t`'s block. -/
abbrev row (t : Fin cfg0.N) (k : Fin 512) : Fin 8192 := ⟨t.val * 512 + k.val, by have := t.isLt; have : cfg0.N = 16 := N_0; omega⟩

abbrev a0 (c : Dev nD) := m ((c.tc : Thread nD τ).loc main_arg0)

abbrev a1 (c : Dev nD) := m ((c.tc : Thread nD τ).loc main_arg1)

abbrev a2 (c : Dev nD) := m ((c.tc : Thread nD τ).loc main_arg2)

theorem blk0 (c : Dev nD) (t : Fin cfg0.N) (k : Fin 512) (i : Fin 1280) : iblk m c 0 t (ix2 k i) = a0 m c (ix2 (row t k) i) := by
  have e : ∀ t : Fin cfg0.N, win0_0.index t = ![t.val, 0] := (by decide +kernel : ∀ t : Fin grid0.N, _)
  blk_ext [row, Gen.iblk, Gen.V, e t]

theorem blk2 (c : Dev nD) (t : Fin cfg0.N) (k : Fin 512) (i : Fin 1280) : iblk m c 2 t (ix2 k i) = a1 m c (ix2 (row t k) i) := by
  have e : ∀ t : Fin cfg0.N, win0_2.index t = ![t.val, 0] := (by decide +kernel : ∀ t : Fin grid0.N, _)
  blk_ext [row, Gen.iblk, Gen.V, e t]

theorem blk4 (c : Dev nD) (t : Fin cfg0.N) (k : Fin 4) (i : Fin 1280) : iblk m c 4 t (ix2 k i) = a2 m c (ix2 k i) := by
  have e : ∀ t : Fin cfg0.N, win0_4.index t = ![0, 0] := (by decide +kernel : ∀ t : Fin grid0.N, _)
  blk_ext [Gen.iblk, Gen.V, e t]

theorem blk1 (c : Dev nD) (t : Fin cfg0.N) (k : Fin 16) (i : Fin 1280) : iblk m c 1 t (ix2 k i) = a0 m c (ix2 ⟨min (32 * (t.val + 1)) 511 * 16 + k.val, by omega⟩ i) := by
  have e : ∀ t : Fin cfg0.N, win0_1.index t = ![min (32 * (t.val + 1)) 511, 0] := (by decide +kernel : ∀ t : Fin grid0.N, _)
  blk_ext [Gen.iblk, Gen.V, e t]

theorem blk3 (c : Dev nD) (t : Fin cfg0.N) (k : Fin 16) (i : Fin 1280) : iblk m c 3 t (ix2 k i) = a1 m c (ix2 ⟨(32 * t.val - 1) * 16 + k.val, by have := t.isLt; have : cfg0.N = 16 := N_0; omega⟩ i) := by
  have e : ∀ t : Fin cfg0.N, win0_3.index t = ![32 * t.val - 1, 0] := (by decide +kernel : ∀ t : Fin grid0.N, _)
  blk_ext [Gen.iblk, Gen.V, e t]

theorem word_next : ∀ t : Fin cfg0.N, Scalar.extui (Scalar.cmpi .slt (BitVec.ofNat 32 (grid0.coords t 0).val) 15#32) = if t.val < 15 then 1#32 else 0#32 :=
  (by decide +kernel : ∀ t : Fin grid0.N, _)

theorem word_prev : ∀ t : Fin cfg0.N, Scalar.extui (Scalar.cmpi .sgt (BitVec.ofNat 32 (grid0.coords t 0).val) 0#32) = if 0 < t.val then 1#32 else 0#32 :=
  (by decide +kernel : ∀ t : Fin grid0.N, _)

theorem halo_next (c : Dev nD) (t : Fin cfg0.N) (k : Fin 8) (i : Fin 1280) :
    @Eq EReal (k0_pay8 (grid0.coords t) (iblk m c 1 t) (ix2 k i)) (if h : t.val < 15 then a0 m c (ix2 ⟨512 * (t.val + 1) + k.val, by omega⟩ i) else 0) := by
  pointwise [k0_pay8]
  rw [word_next]
  split_ifs with h
  · rw [show (1#32 : BitVec 32).toInt = 1 from rfl, Int.cast_one, EReal.coe_one, blk1]
    refine (mul_one (M := EReal) _).trans (congrArg (fun q => a0 m c (ix2 q i)) (Fin.ext ?_))
    dsimp only
    omega
  · rw [show (0#32 : BitVec 32).toInt = 0 from rfl, Int.cast_zero, EReal.coe_zero]
    exact mul_zero (M₀ := EReal) _

theorem halo_prev (c : Dev nD) (t : Fin cfg0.N) (k : Fin 8) (i : Fin 1280) :
    @Eq EReal (k0_pay9 (grid0.coords t) (iblk m c 3 t) (ix2 k i)) (if 0 < t.val then a1 m c (ix2 ⟨512 * t.val - 8 + k.val, by have := t.isLt; have : cfg0.N = 16 := N_0; omega⟩ i) else 0) := by
  pointwise [k0_pay9]
  rw [word_prev]
  split_ifs with h
  · rw [show (1#32 : BitVec 32).toInt = 1 from rfl, Int.cast_one, EReal.coe_one, blk3]
    refine (mul_one (M := EReal) _).trans (congrArg (fun q => a1 m c (ix2 q i)) (Fin.ext ?_))
    dsimp only
    omega
  · rw [show (0#32 : BitVec 32).toInt = 0 from rfl, Int.cast_zero, EReal.coe_zero]
    exact mul_zero (M₀ := EReal) _

theorem pay6_at (c : Dev nD) (t : Fin cfg0.N) (k : Fin 512) (j : Fin 1280) : @Eq EReal (k0_pay6 (iblk m c 0 t) (ix2 k j)) (a0 m c (ix2 (row t k) j)) := by
  pointwise [k0_pay6]
  rw [blk0]

theorem pay7_at (c : Dev nD) (t : Fin cfg0.N) (k : Fin 512) (j : Fin 1280) : @Eq EReal (k0_pay7 (iblk m c 2 t) (ix2 k j)) (a1 m c (ix2 (row t k) j)) := by
  pointwise [k0_pay7]
  rw [blk2]

theorem next_at (c : Dev nD) (t : Fin cfg0.N) (s : Nat) (a b : BitVec 32) (ha : a.toNat = 512 - s) (hb : b.toNat = 16 - s) (h0 : 0 < s) (h8 : s < 8) (k : Fin 512) (j : Fin 1280) :
    @Eq EReal (after (k0_pay6 (iblk m c 0 t)) (k0_pay8 (grid0.coords t) (iblk m c 1 t)) a b (ix2 k j)) (next (a0 m c) s (row t k) j) := by
  have hN := t.isLt
  have eN : cfg0.N = 16 := N_0
  refine (after_at _ _ s a b ha hb h0 h8 k j).trans ?_
  unfold next
  by_cases hr : k.val + s < 512
  · rw [dif_pos hr, dif_pos (show (row t k).val + s < 8192 by dsimp only [row]; omega), pay6_at]
    refine congrArg (fun q => a0 m c (ix2 q j)) (Fin.ext ?_)
    dsimp only [row]
    omega
  · rw [dif_neg hr, halo_next]
    by_cases h : t.val < 15
    · rw [dif_pos h, dif_pos (show (row t k).val + s < 8192 by dsimp only [row]; omega)]
      refine congrArg (fun q => a0 m c (ix2 q j)) (Fin.ext ?_)
      dsimp only [row]
      omega
    · rw [dif_neg h, dif_neg (show ¬ (row t k).val + s < 8192 by dsimp only [row]; omega)]

theorem prev_at (c : Dev nD) (t : Fin cfg0.N) (s : Nat) (b : BitVec 32) (hb : b.toNat = s) (h0 : 0 < s) (h8 : s < 8) (k : Fin 512) (j : Fin 1280) :
    @Eq EReal (before (k0_pay7 (iblk m c 2 t)) (k0_pay9 (grid0.coords t) (iblk m c 3 t)) b (ix2 k j)) (prev (a1 m c) s (row t k) j) := by
  have hN := t.isLt
  have eN : cfg0.N = 16 := N_0
  refine (before_at _ _ s b hb h0 h8 k j).trans ?_
  unfold prev
  by_cases hr : s ≤ k.val
  · rw [if_pos hr, if_pos (show s ≤ (row t k).val by dsimp only [row]; omega), pay7_at]
    refine congrArg (fun q => a1 m c (ix2 q j)) (Fin.ext ?_)
    dsimp only [row]
    omega
  · rw [if_neg hr, halo_prev]
    by_cases h : 0 < t.val
    · rw [if_pos h, if_pos (show s ≤ (row t k).val by dsimp only [row]; omega)]
      refine congrArg (fun q => a1 m c (ix2 q j)) (Fin.ext ?_)
      dsimp only [row]
      omega
    · rw [if_neg h, if_neg (show ¬ s ≤ (row t k).val by dsimp only [row]; omega)]

theorem pay_X (c : Dev nD) (t : Fin cfg0.N) (k : Fin 512) (j : Fin 1280) :
    @Eq EReal (k0_pay1 (k0_pay14 (k0_pay6 (iblk m c 0 t)) (iblk m c 4 t) (k0_pay8 (grid0.coords t) (iblk m c 1 t)) (k0_pay11 (grid0.coords t) (iblk m c 0 t) (iblk m c 1 t) (iblk m c 4 t))) (ix2 k j)) (gradX (a0 m c) (a2 m c) (row t k) j) := by
  pointwise [k0_pay1]
  refine (far_at _ _ _ _ k j).trans ?_
  rw [near_at, next_at m c t 1 _ _ rfl rfl (by decide) (by decide), next_at m c t 2 _ _ rfl rfl (by decide) (by decide), next_at m c t 3 _ _ rfl rfl (by decide) (by decide), blk0, blk4, blk4, blk4, blk4]
  unfold gradX
  refine congrArg (fun q : EReal => q * _ + _ + _ + _) ?_
  unfold next
  rw [dif_pos (show (row t k).val + 0 < 8192 from (row t k).isLt)]
  rfl

theorem total_prev (c : Dev nD) (t : Fin cfg0.N) (i : Fin 4) (v : FVec Ideal S512x1280 .f32) (j : Fin 1280) (h : ∀ k, @Eq EReal (v (ix2 k j)) (prev (a1 m c) (3 - i.val) (row t k) j)) :
    @Eq EReal (total (mulf (k0_pay6 (iblk m c 0 t)) v) (ix2 0 j)) (∑ k : Fin 512, term (a0 m c) (a1 m c) i j (row t k)) := by
  refine (total_at _ 0 j).trans (Fin.sum_fin_congr fun k => ?_)
  exact congrArg₂ (fun p q : EReal => p * q) (pay6_at m c t k j) (h k)

theorem pay_W (c : Dev nD) (t : Fin cfg0.N) (i : Fin 4) (j : Fin 1280) :
    @Eq EReal (k0_pay15 (k0_pay6 (iblk m c 0 t)) (k0_pay7 (iblk m c 2 t)) (k0_pay9 (grid0.coords t) (iblk m c 3 t)) (k0_pay10 (iblk m c 0 t) (iblk m c 2 t)) (k0_pay12 (iblk m c 2 t)) (k0_pay13 (grid0.coords t) (iblk m c 2 t) (iblk m c 3 t)) (ix2 i j)) (∑ k : Fin 512, term (a0 m c) (a1 m c) i j (row t k)) := by
  rw [filter_eq]
  fin_cases i
  · pointwise []
    exact total_prev m c t 0 _ j fun k => prev_at m c t 3 _ rfl (by decide) (by decide) k j
  · pointwise []
    exact total_prev m c t 1 _ j fun k => prev_at m c t 2 _ rfl (by decide) (by decide) k j
  · pointwise []
    exact total_prev m c t 2 _ j fun k => prev_at m c t 1 _ rfl (by decide) (by decide) k j
  · pointwise []
    refine total_prev m c t 3 _ j fun k => (pay7_at m c t k j).trans ?_
    unfold prev
    exact (if_pos (Nat.zero_le _)).symm

theorem pay_B (c : Dev nD) (t : Fin cfg0.N) (i : Fin 1) (j : Fin 1280) :
    part (k0_pay6 (iblk m c 0 t)) (ix2 i j) = ∑ k : Fin 512, shift (a0 m c) j (row t k) :=
  Fin.sum_fin_congr fun k => pay6_at m c t k j

theorem out5 (c : Dev nD) (t : Fin cfg0.N) : (outsAt0 m c t.val t.isLt).1 = k0_pay1 (k0_pay14 (k0_pay6 (iblk m c 0 t)) (iblk m c 4 t) (k0_pay8 (grid0.coords t) (iblk m c 1 t)) (k0_pay11 (grid0.coords t) (iblk m c 0 t) (iblk m c 1 t) (iblk m c 4 t))) := by
  by_cases h : t.val % 16 = 0
  · rw [outsAt0_A m c t h h]
    frame_out
  · rw [outsAt0_B m c t h h]
    frame_out

theorem emb_row5 (t : Fin cfg0.N) (y0 : Fin 512) (y1 : Fin 1280) : ((View.whole main_v0_0).slice (win0_5.rect t)).emb (ix2 y0 y1) 0 = row t y0 := by
  have e : ∀ t : Fin cfg0.N, win0_5.index t = ![t.val, 0] := (by decide +kernel : ∀ t : Fin grid0.N, _)
  apply Fin.ext
  show win0_5.index t (0 : Fin 2) * 512 + 1 * y0.val = t.val * 512 + y0.val
  rw [e t]
  show t.val * 512 + 1 * y0.val = t.val * 512 + y0.val
  rw [Nat.one_mul]

theorem emb_col5 (t : Fin cfg0.N) (y0 : Fin 512) (y1 : Fin 1280) : ((View.whole main_v0_0).slice (win0_5.rect t)).emb (ix2 y0 y1) 1 = y1 := by
  have e : ∀ t : Fin cfg0.N, win0_5.index t = ![t.val, 0] := (by decide +kernel : ∀ t : Fin grid0.N, _)
  apply Fin.ext
  show win0_5.index t (1 : Fin 2) * 1280 + 1 * y1.val = y1.val
  rw [e t]
  show 0 * 1280 + 1 * y1.val = y1.val
  omega

theorem final5 (c : Dev nD) : (dats m 0 c).arrAt 5 cfg0.N = (fun y : S8192x1280.Idx => gradX (a0 m c) (a2 m c) (y 0) (y 1)) := by
  refine (dats m 0 c).arrAt_eq_of_covers 5 _ (by decide +kernel) fun t hf y => ?_
  have e : ∀ t : Fin cfg0.N, win0_5.index t = ![t.val, 0] := (by decide +kernel : ∀ t : Fin grid0.N, _)
  blk_simp [e t]
  rw [after0_5]; rw [show (outsAt0 m c t.val t.isLt).1 = k0_pay1 (k0_pay14 (k0_pay6 (iblk m c 0 t)) (iblk m c 4 t) (k0_pay8 (grid0.coords t) (iblk m c 1 t)) (k0_pay11 (grid0.coords t) (iblk m c 0 t) (iblk m c 1 t) (iblk m c 4 t))) from out5 m c t]
  change S512x1280.Idx at y
  idx_vars y
  rw [pay_X, emb_row5, emb_col5]

/-- The last point. -/
abbrev last : Fin cfg0.N := ⟨15, by rw [show cfg0.N = 16 from N_0]; decide⟩

theorem last_eq : last.val + 1 = cfg0.N := N_0.symm

theorem first6 (c : Dev nD) (t : Fin cfg0.N) (h : t.val % 16 = 0) (y : S4x1280.Idx) : @Eq EReal ((outsAt0 m c t.val t.isLt).2.1 y) (0 + (k0_pay15 (k0_pay6 (iblk m c 0 t)) (k0_pay7 (iblk m c 2 t)) (k0_pay9 (grid0.coords t) (iblk m c 3 t)) (k0_pay10 (iblk m c 0 t) (iblk m c 2 t)) (k0_pay12 (iblk m c 2 t)) (k0_pay13 (grid0.coords t) (iblk m c 2 t) (iblk m c 3 t))) y) := by
  rw [outsAt0_A m c t h h]
  frame_out
  rw [step_w, zero_w]

theorem next6 (c : Dev nD) (t : Fin cfg0.N) (h : ¬t.val % 16 = 0) (y : S4x1280.Idx) :
    @Eq EReal ((outsAt0 m c t.val t.isLt).2.1 y) (@HAdd.hAdd EReal EReal EReal _ ((outsAt0 m c (t.val - 1) (Nat.lt_of_le_of_lt (Nat.sub_le _ _) t.isLt)).2.1 y) ((k0_pay15 (k0_pay6 (iblk m c 0 t)) (k0_pay7 (iblk m c 2 t)) (k0_pay9 (grid0.coords t) (iblk m c 3 t)) (k0_pay10 (iblk m c 0 t) (iblk m c 2 t)) (k0_pay12 (iblk m c 2 t)) (k0_pay13 (grid0.coords t) (iblk m c 2 t) (iblk m c 3 t))) y)) := by
  rw [outsAt0_B m c t h h]
  frame_out
  rw [step_w]

theorem acc6 (c : Dev nD) (y : S4x1280.Idx) : @Eq EReal ((outsAt0 m c last.val last.isLt).2.1 y) (∑ t : Fin cfg0.N, ((k0_pay15 (k0_pay6 (iblk m c 0 t)) (k0_pay7 (iblk m c 2 t)) (k0_pay9 (grid0.coords t) (iblk m c 3 t)) (k0_pay10 (iblk m c 0 t) (iblk m c 2 t)) (k0_pay12 (iblk m c 2 t)) (k0_pay13 (grid0.coords t) (iblk m c 2 t) (iblk m c 3 t))) y : EReal)) := by
  have u := Pipeline.eq_sum_fin_of_reset_step_apply_last (M := EReal) (fun n h => (outsAt0 m c n h).2.1) 16 (fun _ => (0 : EReal)) (fun t y => (k0_pay15 (k0_pay6 (iblk m c 0 t)) (k0_pay7 (iblk m c 2 t)) (k0_pay9 (grid0.coords t) (iblk m c 3 t)) (k0_pay10 (iblk m c 0 t) (iblk m c 2 t)) (k0_pay12 (iblk m c 2 t)) (k0_pay13 (grid0.coords t) (iblk m c 2 t) (iblk m c 3 t))) y) (first6 m c) (next6 m c) (le_of_eq N_0) last last_eq y
  rw [zero_add] at u
  exact u

theorem final6 (c : Dev nD) : (dats m 0 c).arrAt 6 cfg0.N = (fun y : S4x1280.Idx => gradW (a0 m c) (a1 m c) (y 0) (y 1)) := by
  refine (dats m 0 c).arrAt_eq_of_after_last 6 last (by decide +kernel) _ fun y => ?_
  blk_simp
  rw [after0_6]
  change S4x1280.Idx at y
  idx_vars y
  refine (acc6 m c (ix2 y0 y1)).trans ?_
  refine (Fin.sum_fin_congr fun t => pay_W m c t y0 y1).trans ?_
  exact Fin.sum_mul_add_congr (S := cfg0.N) (n := 512) (fun s k hl => rfl) (by rw [show cfg0.N = 16 from N_0])

theorem first7 (c : Dev nD) (t : Fin cfg0.N) (h : t.val % 16 = 0) (y : S1x1280.Idx) : @Eq EReal ((outsAt0 m c t.val t.isLt).2.2 y) (0 + (part (k0_pay6 (iblk m c 0 t))) y) := by
  rw [outsAt0_A m c t h h]
  frame_out
  rw [step_b, zero_b]

theorem next7 (c : Dev nD) (t : Fin cfg0.N) (h : ¬t.val % 16 = 0) (y : S1x1280.Idx) :
    @Eq EReal ((outsAt0 m c t.val t.isLt).2.2 y) (@HAdd.hAdd EReal EReal EReal _ ((outsAt0 m c (t.val - 1) (Nat.lt_of_le_of_lt (Nat.sub_le _ _) t.isLt)).2.2 y) ((part (k0_pay6 (iblk m c 0 t))) y)) := by
  rw [outsAt0_B m c t h h]
  frame_out
  rw [step_b]

theorem acc7 (c : Dev nD) (y : S1x1280.Idx) : @Eq EReal ((outsAt0 m c last.val last.isLt).2.2 y) (∑ t : Fin cfg0.N, ((part (k0_pay6 (iblk m c 0 t))) y : EReal)) := by
  have u := Pipeline.eq_sum_fin_of_reset_step_apply_last (M := EReal) (fun n h => (outsAt0 m c n h).2.2) 16 (fun _ => (0 : EReal)) (fun t y => (part (k0_pay6 (iblk m c 0 t))) y) (first7 m c) (next7 m c) (le_of_eq N_0) last last_eq y
  rw [zero_add] at u
  exact u

theorem final7 (c : Dev nD) : (dats m 0 c).arrAt 7 cfg0.N = (fun y : S1x1280.Idx => gradB (a0 m c) (y 0) (y 1)) := by
  refine (dats m 0 c).arrAt_eq_of_after_last 7 last (by decide +kernel) _ fun y => ?_
  blk_simp
  rw [after0_7]
  change S1x1280.Idx at y
  idx_vars y
  refine (acc7 m c (ix2 y0 y1)).trans ?_
  refine (Fin.sum_fin_congr fun t => pay_B m c t y0 y1).trans ?_
  exact Fin.sum_mul_add_congr (S := cfg0.N) (n := 512) (fun s k hl => rfl) (by rw [show cfg0.N = 16 from N_0])

/-- The run of the kernel. -/
theorem result (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = (fun y : S8192x1280.Idx => gradX (m ((c.tc : Thread nD τ).loc main_arg0)) (m ((c.tc : Thread nD τ).loc main_arg2)) (y 0) (y 1))
      ∧ r.2.mem ((c.tc : Thread nD τ).loc main_v0_1) = (fun y : S4x1280.Idx => gradW (m ((c.tc : Thread nD τ).loc main_arg0)) (m ((c.tc : Thread nD τ).loc main_arg1)) (y 0) (y 1))
      ∧ r.2.mem ((c.tc : Thread nD τ).loc main_v0_2) = (fun y : S1x1280.Idx => gradB (m ((c.tc : Thread nD τ).loc main_arg0)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final5 m c), (h c).2.1.trans (final6 m c), (h c).2.2.1.trans (final7 m c), (h c).2.2.2⟩) (Value.run_blocks m ρ)

end

open Cert.Reference30Ideal Cert.Reference30Ideal.Gen

/-- The reference's first result. -/
def xR (x0 : Vec Ideal S8192x1280 .bf16) (x2 : Vec Ideal S4x1280 .f32) : Vec Ideal S8192x1280 .bf16 :=
  truncf (F := Ideal) .bf16 (extractStridedSlice S8192x1280 ![3, 0] (addf (F := Ideal) (φ := .f32) (addf (F := Ideal) (φ := .f32) (addf (F := Ideal) (φ := .f32) (pad S8195x1280 ![3, 0] ![0, 0] ![0, 0] (mulf (F := Ideal) (φ := .f32) (broadcastInDim S8192x1280 ![0, 1] bcast_S1x1280_S8192x1280_0_1 (broadcastInDim S1x1280 ![1] bcast_S1280_S1x1280_1 (shapeCast _ (extractStridedSlice S1x1280 ![3, 0] x2 slices_S4x1280_S1x1280_3_0) shapeCasts_S1x1280_S1280))) (extf (F := Ideal) .f32 x0 bitsLt_bf16_f32)) (constant (F := Ideal) S_ .f32 0x00000000#32) pads_S8192x1280_S8195x1280_300_000 h_S_) (pad S8195x1280 ![2, 0] ![1, 0] ![0, 0] (mulf (F := Ideal) (φ := .f32) (broadcastInDim S8192x1280 ![0, 1] bcast_S1x1280_S8192x1280_0_1 (broadcastInDim S1x1280 ![1] bcast_S1280_S1x1280_1 (shapeCast _ (extractStridedSlice S1x1280 ![2, 0] x2 slices_S4x1280_S1x1280_2_0) shapeCasts_S1x1280_S1280))) (extf (F := Ideal) .f32 x0 bitsLt_bf16_f32)) (constant (F := Ideal) S_ .f32 0x00000000#32) pads_S8192x1280_S8195x1280_210_000 h_S_)) (pad S8195x1280 ![1, 0] ![2, 0] ![0, 0] (mulf (F := Ideal) (φ := .f32) (broadcastInDim S8192x1280 ![0, 1] bcast_S1x1280_S8192x1280_0_1 (broadcastInDim S1x1280 ![1] bcast_S1280_S1x1280_1 (shapeCast _ (extractStridedSlice S1x1280 ![1, 0] x2 slices_S4x1280_S1x1280_1_0) shapeCasts_S1x1280_S1280))) (extf (F := Ideal) .f32 x0 bitsLt_bf16_f32)) (constant (F := Ideal) S_ .f32 0x00000000#32) pads_S8192x1280_S8195x1280_120_000 h_S_)) (pad S8195x1280 ![0, 0] ![3, 0] ![0, 0] (mulf (F := Ideal) (φ := .f32) (broadcastInDim S8192x1280 ![0, 1] bcast_S1x1280_S8192x1280_0_1 (broadcastInDim S1x1280 ![1] bcast_S1280_S1x1280_1 (shapeCast _ (extractStridedSlice S1x1280 ![0, 0] x2 slices_S4x1280_S1x1280_0_0) shapeCasts_S1x1280_S1280))) (extf (F := Ideal) .f32 x0 bitsLt_bf16_f32)) (constant (F := Ideal) S_ .f32 0x00000000#32) pads_S8192x1280_S8195x1280_030_000 h_S_)) slices_S8195x1280_S8192x1280_3_0) bitsLt_bf16_f32

/-- The reference's second result. -/
def wR (x0 : Vec Ideal S8192x1280 .bf16) (x1 : Vec Ideal S8192x1280 .bf16) : Vec Ideal S4x1280 .f32 :=
  addf (F := Ideal) (φ := .f32) (addf (F := Ideal) (φ := .f32) (addf (F := Ideal) (φ := .f32) (pad S4x1280 ![3, 0] ![0, 0] ![0, 0] (broadcastInDim S1x1280 ![1] bcast_S1280_S1x1280_1 (Host.reduceAdd (F := Ideal) (φ := .f32) (shapeCast _ (Host.reduceAdd (F := Ideal) (φ := .f32) (mulf (F := Ideal) (φ := .f32) (extf (F := Ideal) .f32 x0 bitsLt_bf16_f32) (extractStridedSlice S8192x1280 ![3, 0] (concatenate S8195x1280 0 [⟨S3x1280, (broadcastInDim S3x1280 ![] bcast_S_S3x1280 (constant (F := Ideal) S_ .f32 0x00000000#32))⟩, ⟨S8192x1280, (extf (F := Ideal) .f32 x1 bitsLt_bf16_f32)⟩] concatenates_S3x1280_S8192x1280_S8195x1280_d0) slices_S8195x1280_S8192x1280_3_0)) (constant (F := Ideal) S_ .f32 0x00000000#32) reducesTo_S8192x1280_S1280_d0 h_S_) shapeCasts_S1280_S1x1280) (constant (F := Ideal) S_ .f32 0x00000000#32) reducesTo_S1x1280_S1280_d0 h_S_)) (constant (F := Ideal) S_ .f32 0x00000000#32) pads_S1x1280_S4x1280_300_000 h_S_) (pad S4x1280 ![2, 0] ![1, 0] ![0, 0] (broadcastInDim S1x1280 ![1] bcast_S1280_S1x1280_1 (Host.reduceAdd (F := Ideal) (φ := .f32) (shapeCast _ (Host.reduceAdd (F := Ideal) (φ := .f32) (mulf (F := Ideal) (φ := .f32) (extf (F := Ideal) .f32 x0 bitsLt_bf16_f32) (extractStridedSlice S8192x1280 ![2, 0] (concatenate S8195x1280 0 [⟨S3x1280, (broadcastInDim S3x1280 ![] bcast_S_S3x1280 (constant (F := Ideal) S_ .f32 0x00000000#32))⟩, ⟨S8192x1280, (extf (F := Ideal) .f32 x1 bitsLt_bf16_f32)⟩] concatenates_S3x1280_S8192x1280_S8195x1280_d0) slices_S8195x1280_S8192x1280_2_0)) (constant (F := Ideal) S_ .f32 0x00000000#32) reducesTo_S8192x1280_S1280_d0 h_S_) shapeCasts_S1280_S1x1280) (constant (F := Ideal) S_ .f32 0x00000000#32) reducesTo_S1x1280_S1280_d0 h_S_)) (constant (F := Ideal) S_ .f32 0x00000000#32) pads_S1x1280_S4x1280_210_000 h_S_)) (pad S4x1280 ![1, 0] ![2, 0] ![0, 0] (broadcastInDim S1x1280 ![1] bcast_S1280_S1x1280_1 (Host.reduceAdd (F := Ideal) (φ := .f32) (shapeCast _ (Host.reduceAdd (F := Ideal) (φ := .f32) (mulf (F := Ideal) (φ := .f32) (extf (F := Ideal) .f32 x0 bitsLt_bf16_f32) (extractStridedSlice S8192x1280 ![1, 0] (concatenate S8195x1280 0 [⟨S3x1280, (broadcastInDim S3x1280 ![] bcast_S_S3x1280 (constant (F := Ideal) S_ .f32 0x00000000#32))⟩, ⟨S8192x1280, (extf (F := Ideal) .f32 x1 bitsLt_bf16_f32)⟩] concatenates_S3x1280_S8192x1280_S8195x1280_d0) slices_S8195x1280_S8192x1280_1_0)) (constant (F := Ideal) S_ .f32 0x00000000#32) reducesTo_S8192x1280_S1280_d0 h_S_) shapeCasts_S1280_S1x1280) (constant (F := Ideal) S_ .f32 0x00000000#32) reducesTo_S1x1280_S1280_d0 h_S_)) (constant (F := Ideal) S_ .f32 0x00000000#32) pads_S1x1280_S4x1280_120_000 h_S_)) (pad S4x1280 ![0, 0] ![3, 0] ![0, 0] (broadcastInDim S1x1280 ![1] bcast_S1280_S1x1280_1 (Host.reduceAdd (F := Ideal) (φ := .f32) (shapeCast _ (Host.reduceAdd (F := Ideal) (φ := .f32) (mulf (F := Ideal) (φ := .f32) (extf (F := Ideal) .f32 x0 bitsLt_bf16_f32) (extractStridedSlice S8192x1280 ![0, 0] (concatenate S8195x1280 0 [⟨S3x1280, (broadcastInDim S3x1280 ![] bcast_S_S3x1280 (constant (F := Ideal) S_ .f32 0x00000000#32))⟩, ⟨S8192x1280, (extf (F := Ideal) .f32 x1 bitsLt_bf16_f32)⟩] concatenates_S3x1280_S8192x1280_S8195x1280_d0) slices_S8195x1280_S8192x1280_0_0)) (constant (F := Ideal) S_ .f32 0x00000000#32) reducesTo_S8192x1280_S1280_d0 h_S_) shapeCasts_S1280_S1x1280) (constant (F := Ideal) S_ .f32 0x00000000#32) reducesTo_S1x1280_S1280_d0 h_S_)) (constant (F := Ideal) S_ .f32 0x00000000#32) pads_S1x1280_S4x1280_030_000 h_S_)

/-- The reference's third result. -/
def bR (x0 : Vec Ideal S8192x1280 .bf16) : Vec Ideal S1x1280 .f32 :=
  shapeCast _ (Host.reduceAdd (F := Ideal) (φ := .f32) (extf (F := Ideal) .f32 x0 bitsLt_bf16_f32) (constant (F := Ideal) S_ .f32 0x00000000#32) reducesTo_S8192x1280_S1280_d0 h_S_) shapeCasts_S1280_S1x1280

theorem next_pad (x0 : Vec Ideal S8192x1280 .bf16) (w : EReal) (s : Nat) (r : Fin 8192) (j : Fin 1280) (P : Prop) [Decidable P] (q : P → Fin 8192) (hP : P ↔ r.val + s < 8192) (hq : ∀ h, (q h).val = r.val + s) :
    @Eq EReal (if h : P then @HMul.hMul EReal EReal EReal _ w (x0 (ix2 (q h) j)) else 0) (next x0 s r j * w) := by
  unfold next
  by_cases h : P
  · rw [dif_pos h, dif_pos (hP.1 h), mul_comm]
    exact congrArg (fun p => @HMul.hMul EReal EReal EReal _ (x0 (ix2 p j)) w) (Fin.ext (hq h))
  · rw [dif_neg h, dif_neg (fun e => h (hP.2 e)), zero_mul]

/-- The rows before the first add nothing. -/
theorem sum_prev (x0 : Vec Ideal S8192x1280 .bf16) (x1 : Vec Ideal S8192x1280 .bf16) (j : Fin 1280) (s n : Nat) (hn : s + n = 8192) :
    ∑ r : Fin 8192, @HMul.hMul EReal EReal EReal _ (x0 (ix2 r j)) (prev x1 s r j)
      = ∑ k : Fin s, @HMul.hMul EReal EReal EReal _ (x0 (ix2 ⟨k.val, by omega⟩ j)) 0 + ∑ k : Fin n, @HMul.hMul EReal EReal EReal _ (x0 (ix2 ⟨s + k.val, by omega⟩ j)) (x1 (ix2 ⟨k.val, by omega⟩ j)) := by
  rw [← Fin.sum_congr' _ hn, Fin.sum_univ_add]
  refine congrArg₂ (· + ·) (Fin.sum_fin_congr fun k => congrArg₂ (· * ·) rfl ?_) (Fin.sum_fin_congr fun k => congrArg₂ (· * ·) rfl ?_)
  · unfold prev
    exact if_neg (by have := k.isLt; show ¬ s ≤ k.val; omega)
  · unfold prev
    refine (if_pos (show s ≤ s + k.val by omega)).trans (congrArg (fun p => x1 (ix2 p j)) (Fin.ext ?_))
    show s + k.val - s = k.val
    omega

theorem xR_at (x0 : Vec Ideal S8192x1280 .bf16) (x2 : Vec Ideal S4x1280 .f32) (r : Fin 8192) (j : Fin 1280) : @Eq EReal (xR x0 x2 (ix2 r j)) (gradX x0 x2 r j) := by
  unfold xR
  pointwise []
  unfold gradX
  refine congrArg₂ (fun p q : EReal => p + q) (congrArg₂ (fun p q : EReal => p + q) (congrArg₂ (fun p q : EReal => p + q) ?_ ?_) ?_) ?_
  · unfold next
    rw [dif_pos (show r.val + 0 < 8192 from r.isLt)]
    exact mul_comm (G := EReal) _ _
  · exact next_pad x0 _ 1 r j _ _ (by omega) (fun h => by show 3 + r.val - 2 = r.val + 1; omega)
  · exact next_pad x0 _ 2 r j _ _ (by omega) (fun h => by show 3 + r.val - 1 = r.val + 2; omega)
  · exact next_pad x0 _ 3 r j _ _ (by omega) (fun h => by show 3 + r.val = r.val + 3; omega)

theorem wR_at (x0 : Vec Ideal S8192x1280 .bf16) (x1 : Vec Ideal S8192x1280 .bf16) (i : Fin 4) (j : Fin 1280) : @Eq EReal (wR x0 x1 (ix2 i j)) (gradW x0 x1 i j) := by
  unfold wR
  fin_cases i
  · pointwise []
    rw [Fin.sum_univ_one]
    exact (sum_prev x0 x1 j 3 8189 rfl).symm
  · pointwise []
    rw [Fin.sum_univ_one]
    refine Fin.sum_fin_congr fun k => congrArg₂ (fun p q : EReal => p * q) rfl ?_
    show _ = prev x1 2 k j
    unfold prev
    by_cases h : 2 ≤ k.val
    · rw [if_pos h, dif_neg (show ¬ 1 + k.val < 3 by omega)]
      exact congrArg (fun p => x1 (ix2 p j)) (Fin.ext (by show 1 + k.val - 3 = k.val - 2; omega))
    · rw [if_neg h, dif_pos (show 1 + k.val < 3 by omega)]
  · pointwise []
    rw [Fin.sum_univ_one]
    refine Fin.sum_fin_congr fun k => congrArg₂ (fun p q : EReal => p * q) rfl ?_
    show _ = prev x1 1 k j
    unfold prev
    by_cases h : 1 ≤ k.val
    · rw [if_pos h, dif_neg (show ¬ 2 + k.val < 3 by omega)]
      exact congrArg (fun p => x1 (ix2 p j)) (Fin.ext (by show 2 + k.val - 3 = k.val - 1; omega))
    · rw [if_neg h, dif_pos (show 2 + k.val < 3 by omega)]
  · pointwise []
    rw [Fin.sum_univ_one]
    refine Fin.sum_fin_congr fun k => congrArg₂ (fun p q : EReal => p * q) rfl ?_
    unfold prev
    exact (if_pos (Nat.zero_le _)).symm

theorem bR_at (x0 : Vec Ideal S8192x1280 .bf16) (i : Fin 1) (j : Fin 1280) : @Eq EReal (bR x0 (ix2 i j)) (gradB x0 i j) := by
  unfold bR
  pointwise []
  rfl

theorem frame_reference : quiescent_Reference30Ideal := fun m ρ _ =>
  (θ_run defs _ _).mono (fun r h => ⟨fun c => (h c).2.2.2, sem_eq_zero_of_no_sems (by decide) r.2⟩)
    (Value.run (F := Ideal) m ρ)

/-- Kernel and reference compute the same gradients. -/
theorem algebraic : algebraic_Kernel30Ideal_Reference30Ideal := by
  intro m ρ m' ρ' _ hm
  refine ⟨_, _, _, result m ρ, ?_⟩
  refine (θ_run defs _ _).mono (fun r h c => ?_) (Value.run (F := Ideal) m' ρ')
  obtain ⟨e0, e1, e2⟩ := hm c
  rw [← e0, ← e1, ← e2]
  refine ⟨(h c).1.trans (funext fun y => ?_), (h c).2.1.trans (funext fun y => ?_), (h c).2.2.1.trans (funext fun y => ?_), (h c).2.2.2⟩
  · change S8192x1280.Idx at y
    idx_vars y
    exact xR_at _ _ y0 y1
  · change S4x1280.Idx at y
    idx_vars y
    exact wR_at _ _ y0 y1
  · change S1x1280.Idx at y
    idx_vars y
    exact bR_at _ y0 y1

end Cert.Conv30

end
-- ==== Proof.lean ====
module

public import proofs.«01_k».proof.Defs
public import proofs.«01_k».proof.Proof.Lru
public import proofs.«01_k».proof.Proof.Win2
public import proofs.«01_k».proof.Proof.Win3
public import proofs.«01_k».proof.Proof.Win4
public import proofs.«01_k».proof.Proof.Win5
public import proofs.«01_k».proof.Proof.In6Ref
public import proofs.«01_k».proof.Proof.Ple7Ref
public import proofs.«01_k».proof.Proof.Bl8Ref
public import proofs.«01_k».proof.Proof.Merge9Ref
public import proofs.«01_k».proof.Proof.Bin10Ref
public import proofs.«01_k».proof.Proof.Merge11Ref
public import proofs.«01_k».proof.Proof.Ple12
public import proofs.«01_k».proof.Proof.S5post13Ref
public import proofs.«01_k».proof.Proof.S5post14Ref
public import proofs.«01_k».proof.Proof.Adam15
public import proofs.«01_k».proof.Proof.Adam16
public import proofs.«01_k».proof.Proof.Adam17
public import proofs.«01_k».proof.Proof.Adam18
public import proofs.«01_k».proof.Proof.Adam19
public import proofs.«01_k».proof.Proof.Adam20
public import proofs.«01_k».proof.Proof.Adam21
public import proofs.«01_k».proof.Proof.Adam22
public import proofs.«01_k».proof.Proof.Adam23
public import proofs.«01_k».proof.Proof.Adam24
public import proofs.«01_k».proof.Proof.Adam25
public import proofs.«01_k».proof.Proof.Adam26
public import proofs.«01_k».proof.Proof.Adam27
public import proofs.«01_k».proof.Proof.Adam28
public import proofs.«01_k».proof.Proof.Loss29
public import proofs.«01_k».proof.Proof.Conv30
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- Every claim about every call. -/
theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Kernel22.Gen.facts, Kernel22Ideal.Gen.facts, Reference22Ideal.Gen.facts, Kernel23.Gen.facts, Kernel23Ideal.Gen.facts, Reference23Ideal.Gen.facts, Kernel24.Gen.facts, Kernel24Ideal.Gen.facts, Reference24Ideal.Gen.facts, Kernel25.Gen.facts, Kernel25Ideal.Gen.facts, Reference25Ideal.Gen.facts, Kernel26.Gen.facts, Kernel26Ideal.Gen.facts, Reference26Ideal.Gen.facts, Kernel27.Gen.facts, Kernel27Ideal.Gen.facts, Reference27Ideal.Gen.facts, Kernel28.Gen.facts, Kernel28Ideal.Gen.facts, Reference28Ideal.Gen.facts, Kernel29.Gen.facts, Kernel29Ideal.Gen.facts, Reference29Ideal.Gen.facts, Kernel30.Gen.facts, Kernel30Ideal.Gen.facts, Reference30Ideal.Gen.facts, Pre_finite.Gen.facts, Pre_finite8.Gen.facts, Pre_finite9.Gen.facts, Pre_finite10.Gen.facts, Pre_finite14.Gen.facts,
  Lru.frame_kernel,
  fun m ρ _ => KernelIdeal.Lru.frame_eq m ρ,
  fun m ρ _ => KernelIdeal.Lru.frame_eq m ρ,
  fun m ρ _ => Lru.frame_reference m ρ,
  fun m ρ _ => Lru.frame_reference m ρ,
  fun m ρ _ => Kernel2.Gen.frame m ρ,
  fun m ρ _ => Kernel2Ideal.Gen.frame m ρ,
  Win2.frame_reference,
  fun m ρ _ => Kernel3.Gen.frame m ρ,
  fun m ρ _ => Kernel3Ideal.Gen.frame m ρ,
  Win3.frame_reference,
  fun m ρ _ => Kernel4.Gen.frame m ρ,
  fun m ρ _ => Kernel4Ideal.Gen.frame m ρ,
  Win4.frame_reference,
  fun m ρ _ => Kernel5.Gen.frame m ρ,
  fun m ρ _ => Kernel5Ideal.Gen.frame m ρ,
  Win5.frame_reference,
  fun m ρ _ => Kernel6.Gen.frame m ρ,
  fun m ρ _ => Kernel6Ideal.Gen.frame m ρ,
  In6.frame_reference,
  fun m ρ _ => Kernel7.Gen.frame m ρ,
  fun m ρ _ => Kernel7Ideal.Gen.frame m ρ,
  Ple7.frame_reference,
  fun m ρ _ => Kernel8.Gen.frame m ρ,
  fun m ρ _ => Kernel8Ideal.Gen.frame m ρ,
  fun m ρ _ => Kernel8Ideal.Gen.frame m ρ,
  Bl8.frame_reference,
  fun m ρ _ => Bl8.frame_reference m ρ trivial,
  fun m ρ _ => Kernel9.Gen.frame m ρ,
  fun m ρ _ => Kernel9Ideal.Gen.frame m ρ,
  fun m ρ _ => Kernel9Ideal.Gen.frame m ρ,
  Merge9.frame_reference,
  fun m ρ _ => Merge9.frame_reference m ρ trivial,
  fun m ρ _ => Kernel10.Gen.frame m ρ,
  fun m ρ _ => Kernel10Ideal.Gen.frame m ρ,
  fun m ρ _ => Kernel10Ideal.Gen.frame m ρ,
  Bin10.frame_reference,
  fun m ρ _ => Bin10.frame_reference m ρ trivial,
  fun m ρ _ => Kernel11.Gen.frame m ρ,
  fun m ρ _ => Kernel11Ideal.Gen.frame m ρ,
  Merge11.frame_reference,
  fun m ρ _ => Kernel12.Gen.frame m ρ,
  fun m ρ _ => Kernel12Ideal.Gen.frame m ρ,
  Ple12.frame_reference,
  fun m ρ _ => Kernel13.Gen.frame m ρ,
  fun m ρ _ => Kernel13Ideal.Gen.frame m ρ,
  S5post13.frame_reference,
  fun m ρ _ => Kernel14.Gen.frame m ρ,
  fun m ρ _ => Kernel14Ideal.Gen.frame m ρ,
  fun m ρ _ => Kernel14Ideal.Gen.frame m ρ,
  S5post14.frame_reference,
  fun m ρ _ => S5post14.frame_reference m ρ trivial,
  fun m ρ _ => Kernel15.Gen.frame m ρ,
  fun m ρ _ => Kernel15Ideal.Gen.frame m ρ,
  Adam15.frame_reference,
  fun m ρ _ => Kernel16.Gen.frame m ρ,
  fun m ρ _ => Kernel16Ideal.Gen.frame m ρ,
  Adam16.frame_reference,
  fun m ρ _ => Kernel17.Gen.frame m ρ,
  fun m ρ _ => Kernel17Ideal.Gen.frame m ρ,
  Adam17.frame_reference,
  fun m ρ _ => Kernel18.Gen.frame m ρ,
  fun m ρ _ => Kernel18Ideal.Gen.frame m ρ,
  Adam18.frame_reference,
  fun m ρ _ => Kernel19.Gen.frame m ρ,
  fun m ρ _ => Kernel19Ideal.Gen.frame m ρ,
  Adam19.frame_reference,
  fun m ρ _ => Kernel20.Gen.frame m ρ,
  fun m ρ _ => Kernel20Ideal.Gen.frame m ρ,
  Adam20.frame_reference,
  fun m ρ _ => Kernel21.Gen.frame m ρ,
  fun m ρ _ => Kernel21Ideal.Gen.frame m ρ,
  Adam21.frame_reference,
  fun m ρ _ => Kernel22.Gen.frame m ρ,
  fun m ρ _ => Kernel22Ideal.Gen.frame m ρ,
  Adam22.frame_reference,
  fun m ρ _ => Kernel23.Gen.frame m ρ,
  fun m ρ _ => Kernel23Ideal.Gen.frame m ρ,
  Adam23.frame_reference,
  fun m ρ _ => Kernel24.Gen.frame m ρ,
  fun m ρ _ => Kernel24Ideal.Gen.frame m ρ,
  Adam24.frame_reference,
  fun m ρ _ => Kernel25.Gen.frame m ρ,
  fun m ρ _ => Kernel25Ideal.Gen.frame m ρ,
  Adam25.frame_reference,
  fun m ρ _ => Kernel26.Gen.frame m ρ,
  fun m ρ _ => Kernel26Ideal.Gen.frame m ρ,
  Adam26.frame_reference,
  fun m ρ _ => Kernel27.Gen.frame m ρ,
  fun m ρ _ => Kernel27Ideal.Gen.frame m ρ,
  Adam27.frame_reference,
  fun m ρ _ => Kernel28.Gen.frame m ρ,
  fun m ρ _ => Kernel28Ideal.Gen.frame m ρ,
  Adam28.frame_reference,
  fun m ρ _ => Kernel29.Gen.frame m ρ,
  fun m ρ _ => Kernel29Ideal.Gen.frame m ρ,
  Loss29.frame_reference,
  fun m ρ _ => Kernel30.Gen.frame m ρ,
  fun m ρ _ => Kernel30Ideal.Gen.frame m ρ,
  Conv30.frame_reference,
  trivial,
  Lru.algebraic,
  (trivial : preserves_Kernel2_Kernel2Ideal),
  Win2.algebraic,
  (trivial : preserves_Kernel3_Kernel3Ideal),
  Win3.algebraic,
  (trivial : preserves_Kernel4_Kernel4Ideal),
  Win4.algebraic,
  (trivial : preserves_Kernel5_Kernel5Ideal),
  Win5.algebraic,
  (trivial : preserves_Kernel6_Kernel6Ideal),
  In6.algebraic,
  (trivial : preserves_Kernel7_Kernel7Ideal),
  Ple7.algebraic,
  (trivial : preserves_Kernel8_Kernel8Ideal),
  Bl8.algebraic,
  (trivial : preserves_Kernel9_Kernel9Ideal),
  Merge9.algebraic,
  (trivial : preserves_Kernel10_Kernel10Ideal),
  Bin10.algebraic,
  (trivial : preserves_Kernel11_Kernel11Ideal),
  Merge11.algebraic,
  (trivial : preserves_Kernel12_Kernel12Ideal),
  Ple12.algebraic,
  (trivial : preserves_Kernel13_Kernel13Ideal),
  S5post13.algebraic,
  (⟨IdealRules.named_const.statement Kernel14Ideal.κ "cube" .f32 0x3D372713#32 ((8943 / 200000 : ℝ) : EReal) rfl,
    IdealRules.named_const.statement Kernel14Ideal.κ "cube3" .f32 0x3E095D4F#32 ((26829 / 200000 : ℝ) : EReal) rfl⟩ : preserves_Kernel14_Kernel14Ideal),
  S5post14.algebraic,
  (trivial : preserves_Kernel15_Kernel15Ideal),
  Adam15.algebraic,
  (trivial : preserves_Kernel16_Kernel16Ideal),
  Adam16.algebraic,
  (trivial : preserves_Kernel17_Kernel17Ideal),
  Adam17.algebraic,
  (trivial : preserves_Kernel18_Kernel18Ideal),
  Adam18.algebraic,
  (trivial : preserves_Kernel19_Kernel19Ideal),
  Adam19.algebraic,
  (trivial : preserves_Kernel20_Kernel20Ideal),
  Adam20.algebraic,
  (trivial : preserves_Kernel21_Kernel21Ideal),
  Adam21.algebraic,
  (trivial : preserves_Kernel22_Kernel22Ideal),
  Adam22.algebraic,
  (trivial : preserves_Kernel23_Kernel23Ideal),
  Adam23.algebraic,
  (trivial : preserves_Kernel24_Kernel24Ideal),
  Adam24.algebraic,
  (trivial : preserves_Kernel25_Kernel25Ideal),
  Adam25.algebraic,
  (trivial : preserves_Kernel26_Kernel26Ideal),
  Adam26.algebraic,
  (trivial : preserves_Kernel27_Kernel27Ideal),
  Adam27.algebraic,
  (trivial : preserves_Kernel28_Kernel28Ideal),
  Adam28.algebraic,
  (trivial : preserves_Kernel29_Kernel29Ideal),
  Loss29.algebraic,
  (trivial : preserves_Kernel30_Kernel30Ideal),
  Conv30.algebraic⟩

end Cert.Proof

end
